-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_routable_KernelIdeal [hPre_routable_KernelIdeal : Cert.Pre_routable_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_routable_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_routable_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_routable_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_routable_ReferenceIdeal [hPre_routable_ReferenceIdeal : Cert.Pre_routable_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_routable_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_routable_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_routable_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_routable_KernelIdeal [hKernelIdeal : Cert.KernelIdeal.Facts] [hPre_routable_KernelIdeal : Cert.Pre_routable_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_routable_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_routable_ReferenceIdeal [hReferenceIdeal : Cert.ReferenceIdeal.Facts] [hPre_routable_ReferenceIdeal : Cert.Pre_routable_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_routable_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  IdealRules.named_const.Statement Cert.KernelIdeal.κ "mask" .f32 0xCE6E6B28#32 ⊥

def algebraic_KernelIdeal_ReferenceIdeal_pre_routable_KernelIdeal [hKernelIdeal : Cert.KernelIdeal.Facts] [hReferenceIdeal : Cert.ReferenceIdeal.Facts] [hPre_routable_KernelIdeal : Cert.Pre_routable_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_routable_KernelIdeal m →
    (∀ c : Dev Cert.KernelIdeal.nD,
      m ((c.tc : Thread Cert.KernelIdeal.nD Cert.KernelIdeal.τ).loc Cert.KernelIdeal.main_arg0) = Layout.block ⟨2, ![2048, 1024]⟩ ⟨2, ![8192, 1024]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨2, ![2048, 2]⟩ ⟨2, ![8192, 2]⟩ 0 4 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨3, ![8, 1024, 1024]⟩ ⟨3, ![32, 1024, 1024]⟩ 0 4 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![2048, 1024]⟩ ⟨2, ![8192, 1024]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v44) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_routable_KernelIdeal : Cert.Pre_routable_KernelIdeal.Facts) (hPre_routable_ReferenceIdeal : Cert.Pre_routable_ReferenceIdeal.Facts),
    quiescent_Kernel (hKernel := hKernel)
    ∧ quiescent_KernelIdeal (hKernelIdeal := hKernelIdeal)
    ∧ quiescent_KernelIdeal_pre_routable_KernelIdeal (hKernelIdeal := hKernelIdeal) (hPre_routable_KernelIdeal := hPre_routable_KernelIdeal)
    ∧ quiescent_ReferenceIdeal (hReferenceIdeal := hReferenceIdeal)
    ∧ quiescent_ReferenceIdeal_pre_routable_ReferenceIdeal (hReferenceIdeal := hReferenceIdeal) (hPre_routable_ReferenceIdeal := hPre_routable_ReferenceIdeal)
    ∧ preserves_Kernel_KernelIdeal
    ∧ algebraic_KernelIdeal_ReferenceIdeal_pre_routable_KernelIdeal (hKernelIdeal := hKernelIdeal) (hReferenceIdeal := hReferenceIdeal) (hPre_routable_KernelIdeal := hPre_routable_KernelIdeal)
-- ==== Pre_routable_KernelIdeal.lean ====
abbrev S2048x1024 : Shape := ⟨2, ![2048, 1024]⟩
abbrev S1024x32 : Shape := ⟨2, ![1024, 32]⟩
abbrev S2048x2 : Shape := ⟨2, ![2048, 2]⟩
abbrev S8x1024x1024 : Shape := ⟨3, ![8, 1024, 1024]⟩
abbrev S_ : Shape := ⟨0, ![]⟩

class Facts : Prop where
  bcast_S_S2048x1024 : S_.BroadcastsInDim S2048x1024 (![] : Fin 0 → Fin S2048x1024.rank)
  bcast_S_S1024x32 : S_.BroadcastsInDim S1024x32 (![] : Fin 0 → Fin S1024x32.rank)
  bcast_S_S2048x2 : S_.BroadcastsInDim S2048x2 (![] : Fin 0 → Fin S2048x2.rank)

variable [Facts]

def fn {F : FTy → Type} [FloatOps F] (main_arg0 : FVec F S2048x1024 .bf16) (main_arg1 : FVec F S1024x32 .bf16) (main_arg2 : IVec S2048x2 32) (main_arg3 : FVec F S8x1024x1024 .bf16) : IVec S2048x1024 1 × IVec S1024x32 1 × IVec S2048x2 1 :=
  let main_v0 : FVec F S2048x1024 .bf16 := Host.absf main_arg0
  let main_cst : FVec F S_ .bf16 := constant S_ .bf16 0x7F80#16
  let main_v1 : FVec F S2048x1024 .bf16 := broadcastInDim S2048x1024 ![] bcast_S_S2048x1024 main_cst
  let main_v2 : IVec S2048x1024 1 := cmpf .olt main_v0 main_v1
  let main_v3 : FVec F S1024x32 .bf16 := Host.absf main_arg1
  let main_cst_0 : FVec F S_ .bf16 := constant S_ .bf16 0x7F80#16
  let main_v4 : FVec F S1024x32 .bf16 := broadcastInDim S1024x32 ![] bcast_S_S1024x32 main_cst_0
  let main_v5 : IVec S1024x32 1 := cmpf .olt main_v3 main_v4
  let main_c : IVec S_ 32 := constantI S_ 32 0#32
  let main_v6 : IVec S2048x2 32 := broadcastInDim S2048x2 ![] bcast_S_S2048x2 main_c
  let main_v7 : IVec S2048x2 1 := cmpi .sge main_arg2 main_v6
  let main_c_1 : IVec S_ 32 := constantI S_ 32 32#32
  let main_v8 : IVec S2048x2 32 := broadcastInDim S2048x2 ![] bcast_S_S2048x2 main_c_1
  let main_v9 : IVec S2048x2 1 := cmpi .slt main_arg2 main_v8
  let main_v10 : IVec S2048x2 1 := andi main_v7 main_v9
  (main_v2, main_v5, main_v10)
-- ==== Pre_routable_ReferenceIdeal.lean ====
abbrev S8192x1024 : Shape := ⟨2, ![8192, 1024]⟩
abbrev S1024x32 : Shape := ⟨2, ![1024, 32]⟩
abbrev S8192x2 : Shape := ⟨2, ![8192, 2]⟩
abbrev S32x1024x1024 : Shape := ⟨3, ![32, 1024, 1024]⟩
abbrev S_ : Shape := ⟨0, ![]⟩

class Facts : Prop where
  bcast_S_S8192x1024 : S_.BroadcastsInDim S8192x1024 (![] : Fin 0 → Fin S8192x1024.rank)
  bcast_S_S1024x32 : S_.BroadcastsInDim S1024x32 (![] : Fin 0 → Fin S1024x32.rank)
  bcast_S_S8192x2 : S_.BroadcastsInDim S8192x2 (![] : Fin 0 → Fin S8192x2.rank)

variable [Facts]

def fn {F : FTy → Type} [FloatOps F] (main_arg0 : FVec F S8192x1024 .bf16) (main_arg1 : FVec F S1024x32 .bf16) (main_arg2 : IVec S8192x2 32) (main_arg3 : FVec F S32x1024x1024 .bf16) : IVec S8192x1024 1 × IVec S1024x32 1 × IVec S8192x2 1 :=
  let main_v0 : FVec F S8192x1024 .bf16 := Host.absf main_arg0
  let main_cst : FVec F S_ .bf16 := constant S_ .bf16 0x7F80#16
  let main_v1 : FVec F S8192x1024 .bf16 := broadcastInDim S8192x1024 ![] bcast_S_S8192x1024 main_cst
  let main_v2 : IVec S8192x1024 1 := cmpf .olt main_v0 main_v1
  let main_v3 : FVec F S1024x32 .bf16 := Host.absf main_arg1
  let main_cst_0 : FVec F S_ .bf16 := constant S_ .bf16 0x7F80#16
  let main_v4 : FVec F S1024x32 .bf16 := broadcastInDim S1024x32 ![] bcast_S_S1024x32 main_cst_0
  let main_v5 : IVec S1024x32 1 := cmpf .olt main_v3 main_v4
  let main_c : IVec S_ 32 := constantI S_ 32 0#32
  let main_v6 : IVec S8192x2 32 := broadcastInDim S8192x2 ![] bcast_S_S8192x2 main_c
  let main_v7 : IVec S8192x2 1 := cmpi .sge main_arg2 main_v6
  let main_c_1 : IVec S_ 32 := constantI S_ 32 32#32
  let main_v8 : IVec S8192x2 32 := broadcastInDim S8192x2 ![] bcast_S_S8192x2 main_c_1
  let main_v9 : IVec S8192x2 1 := cmpi .slt main_arg2 main_v8
  let main_v10 : IVec S8192x2 1 := andi main_v7 main_v9
  (main_v2, main_v5, main_v10)
-- ==== Kernel.lean ====
abbrev S2048x1024 : Shape := ⟨2, ![2048, 1024]⟩
abbrev S1024x32 : Shape := ⟨2, ![1024, 32]⟩
abbrev S2048x2 : Shape := ⟨2, ![2048, 2]⟩
abbrev S8x1024x1024 : Shape := ⟨3, ![8, 1024, 1024]⟩
abbrev S3x2048x1024 : Shape := ⟨3, ![3, 2048, 1024]⟩
abbrev S2048x32 : Shape := ⟨2, ![2048, 32]⟩
abbrev S3x2048x32 : Shape := ⟨3, ![3, 2048, 32]⟩
abbrev S2x2048x1024 : Shape := ⟨3, ![2, 2048, 1024]⟩
abbrev S2x1024x1024 : Shape := ⟨3, ![2, 1024, 1024]⟩
abbrev S3 : Shape := ⟨1, ![3]⟩
abbrev S4 : Shape := ⟨1, ![4]⟩
abbrev S2 : Shape := ⟨1, ![2]⟩
abbrev S2048x1 : Shape := ⟨2, ![2048, 1]⟩
abbrev S2048 : Shape := ⟨1, ![2048]⟩
abbrev S_ : Shape := ⟨0, ![]⟩
abbrev S32x8 : Shape := ⟨2, ![32, 8]⟩
abbrev S2048x8 : Shape := ⟨2, ![2048, 8]⟩
abbrev S1 : Shape := ⟨1, ![1]⟩
abbrev S1x2048x1024 : Shape := ⟨3, ![1, 2048, 1024]⟩
abbrev S1x2048x32 : Shape := ⟨3, ![1, 2048, 32]⟩
abbrev S512x1024 : Shape := ⟨2, ![512, 1024]⟩
abbrev S1x512x1024 : Shape := ⟨3, ![1, 512, 1024]⟩
abbrev S1x1024x1024 : Shape := ⟨3, ![1, 1024, 1024]⟩
abbrev S1024x1024 : Shape := ⟨2, ![1024, 1024]⟩
abbrev S512x1 : Shape := ⟨2, ![512, 1]⟩

abbrev nBuf : Space → Nat
  | .hbm => 5
  | .vmem => 10
  | .smem => 0
  | _ => 0

abbrev bufTy : (tb : Table) → Fin (tcTables nBuf tb) → BufTy
  | .hbm, ⟨0, _⟩ => ⟨S2048x1024, .bf16⟩
  | .hbm, ⟨1, _⟩ => ⟨S1024x32, .bf16⟩
  | .hbm, ⟨2, _⟩ => ⟨S2048x2, .i32⟩
  | .hbm, ⟨3, _⟩ => ⟨S8x1024x1024, .bf16⟩
  | .hbm, ⟨4, _⟩ => ⟨S2048x1024, .bf16⟩
  | .local _ .vmem, ⟨0, _⟩ => ⟨S2048x1024, .bf16⟩
  | .local _ .vmem, ⟨1, _⟩ => ⟨S1024x32, .bf16⟩
  | .local _ .vmem, ⟨2, _⟩ => ⟨S2048x2, .i32⟩
  | .local _ .vmem, ⟨3, _⟩ => ⟨S2048x1024, .bf16⟩
  | .local _ .vmem, ⟨4, _⟩ => ⟨S3x2048x1024, .bf16⟩
  | .local _ .vmem, ⟨5, _⟩ => ⟨S2048x32, .bf16⟩
  | .local _ .vmem, ⟨6, _⟩ => ⟨S3x2048x32, .bf16⟩
  | .local _ .vmem, ⟨7, _⟩ => ⟨S2x2048x1024, .bf16⟩
  | .local _ .vmem, ⟨8, _⟩ => ⟨S3x2048x1024, .bf16⟩
  | .local _ .vmem, ⟨9, _⟩ => ⟨S2x1024x1024, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 1 → Bool
  | ⟨0, _⟩ => false
  | _ => false

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  (ofTc nBuf bufTy 1 32 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_scratch5 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_26 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.subi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_25 : BitVec 32 := 1#32
  let v56 : BitVec 32 := Scalar.muli v24 c1_i32_25
  let v57 : BitVec 32 := Scalar.addi c0_i32_26 v56
  v57.toNat
def k0_dev2 (d0 : Dev nD) : Nat :=
  let c0_i32_29 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_28 : BitVec 32 := 1#32
  let v58 : BitVec 32 := Scalar.muli v13 c1_i32_28
  let v59 : BitVec 32 := Scalar.addi c0_i32_29 v58
  v59.toNat
def k0_dev3 (d0 : Dev nD) : Nat :=
  let c0_i32_34 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_33 : BitVec 32 := 1#32
  let v70 : BitVec 32 := Scalar.muli v13 c1_i32_33
  let v71 : BitVec 32 := Scalar.addi c0_i32_34 v70
  v71.toNat
def k0_dev4 (d0 : Dev nD) : Nat :=
  let c0_i32_41 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_40 : BitVec 32 := 1#32
  let v78 : BitVec 32 := Scalar.muli v13 c1_i32_40
  let v79 : BitVec 32 := Scalar.addi c0_i32_41 v78
  v79.toNat
@[reducible] def k0_t1_loop : Scf.Loop 32 :=
  let c0_i32_67 : BitVec 32 := 0#32
  let c8_i32_68 : BitVec 32 := 8#32
  let v110 : BitVec 32 := Scalar.addi c0_i32_67 c8_i32_68
  let c1_i32_69 : BitVec 32 := 1#32
  ⟨c0_i32_67, v110, c1_i32_69⟩
def k0_off1 (k0_t1 : Fin k0_t1_loop.trips) : Fin 1 → Nat :=
  let c0_i32_67 : BitVec 32 := 0#32
  let c1_i32_69 : BitVec 32 := 1#32
  let arg20 : BitVec 32 := Scf.iv c0_i32_67 c1_i32_69 k0_t1
  let c2_i32_629 : BitVec 32 := 2#32
  let v627 : BitVec 32 := Scalar.remsi arg20 c2_i32_629
  ![v627.toNat]
def k0_off2 (k0_t1 : Fin k0_t1_loop.trips) : Fin 3 → Nat :=
  let c0_i32_67 : BitVec 32 := 0#32
  let c1_i32_69 : BitVec 32 := 1#32
  let arg20 : BitVec 32 := Scf.iv c0_i32_67 c1_i32_69 k0_t1
  let c2_i32_629 : BitVec 32 := 2#32
  let v627 : BitVec 32 := Scalar.remsi arg20 c2_i32_629
  let c0_i32_630 : BitVec 32 := 0#32
  let c0_i32_631 : BitVec 32 := 0#32
  ![v627.toNat, 0, 0]
def k0_off3 (k0_t1 : Fin k0_t1_loop.trips) : Fin 3 → Nat :=
  let c0_i32_67 : BitVec 32 := 0#32
  let c1_i32_69 : BitVec 32 := 1#32
  let arg20 : BitVec 32 := Scf.iv c0_i32_67 c1_i32_69 k0_t1
  let c0_i32_632 : BitVec 32 := 0#32
  let c0_i32_633 : BitVec 32 := 0#32
  ![arg20.toNat, 0, 0]
def k0_cond1 (k0_t1 : Fin k0_t1_loop.trips) : BitVec 1 :=
  let c0_i32_67 : BitVec 32 := 0#32
  let c1_i32_69 : BitVec 32 := 1#32
  let arg20 : BitVec 32 := Scf.iv c0_i32_67 c1_i32_69 k0_t1
  let c1_i32_634 : BitVec 32 := 1#32
  let v634 : BitVec 32 := Scalar.addi arg20 c1_i32_634
  let c8_i32_635 : BitVec 32 := 8#32
  let v635 : BitVec 1 := Scalar.cmpi .slt v634 c8_i32_635
  let v636 : BitVec 32 := Scalar.extui v635
  let c0_i32_636 : BitVec 32 := 0#32
  let v637 : BitVec 1 := Scalar.cmpi .ne v636 c0_i32_636
  v637

def k0_off4 (k0_t1 : Fin k0_t1_loop.trips) : Fin 1 → Nat :=
  let c0_i32_67 : BitVec 32 := 0#32
  let c1_i32_69 : BitVec 32 := 1#32
  let arg20 : BitVec 32 := Scf.iv c0_i32_67 c1_i32_69 k0_t1
  let c1_i32_682 : BitVec 32 := 1#32
  let v713 : BitVec 32 := Scalar.addi arg20 c1_i32_682
  let c2_i32_683 : BitVec 32 := 2#32
  let v714 : BitVec 32 := Scalar.remsi v713 c2_i32_683
  ![v714.toNat]
def k0_off5 (k0_t1 : Fin k0_t1_loop.trips) : Fin 3 → Nat :=
  let c0_i32_67 : BitVec 32 := 0#32
  let c1_i32_69 : BitVec 32 := 1#32
  let arg20 : BitVec 32 := Scf.iv c0_i32_67 c1_i32_69 k0_t1
  let c1_i32_682 : BitVec 32 := 1#32
  let v713 : BitVec 32 := Scalar.addi arg20 c1_i32_682
  let c2_i32_683 : BitVec 32 := 2#32
  let v714 : BitVec 32 := Scalar.remsi v713 c2_i32_683
  let c0_i32_685 : BitVec 32 := 0#32
  let c0_i32_686 : BitVec 32 := 0#32
  ![v714.toNat, 0, 0]
def k0_off6 (k0_t1 : Fin k0_t1_loop.trips) : Fin 3 → Nat :=
  let c0_i32_67 : BitVec 32 := 0#32
  let c1_i32_69 : BitVec 32 := 1#32
  let arg20 : BitVec 32 := Scf.iv c0_i32_67 c1_i32_69 k0_t1
  let c1_i32_684 : BitVec 32 := 1#32
  let v715 : BitVec 32 := Scalar.addi arg20 c1_i32_684
  let c0_i32_687 : BitVec 32 := 0#32
  let c0_i32_688 : BitVec 32 := 0#32
  ![v715.toNat, 0, 0]
def k0_off7 (k0_t1 : Fin k0_t1_loop.trips) : Fin 3 → Nat :=
  let c0_i32_67 : BitVec 32 := 0#32
  let c1_i32_69 : BitVec 32 := 1#32
  let arg20 : BitVec 32 := Scf.iv c0_i32_67 c1_i32_69 k0_t1
  let c2_i32_629 : BitVec 32 := 2#32
  let v627 : BitVec 32 := Scalar.remsi arg20 c2_i32_629
  let v647 : Index := Scalar.indexCast v627
  let c0_640 : Index := 0#32
  let c0_641 : Index := 0#32
  ![v647.toNat, 0, 0]
def k0_dev5 (d0 : Dev nD) : Nat :=
  let c0_i32_110 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_109 : BitVec 32 := 1#32
  let v135 : BitVec 32 := Scalar.muli v13 c1_i32_109
  let v136 : BitVec 32 := Scalar.addi c0_i32_110 v135
  v136.toNat
def k0_dev6 (d0 : Dev nD) : Nat :=
  let c0_i32_120 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_119 : BitVec 32 := 1#32
  let v145 : BitVec 32 := Scalar.muli v13 c1_i32_119
  let v146 : BitVec 32 := Scalar.addi c0_i32_120 v145
  v146.toNat
@[reducible] def k0_t2_loop : Scf.Loop 32 :=
  let c0_i32_152 : BitVec 32 := 0#32
  let c8_i32_153 : BitVec 32 := 8#32
  let v180 : BitVec 32 := Scalar.addi c0_i32_152 c8_i32_153
  let c1_i32_154 : BitVec 32 := 1#32
  ⟨c0_i32_152, v180, c1_i32_154⟩
def k0_off8 (k0_t2 : Fin k0_t2_loop.trips) : Fin 1 → Nat :=
  let c0_i32_152 : BitVec 32 := 0#32
  let c1_i32_154 : BitVec 32 := 1#32
  let arg20 : BitVec 32 := Scf.iv c0_i32_152 c1_i32_154 k0_t2
  let c2_i32_629 : BitVec 32 := 2#32
  let v627 : BitVec 32 := Scalar.remsi arg20 c2_i32_629
  ![v627.toNat]
def k0_off9 (k0_t2 : Fin k0_t2_loop.trips) : Fin 3 → Nat :=
  let c0_i32_152 : BitVec 32 := 0#32
  let c1_i32_154 : BitVec 32 := 1#32
  let arg20 : BitVec 32 := Scf.iv c0_i32_152 c1_i32_154 k0_t2
  let c2_i32_629 : BitVec 32 := 2#32
  let v627 : BitVec 32 := Scalar.remsi arg20 c2_i32_629
  let c0_i32_630 : BitVec 32 := 0#32
  let c0_i32_631 : BitVec 32 := 0#32
  ![v627.toNat, 0, 0]
def k0_off10 (k0_t2 : Fin k0_t2_loop.trips) : Fin 3 → Nat :=
  let c0_i32_152 : BitVec 32 := 0#32
  let c1_i32_154 : BitVec 32 := 1#32
  let arg20 : BitVec 32 := Scf.iv c0_i32_152 c1_i32_154 k0_t2
  let c0_i32_632 : BitVec 32 := 0#32
  let c0_i32_633 : BitVec 32 := 0#32
  ![arg20.toNat, 0, 0]
def k0_cond2 (k0_t2 : Fin k0_t2_loop.trips) : BitVec 1 :=
  let c0_i32_152 : BitVec 32 := 0#32
  let c1_i32_154 : BitVec 32 := 1#32
  let arg20 : BitVec 32 := Scf.iv c0_i32_152 c1_i32_154 k0_t2
  let c1_i32_634 : BitVec 32 := 1#32
  let v634 : BitVec 32 := Scalar.addi arg20 c1_i32_634
  let c8_i32_635 : BitVec 32 := 8#32
  let v635 : BitVec 1 := Scalar.cmpi .slt v634 c8_i32_635
  let v636 : BitVec 32 := Scalar.extui v635
  let c0_i32_636 : BitVec 32 := 0#32
  let v637 : BitVec 1 := Scalar.cmpi .ne v636 c0_i32_636
  v637

def k0_off11 (k0_t2 : Fin k0_t2_loop.trips) : Fin 1 → Nat :=
  let c0_i32_152 : BitVec 32 := 0#32
  let c1_i32_154 : BitVec 32 := 1#32
  let arg20 : BitVec 32 := Scf.iv c0_i32_152 c1_i32_154 k0_t2
  let c1_i32_686 : BitVec 32 := 1#32
  let v713 : BitVec 32 := Scalar.addi arg20 c1_i32_686
  let c2_i32_687 : BitVec 32 := 2#32
  let v714 : BitVec 32 := Scalar.remsi v713 c2_i32_687
  ![v714.toNat]
def k0_off12 (k0_t2 : Fin k0_t2_loop.trips) : Fin 3 → Nat :=
  let c0_i32_152 : BitVec 32 := 0#32
  let c1_i32_154 : BitVec 32 := 1#32
  let arg20 : BitVec 32 := Scf.iv c0_i32_152 c1_i32_154 k0_t2
  let c1_i32_686 : BitVec 32 := 1#32
  let v713 : BitVec 32 := Scalar.addi arg20 c1_i32_686
  let c2_i32_687 : BitVec 32 := 2#32
  let v714 : BitVec 32 := Scalar.remsi v713 c2_i32_687
  let c0_i32_689 : BitVec 32 := 0#32
  let c0_i32_690 : BitVec 32 := 0#32
  ![v714.toNat, 0, 0]
def k0_off13 (k0_t2 : Fin k0_t2_loop.trips) : Fin 3 → Nat :=
  let c0_i32_152 : BitVec 32 := 0#32
  let c1_i32_154 : BitVec 32 := 1#32
  let arg20 : BitVec 32 := Scf.iv c0_i32_152 c1_i32_154 k0_t2
  let c1_i32_688 : BitVec 32 := 1#32
  let v715 : BitVec 32 := Scalar.addi arg20 c1_i32_688
  let c0_i32_691 : BitVec 32 := 0#32
  let c0_i32_692 : BitVec 32 := 0#32
  ![v715.toNat, 0, 0]
def k0_off14 (k0_t2 : Fin k0_t2_loop.trips) : Fin 3 → Nat :=
  let c0_i32_152 : BitVec 32 := 0#32
  let c1_i32_154 : BitVec 32 := 1#32
  let arg20 : BitVec 32 := Scf.iv c0_i32_152 c1_i32_154 k0_t2
  let c2_i32_629 : BitVec 32 := 2#32
  let v627 : BitVec 32 := Scalar.remsi arg20 c2_i32_629
  let v647 : Index := Scalar.indexCast v627
  let c0_641 : Index := 0#32
  let c0_642 : Index := 0#32
  ![v647.toNat, 0, 0]
def k0_dev7 (d0 : Dev nD) : Nat :=
  let c0_i32_161 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_160 : BitVec 32 := 1#32
  let v181 : BitVec 32 := Scalar.muli v13 c1_i32_160
  let v182 : BitVec 32 := Scalar.addi c0_i32_161 v181
  v182.toNat
def k0_dev8 (d0 : Dev nD) : Nat :=
  let c0_i32_191 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_190 : BitVec 32 := 1#32
  let v207 : BitVec 32 := Scalar.muli v13 c1_i32_190
  let v208 : BitVec 32 := Scalar.addi c0_i32_191 v207
  v208.toNat
def k0_dev9 (d0 : Dev nD) : Nat :=
  let c0_i32_201 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_200 : BitVec 32 := 1#32
  let v217 : BitVec 32 := Scalar.muli v13 c1_i32_200
  let v218 : BitVec 32 := Scalar.addi c0_i32_201 v217
  v218.toNat
@[reducible] def k0_t3_loop : Scf.Loop 32 :=
  let c0_i32_233 : BitVec 32 := 0#32
  let c8_i32_234 : BitVec 32 := 8#32
  let v252 : BitVec 32 := Scalar.addi c0_i32_233 c8_i32_234
  let c1_i32_235 : BitVec 32 := 1#32
  ⟨c0_i32_233, v252, c1_i32_235⟩
def k0_off15 (k0_t3 : Fin k0_t3_loop.trips) : Fin 1 → Nat :=
  let c0_i32_233 : BitVec 32 := 0#32
  let c1_i32_235 : BitVec 32 := 1#32
  let arg20 : BitVec 32 := Scf.iv c0_i32_233 c1_i32_235 k0_t3
  let c2_i32_629 : BitVec 32 := 2#32
  let v627 : BitVec 32 := Scalar.remsi arg20 c2_i32_629
  ![v627.toNat]
def k0_off16 (k0_t3 : Fin k0_t3_loop.trips) : Fin 3 → Nat :=
  let c0_i32_233 : BitVec 32 := 0#32
  let c1_i32_235 : BitVec 32 := 1#32
  let arg20 : BitVec 32 := Scf.iv c0_i32_233 c1_i32_235 k0_t3
  let c2_i32_629 : BitVec 32 := 2#32
  let v627 : BitVec 32 := Scalar.remsi arg20 c2_i32_629
  let c0_i32_630 : BitVec 32 := 0#32
  let c0_i32_631 : BitVec 32 := 0#32
  ![v627.toNat, 0, 0]
def k0_off17 (k0_t3 : Fin k0_t3_loop.trips) : Fin 3 → Nat :=
  let c0_i32_233 : BitVec 32 := 0#32
  let c1_i32_235 : BitVec 32 := 1#32
  let arg20 : BitVec 32 := Scf.iv c0_i32_233 c1_i32_235 k0_t3
  let c0_i32_632 : BitVec 32 := 0#32
  let c0_i32_633 : BitVec 32 := 0#32
  ![arg20.toNat, 0, 0]
def k0_cond3 (k0_t3 : Fin k0_t3_loop.trips) : BitVec 1 :=
  let c0_i32_233 : BitVec 32 := 0#32
  let c1_i32_235 : BitVec 32 := 1#32
  let arg20 : BitVec 32 := Scf.iv c0_i32_233 c1_i32_235 k0_t3
  let c1_i32_634 : BitVec 32 := 1#32
  let v634 : BitVec 32 := Scalar.addi arg20 c1_i32_634
  let c8_i32_635 : BitVec 32 := 8#32
  let v635 : BitVec 1 := Scalar.cmpi .slt v634 c8_i32_635
  let v636 : BitVec 32 := Scalar.extui v635
  let c0_i32_636 : BitVec 32 := 0#32
  let v637 : BitVec 1 := Scalar.cmpi .ne v636 c0_i32_636
  v637

def k0_off18 (k0_t3 : Fin k0_t3_loop.trips) : Fin 1 → Nat :=
  let c0_i32_233 : BitVec 32 := 0#32
  let c1_i32_235 : BitVec 32 := 1#32
  let arg20 : BitVec 32 := Scf.iv c0_i32_233 c1_i32_235 k0_t3
  let c1_i32_686 : BitVec 32 := 1#32
  let v713 : BitVec 32 := Scalar.addi arg20 c1_i32_686
  let c2_i32_687 : BitVec 32 := 2#32
  let v714 : BitVec 32 := Scalar.remsi v713 c2_i32_687
  ![v714.toNat]
def k0_off19 (k0_t3 : Fin k0_t3_loop.trips) : Fin 3 → Nat :=
  let c0_i32_233 : BitVec 32 := 0#32
  let c1_i32_235 : BitVec 32 := 1#32
  let arg20 : BitVec 32 := Scf.iv c0_i32_233 c1_i32_235 k0_t3
  let c1_i32_686 : BitVec 32 := 1#32
  let v713 : BitVec 32 := Scalar.addi arg20 c1_i32_686
  let c2_i32_687 : BitVec 32 := 2#32
  let v714 : BitVec 32 := Scalar.remsi v713 c2_i32_687
  let c0_i32_689 : BitVec 32 := 0#32
  let c0_i32_690 : BitVec 32 := 0#32
  ![v714.toNat, 0, 0]
def k0_off20 (k0_t3 : Fin k0_t3_loop.trips) : Fin 3 → Nat :=
  let c0_i32_233 : BitVec 32 := 0#32
  let c1_i32_235 : BitVec 32 := 1#32
  let arg20 : BitVec 32 := Scf.iv c0_i32_233 c1_i32_235 k0_t3
  let c1_i32_688 : BitVec 32 := 1#32
  let v715 : BitVec 32 := Scalar.addi arg20 c1_i32_688
  let c0_i32_691 : BitVec 32 := 0#32
  let c0_i32_692 : BitVec 32 := 0#32
  ![v715.toNat, 0, 0]
def k0_off21 (k0_t3 : Fin k0_t3_loop.trips) : Fin 3 → Nat :=
  let c0_i32_233 : BitVec 32 := 0#32
  let c1_i32_235 : BitVec 32 := 1#32
  let arg20 : BitVec 32 := Scf.iv c0_i32_233 c1_i32_235 k0_t3
  let c2_i32_629 : BitVec 32 := 2#32
  let v627 : BitVec 32 := Scalar.remsi arg20 c2_i32_629
  let v647 : Index := Scalar.indexCast v627
  let c0_641 : Index := 0#32
  let c0_642 : Index := 0#32
  ![v647.toNat, 0, 0]
def k0_dev10 (d0 : Dev nD) : Nat :=
  let c0_i32_288 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_287 : BitVec 32 := 1#32
  let v305 : BitVec 32 := Scalar.muli v13 c1_i32_287
  let v306 : BitVec 32 := Scalar.addi c0_i32_288 v305
  v306.toNat
@[reducible] def k0_t4_loop : Scf.Loop 32 :=
  let c0_i32_348 : BitVec 32 := 0#32
  let c7_i32 : BitVec 32 := 7#32
  let v362 : BitVec 32 := Scalar.addi c0_i32_348 c7_i32
  let c1_i32_349 : BitVec 32 := 1#32
  ⟨c0_i32_348, v362, c1_i32_349⟩
def k0_off22 (k0_t4 : Fin k0_t4_loop.trips) : Fin 1 → Nat :=
  let c0_i32_348 : BitVec 32 := 0#32
  let c1_i32_349 : BitVec 32 := 1#32
  let arg20 : BitVec 32 := Scf.iv c0_i32_348 c1_i32_349 k0_t4
  let c2_i32_629 : BitVec 32 := 2#32
  let v627 : BitVec 32 := Scalar.remsi arg20 c2_i32_629
  ![v627.toNat]
def k0_off23 (k0_t4 : Fin k0_t4_loop.trips) : Fin 3 → Nat :=
  let c0_i32_348 : BitVec 32 := 0#32
  let c1_i32_349 : BitVec 32 := 1#32
  let arg20 : BitVec 32 := Scf.iv c0_i32_348 c1_i32_349 k0_t4
  let c2_i32_629 : BitVec 32 := 2#32
  let v627 : BitVec 32 := Scalar.remsi arg20 c2_i32_629
  let c0_i32_630 : BitVec 32 := 0#32
  let c0_i32_631 : BitVec 32 := 0#32
  ![v627.toNat, 0, 0]
def k0_off24 (k0_t4 : Fin k0_t4_loop.trips) : Fin 3 → Nat :=
  let c0_i32_348 : BitVec 32 := 0#32
  let c1_i32_349 : BitVec 32 := 1#32
  let arg20 : BitVec 32 := Scf.iv c0_i32_348 c1_i32_349 k0_t4
  let c0_i32_632 : BitVec 32 := 0#32
  let c0_i32_633 : BitVec 32 := 0#32
  ![arg20.toNat, 0, 0]
def k0_off25 (k0_t4 : Fin k0_t4_loop.trips) : Fin 1 → Nat :=
  let c0_i32_348 : BitVec 32 := 0#32
  let c1_i32_349 : BitVec 32 := 1#32
  let arg20 : BitVec 32 := Scf.iv c0_i32_348 c1_i32_349 k0_t4
  let c1_i32_634 : BitVec 32 := 1#32
  let v634 : BitVec 32 := Scalar.addi arg20 c1_i32_634
  let c2_i32_635 : BitVec 32 := 2#32
  let v635 : BitVec 32 := Scalar.remsi v634 c2_i32_635
  ![v635.toNat]
def k0_off26 (k0_t4 : Fin k0_t4_loop.trips) : Fin 3 → Nat :=
  let c0_i32_348 : BitVec 32 := 0#32
  let c1_i32_349 : BitVec 32 := 1#32
  let arg20 : BitVec 32 := Scf.iv c0_i32_348 c1_i32_349 k0_t4
  let c1_i32_634 : BitVec 32 := 1#32
  let v634 : BitVec 32 := Scalar.addi arg20 c1_i32_634
  let c2_i32_635 : BitVec 32 := 2#32
  let v635 : BitVec 32 := Scalar.remsi v634 c2_i32_635
  let c0_i32_637 : BitVec 32 := 0#32
  let c0_i32_638 : BitVec 32 := 0#32
  ![v635.toNat, 0, 0]
def k0_off27 (k0_t4 : Fin k0_t4_loop.trips) : Fin 3 → Nat :=
  let c0_i32_348 : BitVec 32 := 0#32
  let c1_i32_349 : BitVec 32 := 1#32
  let arg20 : BitVec 32 := Scf.iv c0_i32_348 c1_i32_349 k0_t4
  let c1_i32_636 : BitVec 32 := 1#32
  let v636 : BitVec 32 := Scalar.addi arg20 c1_i32_636
  let c0_i32_639 : BitVec 32 := 0#32
  let c0_i32_640 : BitVec 32 := 0#32
  ![v636.toNat, 0, 0]
def k0_off28 (k0_t4 : Fin k0_t4_loop.trips) : Fin 3 → Nat :=
  let c0_i32_348 : BitVec 32 := 0#32
  let c1_i32_349 : BitVec 32 := 1#32
  let arg20 : BitVec 32 := Scf.iv c0_i32_348 c1_i32_349 k0_t4
  let c2_i32_629 : BitVec 32 := 2#32
  let v627 : BitVec 32 := Scalar.remsi arg20 c2_i32_629
  let v652 : Index := Scalar.indexCast v627
  let c0_645 : Index := 0#32
  let c0_646 : Index := 0#32
  ![v652.toNat, 0, 0]
def k0_dev11 (d0 : Dev nD) : Nat :=
  let c0_i32_389 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_388 : BitVec 32 := 1#32
  let v397 : BitVec 32 := Scalar.muli v13 c1_i32_388
  let v398 : BitVec 32 := Scalar.addi c0_i32_389 v397
  v398.toNat
def k0_dev12 (d0 : Dev nD) : Nat :=
  let c0_i32_415 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_414 : BitVec 32 := 1#32
  let v427 : BitVec 32 := Scalar.muli v13 c1_i32_414
  let v428 : BitVec 32 := Scalar.addi c0_i32_415 v427
  v428.toNat
def k0_dev13 (d0 : Dev nD) : Nat :=
  let c0_i32_440 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_439 : BitVec 32 := 1#32
  let v457 : BitVec 32 := Scalar.muli v13 c1_i32_439
  let v458 : BitVec 32 := Scalar.addi c0_i32_440 v457
  v458.toNat
def k0_dev14 (d0 : Dev nD) : Nat :=
  let c0_i32_464 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_463 : BitVec 32 := 1#32
  let v487 : BitVec 32 := Scalar.muli v13 c1_i32_463
  let v488 : BitVec 32 := Scalar.addi c0_i32_464 v487
  v488.toNat
abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x32 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x2 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2048x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== KernelIdeal.lean ====
variable {F : FTy → Type} [FloatOps F] [Named F]
def κ : String → Option EReal := fun
  | "mask" => some ⊥
  | _ => none
-- ==== ReferenceIdeal.lean ====
abbrev S8192x1024 : Shape := ⟨2, ![8192, 1024]⟩
abbrev S1024x32 : Shape := ⟨2, ![1024, 32]⟩
abbrev S8192x2 : Shape := ⟨2, ![8192, 2]⟩
abbrev S32x1024x1024 : Shape := ⟨3, ![32, 1024, 1024]⟩
abbrev S8192x32 : Shape := ⟨2, ![8192, 32]⟩
abbrev S_ : Shape := ⟨0, ![]⟩
abbrev S8192 : Shape := ⟨1, ![8192]⟩
abbrev S8192x1 : Shape := ⟨2, ![8192, 1]⟩
abbrev S8192x2x1 : Shape := ⟨3, ![8192, 2, 1]⟩
abbrev S1 : Shape := ⟨1, ![1]⟩
abbrev S1x1x1 : Shape := ⟨3, ![1, 1, 1]⟩
abbrev S8192x1024x1024 : Shape := ⟨3, ![8192, 1024, 1024]⟩

abbrev nBuf : Space → Nat
  | .hbm => 76
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x32, .bf16⟩
  | .hbm, ⟨2, _⟩ => ⟨S8192x2, .i32⟩
  | .hbm, ⟨3, _⟩ => ⟨S32x1024x1024, .bf16⟩
  | .hbm, ⟨4, _⟩ => ⟨S8192x1024, .f32⟩
  | .hbm, ⟨5, _⟩ => ⟨S1024x32, .f32⟩
  | .hbm, ⟨6, _⟩ => ⟨S8192x32, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S8192x32, .f32⟩
  | .hbm, ⟨11, _⟩ => ⟨S8192x32, .f32⟩
  | .hbm, ⟨12, _⟩ => ⟨S8192x32, .f32⟩
  | .hbm, ⟨13, _⟩ => ⟨S_, .f32⟩
  | .hbm, ⟨14, _⟩ => ⟨S8192, .f32⟩
  | .hbm, ⟨15, _⟩ => ⟨S8192x1, .f32⟩
  | .hbm, ⟨16, _⟩ => ⟨S8192x32, .f32⟩
  | .hbm, ⟨17, _⟩ => ⟨S8192x32, .f32⟩
  | .hbm, ⟨18, _⟩ => ⟨S_, .i32⟩
  | .hbm, ⟨19, _⟩ => ⟨S8192x2, .i32⟩
  | .hbm, ⟨20, _⟩ => ⟨S8192x2, .i1⟩
  | .hbm, ⟨21, _⟩ => ⟨S_, .i32⟩
  | .hbm, ⟨22, _⟩ => ⟨S8192x2, .i32⟩
  | .hbm, ⟨23, _⟩ => ⟨S8192x2, .i32⟩
  | .hbm, ⟨24, _⟩ => ⟨S8192x2, .i32⟩
  | .hbm, ⟨25, _⟩ => ⟨S8192x2x1, .i32⟩
  | .hbm, ⟨26, _⟩ => ⟨S1, .i32⟩
  | .hbm, ⟨27, _⟩ => ⟨S_, .i32⟩
  | .hbm, ⟨28, _⟩ => ⟨S8192x2x1, .i32⟩
  | .hbm, ⟨29, _⟩ => ⟨S8192x2x1, .i1⟩
  | .hbm, ⟨30, _⟩ => ⟨S1x1x1, .i32⟩
  | .hbm, ⟨31, _⟩ => ⟨S8192x2x1, .i32⟩
  | .hbm, ⟨32, _⟩ => ⟨S8192x2x1, .i1⟩
  | .hbm, ⟨33, _⟩ => ⟨S8192x2x1, .i1⟩
  | .hbm, ⟨34, _⟩ => ⟨S_, .i1⟩
  | .hbm, ⟨35, _⟩ => ⟨S8192x2, .i1⟩
  | .hbm, ⟨36, _⟩ => ⟨S8192x2, .f32⟩
  | .hbm, ⟨37, _⟩ => ⟨S_, .f32⟩
  | .hbm, ⟨38, _⟩ => ⟨S8192x2, .f32⟩
  | .hbm, ⟨39, _⟩ => ⟨S8192x2, .f32⟩
  | .hbm, ⟨40, _⟩ => ⟨S8192x1, .f32⟩
  | .hbm, ⟨41, _⟩ => ⟨S8192x1, .f32⟩
  | .hbm, ⟨42, _⟩ => ⟨S8192x1, .f32⟩
  | .hbm, ⟨43, _⟩ => ⟨S32x1024x1024, .f32⟩
  | .hbm, ⟨44, _⟩ => ⟨S8192x1, .i32⟩
  | .hbm, ⟨45, _⟩ => ⟨S8192, .i32⟩
  | .hbm, ⟨46, _⟩ => ⟨S_, .i32⟩
  | .hbm, ⟨47, _⟩ => ⟨S8192, .i32⟩
  | .hbm, ⟨48, _⟩ => ⟨S8192, .i1⟩
  | .hbm, ⟨49, _⟩ => ⟨S_, .i32⟩
  | .hbm, ⟨50, _⟩ => ⟨S8192, .i32⟩
  | .hbm, ⟨51, _⟩ => ⟨S8192, .i32⟩
  | .hbm, ⟨52, _⟩ => ⟨S8192, .i32⟩
  | .hbm, ⟨53, _⟩ => ⟨S8192x1, .i32⟩
  | .hbm, ⟨54, _⟩ => ⟨S8192x1024x1024, .f32⟩
  | .hbm, ⟨55, _⟩ => ⟨S8192x1024, .f32⟩
  | .hbm, ⟨56, _⟩ => ⟨S8192x1, .i32⟩
  | .hbm, ⟨57, _⟩ => ⟨S8192, .i32⟩
  | .hbm, ⟨58, _⟩ => ⟨S_, .i32⟩
  | .hbm, ⟨59, _⟩ => ⟨S8192, .i32⟩
  | .hbm, ⟨60, _⟩ => ⟨S8192, .i1⟩
  | .hbm, ⟨61, _⟩ => ⟨S_, .i32⟩
  | .hbm, ⟨62, _⟩ => ⟨S8192, .i32⟩
  | .hbm, ⟨63, _⟩ => ⟨S8192, .i32⟩
  | .hbm, ⟨64, _⟩ => ⟨S8192, .i32⟩
  | .hbm, ⟨65, _⟩ => ⟨S8192x1, .i32⟩
  | .hbm, ⟨66, _⟩ => ⟨S8192x1024x1024, .f32⟩
  | .hbm, ⟨67, _⟩ => ⟨S8192x1024, .f32⟩
  | .hbm, ⟨68, _⟩ => ⟨S8192x1, .f32⟩
  | .hbm, ⟨69, _⟩ => ⟨S8192x1024, .f32⟩
  | .hbm, ⟨70, _⟩ => ⟨S8192x1024, .f32⟩
  | .hbm, ⟨71, _⟩ => ⟨S8192x1, .f32⟩
  | .hbm, ⟨72, _⟩ => ⟨S8192x1024, .f32⟩
  | .hbm, ⟨73, _⟩ => ⟨S8192x1024, .f32⟩
  | .hbm, ⟨74, _⟩ => ⟨S8192x1024, .f32⟩
  | .hbm, ⟨75, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_call0_c : Ref sig .tc := ⟨.hbm, 18, rfl⟩
abbrev main_call0_v0 : Ref sig .tc := ⟨.hbm, 19, rfl⟩
abbrev main_call0_v1 : Ref sig .tc := ⟨.hbm, 20, rfl⟩
abbrev main_call0_c_0 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_v5 : Ref sig .tc := ⟨.hbm, 25, rfl⟩
abbrev main_call0_c_1 : Ref sig .tc := ⟨.hbm, 26, rfl⟩
abbrev main_call0_c_2 : Ref sig .tc := ⟨.hbm, 27, rfl⟩
abbrev main_call0_v6 : Ref sig .tc := ⟨.hbm, 28, rfl⟩
abbrev main_call0_v7 : Ref sig .tc := ⟨.hbm, 29, rfl⟩
abbrev main_call0_v8 : Ref sig .tc := ⟨.hbm, 30, rfl⟩
abbrev main_call0_v9 : Ref sig .tc := ⟨.hbm, 31, rfl⟩
abbrev main_call0_v10 : Ref sig .tc := ⟨.hbm, 32, rfl⟩
abbrev main_call0_v11 : Ref sig .tc := ⟨.hbm, 33, rfl⟩
abbrev main_call0_c_3 : Ref sig .tc := ⟨.hbm, 34, rfl⟩
abbrev main_call0_v12 : Ref sig .tc := ⟨.hbm, 35, rfl⟩
abbrev main_call0_v13 : Ref sig .tc := ⟨.hbm, 36, rfl⟩
abbrev main_call0_cst : Ref sig .tc := ⟨.hbm, 37, rfl⟩
abbrev main_call0_v14 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_c : Ref sig .tc := ⟨.hbm, 46, rfl⟩
abbrev main_v19 : Ref sig .tc := ⟨.hbm, 47, rfl⟩
abbrev main_v20 : Ref sig .tc := ⟨.hbm, 48, rfl⟩
abbrev main_c_1 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_c_2 : Ref sig .tc := ⟨.hbm, 58, rfl⟩
abbrev main_v29 : Ref sig .tc := ⟨.hbm, 59, rfl⟩
abbrev main_v30 : Ref sig .tc := ⟨.hbm, 60, rfl⟩
abbrev main_c_3 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩

abbrev nD : Nat := 1
abbrev τ : Topo := Topo.v7x

variable {F : FTy → Type} [FloatOps F]
-- ==== Proof.Parts.lean ====
/-
# Parts of a memref held at contents given by coordinates

`part c m R q X` is the share `q` of the elements of the memref `m` at the coordinates `R`, holding there
what `X` says. The rules below load, store, split, share and copy such parts; a slot of a ring buffer, a row tile
of it, or a whole matrix are all parts of one memref.
-/
module

public import Idealize.ShloMosaic.Lib.Tactic
public import Idealize.ShloMosaic.Lib.Transfers
public import Idealize.ShloMosaic.Lib.ValueIdx
public import Idealize.ShloMosaic.Lib.Pipeline.Value
public import Idealize.ShloMosaic.Lib.Writes
public import Idealize.ShloMosaic.Lib.ViewIndex

@[expose] public section

noncomputable section

namespace Cert.Moe

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

section Generic

variable {nD : Nat} {τ : Topo} {sig : RefSig} {Ix : Type} [DecidableEq Ix]
variable {Val : EltTy → Type} [∀ e, Nonempty (Val e)] {Name : Type} [DecidableEq Name]
variable {U : Type} [URA U] {Lvl : Type} [Preorder Lvl]

local notation "𝕄" => MT nD τ sig Ix Val Name U Lvl

variable (c : Thread nD τ) {sp : Space} {s s' : Shape} {e : EltTy}

/-- The share `q` of the memref's elements at the coordinates `R`, holding `X`. -/
def part (m : Memref sig c.2.kind sp s e) (R : Finset s.Idx) (q : PosShare TreeShare) (X : s.Idx → Val e) : sProp 𝕄 :=
  m.view.loc c ↦[m.view.setOn R]{q} m.view.rep X

instance part_storable (m : Memref sig c.2.kind sp s e) (R : Finset s.Idx) (q : PosShare TreeShare) (X : s.Idx → Val e) :
    BI.Storable (upEmb : UEmb _ 𝕄) (part c m R q X) := by unfold part; infer_instance

theorem rep_emb (v : View sig c.2.kind sp s e) (X : s.Idx → Val e) (f : v.ty.Contents Val) (x : s.Idx)
    (h : v.read Val f x = X x) : v.rep X (v.emb x) = f (v.emb x) :=
  View.eq_of_read_eq (by rw [View.read_rep, h])

/-- Elements at contents `f` are a part at any `X` that `f` reads as on `R`. -/
theorem part_of (m : Memref sig c.2.kind sp s e) (R : Finset s.Idx) (q : PosShare TreeShare) (X : s.Idx → Val e)
    (f : Buf Val (m.view.loc c)) (h : ∀ x ∈ R, m.view.read Val f x = X x) :
    (m.view.loc c ↦[m.view.setOn R]{q} f : sProp 𝕄) = part c m R q X :=
  pointsTo_congr fun i hi => by
    obtain ⟨x, hx, rfl⟩ := Finset.mem_map.mp hi
    exact (rep_emb c m.view X f x (h x hx)).symm

theorem part_congr (m : Memref sig c.2.kind sp s e) (R : Finset s.Idx) (q : PosShare TreeShare) {X Y : s.Idx → Val e}
    (h : ∀ x ∈ R, X x = Y x) : (part c m R q X : sProp 𝕄) = part c m R q Y := by
  unfold part
  exact part_of c m R q Y _ fun x hx => by rw [View.read_rep, h x hx]

theorem part_union (m : Memref sig c.2.kind sp s e) {R R' : Finset s.Idx} (q : PosShare TreeShare) (X : s.Idx → Val e)
    (h : Disjoint R R') : (part c m (R ∪ R') q X : sProp 𝕄) ⊣⊢ iprop(part c m R q X ∗ part c m R' q X) := by
  unfold part
  rw [show m.view.setOn (R ∪ R') = m.view.setOn R ∪ m.view.setOn R' from Finset.map_union _ _]
  exact pointsTo_union ((Finset.disjoint_map _).mpr h)

theorem part_share (m : Memref sig c.2.kind sp s e) (R : Finset s.Idx) (q : PosShare TreeShare) (X : s.Idx → Val e) :
    (part c m R q X : sProp 𝕄) ⊣⊢ iprop(part c m R q.left X ∗ part c m R q.right X) :=
  pointsTo_share (PosShare.mem_left_op_right q)

/-- A whole memref is the part at every coordinate. -/
theorem part_univ (m : Memref sig c.2.kind sp s e) (q : PosShare TreeShare) (f : Buf Val (m.view.loc c)) :
    (m.view.loc c ↦[m.view.set]{q} f : sProp 𝕄) = part c m Finset.univ q (m.view.read Val f) :=
  part_of c m Finset.univ q _ f fun _ _ => rfl

/-- The elements under a squeezed slice are the part at the slice's coordinates. -/
theorem part_slice (m : Memref sig c.2.kind sp s e) (r : Rect s) (hr : ∀ a, r.stride a = 1) (hq : r.shape.Squeezes s')
    {R : Finset s.Idx} (hR : r.set = R) (q : PosShare TreeShare) (X : s.Idx → Val e) :
    (part c m R q X : sProp 𝕄)
      = (((m.slice r hr).squeeze s' hq).view.loc c ↦[((m.slice r hr).squeeze s' hq).view.set]{q} (m.view.rep X : Buf Val (m.view.loc c))) := by
  subst hR
  unfold part
  have h : ((m.slice r hr).squeeze s' hq).view.set = m.view.setOn r.set :=
    (View.set_reshape (v := (m.slice r hr).view) hq.numel_eq).trans (View.set_slice m.view r)
  rw [h]

/-- What a squeezed slice reads off a part's contents. -/
theorem read_slice_rep (m : Memref sig c.2.kind sp s e) (r : Rect s) (hr : ∀ a, r.stride a = 1) (hq : r.shape.Squeezes s')
    (X : s.Idx → Val e) :
    ((m.slice r hr).squeeze s' hq).view.read Val (m.view.rep X : Buf Val (m.view.loc c)) = fun y => X (r.emb (Shape.reshapeEquiv hq.numel_eq y)) := by
  funext y
  exact congrFun (View.read_rep m.view X) _

/-- A squeezed slice written through, as the part it holds afterwards. -/
theorem part_slice_write (m : Memref sig c.2.kind sp s e) (r : Rect s) (hr : ∀ a, r.stride a = 1) (hq : r.shape.Squeezes s')
    {R : Finset s.Idx} (hR : r.set = R) (q : PosShare TreeShare) (Y : s.Idx → Val e) (f : Buf Val (m.view.loc c)) (w : s'.Idx → Val e)
    (h : ∀ y, Y (r.emb (Shape.reshapeEquiv hq.numel_eq y)) = w y) :
    (((m.slice r hr).squeeze s' hq).view.loc c ↦[((m.slice r hr).squeeze s' hq).view.set]{q}
        (((m.slice r hr).squeeze s' hq).view.write Val f w Finset.univ) : sProp 𝕄)
      = part c m R q Y := by
  rw [part_slice c m r hr hq hR]
  refine pointsTo_congr fun i hi => ?_
  obtain ⟨y, -, rfl⟩ := Finset.mem_map.mp hi
  refine View.eq_of_read_eq (v := ((m.slice r hr).squeeze s' hq).view) ?_
  rw [View.read_write_univ, read_slice_rep]
  exact (h y).symm

/-- A memref written through whole, as the part it holds afterwards. -/
theorem part_write_univ (m : Memref sig c.2.kind sp s e) (q : PosShare TreeShare) (f : Buf Val (m.view.loc c)) (w : s.Idx → Val e) :
    (m.view.loc c ↦[m.view.set]{q} (m.view.write Val f w Finset.univ) : sProp 𝕄) = part c m Finset.univ q w := by
  rw [part_univ, View.read_write_univ]

section Rules

variable {Λ : Labels} {defs : Defs nD τ sig Val Λ} {𝒱 : Variants} {bd : Option 𝒱.V}
variable {α : Type} {Q : α → sProp (MT nD τ sig Ix Val Name U Lvl)}

variable [Infinite Name]

/-- A load inside a part reads its contents. -/
theorem wp_load_part {cs : CoreSpace} {m : Memref sig c.2.kind cs s e} {r : LoadRect s} {hl : m.view.LoadsAt r}
    {k : (r.shape.Idx → Val e) → Prog (TpuEff nD τ sig Val Λ c.2) α} {R : Finset s.Idx} {q : PosShare TreeShare} {X : s.Idx → Val e}
    (hS : r.set ⊆ R) :
    (part c m R q X : sProp 𝕄)
      ⊢ iprop((part c m R q X -∗ wp frame (wpE defs 𝒱 c bd) Set.univ (k (fun x => X (r.idx x))) Q)
        -∗ wp frame (wpE defs 𝒱 c bd) Set.univ (.op (.load m r hl) k) Q) := by
  have h := wp_load (defs := defs) 𝒱 c bd (Γ := []) Set.univ (m := m) (r := r) (hl := hl) (k := k) (Q := Q) (S := m.view.setOn R) (q := q) (f := m.view.rep X)
    (Finset.map_subset_map.mpr hS)
  rw [View.readAt_rep] at h
  exact h

/-- A store inside a part changes its contents at the rectangle. -/
theorem wp_store_part {cs : CoreSpace} {m : Memref sig c.2.kind cs s e} {r : Rect s} {w : r.shape.Idx → Val e}
    {hx : (m.access r).Stores Finset.univ} {hm : (Finset.univ : Finset r.shape.Idx) = Finset.univ ∨ ∀ a, r.stride a = 1}
    {k : PUnit → Prog (TpuEff nD τ sig Val Λ c.2) α} {R : Finset s.Idx} {X : s.Idx → Val e} (Y : s.Idx → Val e)
    (hS : r.set ⊆ R) (hin : ∀ x, Y (r.emb x) = w x) (hout : ∀ i ∈ R, i ∉ r.set → Y i = X i) :
    (part c m R fullShare X : sProp 𝕄)
      ⊢ iprop((part c m R fullShare Y -∗ wp frame (wpE defs 𝒱 c bd) Set.univ (k ⟨⟩) Q)
        -∗ wp frame (wpE defs 𝒱 c bd) Set.univ (.op (.store m r w Finset.univ hx hm) k) Q) := by
  have hset : (m.access r).setOn Finset.univ = m.view.setOn r.set := View.set_slice m.view r
  have h := wp_store (defs := defs) 𝒱 c bd (Γ := []) Set.univ (m := m) (r := r) (w := w) (Mk := Finset.univ) (hx := hx) (hm := hm) (k := k) (Q := Q)
    (S := m.view.setOn R) (f := m.view.rep X) (by rw [hset]; exact Finset.map_subset_map.mpr hS)
  refine h.trans ?_
  refine wand_mono_left (wand_mono_left (Entails.of_eq ?_))
  refine (part_of c m R fullShare Y ((m.access r).write Val (m.view.rep X) w Finset.univ) fun x hx => ?_)
  show (m.view.read Val ((m.view.slice r).write Val (m.view.rep X) w Finset.univ)) x = Y x
  by_cases hxr : x ∈ r.set
  · obtain ⟨y, rfl⟩ := r.exists_idx_of_mem hxr
    exact (View.read_slice_write_emb r _ w (Finset.mem_univ y)).trans (hin y).symm
  · rw [View.read_slice_write_of_not_mem r _ w _ (fun h => hxr ?_), View.read_rep, hout x hx hxr]
    obtain ⟨y, -, rfl⟩ := Finset.mem_map.mp h
    exact r.idx_mem y

end Rules

end Generic

end Cert.Moe

end
-- ==== Proof.Slots.lean ====
/-
# Slots and row tiles

A ring buffer of shape `[n, R, C]` is held slot by slot, each slot at a matrix `X : [R, C]`; a slot of 2048 rows is
read and written by tiles of 512 rows. A matrix buffer `[2048, C]` is read and written by the same tiles.
-/
module

public import proofs.«01_k».proof.Proof.Parts

@[expose] public section

noncomputable section

namespace Cert.Moe

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem

/-- Matrices and stacks of matrices, by their index shapes. -/
abbrev Sh2 (R C : ℕ) : Shape := ⟨2, ![R, C]⟩
abbrev Sh3 (n R C : ℕ) : Shape := ⟨3, ![n, R, C]⟩

variable {α : Type} {n R C : ℕ}

/-- The coordinates of slot `k`. -/
def slot (n R C k : ℕ) : Finset (Sh3 n R C).Idx := Finset.univ.filter fun i => (i 0).val = k

/-- The coordinates of the row tile `t` of slot `k`. -/
def tile (n R C k t : ℕ) : Finset (Sh3 n R C).Idx := Finset.univ.filter fun i => (i 0).val = k ∧ (i 1).val / 512 = t

theorem mem_slot {k : ℕ} {i : (Sh3 n R C).Idx} : i ∈ slot n R C k ↔ (i 0).val = k := by simp [slot]
theorem mem_tile {k t : ℕ} {i : (Sh3 n R C).Idx} : i ∈ tile n R C k t ↔ (i 0).val = k ∧ (i 1).val / 512 = t := by simp [tile]

/-- Every slot holding the matrix `X`. -/
def slotM (n : ℕ) (X : (Sh2 R C).Idx → α) : (Sh3 n R C).Idx → α := fun i => X (ix2 (i 1) (i 2))

/-- The row tile `t` of a matrix, as a stack of one. -/
def getT (X : (Sh2 2048 C).Idx → α) (t : Fin 4) : (Sh3 1 512 C).Idx → α :=
  fun x => X (ix2 ⟨512 * t.val + (x 1).val, by have h1 : (x 1).val < 512 := (x 1).isLt; have := t.isLt; omega⟩ (x 2))

/-- The row tile `t` of a matrix, as a matrix. -/
def getR (X : (Sh2 2048 C).Idx → α) (t : Fin 4) : (Sh2 512 C).Idx → α :=
  fun x => X (ix2 ⟨512 * t.val + (x 0).val, by have h1 : (x 0).val < 512 := (x 0).isLt; have := t.isLt; omega⟩ (x 1))

/-- A matrix with its row tile `t` replaced. -/
def setT (X : (Sh2 2048 C).Idx → α) (t : Fin 4) (p : (Sh3 1 512 C).Idx → α) : (Sh2 2048 C).Idx → α :=
  fun j => if (j 0).val / 512 = t.val then p (ix3 (0 : Fin 1) (⟨(j 0).val % 512, Nat.mod_lt _ (by decide)⟩ : Fin 512) (j 1)) else X j

def setR (X : (Sh2 2048 C).Idx → α) (t : Fin 4) (p : (Sh2 512 C).Idx → α) : (Sh2 2048 C).Idx → α :=
  fun j => if (j 0).val / 512 = t.val then p (ix2 (⟨(j 0).val % 512, Nat.mod_lt _ (by decide)⟩ : Fin 512) (j 1)) else X j

/-- A matrix as a stack of one. -/
def up (X : (Sh2 R C).Idx → α) : (Sh3 1 R C).Idx → α := fun x => X (ix2 (x 1) (x 2))

theorem idx3_eq {x y : (Sh3 n R C).Idx} (h0 : (x 0).val = (y 0).val) (h1 : (x 1).val = (y 1).val) (h2 : (x 2).val = (y 2).val) : x = y :=
  Shape.idx3_ext h0 h1 h2

theorem idx2_eq {x y : (Sh2 R C).Idx} (h0 : (x 0).val = (y 0).val) (h1 : (x 1).val = (y 1).val) : x = y :=
  funext fun a => by
    match a with
    | ⟨0, _⟩ => exact Fin.ext h0
    | ⟨1, _⟩ => exact Fin.ext h1

theorem getT_setT (X : (Sh2 2048 C).Idx → α) (t : Fin 4) (p : (Sh3 1 512 C).Idx → α) : getT (setT X t p) t = p := by
  funext x
  have h1 : (x 1).val < 512 := (x 1).isLt
  have h0 : (x 0).val < 1 := (x 0).isLt
  unfold getT setT
  rw [if_pos (by show (512 * t.val + (x 1).val) / 512 = t.val; omega)]
  exact congrArg p (idx3_eq (by show 0 = (x 0).val; omega) (by show (512 * t.val + (x 1).val) % 512 = (x 1).val; omega) rfl)

theorem getT_setT_ne (X : (Sh2 2048 C).Idx → α) {t u : Fin 4} (h : t ≠ u) (p : (Sh3 1 512 C).Idx → α) : getT (setT X t p) u = getT X u := by
  funext x
  have h1 : (x 1).val < 512 := (x 1).isLt
  have hv : t.val ≠ u.val := fun e => h (Fin.ext e)
  unfold getT setT
  rw [if_neg (by show ¬ (512 * u.val + (x 1).val) / 512 = t.val; omega)]

/-- A matrix is determined by its row tiles. -/
theorem getT_ext {X Y : (Sh2 2048 C).Idx → α} (h : ∀ t, getT X t = getT Y t) : X = Y := by
  funext j
  have hj : (j 0).val < 2048 := (j 0).isLt
  have e := congrFun (h ⟨(j 0).val / 512, by omega⟩) (ix3 (0 : Fin 1) (⟨(j 0).val % 512, Nat.mod_lt _ (by decide)⟩ : Fin 512) (j 1))
  unfold getT at e
  have hi : (ix2 ⟨512 * ((j 0).val / 512) + (j 0).val % 512, by omega⟩ (j 1) : (Sh2 2048 C).Idx) = j :=
    idx2_eq (by show 512 * ((j 0).val / 512) + (j 0).val % 512 = (j 0).val; omega) rfl
  rw [← hi]; exact e

/-- The matrix of four row tiles. -/
def ofTiles (p : Fin 4 → (Sh3 1 512 C).Idx → α) : (Sh2 2048 C).Idx → α :=
  fun j => p ⟨(j 0).val / 512, by have : (j 0).val < 2048 := (j 0).isLt; omega⟩ (ix3 (0 : Fin 1) (⟨(j 0).val % 512, Nat.mod_lt _ (by decide)⟩ : Fin 512) (j 1))

theorem getT_ofTiles (p : Fin 4 → (Sh3 1 512 C).Idx → α) (t : Fin 4) : getT (ofTiles p) t = p t := by
  funext x
  have h1 : (x 1).val < 512 := (x 1).isLt
  have h0 : (x 0).val < 1 := (x 0).isLt
  unfold getT ofTiles
  have ht : (⟨(512 * t.val + (x 1).val) / 512, by have := t.isLt; omega⟩ : Fin 4) = t := Fin.ext (by show (512 * t.val + (x 1).val) / 512 = t.val; omega)
  show p ⟨(512 * t.val + (x 1).val) / 512, _⟩ _ = _
  rw [ht]
  exact congrArg (p t) (idx3_eq (by show 0 = (x 0).val; omega) (by show (512 * t.val + (x 1).val) % 512 = (x 1).val; omega) rfl)

/-- Storing the four tiles one after another leaves the matrix of the four. -/
theorem setT_all (X : (Sh2 2048 C).Idx → α) (p : Fin 4 → (Sh3 1 512 C).Idx → α) :
    setT (setT (setT (setT X 0 (p 0)) 1 (p 1)) 2 (p 2)) 3 (p 3) = ofTiles p := by
  refine getT_ext fun t => ?_
  rw [getT_ofTiles]
  match t with
  | 0 => rw [getT_setT_ne _ (by decide), getT_setT_ne _ (by decide), getT_setT_ne _ (by decide), getT_setT]
  | 1 => rw [getT_setT_ne _ (by decide), getT_setT_ne _ (by decide), getT_setT]
  | 2 => rw [getT_setT_ne _ (by decide), getT_setT]
  | 3 => rw [getT_setT]

theorem setR_eq (X : (Sh2 2048 C).Idx → α) (t : Fin 4) (p : (Sh2 512 C).Idx → α) : setR X t p = setT X t (up p) := rfl
theorem getT_eq (X : (Sh2 2048 C).Idx → α) (t : Fin 4) : getT X t = up (getR X t) := rfl

/-! ## Rectangles -/

theorem slot_disjoint {k k' : ℕ} (h : k ≠ k') : Disjoint (slot n R C k) (slot n R C k') :=
  Finset.disjoint_left.mpr fun i hi hi' => h ((mem_slot.mp hi).symm.trans (mem_slot.mp hi'))

theorem tile_disjoint {k t t' : ℕ} (h : t ≠ t') : Disjoint (tile n R C k t) (tile n R C k t') :=
  Finset.disjoint_left.mpr fun i hi hi' => h ((mem_tile.mp hi).2.symm.trans (mem_tile.mp hi').2)

theorem slot_tiles (k : ℕ) : slot n 2048 C k = tile n 2048 C k 0 ∪ (tile n 2048 C k 1 ∪ (tile n 2048 C k 2 ∪ tile n 2048 C k 3)) := by
  ext i
  have h : (i 1).val < 2048 := (i 1).isLt
  simp only [Finset.mem_union, mem_slot, mem_tile]
  omega

theorem univ_slots3 : (Finset.univ : Finset (Sh3 3 R C).Idx) = slot 3 R C 0 ∪ (slot 3 R C 1 ∪ slot 3 R C 2) := by
  ext i
  have h : (i 0).val < 3 := (i 0).isLt
  simp only [Finset.mem_union, mem_slot, Finset.mem_univ, true_iff]
  omega

theorem univ_slots2 : (Finset.univ : Finset (Sh3 2 R C).Idx) = slot 2 R C 0 ∪ slot 2 R C 1 := by
  ext i
  have h : (i 0).val < 2 := (i 0).isLt
  simp only [Finset.mem_union, mem_slot, Finset.mem_univ, true_iff]
  omega

theorem mem_unit3 {a b d : ℕ} {off size : Fin 3 → ℕ} {inb} (hoff : off = ![a, b, 0]) (hsize : size = ![1, d, C]) (i : (Sh3 n R C).Idx) :
    i ∈ (Rect.unit (s := Sh3 n R C) off size inb).set ↔ (i 0).val = a ∧ b ≤ (i 1).val ∧ (i 1).val < b + d := by
  subst hoff; subst hsize
  have h2 : (i 2).val < C := (i 2).isLt
  rw [Rect.mem_set_unit]
  constructor
  · intro h
    have e0 := h 0; have e1 := h 1
    simp only [Matrix.cons_val_zero, Matrix.cons_val_one] at e0 e1
    exact ⟨by omega, e1.1, e1.2⟩
  · rintro ⟨h0, h1, h1'⟩ x
    match x with
    | ⟨0, _⟩ => exact ⟨by show a ≤ (i 0).val; omega, by show (i 0).val < a + 1; omega⟩
    | ⟨1, _⟩ => exact ⟨h1, h1'⟩
    | ⟨2, _⟩ => exact ⟨Nat.zero_le _, by show (i 2).val < 0 + C; omega⟩

theorem rect_slot {k : ℕ} {off size : Fin 3 → ℕ} {inb} (hoff : off = ![k, 0, 0]) (hsize : size = ![1, R, C]) :
    (Rect.unit (s := Sh3 n R C) off size inb).set = slot n R C k := by
  ext i
  have h : (i 1).val < R := (i 1).isLt
  rw [mem_unit3 hoff hsize, mem_slot]
  omega

theorem rect_tile {k : ℕ} {t : Fin 4} {off size : Fin 3 → ℕ} {inb} (hoff : off = ![k, 512 * t.val, 0]) (hsize : size = ![1, 512, C]) :
    (Rect.unit (s := Sh3 n 2048 C) off size inb).set = tile n 2048 C k t.val := by
  ext i
  rw [mem_unit3 hoff hsize, mem_tile]
  omega

theorem tile_subset_slot (k t : ℕ) : tile n R C k t ⊆ slot n R C k := fun i hi => mem_slot.mpr (mem_tile.mp hi).1

theorem cons0 {d0 d1 : ℕ} (x : (Sh2 d0 d1).Idx) (h : (Sh2 d0 d1).numel = (Sh3 1 d0 d1).numel) :
    Shape.reshapeEquiv (s := Sh3 1 d0 d1) (s' := Sh2 d0 d1) h x = ix3 (0 : Fin 1) (x 0) (x 1) :=
  (Shape.reshapeEquiv_cons_one (n := 2) (d := ![d0, d1]) h x).trans (idx3_eq rfl rfl rfl)

/-- What a slot's matrix gives under the squeezed slice at the slot. -/
theorem slotM_at_slot {k : ℕ} {off : Fin 3 → ℕ} {inb} (hoff : off = ![k, 0, 0]) (X : (Sh2 R C).Idx → α)
    (h : (Sh2 R C).numel = (Rect.unit (s := Sh3 n R C) off ![1, R, C] inb).shape.numel) (y : (Sh2 R C).Idx) :
    slotM n X ((Rect.unit (s := Sh3 n R C) off ![1, R, C] inb).emb (Shape.reshapeEquiv h y)) = X y := by
  subst hoff
  unfold slotM
  have e := cons0 y h
  refine congrArg X (idx2_eq ?_ ?_)
  · show 0 + 1 * (Shape.reshapeEquiv h y 1).val = (y 0).val
    rw [show (Shape.reshapeEquiv h y 1).val = (y 0).val from congrArg (fun z : (Sh3 1 R C).Idx => (z 1).val) e]; omega
  · show 0 + 1 * (Shape.reshapeEquiv h y 2).val = (y 1).val
    rw [show (Shape.reshapeEquiv h y 2).val = (y 1).val from congrArg (fun z : (Sh3 1 R C).Idx => (z 2).val) e]; omega

theorem slotM_at_tile {k : ℕ} {t : Fin 4} {off : Fin 3 → ℕ} {inb} (hoff : off = ![k, 512 * t.val, 0]) (X : (Sh2 2048 C).Idx → α)
    (h : (Sh2 512 C).numel = (Rect.unit (s := Sh3 n 2048 C) off ![1, 512, C] inb).shape.numel) (y : (Sh2 512 C).Idx) :
    slotM n X ((Rect.unit (s := Sh3 n 2048 C) off ![1, 512, C] inb).emb (Shape.reshapeEquiv h y)) = getR X t y := by
  subst hoff
  unfold slotM getR
  have e := cons0 y h
  refine congrArg X (idx2_eq ?_ ?_)
  · show 512 * t.val + 1 * (Shape.reshapeEquiv h y 1).val = 512 * t.val + (y 0).val
    rw [show (Shape.reshapeEquiv h y 1).val = (y 0).val from congrArg (fun z : (Sh3 1 512 C).Idx => (z 1).val) e]; omega
  · show 0 + 1 * (Shape.reshapeEquiv h y 2).val = (y 1).val
    rw [show (Shape.reshapeEquiv h y 2).val = (y 1).val from congrArg (fun z : (Sh3 1 512 C).Idx => (z 2).val) e]; omega

/-- The same without a squeeze: what a load at the tile, the slot, reads. -/
theorem slotM_load_tile {k : ℕ} {t : Fin 4} {off : Fin 3 → ℕ} {inb} (hoff : off = ![k, 512 * t.val, 0]) (X : (Sh2 2048 C).Idx → α) :
    (fun x => slotM n X ((Rect.unit (s := Sh3 n 2048 C) off ![1, 512, C] inb).toLoadRect.idx x)) = getT X t := by
  subst hoff
  funext x
  unfold slotM getT
  refine congrArg X (idx2_eq ?_ ?_)
  · show 512 * t.val + 1 * (x 1).val = 512 * t.val + (x 1).val; omega
  · show 0 + 1 * (x 2).val = (x 2).val; omega

theorem slotM_load_slot {k : ℕ} {off : Fin 3 → ℕ} {inb} (hoff : off = ![k, 0, 0]) (X : (Sh2 R C).Idx → α) :
    (fun x => slotM n X ((Rect.unit (s := Sh3 n R C) off ![1, R, C] inb).toLoadRect.idx x)) = up X := by
  subst hoff
  funext x
  unfold slotM up
  refine congrArg X (idx2_eq ?_ ?_)
  · show 0 + 1 * (x 1).val = (x 1).val; omega
  · show 0 + 1 * (x 2).val = (x 2).val; omega

theorem mat_load_tile {t : Fin 4} {off : Fin 2 → ℕ} {inb} (hoff : off = ![512 * t.val, 0]) (X : (Sh2 2048 C).Idx → α) :
    (fun x => X ((Rect.unit (s := Sh2 2048 C) off ![512, C] inb).toLoadRect.idx x)) = getR X t := by
  subst hoff
  funext x
  unfold getR
  refine congrArg X (idx2_eq ?_ ?_)
  · show 512 * t.val + 1 * (x 0).val = 512 * t.val + (x 0).val; omega
  · show 0 + 1 * (x 1).val = (x 1).val; omega

theorem mat_load_all {off : Fin 2 → ℕ} {inb} (hoff : off = ![0, 0]) (X : (Sh2 R C).Idx → α) :
    (fun x => X ((Rect.unit (s := Sh2 R C) off ![R, C] inb).toLoadRect.idx x)) = X := by
  subst hoff
  funext x
  refine congrArg X (idx2_eq ?_ ?_)
  · show 0 + 1 * (x 0).val = (x 0).val; omega
  · show 0 + 1 * (x 1).val = (x 1).val; omega

section Rules

variable {nD : Nat} {τ : Topo} {sig : RefSig} {Ix : Type} [DecidableEq Ix]
variable {Val : EltTy → Type} [∀ e, Nonempty (Val e)] {Name : Type} [DecidableEq Name]
variable {U : Type} [URA U] {Lvl : Type} [Preorder Lvl]

local notation "𝕄" => MT nD τ sig Ix Val Name U Lvl

variable {c : Thread nD τ} {e : EltTy}
variable {Λ : Labels} {defs : Defs nD τ sig Val Λ} {𝒱 : Variants} {bd : Option 𝒱.V}
variable {β : Type} {Q : β → sProp (MT nD τ sig Ix Val Name U Lvl)}
variable [Infinite Name] {cs : CoreSpace}

/-- A load of a row tile of a slot. -/
theorem wp_load_tile {m : Memref sig c.2.kind cs (Sh3 n 2048 C) e} {off : Fin 3 → ℕ} {inb} {hl}
    {k : ((Sh3 1 512 C).Idx → Val e) → Prog (TpuEff nD τ sig Val Λ c.2) β} {q : PosShare TreeShare} {X : (Sh2 2048 C).Idx → Val e}
    {R : Finset (Sh3 n 2048 C).Idx} (s : ℕ) (t : Fin 4) (hoff : off = ![s, 512 * t.val, 0]) (hR : tile n 2048 C s t ⊆ R) :
    (part c m R q (slotM n X) : sProp 𝕄)
      ⊢ iprop((part c m R q (slotM n X) -∗ wp frame (wpE defs 𝒱 c bd) Set.univ (k (getT X t)) Q)
        -∗ wp frame (wpE defs 𝒱 c bd) Set.univ
            (.op (.load m (Rect.unit (s := Sh3 n 2048 C) off ![1, 512, C] inb).toLoadRect hl) k) Q) := by
  have h := wp_load_part (Ix := Ix) (Lvl := Lvl) (Q := Q) (defs := defs) (𝒱 := 𝒱) (bd := bd) c (m := m) (r := (Rect.unit (s := Sh3 n 2048 C) off ![1, 512, C] inb).toLoadRect) (hl := hl) (k := k) (R := R) (q := q)
    (X := slotM n X) (by rw [rect_tile hoff rfl]; exact hR)
  rw [slotM_load_tile hoff X] at h
  exact h

/-- A load of a whole slot. -/
theorem wp_load_slot {m : Memref sig c.2.kind cs (Sh3 n R C) e} {off : Fin 3 → ℕ} {inb} {hl}
    {k : ((Sh3 1 R C).Idx → Val e) → Prog (TpuEff nD τ sig Val Λ c.2) β} {q : PosShare TreeShare} {X : (Sh2 R C).Idx → Val e}
    (s : ℕ) (hoff : off = ![s, 0, 0]) :
    (part c m (slot n R C s) q (slotM n X) : sProp 𝕄)
      ⊢ iprop((part c m (slot n R C s) q (slotM n X) -∗ wp frame (wpE defs 𝒱 c bd) Set.univ (k (up X)) Q)
        -∗ wp frame (wpE defs 𝒱 c bd) Set.univ
            (.op (.load m (Rect.unit (s := Sh3 n R C) off ![1, R, C] inb).toLoadRect hl) k) Q) := by
  have h := wp_load_part (Ix := Ix) (Lvl := Lvl) (Q := Q) (defs := defs) (𝒱 := 𝒱) (bd := bd) c (m := m) (r := (Rect.unit (s := Sh3 n R C) off ![1, R, C] inb).toLoadRect) (hl := hl) (k := k) (R := slot n R C s) (q := q)
    (X := slotM n X) (by rw [rect_slot hoff rfl])
  rw [slotM_load_slot hoff X] at h
  exact h

/-- A store of a row tile of a slot. -/
theorem wp_store_tile {m : Memref sig c.2.kind cs (Sh3 n 2048 C) e} {off : Fin 3 → ℕ} {inb} {w : (Sh3 1 512 C).Idx → Val e} {hx hm}
    {k : PUnit → Prog (TpuEff nD τ sig Val Λ c.2) β} {X : (Sh2 2048 C).Idx → Val e}
    {R : Finset (Sh3 n 2048 C).Idx} (s : ℕ) (t : Fin 4) (hoff : off = ![s, 512 * t.val, 0]) (hR : tile n 2048 C s t ⊆ R)
    (hRs : R ⊆ slot n 2048 C s) :
    (part c m R fullShare (slotM n X) : sProp 𝕄)
      ⊢ iprop((part c m R fullShare (slotM n (setT X t w)) -∗ wp frame (wpE defs 𝒱 c bd) Set.univ (k ⟨⟩) Q)
        -∗ wp frame (wpE defs 𝒱 c bd) Set.univ
            (.op (.store m (Rect.unit (s := Sh3 n 2048 C) off ![1, 512, C] inb) w Finset.univ hx hm) k) Q) := by
  refine wp_store_part (Ix := Ix) (Lvl := Lvl) c (slotM n (setT X t w)) (by rw [rect_tile hoff rfl]; exact hR) (fun x => ?_) (fun i hi hni => ?_)
  · have e1 := congrFun (slotM_load_tile (n := n) (inb := inb) hoff (setT X t w)) x
    rw [getT_setT] at e1; exact e1
  · rw [rect_tile hoff rfl, mem_tile] at hni
    exact if_neg fun h => hni ⟨mem_slot.mp (hRs hi), h⟩

/-- A load of a row tile of a matrix. -/
theorem wp_load_rows {m : Memref sig c.2.kind cs (Sh2 2048 C) e} {off : Fin 2 → ℕ} {inb} {hl}
    {k : ((Sh2 512 C).Idx → Val e) → Prog (TpuEff nD τ sig Val Λ c.2) β} {q : PosShare TreeShare} {X : (Sh2 2048 C).Idx → Val e}
    (t : Fin 4) (hoff : off = ![512 * t.val, 0]) :
    (part c m Finset.univ q X : sProp 𝕄)
      ⊢ iprop((part c m Finset.univ q X -∗ wp frame (wpE defs 𝒱 c bd) Set.univ (k (getR X t)) Q)
        -∗ wp frame (wpE defs 𝒱 c bd) Set.univ
            (.op (.load m (Rect.unit (s := Sh2 2048 C) off ![512, C] inb).toLoadRect hl) k) Q) := by
  have h := wp_load_part (Ix := Ix) (Lvl := Lvl) (Q := Q) (defs := defs) (𝒱 := 𝒱) (bd := bd) c (m := m) (r := (Rect.unit (s := Sh2 2048 C) off ![512, C] inb).toLoadRect) (hl := hl) (k := k) (R := Finset.univ) (q := q)
    (X := X) (Finset.subset_univ _)
  rw [mat_load_tile hoff X] at h
  exact h

/-- A load of a whole matrix. -/
theorem wp_load_mat {m : Memref sig c.2.kind cs (Sh2 R C) e} {off : Fin 2 → ℕ} {inb} {hl}
    {k : ((Sh2 R C).Idx → Val e) → Prog (TpuEff nD τ sig Val Λ c.2) β} {q : PosShare TreeShare} {X : (Sh2 R C).Idx → Val e}
    (hoff : off = ![0, 0]) :
    (part c m Finset.univ q X : sProp 𝕄)
      ⊢ iprop((part c m Finset.univ q X -∗ wp frame (wpE defs 𝒱 c bd) Set.univ (k X) Q)
        -∗ wp frame (wpE defs 𝒱 c bd) Set.univ
            (.op (.load m (Rect.unit (s := Sh2 R C) off ![R, C] inb).toLoadRect hl) k) Q) := by
  have h := wp_load_part (Ix := Ix) (Lvl := Lvl) (Q := Q) (defs := defs) (𝒱 := 𝒱) (bd := bd) c (m := m) (r := (Rect.unit (s := Sh2 R C) off ![R, C] inb).toLoadRect) (hl := hl) (k := k) (R := Finset.univ) (q := q)
    (X := X) (Finset.subset_univ _)
  rw [mat_load_all hoff X] at h
  exact h

/-- A store of a row tile of a matrix. -/
theorem wp_store_rows {m : Memref sig c.2.kind cs (Sh2 2048 C) e} {off : Fin 2 → ℕ} {inb} {w : (Sh2 512 C).Idx → Val e} {hx hm}
    {k : PUnit → Prog (TpuEff nD τ sig Val Λ c.2) β} {X : (Sh2 2048 C).Idx → Val e}
    (t : Fin 4) (hoff : off = ![512 * t.val, 0]) :
    (part c m Finset.univ fullShare X : sProp 𝕄)
      ⊢ iprop((part c m Finset.univ fullShare (setR X t w) -∗ wp frame (wpE defs 𝒱 c bd) Set.univ (k ⟨⟩) Q)
        -∗ wp frame (wpE defs 𝒱 c bd) Set.univ
            (.op (.store m (Rect.unit (s := Sh2 2048 C) off ![512, C] inb) w Finset.univ hx hm) k) Q) := by
  refine wp_store_part (Ix := Ix) (Lvl := Lvl) c (setR X t w) (Finset.subset_univ _) (fun x => ?_) (fun i hi hni => ?_)
  · subst hoff
    have h0 : (x 0).val < 512 := (x 0).isLt
    unfold setR
    rw [if_pos (by show (512 * t.val + 1 * (x 0).val) / 512 = t.val; omega)]
    refine congrArg w (idx2_eq ?_ ?_)
    · show (512 * t.val + 1 * (x 0).val) % 512 = (x 0).val; omega
    · show 0 + 1 * (x 1).val = (x 1).val; omega
  · subst hoff
    unfold setR
    refine if_neg fun h => hni (Rect.mem_set_unit.mpr fun a => ?_)
    have h1 : (i 1).val < C := (i 1).isLt
    match a with
    | ⟨0, _⟩ => exact ⟨by show 512 * t.val ≤ (i 0).val; omega, by show (i 0).val < 512 * t.val + 512; omega⟩
    | ⟨1, _⟩ => exact ⟨Nat.zero_le _, by show (i 1).val < 0 + C; omega⟩

/-- A store of a whole matrix. -/
theorem wp_store_mat {m : Memref sig c.2.kind cs (Sh2 R C) e} {off : Fin 2 → ℕ} {inb} {w : (Sh2 R C).Idx → Val e} {hx hm}
    {k : PUnit → Prog (TpuEff nD τ sig Val Λ c.2) β} {X : (Sh2 R C).Idx → Val e}
    (hoff : off = ![0, 0]) :
    (part c m Finset.univ fullShare X : sProp 𝕄)
      ⊢ iprop((part c m Finset.univ fullShare w -∗ wp frame (wpE defs 𝒱 c bd) Set.univ (k ⟨⟩) Q)
        -∗ wp frame (wpE defs 𝒱 c bd) Set.univ
            (.op (.store m (Rect.unit (s := Sh2 R C) off ![R, C] inb) w Finset.univ hx hm) k) Q) := by
  have e1 := mat_load_all (inb := inb) hoff w
  refine wp_store_part (Ix := Ix) (Lvl := Lvl) c w (Finset.subset_univ _) (fun x => congrFun e1 x) (fun i hi hni => ?_)
  subst hoff
  refine absurd (Rect.mem_set_unit.mpr fun a => ?_) hni
  have h0 : (i 0).val < R := (i 0).isLt
  have h1 : (i 1).val < C := (i 1).isLt
  match a with
  | ⟨0, _⟩ => exact ⟨Nat.zero_le _, by show (i 0).val < 0 + R; omega⟩
  | ⟨1, _⟩ => exact ⟨Nat.zero_le _, by show (i 1).val < 0 + C; omega⟩

end Rules

end Cert.Moe

end
-- ==== Proof.Dma.lean ====
/-
# The ends of the transfers

What a whole memref, a slot of a ring buffer or a row tile of a slot holds, as the elements a transfer reads or
writes: each lemma turns a part into the elements of the memref a transfer names, says what is read off them,
or turns what was written back into a part.
-/
module

public import proofs.«01_k».proof.Proof.Slots

@[expose] public section

noncomputable section

namespace Cert.Moe

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Ix : Type} [DecidableEq Ix]
variable {Val : EltTy → Type} [∀ e, Nonempty (Val e)] {Name : Type} [DecidableEq Name]
variable {U : Type} [URA U] {Lvl : Type} [Preorder Lvl]

local notation "𝕄" => MT nD τ sig Ix Val Name U Lvl

variable (c : Thread nD τ) {sp : Space} {e : EltTy} {n R C : ℕ}

/-- A whole memref's elements, from the part at all coordinates, and what is read off them. -/
theorem end_all {s : Shape} (m : Memref sig c.2.kind sp s e) (q : PosShare TreeShare) (X : s.Idx → Val e) :
    (part c m Finset.univ q X : sProp 𝕄) = (m.view.loc c ↦[m.view.set]{q} (m.view.rep X : Buf Val (m.view.loc c))) := by
  rw [part_univ, View.read_rep]

theorem read_all {s : Shape} (m : Memref sig c.2.kind sp s e) (X : s.Idx → Val e) :
    m.view.read Val (m.view.rep X : Buf Val (m.view.loc c)) = X := View.read_rep m.view X

section Slot
variable (m : Memref sig c.2.kind sp (Sh3 n R C) e) {off : Fin 3 → ℕ} {inb}
  {hr : ∀ a, (Rect.unit (s := Sh3 n R C) off ![1, R, C] inb).stride a = 1}
  {hq : (Rect.unit (s := Sh3 n R C) off ![1, R, C] inb).shape.Squeezes (Sh2 R C)} {k : ℕ} (hoff : off = ![k, 0, 0])
include hoff

theorem end_slot (q : PosShare TreeShare) (X : (Sh3 n R C).Idx → Val e) :
    (part c m (slot n R C k) q X : sProp 𝕄)
      = (((m.slice (Rect.unit (s := Sh3 n R C) off ![1, R, C] inb) hr).squeeze (Sh2 R C) hq).view.loc c
          ↦[((m.slice (Rect.unit (s := Sh3 n R C) off ![1, R, C] inb) hr).squeeze (Sh2 R C) hq).view.set]{q} (m.view.rep X : Buf Val (m.view.loc c))) :=
  part_slice c m _ hr hq (rect_slot hoff rfl) q X

theorem read_slot (X : (Sh2 R C).Idx → Val e) :
    ((m.slice (Rect.unit (s := Sh3 n R C) off ![1, R, C] inb) hr).squeeze (Sh2 R C) hq).view.read Val
      (m.view.rep (slotM n X) : Buf Val (m.view.loc c)) = X := by
  rw [read_slice_rep]
  funext y
  exact slotM_at_slot hoff X _ y

theorem write_slot (f : Buf Val (m.view.loc c)) (w : (Sh2 R C).Idx → Val e) :
    (((m.slice (Rect.unit (s := Sh3 n R C) off ![1, R, C] inb) hr).squeeze (Sh2 R C) hq).view.loc c
        ↦[((m.slice (Rect.unit (s := Sh3 n R C) off ![1, R, C] inb) hr).squeeze (Sh2 R C) hq).view.set]{fullShare}
          (((m.slice (Rect.unit (s := Sh3 n R C) off ![1, R, C] inb) hr).squeeze (Sh2 R C) hq).view.write Val f w Finset.univ) : sProp 𝕄)
      = part c m (slot n R C k) fullShare (slotM n w) :=
  part_slice_write c m _ hr hq (rect_slot hoff rfl) fullShare (slotM n w) f w fun y => slotM_at_slot hoff w _ y
end Slot

section Tile
variable (m : Memref sig c.2.kind sp (Sh3 n 2048 C) e) {off : Fin 3 → ℕ} {inb}
  {hr : ∀ a, (Rect.unit (s := Sh3 n 2048 C) off ![1, 512, C] inb).stride a = 1}
  {hq : (Rect.unit (s := Sh3 n 2048 C) off ![1, 512, C] inb).shape.Squeezes (Sh2 512 C)} {k : ℕ} {t : Fin 4} (hoff : off = ![k, 512 * t.val, 0])
include hoff

theorem end_tile (q : PosShare TreeShare) (X : (Sh3 n 2048 C).Idx → Val e) :
    (part c m (tile n 2048 C k t.val) q X : sProp 𝕄)
      = (((m.slice (Rect.unit (s := Sh3 n 2048 C) off ![1, 512, C] inb) hr).squeeze (Sh2 512 C) hq).view.loc c
          ↦[((m.slice (Rect.unit (s := Sh3 n 2048 C) off ![1, 512, C] inb) hr).squeeze (Sh2 512 C) hq).view.set]{q} (m.view.rep X : Buf Val (m.view.loc c))) :=
  part_slice c m _ hr hq (rect_tile hoff rfl) q X

theorem read_tile (X : (Sh2 2048 C).Idx → Val e) :
    ((m.slice (Rect.unit (s := Sh3 n 2048 C) off ![1, 512, C] inb) hr).squeeze (Sh2 512 C) hq).view.read Val
      (m.view.rep (slotM n X) : Buf Val (m.view.loc c)) = getR X t := by
  rw [read_slice_rep]
  funext y
  exact slotM_at_tile hoff X _ y

theorem write_tile (f : Buf Val (m.view.loc c)) (X : (Sh2 2048 C).Idx → Val e) :
    (((m.slice (Rect.unit (s := Sh3 n 2048 C) off ![1, 512, C] inb) hr).squeeze (Sh2 512 C) hq).view.loc c
        ↦[((m.slice (Rect.unit (s := Sh3 n 2048 C) off ![1, 512, C] inb) hr).squeeze (Sh2 512 C) hq).view.set]{fullShare}
          (((m.slice (Rect.unit (s := Sh3 n 2048 C) off ![1, 512, C] inb) hr).squeeze (Sh2 512 C) hq).view.write Val f (getR X t) Finset.univ) : sProp 𝕄)
      = part c m (tile n 2048 C k t.val) fullShare (slotM n X) :=
  part_slice_write c m _ hr hq (rect_tile hoff rfl) fullShare (slotM n X) f (getR X t) fun y => slotM_at_tile hoff X _ y
end Tile

/-- Two disjoint parts at contents of their own make one part. -/
theorem part_join {s : Shape} (m : Memref sig c.2.kind sp s e) {R R' : Finset s.Idx} (q : PosShare TreeShare) (X X' : s.Idx → Val e)
    (h : Disjoint R R') : iprop(part c m R q X ∗ part c m R' q X') ⊢ (∃ Z, part c m (R ∪ R') q Z : sProp 𝕄) := by
  classical
  iintro ⟨H, H'⟩
  iexists fun i => if i ∈ R then X i else X' i
  iapply (part_union c m q _ h).2
  isplitl [H]
  · rw [part_congr c m R q (X := fun i => if i ∈ R then X i else X' i) (Y := X) fun x hx => if_pos hx]; iexact H
  · rw [part_congr c m R' q (X := fun i => if i ∈ R then X i else X' i) (Y := X') fun x hx => if_neg (Finset.disjoint_right.mp h hx)]; iexact H'

end Cert.Moe

end
-- ==== Proof.KernelIdeal.Values.lean ====
/-
# What the buffers hold

The contents of the ring's buffers as functions of the launch memory: the token block and the gate block of the
device `h` places back, the partial sums of the expert loops, the running sums passed around the ring, the result.
-/
module

public import proofs.«01_k».proof.Proof.Dma
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit

@[expose] public section

noncomputable section

namespace Cert.KernelIdeal.Moe

open Cert.KernelIdeal Cert.KernelIdeal.Gen Cert.Moe
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

/-! ## The ring -/

def nxt (c : Dev nD) : Dev nD := ⟨(c.val + 1) % 4, Nat.mod_lt _ (by decide)⟩
def prv (c : Dev nD) : Dev nD := ⟨(c.val + 3) % 4, Nat.mod_lt _ (by decide)⟩

theorem prv_nxt (c : Dev nD) : prv (nxt c) = c := by revert c; decide
theorem nxt_prv (c : Dev nD) : nxt (prv c) = c := by revert c; decide

def ring : Dev nD ≃ Dev nD := ⟨nxt, prv, prv_nxt, nxt_prv⟩

/-! ## Contents -/

/-- A block of tokens, of gates, of one expert's weights. -/
abbrev XM (F : FTy → Type) : Type := (Sh2 2048 1024).Idx → Elt F .bf16
abbrev GM (F : FTy → Type) : Type := (Sh2 2048 32).Idx → Elt F .bf16
abbrev WM (F : FTy → Type) : Type := (Sh2 1024 1024).Idx → Elt F .bf16

variable (m : (ℓ : Loc nD τ sig) → Buf (Elt F) ℓ)

/-- The staged arguments of device `d`. -/
def xin (d : Dev nD) : XM F := (win0_0.blk (0 : Fin 1)).view.read (Elt F) (m ((d : Thread nD τ).loc main_arg0))
def rin (d : Dev nD) : (Sh2 1024 32).Idx → Elt F .bf16 := (win0_1.blk (0 : Fin 1)).view.read (Elt F) (m ((d : Thread nD τ).loc main_arg1))
def iin (d : Dev nD) : (Sh2 2048 2).Idx → Elt F .i32 := (win0_2.blk (0 : Fin 1)).view.read (Elt F) (m ((d : Thread nD τ).loc main_arg2))

/-- The expert weights of device `d`, all and one by one. -/
def wAll (d : Dev nD) : (Sh3 8 1024 1024).Idx → Elt F .bf16 := m ((d : Thread nD τ).loc main_arg3)
def wOne (d : Dev nD) (k : ℕ) : WM F := fun j => wAll m d (ix3 (⟨k % 8, Nat.mod_lt _ (by decide)⟩ : Fin 8) (j 0) (j 1))

/-- The token block of the device `h` places back. -/
def xh : ℕ → Dev nD → XM F
  | 0, c => xin m c
  | h + 1, c => xh h (prv c)

/-- The two columns of the choice of experts. -/
def icol0 (d : Dev nD) : Vec F S2048x1 .i32 :=
  fun x => iin m d ((Rect.unit (s := S2048x2) ![0, 0] ![2048, 1] inb_S2048x2_S2048x1_0_0).toLoadRect.idx x)
def icol1 (d : Dev nD) : Vec F S2048x1 .i32 :=
  fun x => iin m d ((Rect.unit (s := S2048x2) ![0, 1] ![2048, 1] inb_S2048x2_S2048x1_0_1).toLoadRect.idx x)

/-- The gates of device `d`'s tokens over the 32 experts. -/
def gown (d : Dev nD) : GM F :=
  k0_pay22 (k0_pay20 (xin m d) (rin m d)) (iota .tc S2048x32 32 [1] iota_S2048x32_d1_w32) (k0_pay21 (icol0 m d)) (icol1 m d)

/-- The gate block of the device `h` places back. -/
def gh : ℕ → Dev nD → GM F
  | 0, c => gown m c
  | h + 1, c => gh h (prv c)

/-- Device `d`'s selection of its own eight experts. -/
def sel (d : Dev nD) : FVec F S32x8 .bf16 := k0_pay23 (F := F) (Scalar.remsi (Scalar.divsi (Dev.word d) 1#32) 4#32)
abbrev exps : IVec S2048x8 32 := iota .tc S2048x8 32 [1] iota_S2048x8_d1_w32

/-- The gates over its own experts of the tokens `h` places back. -/
def gate0 (d : Dev nD) : FVec F S2048x8 .f32 := k0_pay24 (sel d) (gh m 0 d)
def gate1 (d : Dev nD) : FVec F S2048x8 .f32 := k0_pay35 (sel d) (up (gh m 1 d))
def gate2 (d : Dev nD) : FVec F S2048x8 .f32 := k0_pay41 (sel d) (up (gh m 2 d))
def gate3 (d : Dev nD) : FVec F S2048x8 .f32 := k0_pay51 (sel d) (up (gh m 3 d))

/-- One trip of each expert loop: what it leaves of the four row tiles of the sum. -/
def trip1 (g : FVec F S2048x8 .f32) (k : Fin k0_t1_loop.trips) (X : XM F) (W : WM F) (A : XM F) : XM F :=
  ofTiles ![k0_pay2 exps g 0#32 1#32 k (getR X 0) (up W) (getT A 0),
    k0_pay3 (k0_pay1 exps g 0#32 1#32 k) (getR X 1) (up W) (getT A 1),
    k0_pay4 (k0_pay1 exps g 0#32 1#32 k) (getR X 2) (up W) (getT A 2),
    k0_pay30 (k0_pay1 exps g 0#32 1#32 k) (getR X 3) (up W) (getT A 3)]
def trip2 (g : FVec F S2048x8 .f32) (k : Fin k0_t2_loop.trips) (X : XM F) (W : WM F) (A : XM F) : XM F :=
  ofTiles ![k0_pay6 exps g 0#32 1#32 k (getT X 0) (up W) (getT A 0),
    k0_pay7 (k0_pay5 exps g 0#32 1#32 k) (getT X 1) (up W) (getT A 1),
    k0_pay8 (k0_pay5 exps g 0#32 1#32 k) (getT X 2) (up W) (getT A 2),
    k0_pay40 (k0_pay5 exps g 0#32 1#32 k) (getT X 3) (up W) (getT A 3)]
def trip3 (g : FVec F S2048x8 .f32) (k : Fin k0_t3_loop.trips) (X : XM F) (W : WM F) (A : XM F) : XM F :=
  ofTiles ![k0_pay10 exps g 0#32 1#32 k (getT X 0) (up W) (getT A 0),
    k0_pay11 (k0_pay9 exps g 0#32 1#32 k) (getT X 1) (up W) (getT A 1),
    k0_pay12 (k0_pay9 exps g 0#32 1#32 k) (getT X 2) (up W) (getT A 2),
    k0_pay46 (k0_pay9 exps g 0#32 1#32 k) (getT X 3) (up W) (getT A 3)]
def trip4 (g : FVec F S2048x8 .f32) (k : Fin k0_t4_loop.trips) (X : XM F) (W : WM F) (A : XM F) : XM F :=
  ofTiles ![k0_pay16 (k0_pay14 (getT A 0)) (k0_pay15 exps g 0#32 1#32 k (getT X 0) (up W)),
    k0_pay17 (k0_pay13 exps g 0#32 1#32 k) (getT X 1) (up W) (getT A 1),
    k0_pay56 (k0_pay18 (getT A 2)) (k0_pay19 (k0_pay13 exps g 0#32 1#32 k) (getT X 2) (up W)),
    k0_pay57 (k0_pay13 exps g 0#32 1#32 k) (getT X 3) (up W) (getT A 3)]

/-- The sum before trip `n` of each loop. -/
def sum1 (c : Dev nD) : ℕ → XM F
  | 0 => ofTiles ![k0_pay25, k0_pay26, k0_pay27, k0_pay29 k0_pay28]
  | n + 1 => if h : n < k0_t1_loop.trips then trip1 (gate0 m c) ⟨n, h⟩ (xh m 0 c) (wOne m c n) (sum1 c n) else sum1 c n
def sum2 (c : Dev nD) : ℕ → XM F
  | 0 => ofTiles ![k0_pay36, k0_pay37, k0_pay38, k0_pay39]
  | n + 1 => if h : n < k0_t2_loop.trips then trip2 (gate1 m c) ⟨n, h⟩ (xh m 1 c) (wOne m c n) (sum2 c n) else sum2 c n
def sum3 (c : Dev nD) : ℕ → XM F
  | 0 => ofTiles ![k0_pay42, k0_pay43, k0_pay44, k0_pay45]
  | n + 1 => if h : n < k0_t3_loop.trips then trip3 (gate2 m c) ⟨n, h⟩ (xh m 2 c) (wOne m c n) (sum3 c n) else sum3 c n
def sum4 (c : Dev nD) : ℕ → XM F
  | 0 => ofTiles ![k0_pay52, k0_pay53, k0_pay54, k0_pay55]
  | n + 1 => if h : n < k0_t4_loop.trips then trip4 (gate3 m c) ⟨n, h⟩ (xh m 3 c) (wOne m c n) (sum4 c n) else sum4 c n

/-- The sums passed on: after the first, the second and the third hop. -/
def pass1 (c : Dev nD) : XM F := sum2 m c 8
def pass2 (c : Dev nD) : XM F :=
  ofTiles ![k0_pay47 (getT (sum3 m c 8) 0) (getT (pass1 m (prv c)) 0),
    k0_pay48 (getT (sum3 m c 8) 1) (getT (pass1 m (prv c)) 1),
    k0_pay49 (getT (sum3 m c 8) 2) (getT (pass1 m (prv c)) 2),
    k0_pay50 (getT (sum3 m c 8) 3) (getT (pass1 m (prv c)) 3)]
def pass3 (c : Dev nD) : XM F :=
  ofTiles ![k0_pay59 (k0_pay58 (gate3 m c) (getT (xh m 3 c) 0) (up (wOne m c 7)) (getT (sum4 m c 7) 0)) (getT (pass2 m (prv c)) 0),
    k0_pay62 (k0_pay60 (gate3 m c) (getT (xh m 3 c) 1) (up (wOne m c 7)) (getT (sum4 m c 7) 1)) (k0_pay61 (getT (pass2 m (prv c)) 1)),
    k0_pay64 (k0_pay63 (gate3 m c) (getT (xh m 3 c) 2) (up (wOne m c 7)) (getT (sum4 m c 7) 2) (getT (pass2 m (prv c)) 2)),
    k0_pay66 (k0_pay65 (gate3 m c) (getT (xh m 3 c) 3) (up (wOne m c 7)) (getT (sum4 m c 7) 3) (getT (pass2 m (prv c)) 3))]

/-- The matrix of four row tiles given as matrices. -/
def ofRows (p : Fin 4 → (Sh2 512 1024).Idx → Elt F .bf16) : XM F := ofTiles fun t => up (p t)

/-- The result after the device's own experts, and the result. -/
def own (c : Dev nD) : XM F :=
  ofRows ![k0_pay31 (getT (sum1 m c 8) 0), k0_pay32 (getT (sum1 m c 8) 1), k0_pay33 (getT (sum1 m c 8) 2), k0_pay34 (getT (sum1 m c 8) 3)]
def outM (c : Dev nD) : XM F :=
  ofRows ![k0_pay67 (getR (own m c) 0) (getT (pass3 m (prv c)) 0), k0_pay68 (getR (own m c) 1) (getT (pass3 m (prv c)) 1),
    k0_pay69 (getR (own m c) 2) (getT (pass3 m (prv c)) 2), k0_pay70 (getR (own m c) 3) (getT (pass3 m (prv c)) 3)]

/-! ## Storing the tiles one after another -/

section Stores
variable {α : Type} {C : ℕ}

theorem getR_setR_ne (X : (Sh2 2048 C).Idx → α) {t u : Fin 4} (h : t ≠ u) (p : (Sh2 512 C).Idx → α) : getR (setR X t p) u = getR X u := by
  have e := getT_setT_ne X h (up p)
  rw [← setR_eq, getT_eq, getT_eq] at e
  funext x
  exact congrFun e (ix3 (0 : Fin 1) (x 0) (x 1))

theorem setR_all (X : XM F) (p : Fin 4 → (Sh2 512 1024).Idx → Elt F .bf16) :
    setR (setR (setR (setR X 0 (p 0)) 1 (p 1)) 2 (p 2)) 3 (p 3) = ofRows p := by
  simp only [setR_eq]
  exact setT_all X fun t => up (p t)

end Stores

end Cert.KernelIdeal.Moe

end
-- ==== Proof.KernelIdeal.Cells.lean ====
/-
# The cells of the ring and their schedule

Twelve transfers go from every device to the next, numbered in the order they are sent: the tokens and the gates three
hops, the running sum three hops, the last by four row tiles. Each has a send and a receive semaphore; the entry
handshake has the barrier semaphore. Every cell has one round: a device's signal to its predecessor hands over the landing
buffers of all twelve transfers, a receive cell hands over what landed, a send cell hands the source back.
-/
module

public import proofs.«01_k».proof.Proof.KernelIdeal.Values

@[expose] public section

noncomputable section

namespace Cert.KernelIdeal.Moe

open Cert.KernelIdeal Cert.KernelIdeal.Gen Cert.Moe
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

abbrev UB : Type := URounds (GSem nD τ sig) Bool
abbrev UU : Type := UR sig nD τ × (UB × Counters)

local notation "𝕄" => MT nD τ sig Unit (Elt F) ℕ UU ℕ

abbrev EP : Emb (UR sig nD τ) (MT nD τ sig Unit (Elt F) ℕ UU ℕ) := embL
/-- The ring cells' copy of the rounds library. -/
def ER : Emb UB (MT nD τ sig Unit (Elt F) ℕ UU ℕ) :=
  ((Emb.inl : Emb UB (UB × Counters)).trans (Emb.inr : Emb (UB × Counters) UU)).trans
    (uEmb (nD := nD) (sig := sig) (Ix := Unit) (Val := Elt F) (Name := ℕ) (U := UU) (Lvl := ℕ)).toEmb
instance ER_landsIn : (ER : Emb UB 𝕄).LandsIn (upEmb : UEmb _ 𝕄) := by unfold ER; infer_instance
/-- The counters of the transfers on one device. -/
abbrev EC : Emb Counters (MT nD τ sig Unit (Elt F) ℕ UU ℕ) := (countersEmb (nD := nD) (τ := τ) (sig := sig) (Ix := Unit) (Val := Elt F) (Name := ℕ) (U := UU) (Lvl := ℕ)).toEmb

variable (m : (ℓ : Loc nD τ sig) → Buf (Elt F) ℓ)

/-! ## Buffers -/

abbrev mX : Memref sig .tc .vmem S2048x1024 .bf16 := win0_0.stage (cfg0.slots t0_0 0)
abbrev mR : Memref sig .tc .vmem S1024x32 .bf16 := win0_1.stage (cfg0.slots t0_0 1)
abbrev mI : Memref sig .tc .vmem S2048x2 .i32 := win0_2.stage (cfg0.slots t0_0 2)
abbrev mV : Memref sig .tc .hbm S8x1024x1024 .bf16 := Memref.whole main_arg3
abbrev mO : Memref sig .tc .vmem S2048x1024 .bf16 := win0_3.stage (cfg0.slots t0_0 3)
abbrev mXr : Memref sig .tc .vmem S3x2048x1024 .bf16 := Memref.whole cc0_scratch0
abbrev mG : Memref sig .tc .vmem S2048x32 .bf16 := Memref.whole cc0_scratch1
abbrev mGr : Memref sig .tc .vmem S3x2048x32 .bf16 := Memref.whole cc0_scratch2
abbrev mA : Memref sig .tc .vmem S2x2048x1024 .bf16 := Memref.whole cc0_scratch3
abbrev mB : Memref sig .tc .vmem S3x2048x1024 .bf16 := Memref.whole cc0_scratch4
abbrev mW : Memref sig .tc .vmem S2x1024x1024 .bf16 := Memref.whole cc0_scratch5

/-- The share `q` of the coordinates `R` of a buffer of device `c`, holding `X`. -/
abbrev pt (c : Dev nD) {sp : Space} {s : Shape} {e : EltTy} (b : Memref sig .tc sp s e) (R : Finset s.Idx) (q : PosShare TreeShare)
    (X : s.Idx → Elt F e) : sProp 𝕄 := part (c : Thread nD τ) b R q X

abbrev xs (k : ℕ) : Finset (Sh3 3 2048 1024).Idx := slot 3 2048 1024 k
abbrev gs (k : ℕ) : Finset (Sh3 3 2048 32).Idx := slot 3 2048 32 k
abbrev acs (k : ℕ) : Finset (Sh3 2 2048 1024).Idx := slot 2 2048 1024 k
abbrev ws (k : ℕ) : Finset (Sh3 2 1024 1024).Idx := slot 2 1024 1024 k
abbrev vs (k : ℕ) : Finset (Sh3 8 1024 1024).Idx := slot 8 1024 1024 k
abbrev xts (k t : ℕ) : Finset (Sh3 3 2048 1024).Idx := tile 3 2048 1024 k t
abbrev ats (k t : ℕ) : Finset (Sh3 2 2048 1024).Idx := tile 2 2048 1024 k t
abbrev qL : PosShare TreeShare := (fullShare : PosShare TreeShare).left
abbrev qR : PosShare TreeShare := (fullShare : PosShare TreeShare).right

/-! ## The twelve transfers -/

abbrev s3 (a : DmaSems sig S3) (i : ℕ) (h : ∀ b, (![i] : Fin 1 → ℕ) b + S1.size b ≤ S3.size b) : DmaSem sig :=
  ((a.slice (Rect.unit (s := S3) ![i] S1.size h)).squeeze S_ squeezes_S1_S_).sem
abbrev s4 (a : DmaSems sig S4) (i : ℕ) (h : ∀ b, (![i] : Fin 1 → ℕ) b + S1.size b ≤ S4.size b) : DmaSem sig :=
  ((a.slice (Rect.unit (s := S4) ![i] S1.size h)).squeeze S_ squeezes_S1_S_).sem

/-- The send and the receive semaphore of each transfer. -/
def sS : Fin 12 → DmaSem sig := fun
  | 0 => s3 cc0_scratch6 0 inb_S3_S1_0 | 1 => s3 cc0_scratch8 0 inb_S3_S1_0
  | 2 => s3 cc0_scratch6 1 inb_S3_S1_1 | 3 => s3 cc0_scratch8 1 inb_S3_S1_1
  | 4 => s3 cc0_scratch10 0 inb_S3_S1_0
  | 5 => s3 cc0_scratch6 2 inb_S3_S1_2 | 6 => s3 cc0_scratch8 2 inb_S3_S1_2
  | 7 => s3 cc0_scratch10 1 inb_S3_S1_1
  | 8 => s4 cc0_scratch12 0 inb_S4_S1_0 | 9 => s4 cc0_scratch12 1 inb_S4_S1_1
  | 10 => s4 cc0_scratch12 2 inb_S4_S1_2 | 11 => s4 cc0_scratch12 3 inb_S4_S1_3
def rS : Fin 12 → DmaSem sig := fun
  | 0 => s3 cc0_scratch7 0 inb_S3_S1_0 | 1 => s3 cc0_scratch9 0 inb_S3_S1_0
  | 2 => s3 cc0_scratch7 1 inb_S3_S1_1 | 3 => s3 cc0_scratch9 1 inb_S3_S1_1
  | 4 => s3 cc0_scratch11 0 inb_S3_S1_0
  | 5 => s3 cc0_scratch7 2 inb_S3_S1_2 | 6 => s3 cc0_scratch9 2 inb_S3_S1_2
  | 7 => s3 cc0_scratch11 1 inb_S3_S1_1
  | 8 => s4 cc0_scratch13 0 inb_S4_S1_0 | 9 => s4 cc0_scratch13 1 inb_S4_S1_1
  | 10 => s4 cc0_scratch13 2 inb_S4_S1_2 | 11 => s4 cc0_scratch13 3 inb_S4_S1_3

/-- What each transfer counts: a token block, a gate block or a row tile. -/
def NX : ℕ := (mX : Memref sig .tc .vmem S2048x1024 .bf16).view.dmaCredit
def NG : ℕ := (mG : Memref sig .tc .vmem S2048x32 .bf16).view.dmaCredit
def NT : ℕ := ((mXr.slice (Rect.unit (s := S3x2048x1024) ![0, 0, 0] S1x512x1024.size inb_S3x2048x1024_S1x512x1024_0_0_0) (fun _ => rfl)).squeeze S512x1024
  squeezes_S1x512x1024_S512x1024 : Memref sig .tc .vmem S512x1024 .bf16).view.dmaCredit
theorem NX_pos : 0 < NX := View.dmaCredit_pos _ (by decide)
theorem NG_pos : 0 < NG := View.dmaCredit_pos _ (by decide)
theorem NT_pos : 0 < NT := View.dmaCredit_pos _ (by decide)

def N : Fin 12 → ℕ := fun
  | 0 => NX | 1 => NG | 2 => NX | 3 => NG | 4 => NX | 5 => NX | 6 => NG | 7 => NX | 8 => NT | 9 => NT | 10 => NT | 11 => NT
theorem N_pos (j : Fin 12) : 0 < N j := by
  match j with
  | 0 | 2 | 4 | 5 | 7 => exact NX_pos
  | 1 | 3 | 6 => exact NG_pos
  | 8 | 9 | 10 | 11 => exact NT_pos

/-- What device `c` lends to each transfer and gets back. -/
def sndPay (c : Dev nD) : Fin 12 → sProp 𝕄 := fun
  | 0 => pt c mX Finset.univ qL (xh m 0 c)
  | 1 => pt c mG Finset.univ qL (gh m 0 c)
  | 2 => pt c mXr (xs 0) qL (slotM 3 (xh m 1 c))
  | 3 => pt c mGr (gs 0) qL (slotM 3 (gh m 1 c))
  | 4 => pt c mA (acs 0) fullShare (slotM 2 (pass1 m c))
  | 5 => pt c mXr (xs 1) qL (slotM 3 (xh m 2 c))
  | 6 => pt c mGr (gs 1) qL (slotM 3 (gh m 2 c))
  | 7 => pt c mA (acs 1) fullShare (slotM 2 (pass2 m c))
  | 8 => pt c mA (ats 0 0) fullShare (slotM 2 (pass3 m c))
  | 9 => pt c mA (ats 0 1) fullShare (slotM 2 (pass3 m c))
  | 10 => pt c mA (ats 0 2) fullShare (slotM 2 (pass3 m c))
  | 11 => pt c mA (ats 0 3) fullShare (slotM 2 (pass3 m c))

/-- Where each transfer lands on device `c`. -/
def dstPay (c : Dev nD) : Fin 12 → sProp 𝕄 := fun
  | 0 => iprop(∃ X, pt c mXr (xs 0) fullShare X)
  | 1 => iprop(∃ X, pt c mGr (gs 0) fullShare X)
  | 2 => iprop(∃ X, pt c mXr (xs 1) fullShare X)
  | 3 => iprop(∃ X, pt c mGr (gs 1) fullShare X)
  | 4 => iprop(∃ X, pt c mB (xs 0) fullShare X)
  | 5 => iprop(∃ X, pt c mXr (xs 2) fullShare X)
  | 6 => iprop(∃ X, pt c mGr (gs 2) fullShare X)
  | 7 => iprop(∃ X, pt c mB (xs 1) fullShare X)
  | 8 => iprop(∃ X, pt c mB (xts 2 0) fullShare X)
  | 9 => iprop(∃ X, pt c mB (xts 2 1) fullShare X)
  | 10 => iprop(∃ X, pt c mB (xts 2 2) fullShare X)
  | 11 => iprop(∃ X, pt c mB (xts 2 3) fullShare X)

/-- What each transfer leaves on device `c`. -/
def rcvPay (c : Dev nD) : Fin 12 → sProp 𝕄 := fun
  | 0 => pt c mXr (xs 0) fullShare (slotM 3 (xh m 1 c))
  | 1 => pt c mGr (gs 0) fullShare (slotM 3 (gh m 1 c))
  | 2 => pt c mXr (xs 1) fullShare (slotM 3 (xh m 2 c))
  | 3 => pt c mGr (gs 1) fullShare (slotM 3 (gh m 2 c))
  | 4 => pt c mB (xs 0) fullShare (slotM 3 (pass1 m (prv c)))
  | 5 => pt c mXr (xs 2) fullShare (slotM 3 (xh m 3 c))
  | 6 => pt c mGr (gs 2) fullShare (slotM 3 (gh m 3 c))
  | 7 => pt c mB (xs 1) fullShare (slotM 3 (pass2 m (prv c)))
  | 8 => pt c mB (xts 2 0) fullShare (slotM 3 (pass3 m (prv c)))
  | 9 => pt c mB (xts 2 1) fullShare (slotM 3 (pass3 m (prv c)))
  | 10 => pt c mB (xts 2 2) fullShare (slotM 3 (pass3 m (prv c)))
  | 11 => pt c mB (xts 2 3) fullShare (slotM 3 (pass3 m (prv c)))

instance sndPay_storable (c : Dev nD) (j : Fin 12) : BI.Storable (upEmb : UEmb _ 𝕄) (sndPay m c j) := by
  fin_cases j <;> (dsimp only [sndPay]; infer_instance)
instance dstPay_storable (c : Dev nD) (j : Fin 12) : BI.Storable (upEmb : UEmb _ 𝕄) (dstPay (F := F) c j) := by
  fin_cases j <;> (dsimp only [dstPay]; infer_instance)
instance rcvPay_storable (c : Dev nD) (j : Fin 12) : BI.Storable (upEmb : UEmb _ 𝕄) (rcvPay m c j) := by
  fin_cases j <;> (dsimp only [rcvPay]; infer_instance)

/-- All the landing buffers of device `c`. -/
def barPay (c : Dev nD) : sProp 𝕄 := bigSep Finset.univ (dstPay c)
instance barPay_storable (c : Dev nD) : BI.Storable (upEmb : UEmb _ 𝕄) (barPay (F := F) c) := by unfold barPay; infer_instance

/-! ## Cells -/

abbrev barS : Sem sig := (SemArray.scalar (sig.barrier 0 rfl) : Sems sig S_).sem

/-- The cells of one device: the barrier, the twelve send cells (`false`), the twelve receive cells (`true`). -/
abbrev CI : Type := Option (Bool × Fin 12)
def csem : CI → SemLoc sig
  | none => .reg barS
  | some (false, j) => .dma (sS j)
  | some (true, j) => .dma (rS j)

theorem csem_injective : Function.Injective csem := by decide

abbrev barCell (c : Dev nD) : GSem nD τ sig := ((c : Thread nD τ), .reg barS)
abbrev sCell (j : Fin 12) (c : Dev nD) : GSem nD τ sig := ((c : Thread nD τ), .dma (sS j))
abbrev rCell (j : Fin 12) (c : Dev nD) : GSem nD τ sig := ((c : Thread nD τ), .dma (rS j))
abbrev kcell (ck : Dev nD × CI) : GSem nD τ sig := ((ck.1 : Thread nD τ), csem ck.2)

open Classical in
/-- Which cell a semaphore is. -/
def ci (s : SemLoc sig) : Option CI := if h : ∃ i, csem i = s then some h.choose else none
theorem ci_csem (i : CI) : ci (csem i) = some i := by
  have h : ∃ i', csem i' = csem i := ⟨i, rfl⟩
  unfold ci
  rw [dif_pos h, csem_injective h.choose_spec]

/-- The duties, amounts and payloads of a device's cell. -/
def cDuties : CI → Finset Bool
  | none => Finset.univ
  | some _ => {false}
def cAmount : CI → ℕ
  | none => 1
  | some (_, j) => N j
def cPay (c : Dev nD) : CI → Bool → sProp 𝕄
  | none, true => barPay (nxt c)
  | none, false => iprop(emp)
  | some (false, j), _ => sndPay m c j
  | some (true, j), _ => rcvPay m c j

theorem cAmount_pos : ∀ i, 0 < cAmount i
  | none => Nat.one_pos
  | some (_, j) => N_pos j

/-- The schedule: one round. -/
def Rd : Rounds.Schedule (GSem nD τ sig) Bool 𝕄 where
  duties g r := if r = 0 ∧ g.1.2 = .tc then (match ci g.2 with | some i => cDuties i | none => ∅) else ∅
  unitless _ := False
  amount g _ _ := match ci g.2 with | some i => cAmount i | none => 1
  payload g _ d := match ci g.2 with | some i => cPay m g.1.1 i d | none => iprop(emp)
  amount_pos g _ _ _ := by
    split
    · exact cAmount_pos _
    · exact Nat.one_pos

instance cPay_storable (c : Dev nD) (i : CI) (d : Bool) : BI.Storable (upEmb : UEmb _ 𝕄) (cPay m c i d) := by
  match i, d with
  | none, true => exact barPay_storable _
  | none, false => dsimp only [cPay]; infer_instance
  | some (false, j), _ => exact sndPay_storable m c j
  | some (true, j), _ => exact rcvPay_storable m c j

instance Rd_payload_storable (g : GSem nD τ sig) (r : ℕ) (d : Bool) : BI.Storable (upEmb : UEmb _ 𝕄) ((Rd (F := F) m).payload g r d) := by
  dsimp only [Rd]
  split
  · infer_instance
  · infer_instance

theorem Rd_duties (c : Dev nD) (i : CI) : (Rd (F := F) m).duties (kcell (c, i)) 0 = cDuties i := by
  dsimp only [Rd]
  rw [if_pos ⟨rfl, rfl⟩, ci_csem]
theorem Rd_later (g : GSem nD τ sig) : ∀ r, 1 ≤ r → (Rd (F := F) m).duties g r = ∅ :=
  fun r hr => by dsimp only [Rd]; rw [if_neg fun h => by omega]
theorem Rd_amount (c : Dev nD) (i : CI) (d : Bool) : (Rd (F := F) m).amount (kcell (c, i)) 0 d = cAmount i := by
  dsimp only [Rd]; rw [ci_csem]
theorem Rd_payload (c : Dev nD) (i : CI) (d : Bool) : (Rd (F := F) m).payload (kcell (c, i)) 0 d = cPay m c i d := by
  dsimp only [Rd]; rw [ci_csem]

theorem Rd_expect_bar (c : Dev nD) : (Rd (F := F) m).expect (kcell (c, none)) 0 = 2 := by
  unfold Schedule.expect Schedule.amountOf
  rw [Rd_duties, Finset.sum_congr rfl fun d _ => Rd_amount m c none d]; rfl
theorem Rd_expect (c : Dev nD) (b : Bool) (j : Fin 12) : (Rd (F := F) m).expect (kcell (c, some (b, j))) 0 = N j := by
  unfold Schedule.expect Schedule.amountOf
  rw [Rd_duties]; show ∑ d ∈ {false}, _ = _
  rw [Finset.sum_singleton, Rd_amount]; rfl

theorem Rd_rest_bar (c : Dev nD) :
    bigSep ((Rd (F := F) m).duties (kcell (c, none)) 0 \ ∅) (fun d => (Rd (F := F) m).payload (kcell (c, none)) 0 d) = iprop(emp ∗ barPay (nxt c)) := by
  rw [Finset.sdiff_empty, Rd_duties]
  show bigSep Finset.univ _ = _
  rw [bigSep_univ_eq_bigSepL [false, true] (by decide) (by decide), bigSepL_cons_cons, bigSepL_singleton, Rd_payload, Rd_payload]
  rfl
theorem Rd_rest (c : Dev nD) (b : Bool) (j : Fin 12) :
    bigSep ((Rd (F := F) m).duties (kcell (c, some (b, j))) 0 \ ∅) (fun d => (Rd (F := F) m).payload (kcell (c, some (b, j))) 0 d)
      = cPay m c (some (b, j)) false := by
  rw [Finset.sdiff_empty, Rd_duties]
  show bigSep {false} _ = _
  rw [bigSep_singleton, Rd_payload]

/-! ## What a device owes; the levels -/

/-- The credits of the transfers `l` to the next device's receive cells, the head peeled first. -/
def oweL (c : Dev nD) : List (Fin 12) → CellTallies nD τ sig Unit
  | [] => 0
  | j :: l => oweL c l + tallyAt (rCell j (nxt c)) () (N j)

abbrev chans : List (Fin 12) := [0, 1, 2, 3, 4, 5, 6, 7, 8, 9, 10, 11]

/-- At launch: all that, and one unit to each neighbour's barrier cell. -/
def O₁ (c : Dev nD) : CellTallies nD τ sig Unit := oweL c chans + tallyAt (barCell (nxt c)) () 1
def O₀ (c : Dev nD) : CellTallies nD τ sig Unit := O₁ c + tallyAt (barCell (prv c)) () 1

def L (g : GSem nD τ sig) : Finset Unit := if g.1.2 = .tc then {()} else ∅
theorem L_of_ne (g : GSem nD τ sig) (h : g.1.2 ≠ .tc) : L g = ∅ := if_neg h
theorem L_tc (c : Dev nD) (sm : SemLoc sig) : L ((c : Thread nD τ), sm) = {()} := if_pos rfl

/-- The level of a transfer's receive cell: the waits between its send and the next one come before it. -/
def chLv : Fin 12 → ℕ := ![2, 2, 3, 3, 4, 5, 5, 5, 6, 6, 6, 6]
theorem chLv_pos : ∀ j, 0 < chLv j := by decide
def cLv : CI → ℕ
  | none => 1
  | some (false, _) => 0
  | some (true, j) => chLv j
def lv (g : GSem nD τ sig) (_ : Unit) : ℕ := match ci g.2 with | some i => cLv i | none => 0
theorem lv_cell (c : Dev nD) (i : CI) (u : Unit) : lv (kcell (c, i)) u = cLv i := by
  unfold lv; rw [ci_csem]

theorem oweL_pos {c : Dev nD} {l : List (Fin 12)} {g : GSem nD τ sig} {u : Unit} (h : 0 < oweL c l g u) :
    ∃ j ∈ l, g = rCell j (nxt c) := by
  induction l with
  | nil => exact absurd h (Nat.lt_irrefl 0)
  | cons j l ih =>
    dsimp only [oweL] at h
    rw [Pi.add_apply, Finsupp.add_apply, tallyAt_apply] at h
    by_cases hg : g = rCell j (nxt c) ∧ u = ()
    · exact ⟨j, List.mem_cons_self, hg.1⟩
    · rw [if_neg hg, Nat.add_zero] at h
      obtain ⟨j', h1, h2⟩ := ih h
      exact ⟨j', List.mem_cons_of_mem _ h1, h2⟩

theorem O₀_pos {c : Dev nD} {g : GSem nD τ sig} {u : Unit} (h : 0 < O₀ c g u) :
    (∃ j, g = rCell j (nxt c)) ∨ g = barCell (nxt c) ∨ g = barCell (prv c) := by
  unfold O₀ O₁ at h
  rw [Pi.add_apply, Finsupp.add_apply, Pi.add_apply, Finsupp.add_apply, tallyAt_apply, tallyAt_apply] at h
  by_contra hn
  rw [not_or, not_or] at hn
  rw [if_neg (fun h' => hn.2.1 h'.1), if_neg (fun h' => hn.2.2 h'.1)] at h
  obtain ⟨j, -, hj⟩ := oweL_pos (c := c) (l := chans) (g := g) (u := u) (by omega)
  exact hn.1 ⟨j, hj⟩

/-- A wait below every transfer still owed may be made. -/
theorem mayWait_oweL (c : Dev nD) (s : SemLoc sig) (l : List (Fin 12)) (a : ℕ) (hs : lv ((c : Thread nD τ), s) () ≤ a) (hl : ∀ j ∈ l, a < chLv j) :
    (levAts L lv : sProp 𝕄) ⊢ MayWait (c : Thread nD τ) s () (oweL c l) :=
  MayOwe.of_cut (L := L) (lev := lv) a (fun p hp => by rw [Finset.mem_singleton.mp hp, L_tc]; exact Finset.mem_singleton_self _)
    (fun g u hg => by obtain ⟨j, -, rfl⟩ := oweL_pos hg; rw [L_tc]; exact Finset.mem_singleton_self _)
    (fun p hp => by rw [Finset.mem_singleton.mp hp]; exact hs)
    (fun g u hg => by
      obtain ⟨j, hj, rfl⟩ := oweL_pos hg
      exact lt_of_lt_of_eq (hl j hj) (lv_cell (nxt c) (some (true, j)) u).symm)

/-- At launch a device may wait on any semaphore that is no cell of the ring. -/
theorem mayWait_stage (c : Dev nD) (s : SemLoc sig) (hs : lv ((c : Thread nD τ), s) () = 0) (O : CellTallies nD τ sig Unit) (hO : O = O₀ c ∨ O = 0) :
    (levAts L lv : sProp 𝕄) ⊢ MayWait (c : Thread nD τ) s () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨j, rfl⟩ | rfl | rfl <;> (rw [L_tc]; exact Finset.mem_singleton_self _))
      (fun p hp => by rw [Finset.mem_singleton.mp hp]; exact hs.le)
      (fun g u hg => by
        rcases O₀_pos hg with ⟨j, rfl⟩ | rfl | rfl
        · exact lt_of_lt_of_eq (chLv_pos j) (lv_cell (nxt c) (some (true, j)) u).symm
        · exact lt_of_lt_of_eq Nat.one_pos (lv_cell (nxt c) none u).symm
        · exact lt_of_lt_of_eq Nat.one_pos (lv_cell (prv c) none u).symm)
  · rw [MayWait_zero]; iintro -; iempintro

end Cert.KernelIdeal.Moe

end
-- ==== Proof.KernelIdeal.Rules.lean ====
/-
# The ring's operations

The rules the body is stepped by: the handshake, a transfer to the next device, the wait for what arrives, the wait
for what was lent, and the stream of expert weights into the two slots of the weight buffer.
-/
module

public import proofs.«01_k».proof.Proof.KernelIdeal.Cells

@[expose] public section

noncomputable section

namespace Cert.KernelIdeal.Moe

open Cert.KernelIdeal Cert.KernelIdeal.Gen Cert.Moe
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

abbrev 𝒱₀ : Variants := Variants.none

variable (m : (ℓ : Loc nD τ sig) → Buf (Elt F) ℓ) (K : Dev nD × CI → ℕ)

/-- The weakest precondition of a stretch of device `c`'s body. -/
abbrev wpc (c : Dev nD) {α : Type} (p : Prog (TpuEff nD τ sig (Elt F) Λ₀ .tc) α) (Q : α → sProp (MT nD τ sig Unit (Elt F) ℕ UU ℕ)) : sProp 𝕄 :=
  wp frame (wpE (defs₀ (F := F)) 𝒱₀ (c : Thread nD τ) none) Set.univ p Q

/-- What every device knows: each cell's invariant, that each has reached its round, the levels. -/
def records : sProp 𝕄 :=
  bigSep Finset.univ fun ck : Dev nD × CI => iprop(cellInv ER (Rd m) (K ck) (kcell ck) ∗ reached ER (kcell ck) 0)
instance records_persistent : BI.Persistent (records m K) := by unfold records; infer_instance
def Amb : sProp 𝕄 := iprop(records m K ∗ levAts L lv)
instance Amb_persistent : BI.Persistent (Amb m K) := by unfold Amb; infer_instance

theorem records_at (ck : Dev nD × CI) : records m K ⊢ iprop(cellInv ER (Rd m) (K ck) (kcell ck) ∗ reached ER (kcell ck) 0) := by
  unfold records; exact bigSep_elim (Finset.mem_univ ck)
theorem Amb_inv (ck : Dev nD × CI) : Amb m K ⊢ cellInv ER (Rd m) (K ck) (kcell ck) := by
  unfold Amb; iintro ⟨HR, -⟩
  icases (records_at m K ck) $$ HR with ⟨HI, -⟩
  iexact HI
theorem Amb_reached (ck : Dev nD × CI) : Amb m K ⊢ reached ER (kcell ck) 0 := by
  unfold Amb; iintro ⟨HR, -⟩
  icases (records_at m K ck) $$ HR with ⟨-, HI⟩
  iexact HI
theorem Amb_lev : Amb m K ⊢ levAts L lv := by unfold Amb; iintro ⟨-, HL⟩; iexact HL

/-- Device `c` owes the transfers `l`. -/
def Ow (c : Dev nD) (l : List (Fin 12)) : sProp 𝕄 := iprop(∃ W, owes (c : Thread nD τ) (oweL c l) W)

/-- The rights to send transfer `j`; to wait for its source; to wait for what the previous device's brings. -/
def SOut (j : Fin 12) (c : Dev nD) : sProp 𝕄 :=
  iprop(dutyTok ER (sCell j c) 0 false ∗ dutyTok ER (rCell j (nxt c)) 0 false ∗ atPos ER (sCell j c) 0 ∅ 0)
def SBack (j : Fin 12) (c : Dev nD) : sProp 𝕄 := iprop(atPos ER (sCell j c) 0 ∅ 0 ∗ cred (tallyAt (sCell j c) () (N j)))
def RIn (j : Fin 12) (c : Dev nD) : sProp 𝕄 := iprop(atPos ER (rCell j c) 0 ∅ 0 ∗ cred (tallyAt (rCell j c) () (N j)))
/-- A cell of device `c` done with. -/
def Zs (j : Fin 12) (c : Dev nD) : sProp 𝕄 := semVal (sCell j c) 0
def Zr (j : Fin 12) (c : Dev nD) : sProp 𝕄 := semVal (rCell j c) 0

variable {α : Type} {Q : α → sProp (MT nD τ sig Unit (Elt F) ℕ UU ℕ)} {k : PUnit → Prog (TpuEff nD τ sig (Elt F) Λ₀ .tc) α}

/-! ## The handshake -/

def BOut (c : Dev nD) : sProp 𝕄 := iprop(dutyTok ER (barCell (prv c)) 0 true ∗ dutyTok ER (barCell (nxt c)) 0 false)
def BIn (c : Dev nD) : sProp 𝕄 := iprop(atPos ER (barCell c) 0 ∅ 0 ∗ cred (tallyAt (barCell c) () 2))

/-- The signal to the previous device hands over the landing buffers. -/
theorem wp_sig_prv (c : Dev nD) {n : Dev nD} (hn : n = prv c) {W : Waits sig Unit} :
    iprop(Amb m K ∗ barPay c ∗ dutyTok ER (barCell (prv c)) 0 true ∗ owes (c : Thread nD τ) (O₀ c) W)
      ⊢ iprop((owes (c : Thread nD τ) (O₁ c) W -∗ wpc c (k ⟨⟩) Q) -∗ wpc c (.op (.semSignal (n : Thread nD τ) barS 1) k) Q) := by
  subst hn
  iintro ⟨#HA, HB, HT, HO⟩ Hk
  iapply (Rounds.wp_signal 𝒱₀ ER (Rd m) (c : Thread nD τ) none (dst := (prv c : Thread nD τ)) (κ := K (prv c, none)) (d := true)
    ((Rd_duties m (prv c) none).symm ▸ Finset.mem_univ _) (Rd_amount m (prv c) none true) () (O₁ c) rfl) $$ [HB HT HO]
  · isplitr; · iapply (Amb_inv m K (prv c, none)) $$ HA
    isplitl [HO]; · iexact HO
    isplitl [HT]; · iexact HT
    isplitl [HB]
    · rw [show (Rd m).payload ((prv c : Thread nD τ), SemLoc.reg barS) 0 true = _ from Rd_payload m (prv c) none true]
      dsimp only [cPay]; rw [nxt_prv]; iexact HB
    · iapply (Amb_reached m K (prv c, none)) $$ HA
  iexact Hk

/-- The signal to the next device hands over nothing. -/
theorem wp_sig_nxt (c : Dev nD) {n : Dev nD} (hn : n = nxt c) {W : Waits sig Unit} :
    iprop(Amb m K ∗ dutyTok ER (barCell (nxt c)) 0 false ∗ owes (c : Thread nD τ) (O₁ c) W)
      ⊢ iprop((Ow c chans -∗ wpc c (k ⟨⟩) Q) -∗ wpc c (.op (.semSignal (n : Thread nD τ) barS 1) k) Q) := by
  subst hn
  iintro ⟨#HA, HT, HO⟩ Hk
  iapply (Rounds.wp_signal 𝒱₀ ER (Rd m) (c : Thread nD τ) none (dst := (nxt c : Thread nD τ)) (κ := K (nxt c, none)) (d := false)
    ((Rd_duties m (nxt c) none).symm ▸ Finset.mem_univ _) (Rd_amount m (nxt c) none false) () (oweL c chans) rfl) $$ [HT HO]
  · isplitr; · iapply (Amb_inv m K (nxt c, none)) $$ HA
    isplitl [HO]; · iexact HO
    isplitl [HT]; · iexact HT
    isplitr
    · rw [show (Rd m).payload ((nxt c : Thread nD τ), SemLoc.reg barS) 0 false = _ from Rd_payload m (nxt c) none false]
      dsimp only [cPay]; iempintro
    · iapply (Amb_reached m K (nxt c, none)) $$ HA
  iintro HO
  iapply Hk; unfold Ow; iexists W; iexact HO

/-- The wait for both signals yields the next device's landing buffers. -/
theorem wp_bar_wait (c : Dev nD) :
    iprop(Amb m K ∗ BIn c ∗ Ow c chans)
      ⊢ iprop((barPay (nxt c) ∗ semVal (barCell c) 0 ∗ Ow c chans -∗ wpc c (k ⟨⟩) Q) -∗ wpc c (.op (.semWait barS 2) k) Q) := by
  unfold BIn
  iintro ⟨#HA, ⟨Hat, Hcr⟩, HO⟩ Hk
  unfold Ow
  icases HO with ⟨%W, HO⟩
  iapply (Rounds.wp_wait_rest_token 𝒱₀ ER (Rd m) (c : Thread nD τ) none (κ := K (c, none)) (wpE_semWait_eq 𝒱₀ (c : Thread nD τ) none Set.univ) (Set.mem_univ _) ()
    (O := oweL c chans) (W := W) (R := 0) (m := 0) (T := ∅) (by rw [show (Rd m).expect ((c : Thread nD τ), SemLoc.reg barS) 0 = 2 from Rd_expect_bar m c])) $$ [Hat Hcr HO]
  · isplitr; · iapply (Amb_inv m K (c, none)) $$ HA
    isplitl [Hcr]; · iexact Hcr
    isplitl [HO]; · iexact HO
    isplitr
    · iapply (mayWait_oweL c (.reg barS) chans 1 (lv_cell c none ()).le (by decide))
      iapply (Amb_lev m K) $$ HA
    · iexact Hat
  iintro ⟨HO, Hat, -, Hpay⟩
  have hrest : bigSep ((Rd m).duties ((c : Thread nD τ), SemLoc.reg barS) 0 \ ∅) (fun d => (Rd m).payload ((c : Thread nD τ), SemLoc.reg barS) 0 d) = iprop(emp ∗ barPay (nxt c)) :=
    Rd_rest_bar m c
  icases (Entails.of_eq hrest) $$ Hpay with ⟨-, HB⟩
  imod (Rounds.cell_close ER (Rd m) (Set.mem_univ (K (c, none))) (fun h => h) (g := kcell (c, none)) (R := 0 + 1) (Rd_later m (kcell (c, none)))) $$ [Hat] with Hz
  · isplitr; · iapply (Amb_inv m K (c, none)) $$ HA
    iexact Hat
  iapply Hk
  isplitl [HB]; · iexact HB
  isplitl [Hz]; · iexact Hz
  iexists (insert (SemLoc.reg barS, ()) W); iexact HO

/-! ## The transfers -/

/-- Transfer `j` to the next device. -/
theorem wp_chan_send (c : Dev nD) (j : Fin 12) (l : List (Fin 12)) {n : Dev nD} (hn : n = nxt c) {sp sp' : Space} {s : Shape} {e : EltTy}
    {src : Memref sig .tc sp s e} {dst : Memref sig .tc sp' s e} {sa sb : DmaSem sig} (ha : sa = sS j) (hb : sb = rS j)
    {hsc : (dst : Memref sig (n : Thread nD τ).2.kind sp' s e).view.ref.isScScratch = false}
    {hsrc : src.view.WordExact} {hdst : dst.view.WordExact} {hsem : DmaTarget.Typed sp (.dma sb) (.remote (n : Thread nD τ) dst (.dma sa) hsc)}
    {q : PosShare TreeShare} (fs : Buf (Elt F) (src.view.loc (c : Thread nD τ))) (w : s.Idx → Elt F e)
    (hs : sndPay m c j = (src.view.loc (c : Thread nD τ) ↦[src.view.set]{q} fs)) (hread : src.view.read (Elt F) fs = w)
    (hd : dstPay (nxt c) j ⊢ (∃ fd : Buf (Elt F) (dst.view.loc (nxt c : Thread nD τ)), dst.view.loc (nxt c : Thread nD τ) ↦[dst.view.set]{fullShare} fd : sProp 𝕄))
    (hw : ∀ fd : Buf (Elt F) (dst.view.loc (nxt c : Thread nD τ)),
      (dst.view.loc (nxt c : Thread nD τ) ↦[dst.view.set]{fullShare} (dst.view.write (Elt F) fd w Finset.univ)) = rcvPay m (nxt c) j)
    (hN : dst.view.dmaCredit = N j) :
    iprop(Amb m K ∗ sndPay m c j ∗ dstPay (nxt c) j ∗ SOut j c ∗ Ow c (j :: l))
      ⊢ iprop((SBack j c ∗ Ow c l -∗ wpc c (k ⟨⟩) Q)
          -∗ wpc c (.op (.enqueueDma src (.remote (n : Thread nD τ) dst (.dma sa) hsc) (.dma sb) hsrc hdst hsem) k) Q) := by
  subst hn; subst ha; subst hb
  unfold SOut Ow SBack
  iintro ⟨#HA, Hs, Hd, ⟨Ht1, Ht2, Hat⟩, ⟨%W, HO⟩⟩ Hk
  icases hd $$ Hd with ⟨%fd, Hd⟩
  iapply (Rounds.wp_send_pointsTo 𝒱₀ ER (Rd m) (c : Thread nD τ) none (κ₁ := K (c, some (false, j))) (κ₂ := K (nxt c, some (true, j)))
    (r₁ := 0) (r₂ := 0) (d₁ := false) (d₂ := false) (fd := fd) (fs := fs) (q := q)
    ((Rd_duties m c (some (false, j))).symm ▸ Finset.mem_singleton_self _) ((Rd_duties m (nxt c) (some (true, j))).symm ▸ Finset.mem_singleton_self _)
    () () (N j) (show dst.view.amount (SemLoc.dma (rS j)) = N j from hN) (Rd_amount m c (some (false, j)) false) (Rd_amount m (nxt c) (some (true, j)) false) (oweL c l) rfl (W := W)
    (by rw [← hs]; exact Entails.of_eq (Rd_payload m c (some (false, j)) false).symm)
    (by rw [hread, hw fd]; exact Entails.of_eq (Rd_payload m (nxt c) (some (true, j)) false).symm)) $$ [Hs Hd Ht1 Ht2 HO]
  · isplitr; · iapply (Amb_inv m K (c, some (false, j))) $$ HA
    isplitr; · iapply (Amb_inv m K (nxt c, some (true, j))) $$ HA
    isplitl [Hs]; · rw [← hs]; iexact Hs
    isplitl [Hd]; · iexact Hd
    isplitl [HO]; · iexact HO
    isplitl [Ht1]; · iexact Ht1
    isplitr; · iapply (Amb_reached m K (c, some (false, j))) $$ HA
    isplitl [Ht2]; · iexact Ht2
    iapply (Amb_reached m K (nxt c, some (true, j))) $$ HA
  iintro ⟨Hc, HO⟩
  iapply Hk
  isplitl [Hat Hc]
  · isplitl [Hat]; · iexact Hat
    iexact Hc
  · iexists W; iexact HO

/-- A wait on one of the transfers' cells for its whole round. -/
theorem wp_chan_wait (c : Dev nD) (b : Bool) (j : Fin 12) (l : List (Fin 12)) (a : ℕ) (hlv : cLv (some (b, j)) ≤ a) (hl : ∀ i ∈ l, a < chLv i)
    {sp sp' : Space} {s s' : Shape} {e e' : EltTy} {srcw : Memref sig .tc sp s e} {dstw : Memref sig .tc sp' s' e'} {sa : DmaSem sig}
    (ha : SemLoc.dma sa = csem (some (b, j))) {hsrc : srcw.view.WordExact} {hdst : dstw.view.WordExact} (hN : dstw.view.dmaCredit = N j) :
    iprop(Amb m K ∗ (atPos ER (kcell (c, some (b, j))) 0 ∅ 0 ∗ cred (tallyAt (kcell (c, some (b, j))) () (N j))) ∗ Ow c l)
      ⊢ iprop((cPay m c (some (b, j)) false ∗ semVal (kcell (c, some (b, j))) 0 ∗ Ow c l -∗ wpc c (k ⟨⟩) Q)
          -∗ wpc c (.op (.waitDma2 sa srcw dstw hsrc hdst) k) Q) := by
  iintro ⟨#HA, ⟨Hat, Hcr⟩, HO⟩ Hk
  unfold Ow
  icases HO with ⟨%W, HO⟩
  have hk : 0 + dstw.view.dmaCredit = (Rd m).expect ((c : Thread nD τ), SemLoc.dma sa) 0 := by
    rw [ha, hN, Nat.zero_add]; exact (Rd_expect m c b j).symm
  have hrest := Rd_rest m c b j
  have hinv := Amb_inv m K (c, some (b, j))
  have hmay := mayWait_oweL (F := F) c (csem (some (b, j))) l a ((lv_cell c (some (b, j)) ()).le.trans hlv) hl
  rw [show kcell (c, some (b, j)) = ((c : Thread nD τ), SemLoc.dma sa) from by rw [ha]] at hrest hinv ⊢
  rw [← ha] at hmay
  rw [← hN]
  iapply (Rounds.wp_wait_rest_token 𝒱₀ ER (Rd m) (c : Thread nD τ) none (κ := K (c, some (b, j))) (wpE_waitDma2_eq 𝒱₀ (c : Thread nD τ) none Set.univ) (Set.mem_univ _) ()
    (O := oweL c l) (W := W) (R := 0) (m := 0) (T := ∅) hk) $$ [Hat Hcr HO]
  · isplitr; · iapply hinv $$ HA
    isplitl [Hcr]; · iexact Hcr
    isplitl [HO]; · iexact HO
    isplitr
    · iapply hmay
      iapply (Amb_lev m K) $$ HA
    · iexact Hat
  iintro ⟨HO, Hat, -, Hpay⟩
  ihave Hpay := (Entails.of_eq hrest) $$ Hpay
  imod (Rounds.cell_close ER (Rd m) (Set.mem_univ (K (c, some (b, j)))) (fun h => h) (g := ((c : Thread nD τ), SemLoc.dma sa)) (R := 0 + 1) (Rd_later m _)) $$ [Hat] with Hz
  · isplitr; · iapply hinv $$ HA
    iexact Hat
  iapply Hk
  isplitl [Hpay]; · iexact Hpay
  isplitl [Hz]; · iexact Hz
  iexists (insert (SemLoc.dma sa, ()) W); iexact HO

section Waits
variable (c : Dev nD) (j : Fin 12) (l : List (Fin 12)) {sp sp' : Space} {s s' : Shape} {e e' : EltTy} {srcw : Memref sig .tc sp s e} {dstw : Memref sig .tc sp' s' e'}
  {sa : DmaSem sig} {hsrc : srcw.view.WordExact} {hdst : dstw.view.WordExact}

/-- The wait for what transfer `j` of the previous device brings. -/
theorem wp_recv (ha : sa = rS j) (hl : ∀ i ∈ l, chLv j < chLv i) (hN : dstw.view.dmaCredit = N j) :
    iprop(Amb m K ∗ RIn j c ∗ Ow c l)
      ⊢ iprop((rcvPay m c j ∗ Zr j c ∗ Ow c l -∗ wpc c (k ⟨⟩) Q) -∗ wpc c (.op (.waitDma2 sa srcw dstw hsrc hdst) k) Q) :=
  wp_chan_wait m K c true j l (chLv j) le_rfl hl (congrArg SemLoc.dma ha) hN

/-- The wait for the source of transfer `j`. -/
theorem wp_back (ha : sa = sS j) (hN : dstw.view.dmaCredit = N j) :
    iprop(Amb m K ∗ SBack j c ∗ Ow c l)
      ⊢ iprop((sndPay m c j ∗ Zs j c ∗ Ow c l -∗ wpc c (k ⟨⟩) Q) -∗ wpc c (.op (.waitDma2 sa srcw dstw hsrc hdst) k) Q) :=
  wp_chan_wait m K c false j l 0 le_rfl (fun i _ => chLv_pos i) (congrArg SemLoc.dma ha) hN
end Waits

end Cert.KernelIdeal.Moe

end
-- ==== Proof.KernelIdeal.Sends.lean ====
/-
# The twelve transfers

Each transfer of the body to the next device: what is lent, where it lands, what it leaves there.
-/
module

public import proofs.«01_k».proof.Proof.KernelIdeal.Rules

@[expose] public section

noncomputable section

namespace Cert.KernelIdeal.Moe

open Cert.KernelIdeal Cert.KernelIdeal.Gen Cert.Moe
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (m : (ℓ : Loc nD τ sig) → Buf (Elt F) ℓ) (K : Dev nD × CI → ℕ)
variable {α : Type} {Q : α → sProp (MT nD τ sig Unit (Elt F) ℕ UU ℕ)} {k : PUnit → Prog (TpuEff nD τ sig (Elt F) Λ₀ .tc) α}
variable (c : Dev nD) (l : List (Fin 12))

theorem wp_send_0 {n : Dev nD} (hn : n = nxt c) {sa sb : DmaSem sig} (ha : sa = sS 0) (hb : sb = rS 0)

    {di} {dh : ∀ a, (Rect.unit (s := S3x2048x1024) ![0, 0, 0] S1x2048x1024.size di).stride a = 1} {dq : (Rect.unit (s := S3x2048x1024) ![0, 0, 0] S1x2048x1024.size di).shape.Squeezes S2048x1024}
    {hsc : ((((mXr.slice (Rect.unit (s := S3x2048x1024) ![0, 0, 0] S1x2048x1024.size di) dh).squeeze S2048x1024 dq) : Memref sig (n : Thread nD τ).2.kind _ _ _)).view.ref.isScScratch = false}
    {hsrc : mX.view.WordExact} {hdst : ((mXr.slice (Rect.unit (s := S3x2048x1024) ![0, 0, 0] S1x2048x1024.size di) dh).squeeze S2048x1024 dq).view.WordExact}
    {hsem : DmaTarget.Typed .vmem (.dma sb) (.remote (n : Thread nD τ) ((mXr.slice (Rect.unit (s := S3x2048x1024) ![0, 0, 0] S1x2048x1024.size di) dh).squeeze S2048x1024 dq) (.dma sa) hsc)} :
    iprop(Amb m K ∗ sndPay m c 0 ∗ dstPay (nxt c) 0 ∗ SOut 0 c ∗ Ow c (0 :: l))
      ⊢ iprop((SBack 0 c ∗ Ow c l -∗ wpc c (k ⟨⟩) Q)
          -∗ wpc c (.op (.enqueueDma mX (.remote (n : Thread nD τ) ((mXr.slice (Rect.unit (s := S3x2048x1024) ![0, 0, 0] S1x2048x1024.size di) dh).squeeze S2048x1024 dq) (.dma sa) hsc) (.dma sb) hsrc hdst hsem) k) Q) :=
  wp_chan_send m K c 0 l hn ha hb (mX.view.rep (xh m 0 c)) (xh m 0 c) (end_all (c : Thread nD τ) mX qL (xh m 0 c))
    (read_all (c : Thread nD τ) mX (xh m 0 c))
    (by
      rw [show dstPay (F := F) (nxt c) 0 = iprop(∃ X, pt (nxt c) mXr (xs 0) fullShare X) from rfl]
      iintro ⟨%Y, H⟩
      iexists (mXr.view.rep Y)
      iapply (show pt (nxt c) mXr (xs 0) fullShare Y ⊢ _ from Entails.of_eq (end_slot (inb := di) (hr := dh) (hq := dq) (nxt c : Thread nD τ) mXr (k := 0) rfl fullShare Y)) $$ H)
    (fun fd => (write_slot (inb := di) (hr := dh) (hq := dq) (nxt c : Thread nD τ) mXr (k := 0) rfl fd (xh m 0 c)).trans (by
      show _ = pt (nxt c) mXr (xs 0) fullShare (slotM 3 (xh m 0 (prv (nxt c))))
      rw [prv_nxt]))
    rfl

theorem wp_send_1 {n : Dev nD} (hn : n = nxt c) {sa sb : DmaSem sig} (ha : sa = sS 1) (hb : sb = rS 1)

    {di} {dh : ∀ a, (Rect.unit (s := S3x2048x32) ![0, 0, 0] S1x2048x32.size di).stride a = 1} {dq : (Rect.unit (s := S3x2048x32) ![0, 0, 0] S1x2048x32.size di).shape.Squeezes S2048x32}
    {hsc : ((((mGr.slice (Rect.unit (s := S3x2048x32) ![0, 0, 0] S1x2048x32.size di) dh).squeeze S2048x32 dq) : Memref sig (n : Thread nD τ).2.kind _ _ _)).view.ref.isScScratch = false}
    {hsrc : mG.view.WordExact} {hdst : ((mGr.slice (Rect.unit (s := S3x2048x32) ![0, 0, 0] S1x2048x32.size di) dh).squeeze S2048x32 dq).view.WordExact}
    {hsem : DmaTarget.Typed .vmem (.dma sb) (.remote (n : Thread nD τ) ((mGr.slice (Rect.unit (s := S3x2048x32) ![0, 0, 0] S1x2048x32.size di) dh).squeeze S2048x32 dq) (.dma sa) hsc)} :
    iprop(Amb m K ∗ sndPay m c 1 ∗ dstPay (nxt c) 1 ∗ SOut 1 c ∗ Ow c (1 :: l))
      ⊢ iprop((SBack 1 c ∗ Ow c l -∗ wpc c (k ⟨⟩) Q)
          -∗ wpc c (.op (.enqueueDma mG (.remote (n : Thread nD τ) ((mGr.slice (Rect.unit (s := S3x2048x32) ![0, 0, 0] S1x2048x32.size di) dh).squeeze S2048x32 dq) (.dma sa) hsc) (.dma sb) hsrc hdst hsem) k) Q) :=
  wp_chan_send m K c 1 l hn ha hb (mG.view.rep (gh m 0 c)) (gh m 0 c) (end_all (c : Thread nD τ) mG qL (gh m 0 c))
    (read_all (c : Thread nD τ) mG (gh m 0 c))
    (by
      rw [show dstPay (F := F) (nxt c) 1 = iprop(∃ X, pt (nxt c) mGr (gs 0) fullShare X) from rfl]
      iintro ⟨%Y, H⟩
      iexists (mGr.view.rep Y)
      iapply (show pt (nxt c) mGr (gs 0) fullShare Y ⊢ _ from Entails.of_eq (end_slot (inb := di) (hr := dh) (hq := dq) (nxt c : Thread nD τ) mGr (k := 0) rfl fullShare Y)) $$ H)
    (fun fd => (write_slot (inb := di) (hr := dh) (hq := dq) (nxt c : Thread nD τ) mGr (k := 0) rfl fd (gh m 0 c)).trans (by
      show _ = pt (nxt c) mGr (gs 0) fullShare (slotM 3 (gh m 0 (prv (nxt c))))
      rw [prv_nxt]))
    rfl

theorem wp_send_2 {n : Dev nD} (hn : n = nxt c) {sa sb : DmaSem sig} (ha : sa = sS 2) (hb : sb = rS 2)
    {si} {sh : ∀ a, (Rect.unit (s := S3x2048x1024) ![0, 0, 0] S1x2048x1024.size si).stride a = 1} {sq : (Rect.unit (s := S3x2048x1024) ![0, 0, 0] S1x2048x1024.size si).shape.Squeezes S2048x1024}
    {di} {dh : ∀ a, (Rect.unit (s := S3x2048x1024) ![1, 0, 0] S1x2048x1024.size di).stride a = 1} {dq : (Rect.unit (s := S3x2048x1024) ![1, 0, 0] S1x2048x1024.size di).shape.Squeezes S2048x1024}
    {hsc : ((((mXr.slice (Rect.unit (s := S3x2048x1024) ![1, 0, 0] S1x2048x1024.size di) dh).squeeze S2048x1024 dq) : Memref sig (n : Thread nD τ).2.kind _ _ _)).view.ref.isScScratch = false}
    {hsrc : ((mXr.slice (Rect.unit (s := S3x2048x1024) ![0, 0, 0] S1x2048x1024.size si) sh).squeeze S2048x1024 sq).view.WordExact} {hdst : ((mXr.slice (Rect.unit (s := S3x2048x1024) ![1, 0, 0] S1x2048x1024.size di) dh).squeeze S2048x1024 dq).view.WordExact}
    {hsem : DmaTarget.Typed .vmem (.dma sb) (.remote (n : Thread nD τ) ((mXr.slice (Rect.unit (s := S3x2048x1024) ![1, 0, 0] S1x2048x1024.size di) dh).squeeze S2048x1024 dq) (.dma sa) hsc)} :
    iprop(Amb m K ∗ sndPay m c 2 ∗ dstPay (nxt c) 2 ∗ SOut 2 c ∗ Ow c (2 :: l))
      ⊢ iprop((SBack 2 c ∗ Ow c l -∗ wpc c (k ⟨⟩) Q)
          -∗ wpc c (.op (.enqueueDma ((mXr.slice (Rect.unit (s := S3x2048x1024) ![0, 0, 0] S1x2048x1024.size si) sh).squeeze S2048x1024 sq) (.remote (n : Thread nD τ) ((mXr.slice (Rect.unit (s := S3x2048x1024) ![1, 0, 0] S1x2048x1024.size di) dh).squeeze S2048x1024 dq) (.dma sa) hsc) (.dma sb) hsrc hdst hsem) k) Q) :=
  wp_chan_send m K c 2 l hn ha hb (mXr.view.rep (slotM 3 (xh m 1 c))) (xh m 1 c) (end_slot (c : Thread nD τ) mXr (k := 0) rfl qL (slotM 3 (xh m 1 c)))
    (read_slot (c : Thread nD τ) mXr (k := 0) rfl (xh m 1 c))
    (by
      rw [show dstPay (F := F) (nxt c) 2 = iprop(∃ X, pt (nxt c) mXr (xs 1) fullShare X) from rfl]
      iintro ⟨%Y, H⟩
      iexists (mXr.view.rep Y)
      iapply (show pt (nxt c) mXr (xs 1) fullShare Y ⊢ _ from Entails.of_eq (end_slot (inb := di) (hr := dh) (hq := dq) (nxt c : Thread nD τ) mXr (k := 1) rfl fullShare Y)) $$ H)
    (fun fd => (write_slot (inb := di) (hr := dh) (hq := dq) (nxt c : Thread nD τ) mXr (k := 1) rfl fd (xh m 1 c)).trans (by
      show _ = pt (nxt c) mXr (xs 1) fullShare (slotM 3 (xh m 1 (prv (nxt c))))
      rw [prv_nxt]))
    rfl

theorem wp_send_3 {n : Dev nD} (hn : n = nxt c) {sa sb : DmaSem sig} (ha : sa = sS 3) (hb : sb = rS 3)
    {si} {sh : ∀ a, (Rect.unit (s := S3x2048x32) ![0, 0, 0] S1x2048x32.size si).stride a = 1} {sq : (Rect.unit (s := S3x2048x32) ![0, 0, 0] S1x2048x32.size si).shape.Squeezes S2048x32}
    {di} {dh : ∀ a, (Rect.unit (s := S3x2048x32) ![1, 0, 0] S1x2048x32.size di).stride a = 1} {dq : (Rect.unit (s := S3x2048x32) ![1, 0, 0] S1x2048x32.size di).shape.Squeezes S2048x32}
    {hsc : ((((mGr.slice (Rect.unit (s := S3x2048x32) ![1, 0, 0] S1x2048x32.size di) dh).squeeze S2048x32 dq) : Memref sig (n : Thread nD τ).2.kind _ _ _)).view.ref.isScScratch = false}
    {hsrc : ((mGr.slice (Rect.unit (s := S3x2048x32) ![0, 0, 0] S1x2048x32.size si) sh).squeeze S2048x32 sq).view.WordExact} {hdst : ((mGr.slice (Rect.unit (s := S3x2048x32) ![1, 0, 0] S1x2048x32.size di) dh).squeeze S2048x32 dq).view.WordExact}
    {hsem : DmaTarget.Typed .vmem (.dma sb) (.remote (n : Thread nD τ) ((mGr.slice (Rect.unit (s := S3x2048x32) ![1, 0, 0] S1x2048x32.size di) dh).squeeze S2048x32 dq) (.dma sa) hsc)} :
    iprop(Amb m K ∗ sndPay m c 3 ∗ dstPay (nxt c) 3 ∗ SOut 3 c ∗ Ow c (3 :: l))
      ⊢ iprop((SBack 3 c ∗ Ow c l -∗ wpc c (k ⟨⟩) Q)
          -∗ wpc c (.op (.enqueueDma ((mGr.slice (Rect.unit (s := S3x2048x32) ![0, 0, 0] S1x2048x32.size si) sh).squeeze S2048x32 sq) (.remote (n : Thread nD τ) ((mGr.slice (Rect.unit (s := S3x2048x32) ![1, 0, 0] S1x2048x32.size di) dh).squeeze S2048x32 dq) (.dma sa) hsc) (.dma sb) hsrc hdst hsem) k) Q) :=
  wp_chan_send m K c 3 l hn ha hb (mGr.view.rep (slotM 3 (gh m 1 c))) (gh m 1 c) (end_slot (c : Thread nD τ) mGr (k := 0) rfl qL (slotM 3 (gh m 1 c)))
    (read_slot (c : Thread nD τ) mGr (k := 0) rfl (gh m 1 c))
    (by
      rw [show dstPay (F := F) (nxt c) 3 = iprop(∃ X, pt (nxt c) mGr (gs 1) fullShare X) from rfl]
      iintro ⟨%Y, H⟩
      iexists (mGr.view.rep Y)
      iapply (show pt (nxt c) mGr (gs 1) fullShare Y ⊢ _ from Entails.of_eq (end_slot (inb := di) (hr := dh) (hq := dq) (nxt c : Thread nD τ) mGr (k := 1) rfl fullShare Y)) $$ H)
    (fun fd => (write_slot (inb := di) (hr := dh) (hq := dq) (nxt c : Thread nD τ) mGr (k := 1) rfl fd (gh m 1 c)).trans (by
      show _ = pt (nxt c) mGr (gs 1) fullShare (slotM 3 (gh m 1 (prv (nxt c))))
      rw [prv_nxt]))
    rfl

theorem wp_send_4 {n : Dev nD} (hn : n = nxt c) {sa sb : DmaSem sig} (ha : sa = sS 4) (hb : sb = rS 4)
    {si} {sh : ∀ a, (Rect.unit (s := S2x2048x1024) ![0, 0, 0] S1x2048x1024.size si).stride a = 1} {sq : (Rect.unit (s := S2x2048x1024) ![0, 0, 0] S1x2048x1024.size si).shape.Squeezes S2048x1024}
    {di} {dh : ∀ a, (Rect.unit (s := S3x2048x1024) ![0, 0, 0] S1x2048x1024.size di).stride a = 1} {dq : (Rect.unit (s := S3x2048x1024) ![0, 0, 0] S1x2048x1024.size di).shape.Squeezes S2048x1024}
    {hsc : ((((mB.slice (Rect.unit (s := S3x2048x1024) ![0, 0, 0] S1x2048x1024.size di) dh).squeeze S2048x1024 dq) : Memref sig (n : Thread nD τ).2.kind _ _ _)).view.ref.isScScratch = false}
    {hsrc : ((mA.slice (Rect.unit (s := S2x2048x1024) ![0, 0, 0] S1x2048x1024.size si) sh).squeeze S2048x1024 sq).view.WordExact} {hdst : ((mB.slice (Rect.unit (s := S3x2048x1024) ![0, 0, 0] S1x2048x1024.size di) dh).squeeze S2048x1024 dq).view.WordExact}
    {hsem : DmaTarget.Typed .vmem (.dma sb) (.remote (n : Thread nD τ) ((mB.slice (Rect.unit (s := S3x2048x1024) ![0, 0, 0] S1x2048x1024.size di) dh).squeeze S2048x1024 dq) (.dma sa) hsc)} :
    iprop(Amb m K ∗ sndPay m c 4 ∗ dstPay (nxt c) 4 ∗ SOut 4 c ∗ Ow c (4 :: l))
      ⊢ iprop((SBack 4 c ∗ Ow c l -∗ wpc c (k ⟨⟩) Q)
          -∗ wpc c (.op (.enqueueDma ((mA.slice (Rect.unit (s := S2x2048x1024) ![0, 0, 0] S1x2048x1024.size si) sh).squeeze S2048x1024 sq) (.remote (n : Thread nD τ) ((mB.slice (Rect.unit (s := S3x2048x1024) ![0, 0, 0] S1x2048x1024.size di) dh).squeeze S2048x1024 dq) (.dma sa) hsc) (.dma sb) hsrc hdst hsem) k) Q) :=
  wp_chan_send m K c 4 l hn ha hb (mA.view.rep (slotM 2 (pass1 m c))) (pass1 m c) (end_slot (c : Thread nD τ) mA (k := 0) rfl fullShare (slotM 2 (pass1 m c)))
    (read_slot (c : Thread nD τ) mA (k := 0) rfl (pass1 m c))
    (by
      rw [show dstPay (F := F) (nxt c) 4 = iprop(∃ X, pt (nxt c) mB (xs 0) fullShare X) from rfl]
      iintro ⟨%Y, H⟩
      iexists (mB.view.rep Y)
      iapply (show pt (nxt c) mB (xs 0) fullShare Y ⊢ _ from Entails.of_eq (end_slot (inb := di) (hr := dh) (hq := dq) (nxt c : Thread nD τ) mB (k := 0) rfl fullShare Y)) $$ H)
    (fun fd => (write_slot (inb := di) (hr := dh) (hq := dq) (nxt c : Thread nD τ) mB (k := 0) rfl fd (pass1 m c)).trans (by
      show _ = pt (nxt c) mB (xs 0) fullShare (slotM 3 (pass1 m (prv (nxt c))))
      rw [prv_nxt]))
    rfl

theorem wp_send_5 {n : Dev nD} (hn : n = nxt c) {sa sb : DmaSem sig} (ha : sa = sS 5) (hb : sb = rS 5)
    {si} {sh : ∀ a, (Rect.unit (s := S3x2048x1024) ![1, 0, 0] S1x2048x1024.size si).stride a = 1} {sq : (Rect.unit (s := S3x2048x1024) ![1, 0, 0] S1x2048x1024.size si).shape.Squeezes S2048x1024}
    {di} {dh : ∀ a, (Rect.unit (s := S3x2048x1024) ![2, 0, 0] S1x2048x1024.size di).stride a = 1} {dq : (Rect.unit (s := S3x2048x1024) ![2, 0, 0] S1x2048x1024.size di).shape.Squeezes S2048x1024}
    {hsc : ((((mXr.slice (Rect.unit (s := S3x2048x1024) ![2, 0, 0] S1x2048x1024.size di) dh).squeeze S2048x1024 dq) : Memref sig (n : Thread nD τ).2.kind _ _ _)).view.ref.isScScratch = false}
    {hsrc : ((mXr.slice (Rect.unit (s := S3x2048x1024) ![1, 0, 0] S1x2048x1024.size si) sh).squeeze S2048x1024 sq).view.WordExact} {hdst : ((mXr.slice (Rect.unit (s := S3x2048x1024) ![2, 0, 0] S1x2048x1024.size di) dh).squeeze S2048x1024 dq).view.WordExact}
    {hsem : DmaTarget.Typed .vmem (.dma sb) (.remote (n : Thread nD τ) ((mXr.slice (Rect.unit (s := S3x2048x1024) ![2, 0, 0] S1x2048x1024.size di) dh).squeeze S2048x1024 dq) (.dma sa) hsc)} :
    iprop(Amb m K ∗ sndPay m c 5 ∗ dstPay (nxt c) 5 ∗ SOut 5 c ∗ Ow c (5 :: l))
      ⊢ iprop((SBack 5 c ∗ Ow c l -∗ wpc c (k ⟨⟩) Q)
          -∗ wpc c (.op (.enqueueDma ((mXr.slice (Rect.unit (s := S3x2048x1024) ![1, 0, 0] S1x2048x1024.size si) sh).squeeze S2048x1024 sq) (.remote (n : Thread nD τ) ((mXr.slice (Rect.unit (s := S3x2048x1024) ![2, 0, 0] S1x2048x1024.size di) dh).squeeze S2048x1024 dq) (.dma sa) hsc) (.dma sb) hsrc hdst hsem) k) Q) :=
  wp_chan_send m K c 5 l hn ha hb (mXr.view.rep (slotM 3 (xh m 2 c))) (xh m 2 c) (end_slot (c : Thread nD τ) mXr (k := 1) rfl qL (slotM 3 (xh m 2 c)))
    (read_slot (c : Thread nD τ) mXr (k := 1) rfl (xh m 2 c))
    (by
      rw [show dstPay (F := F) (nxt c) 5 = iprop(∃ X, pt (nxt c) mXr (xs 2) fullShare X) from rfl]
      iintro ⟨%Y, H⟩
      iexists (mXr.view.rep Y)
      iapply (show pt (nxt c) mXr (xs 2) fullShare Y ⊢ _ from Entails.of_eq (end_slot (inb := di) (hr := dh) (hq := dq) (nxt c : Thread nD τ) mXr (k := 2) rfl fullShare Y)) $$ H)
    (fun fd => (write_slot (inb := di) (hr := dh) (hq := dq) (nxt c : Thread nD τ) mXr (k := 2) rfl fd (xh m 2 c)).trans (by
      show _ = pt (nxt c) mXr (xs 2) fullShare (slotM 3 (xh m 2 (prv (nxt c))))
      rw [prv_nxt]))
    rfl

theorem wp_send_6 {n : Dev nD} (hn : n = nxt c) {sa sb : DmaSem sig} (ha : sa = sS 6) (hb : sb = rS 6)
    {si} {sh : ∀ a, (Rect.unit (s := S3x2048x32) ![1, 0, 0] S1x2048x32.size si).stride a = 1} {sq : (Rect.unit (s := S3x2048x32) ![1, 0, 0] S1x2048x32.size si).shape.Squeezes S2048x32}
    {di} {dh : ∀ a, (Rect.unit (s := S3x2048x32) ![2, 0, 0] S1x2048x32.size di).stride a = 1} {dq : (Rect.unit (s := S3x2048x32) ![2, 0, 0] S1x2048x32.size di).shape.Squeezes S2048x32}
    {hsc : ((((mGr.slice (Rect.unit (s := S3x2048x32) ![2, 0, 0] S1x2048x32.size di) dh).squeeze S2048x32 dq) : Memref sig (n : Thread nD τ).2.kind _ _ _)).view.ref.isScScratch = false}
    {hsrc : ((mGr.slice (Rect.unit (s := S3x2048x32) ![1, 0, 0] S1x2048x32.size si) sh).squeeze S2048x32 sq).view.WordExact} {hdst : ((mGr.slice (Rect.unit (s := S3x2048x32) ![2, 0, 0] S1x2048x32.size di) dh).squeeze S2048x32 dq).view.WordExact}
    {hsem : DmaTarget.Typed .vmem (.dma sb) (.remote (n : Thread nD τ) ((mGr.slice (Rect.unit (s := S3x2048x32) ![2, 0, 0] S1x2048x32.size di) dh).squeeze S2048x32 dq) (.dma sa) hsc)} :
    iprop(Amb m K ∗ sndPay m c 6 ∗ dstPay (nxt c) 6 ∗ SOut 6 c ∗ Ow c (6 :: l))
      ⊢ iprop((SBack 6 c ∗ Ow c l -∗ wpc c (k ⟨⟩) Q)
          -∗ wpc c (.op (.enqueueDma ((mGr.slice (Rect.unit (s := S3x2048x32) ![1, 0, 0] S1x2048x32.size si) sh).squeeze S2048x32 sq) (.remote (n : Thread nD τ) ((mGr.slice (Rect.unit (s := S3x2048x32) ![2, 0, 0] S1x2048x32.size di) dh).squeeze S2048x32 dq) (.dma sa) hsc) (.dma sb) hsrc hdst hsem) k) Q) :=
  wp_chan_send m K c 6 l hn ha hb (mGr.view.rep (slotM 3 (gh m 2 c))) (gh m 2 c) (end_slot (c : Thread nD τ) mGr (k := 1) rfl qL (slotM 3 (gh m 2 c)))
    (read_slot (c : Thread nD τ) mGr (k := 1) rfl (gh m 2 c))
    (by
      rw [show dstPay (F := F) (nxt c) 6 = iprop(∃ X, pt (nxt c) mGr (gs 2) fullShare X) from rfl]
      iintro ⟨%Y, H⟩
      iexists (mGr.view.rep Y)
      iapply (show pt (nxt c) mGr (gs 2) fullShare Y ⊢ _ from Entails.of_eq (end_slot (inb := di) (hr := dh) (hq := dq) (nxt c : Thread nD τ) mGr (k := 2) rfl fullShare Y)) $$ H)
    (fun fd => (write_slot (inb := di) (hr := dh) (hq := dq) (nxt c : Thread nD τ) mGr (k := 2) rfl fd (gh m 2 c)).trans (by
      show _ = pt (nxt c) mGr (gs 2) fullShare (slotM 3 (gh m 2 (prv (nxt c))))
      rw [prv_nxt]))
    rfl

theorem wp_send_7 {n : Dev nD} (hn : n = nxt c) {sa sb : DmaSem sig} (ha : sa = sS 7) (hb : sb = rS 7)
    {si} {sh : ∀ a, (Rect.unit (s := S2x2048x1024) ![1, 0, 0] S1x2048x1024.size si).stride a = 1} {sq : (Rect.unit (s := S2x2048x1024) ![1, 0, 0] S1x2048x1024.size si).shape.Squeezes S2048x1024}
    {di} {dh : ∀ a, (Rect.unit (s := S3x2048x1024) ![1, 0, 0] S1x2048x1024.size di).stride a = 1} {dq : (Rect.unit (s := S3x2048x1024) ![1, 0, 0] S1x2048x1024.size di).shape.Squeezes S2048x1024}
    {hsc : ((((mB.slice (Rect.unit (s := S3x2048x1024) ![1, 0, 0] S1x2048x1024.size di) dh).squeeze S2048x1024 dq) : Memref sig (n : Thread nD τ).2.kind _ _ _)).view.ref.isScScratch = false}
    {hsrc : ((mA.slice (Rect.unit (s := S2x2048x1024) ![1, 0, 0] S1x2048x1024.size si) sh).squeeze S2048x1024 sq).view.WordExact} {hdst : ((mB.slice (Rect.unit (s := S3x2048x1024) ![1, 0, 0] S1x2048x1024.size di) dh).squeeze S2048x1024 dq).view.WordExact}
    {hsem : DmaTarget.Typed .vmem (.dma sb) (.remote (n : Thread nD τ) ((mB.slice (Rect.unit (s := S3x2048x1024) ![1, 0, 0] S1x2048x1024.size di) dh).squeeze S2048x1024 dq) (.dma sa) hsc)} :
    iprop(Amb m K ∗ sndPay m c 7 ∗ dstPay (nxt c) 7 ∗ SOut 7 c ∗ Ow c (7 :: l))
      ⊢ iprop((SBack 7 c ∗ Ow c l -∗ wpc c (k ⟨⟩) Q)
          -∗ wpc c (.op (.enqueueDma ((mA.slice (Rect.unit (s := S2x2048x1024) ![1, 0, 0] S1x2048x1024.size si) sh).squeeze S2048x1024 sq) (.remote (n : Thread nD τ) ((mB.slice (Rect.unit (s := S3x2048x1024) ![1, 0, 0] S1x2048x1024.size di) dh).squeeze S2048x1024 dq) (.dma sa) hsc) (.dma sb) hsrc hdst hsem) k) Q) :=
  wp_chan_send m K c 7 l hn ha hb (mA.view.rep (slotM 2 (pass2 m c))) (pass2 m c) (end_slot (c : Thread nD τ) mA (k := 1) rfl fullShare (slotM 2 (pass2 m c)))
    (read_slot (c : Thread nD τ) mA (k := 1) rfl (pass2 m c))
    (by
      rw [show dstPay (F := F) (nxt c) 7 = iprop(∃ X, pt (nxt c) mB (xs 1) fullShare X) from rfl]
      iintro ⟨%Y, H⟩
      iexists (mB.view.rep Y)
      iapply (show pt (nxt c) mB (xs 1) fullShare Y ⊢ _ from Entails.of_eq (end_slot (inb := di) (hr := dh) (hq := dq) (nxt c : Thread nD τ) mB (k := 1) rfl fullShare Y)) $$ H)
    (fun fd => (write_slot (inb := di) (hr := dh) (hq := dq) (nxt c : Thread nD τ) mB (k := 1) rfl fd (pass2 m c)).trans (by
      show _ = pt (nxt c) mB (xs 1) fullShare (slotM 3 (pass2 m (prv (nxt c))))
      rw [prv_nxt]))
    rfl

theorem wp_send_8 {n : Dev nD} (hn : n = nxt c) {sa sb : DmaSem sig} (ha : sa = sS 8) (hb : sb = rS 8)
    {si} {sh : ∀ a, (Rect.unit (s := S2x2048x1024) ![0, 0, 0] S1x512x1024.size si).stride a = 1} {sq : (Rect.unit (s := S2x2048x1024) ![0, 0, 0] S1x512x1024.size si).shape.Squeezes S512x1024}
    {di} {dh : ∀ a, (Rect.unit (s := S3x2048x1024) ![2, 0, 0] S1x512x1024.size di).stride a = 1} {dq : (Rect.unit (s := S3x2048x1024) ![2, 0, 0] S1x512x1024.size di).shape.Squeezes S512x1024}
    {hsc : ((((mB.slice (Rect.unit (s := S3x2048x1024) ![2, 0, 0] S1x512x1024.size di) dh).squeeze S512x1024 dq) : Memref sig (n : Thread nD τ).2.kind _ _ _)).view.ref.isScScratch = false}
    {hsrc : ((mA.slice (Rect.unit (s := S2x2048x1024) ![0, 0, 0] S1x512x1024.size si) sh).squeeze S512x1024 sq).view.WordExact} {hdst : ((mB.slice (Rect.unit (s := S3x2048x1024) ![2, 0, 0] S1x512x1024.size di) dh).squeeze S512x1024 dq).view.WordExact}
    {hsem : DmaTarget.Typed .vmem (.dma sb) (.remote (n : Thread nD τ) ((mB.slice (Rect.unit (s := S3x2048x1024) ![2, 0, 0] S1x512x1024.size di) dh).squeeze S512x1024 dq) (.dma sa) hsc)} :
    iprop(Amb m K ∗ sndPay m c 8 ∗ dstPay (nxt c) 8 ∗ SOut 8 c ∗ Ow c (8 :: l))
      ⊢ iprop((SBack 8 c ∗ Ow c l -∗ wpc c (k ⟨⟩) Q)
          -∗ wpc c (.op (.enqueueDma ((mA.slice (Rect.unit (s := S2x2048x1024) ![0, 0, 0] S1x512x1024.size si) sh).squeeze S512x1024 sq) (.remote (n : Thread nD τ) ((mB.slice (Rect.unit (s := S3x2048x1024) ![2, 0, 0] S1x512x1024.size di) dh).squeeze S512x1024 dq) (.dma sa) hsc) (.dma sb) hsrc hdst hsem) k) Q) :=
  wp_chan_send m K c 8 l hn ha hb (mA.view.rep (slotM 2 (pass3 m c))) (getR (pass3 m c) 0) (end_tile (c : Thread nD τ) mA (k := 0) (t := 0) rfl fullShare (slotM 2 (pass3 m c)))
    (read_tile (c : Thread nD τ) mA (k := 0) (t := 0) rfl (pass3 m c))
    (by
      rw [show dstPay (F := F) (nxt c) 8 = iprop(∃ X, pt (nxt c) mB (xts 2 0) fullShare X) from rfl]
      iintro ⟨%Y, H⟩
      iexists (mB.view.rep Y)
      iapply (show pt (nxt c) mB (xts 2 0) fullShare Y ⊢ _ from Entails.of_eq (end_tile (inb := di) (hr := dh) (hq := dq) (nxt c : Thread nD τ) mB (k := 2) (t := 0) rfl fullShare Y)) $$ H)
    (fun fd => (write_tile (inb := di) (hr := dh) (hq := dq) (nxt c : Thread nD τ) mB (k := 2) (t := 0) rfl fd (pass3 m c)).trans (by
      show _ = pt (nxt c) mB (xts 2 0) fullShare (slotM 3 (pass3 m (prv (nxt c))))
      rw [prv_nxt]; rfl))
    rfl

theorem wp_send_9 {n : Dev nD} (hn : n = nxt c) {sa sb : DmaSem sig} (ha : sa = sS 9) (hb : sb = rS 9)
    {si} {sh : ∀ a, (Rect.unit (s := S2x2048x1024) ![0, 512, 0] S1x512x1024.size si).stride a = 1} {sq : (Rect.unit (s := S2x2048x1024) ![0, 512, 0] S1x512x1024.size si).shape.Squeezes S512x1024}
    {di} {dh : ∀ a, (Rect.unit (s := S3x2048x1024) ![2, 512, 0] S1x512x1024.size di).stride a = 1} {dq : (Rect.unit (s := S3x2048x1024) ![2, 512, 0] S1x512x1024.size di).shape.Squeezes S512x1024}
    {hsc : ((((mB.slice (Rect.unit (s := S3x2048x1024) ![2, 512, 0] S1x512x1024.size di) dh).squeeze S512x1024 dq) : Memref sig (n : Thread nD τ).2.kind _ _ _)).view.ref.isScScratch = false}
    {hsrc : ((mA.slice (Rect.unit (s := S2x2048x1024) ![0, 512, 0] S1x512x1024.size si) sh).squeeze S512x1024 sq).view.WordExact} {hdst : ((mB.slice (Rect.unit (s := S3x2048x1024) ![2, 512, 0] S1x512x1024.size di) dh).squeeze S512x1024 dq).view.WordExact}
    {hsem : DmaTarget.Typed .vmem (.dma sb) (.remote (n : Thread nD τ) ((mB.slice (Rect.unit (s := S3x2048x1024) ![2, 512, 0] S1x512x1024.size di) dh).squeeze S512x1024 dq) (.dma sa) hsc)} :
    iprop(Amb m K ∗ sndPay m c 9 ∗ dstPay (nxt c) 9 ∗ SOut 9 c ∗ Ow c (9 :: l))
      ⊢ iprop((SBack 9 c ∗ Ow c l -∗ wpc c (k ⟨⟩) Q)
          -∗ wpc c (.op (.enqueueDma ((mA.slice (Rect.unit (s := S2x2048x1024) ![0, 512, 0] S1x512x1024.size si) sh).squeeze S512x1024 sq) (.remote (n : Thread nD τ) ((mB.slice (Rect.unit (s := S3x2048x1024) ![2, 512, 0] S1x512x1024.size di) dh).squeeze S512x1024 dq) (.dma sa) hsc) (.dma sb) hsrc hdst hsem) k) Q) :=
  wp_chan_send m K c 9 l hn ha hb (mA.view.rep (slotM 2 (pass3 m c))) (getR (pass3 m c) 1) (end_tile (c : Thread nD τ) mA (k := 0) (t := 1) rfl fullShare (slotM 2 (pass3 m c)))
    (read_tile (c : Thread nD τ) mA (k := 0) (t := 1) rfl (pass3 m c))
    (by
      rw [show dstPay (F := F) (nxt c) 9 = iprop(∃ X, pt (nxt c) mB (xts 2 1) fullShare X) from rfl]
      iintro ⟨%Y, H⟩
      iexists (mB.view.rep Y)
      iapply (show pt (nxt c) mB (xts 2 1) fullShare Y ⊢ _ from Entails.of_eq (end_tile (inb := di) (hr := dh) (hq := dq) (nxt c : Thread nD τ) mB (k := 2) (t := 1) rfl fullShare Y)) $$ H)
    (fun fd => (write_tile (inb := di) (hr := dh) (hq := dq) (nxt c : Thread nD τ) mB (k := 2) (t := 1) rfl fd (pass3 m c)).trans (by
      show _ = pt (nxt c) mB (xts 2 1) fullShare (slotM 3 (pass3 m (prv (nxt c))))
      rw [prv_nxt]; rfl))
    rfl

theorem wp_send_10 {n : Dev nD} (hn : n = nxt c) {sa sb : DmaSem sig} (ha : sa = sS 10) (hb : sb = rS 10)
    {si} {sh : ∀ a, (Rect.unit (s := S2x2048x1024) ![0, 1024, 0] S1x512x1024.size si).stride a = 1} {sq : (Rect.unit (s := S2x2048x1024) ![0, 1024, 0] S1x512x1024.size si).shape.Squeezes S512x1024}
    {di} {dh : ∀ a, (Rect.unit (s := S3x2048x1024) ![2, 1024, 0] S1x512x1024.size di).stride a = 1} {dq : (Rect.unit (s := S3x2048x1024) ![2, 1024, 0] S1x512x1024.size di).shape.Squeezes S512x1024}
    {hsc : ((((mB.slice (Rect.unit (s := S3x2048x1024) ![2, 1024, 0] S1x512x1024.size di) dh).squeeze S512x1024 dq) : Memref sig (n : Thread nD τ).2.kind _ _ _)).view.ref.isScScratch = false}
    {hsrc : ((mA.slice (Rect.unit (s := S2x2048x1024) ![0, 1024, 0] S1x512x1024.size si) sh).squeeze S512x1024 sq).view.WordExact} {hdst : ((mB.slice (Rect.unit (s := S3x2048x1024) ![2, 1024, 0] S1x512x1024.size di) dh).squeeze S512x1024 dq).view.WordExact}
    {hsem : DmaTarget.Typed .vmem (.dma sb) (.remote (n : Thread nD τ) ((mB.slice (Rect.unit (s := S3x2048x1024) ![2, 1024, 0] S1x512x1024.size di) dh).squeeze S512x1024 dq) (.dma sa) hsc)} :
    iprop(Amb m K ∗ sndPay m c 10 ∗ dstPay (nxt c) 10 ∗ SOut 10 c ∗ Ow c (10 :: l))
      ⊢ iprop((SBack 10 c ∗ Ow c l -∗ wpc c (k ⟨⟩) Q)
          -∗ wpc c (.op (.enqueueDma ((mA.slice (Rect.unit (s := S2x2048x1024) ![0, 1024, 0] S1x512x1024.size si) sh).squeeze S512x1024 sq) (.remote (n : Thread nD τ) ((mB.slice (Rect.unit (s := S3x2048x1024) ![2, 1024, 0] S1x512x1024.size di) dh).squeeze S512x1024 dq) (.dma sa) hsc) (.dma sb) hsrc hdst hsem) k) Q) :=
  wp_chan_send m K c 10 l hn ha hb (mA.view.rep (slotM 2 (pass3 m c))) (getR (pass3 m c) 2) (end_tile (c : Thread nD τ) mA (k := 0) (t := 2) rfl fullShare (slotM 2 (pass3 m c)))
    (read_tile (c : Thread nD τ) mA (k := 0) (t := 2) rfl (pass3 m c))
    (by
      rw [show dstPay (F := F) (nxt c) 10 = iprop(∃ X, pt (nxt c) mB (xts 2 2) fullShare X) from rfl]
      iintro ⟨%Y, H⟩
      iexists (mB.view.rep Y)
      iapply (show pt (nxt c) mB (xts 2 2) fullShare Y ⊢ _ from Entails.of_eq (end_tile (inb := di) (hr := dh) (hq := dq) (nxt c : Thread nD τ) mB (k := 2) (t := 2) rfl fullShare Y)) $$ H)
    (fun fd => (write_tile (inb := di) (hr := dh) (hq := dq) (nxt c : Thread nD τ) mB (k := 2) (t := 2) rfl fd (pass3 m c)).trans (by
      show _ = pt (nxt c) mB (xts 2 2) fullShare (slotM 3 (pass3 m (prv (nxt c))))
      rw [prv_nxt]; rfl))
    rfl

theorem wp_send_11 {n : Dev nD} (hn : n = nxt c) {sa sb : DmaSem sig} (ha : sa = sS 11) (hb : sb = rS 11)
    {si} {sh : ∀ a, (Rect.unit (s := S2x2048x1024) ![0, 1536, 0] S1x512x1024.size si).stride a = 1} {sq : (Rect.unit (s := S2x2048x1024) ![0, 1536, 0] S1x512x1024.size si).shape.Squeezes S512x1024}
    {di} {dh : ∀ a, (Rect.unit (s := S3x2048x1024) ![2, 1536, 0] S1x512x1024.size di).stride a = 1} {dq : (Rect.unit (s := S3x2048x1024) ![2, 1536, 0] S1x512x1024.size di).shape.Squeezes S512x1024}
    {hsc : ((((mB.slice (Rect.unit (s := S3x2048x1024) ![2, 1536, 0] S1x512x1024.size di) dh).squeeze S512x1024 dq) : Memref sig (n : Thread nD τ).2.kind _ _ _)).view.ref.isScScratch = false}
    {hsrc : ((mA.slice (Rect.unit (s := S2x2048x1024) ![0, 1536, 0] S1x512x1024.size si) sh).squeeze S512x1024 sq).view.WordExact} {hdst : ((mB.slice (Rect.unit (s := S3x2048x1024) ![2, 1536, 0] S1x512x1024.size di) dh).squeeze S512x1024 dq).view.WordExact}
    {hsem : DmaTarget.Typed .vmem (.dma sb) (.remote (n : Thread nD τ) ((mB.slice (Rect.unit (s := S3x2048x1024) ![2, 1536, 0] S1x512x1024.size di) dh).squeeze S512x1024 dq) (.dma sa) hsc)} :
    iprop(Amb m K ∗ sndPay m c 11 ∗ dstPay (nxt c) 11 ∗ SOut 11 c ∗ Ow c (11 :: l))
      ⊢ iprop((SBack 11 c ∗ Ow c l -∗ wpc c (k ⟨⟩) Q)
          -∗ wpc c (.op (.enqueueDma ((mA.slice (Rect.unit (s := S2x2048x1024) ![0, 1536, 0] S1x512x1024.size si) sh).squeeze S512x1024 sq) (.remote (n : Thread nD τ) ((mB.slice (Rect.unit (s := S3x2048x1024) ![2, 1536, 0] S1x512x1024.size di) dh).squeeze S512x1024 dq) (.dma sa) hsc) (.dma sb) hsrc hdst hsem) k) Q) :=
  wp_chan_send m K c 11 l hn ha hb (mA.view.rep (slotM 2 (pass3 m c))) (getR (pass3 m c) 3) (end_tile (c : Thread nD τ) mA (k := 0) (t := 3) rfl fullShare (slotM 2 (pass3 m c)))
    (read_tile (c : Thread nD τ) mA (k := 0) (t := 3) rfl (pass3 m c))
    (by
      rw [show dstPay (F := F) (nxt c) 11 = iprop(∃ X, pt (nxt c) mB (xts 2 3) fullShare X) from rfl]
      iintro ⟨%Y, H⟩
      iexists (mB.view.rep Y)
      iapply (show pt (nxt c) mB (xts 2 3) fullShare Y ⊢ _ from Entails.of_eq (end_tile (inb := di) (hr := dh) (hq := dq) (nxt c : Thread nD τ) mB (k := 2) (t := 3) rfl fullShare Y)) $$ H)
    (fun fd => (write_tile (inb := di) (hr := dh) (hq := dq) (nxt c : Thread nD τ) mB (k := 2) (t := 3) rfl fd (pass3 m c)).trans (by
      show _ = pt (nxt c) mB (xts 2 3) fullShare (slotM 3 (pass3 m (prv (nxt c))))
      rw [prv_nxt]; rfl))
    rfl

end Cert.KernelIdeal.Moe

end
-- ==== Proof.KernelIdeal.Stream.lean ====
/-
# The stream of expert weights

The expert weights stay in the large memory; one expert at a time is copied into one of the two slots of the weight
buffer, while the other slot is being used.
-/
module

public import proofs.«01_k».proof.Proof.KernelIdeal.Sends

@[expose] public section

noncomputable section

namespace Cert.KernelIdeal.Moe

open Cert.KernelIdeal Cert.KernelIdeal.Gen Cert.Moe
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (m : (ℓ : Loc nD τ sig) → Buf (Elt F) ℓ) (K : Dev nD × CI → ℕ)
variable {α : Type} {Q : α → sProp (MT nD τ sig Unit (Elt F) ℕ UU ℕ)} {k : PUnit → Prog (TpuEff nD τ sig (Elt F) Λ₀ .tc) α}
variable (c : Dev nD)

/-- The semaphore of each slot of the weight buffer. -/
def wS : Fin 2 → DmaSem sig := fun
  | 0 => ((cc0_scratch14.slice (Rect.unit (s := S2) ![0] S1.size inb_S2_S1_0)).squeeze S_ squeezes_S1_S_).sem
  | 1 => ((cc0_scratch14.slice (Rect.unit (s := S2) ![1] S1.size inb_S2_S1_1)).squeeze S_ squeezes_S1_S_).sem

theorem wS_eq {off : Fin 1 → ℕ} {inb} (p : Fin 2) (h : off = ![p.val]) :
    ((cc0_scratch14.slice (Rect.unit (s := S2) off S1.size inb)).squeeze S_ squeezes_S1_S_).sem = wS p := by
  subst h
  match p with
  | 0 => rfl
  | 1 => rfl

theorem lv_other (c : Dev nD) (s : SemLoc sig) (h : ∀ i, csem i ≠ s) : lv ((c : Thread nD τ), s) () = 0 := by
  unfold lv ci
  rw [dif_neg (by rintro ⟨i, hi⟩; exact h i hi)]
theorem wS_lv (c : Dev nD) (p : Fin 2) : lv ((c : Thread nD τ), SemLoc.dma (wS p)) () ≤ 0 :=
  (lv_other c _ (by revert p; decide)).le

def NW : ℕ := ((mW.slice (Rect.unit (s := S2x1024x1024) ![0, 0, 0] S1x1024x1024.size inb_S2x1024x1024_S1x1024x1024_0_0_0) (fun _ => rfl)).squeeze S1024x1024
  squeezes_S1x1024x1024_S1024x1024 : Memref sig .tc .vmem S1024x1024 .bf16).view.dmaCredit
theorem NW_pos : 0 < NW := View.dmaCredit_pos _ (by decide)

/-- The expert weights of device `c`, in the large memory. -/
def wHbm : sProp 𝕄 := pt c mV Finset.univ fullShare (wAll m c)
/-- Slot `p` of the weight buffer at rest; holding expert `k`; while expert `k` is on its way into it. -/
def wFree (p : Fin 2) : sProp 𝕄 := iprop(semVal ((c : Thread nD τ), SemLoc.dma (wS p)) 0 ∗ ∃ X, pt c mW (ws p.val) fullShare X)
def wHas (p : Fin 2) (n : ℕ) : sProp 𝕄 :=
  iprop(semVal ((c : Thread nD τ), SemLoc.dma (wS p)) 0 ∗ pt c mW (ws p.val) fullShare (slotM 2 (wOne m c n)))
def wBusy (p : Fin 2) (n : ℕ) : sProp 𝕄 :=
  iprop(Transfers.Flight countersEmb (c : Thread nD τ) (.dma (wS p)) () NW
      iprop(pt c mW (ws p.val) fullShare (slotM 2 (wOne m c n)) ∗ pt c mV (vs n) fullShare (slotM 8 (wOne m c n)))
    ∗ pt c mV (Finset.univ \ vs n) fullShare (wAll m c))

theorem wHas_free (p : Fin 2) (n : ℕ) : wHas m c p n ⊢ wFree c p := by
  unfold wHas wFree
  iintro ⟨Hs, Hw⟩
  isplitl [Hs]; · iexact Hs
  iexists (slotM 2 (wOne m c n)); iexact Hw

/-- One expert's weights are a slot of all of them. -/
theorem wHbm_split (n : ℕ) (hn : n < 8) :
    wHbm m c ⊣⊢ iprop(pt c mV (vs n) fullShare (slotM 8 (wOne m c n)) ∗ pt c mV (Finset.univ \ vs n) fullShare (wAll m c)) := by
  have hu : (Finset.univ : Finset (Sh3 8 1024 1024).Idx) = vs n ∪ (Finset.univ \ vs n) := (Finset.union_sdiff_of_subset (Finset.subset_univ _)).symm
  have e : (pt c mV (vs n) fullShare (slotM 8 (wOne m c n)) : sProp 𝕄) = pt c mV (vs n) fullShare (wAll m c) :=
    part_congr _ _ _ _ fun x hx => by
      unfold slotM wOne
      refine congrArg (wAll m c) (idx3_eq ?_ rfl rfl)
      show n % 8 = (x 0).val
      rw [Nat.mod_eq_of_lt hn]; exact (mem_slot.mp hx).symm
  unfold wHbm
  rw [e]
  conv => lhs; rw [hu]
  exact part_union _ _ _ _ Finset.disjoint_sdiff

theorem arrive (p : Fin 2) (n : ℕ) {o2 : Fin 3 → ℕ} {i2 h2 q2} (e2 : o2 = ![p.val, 0, 0]) {f : Buf (Elt F) (mW.view.loc (c : Thread nD τ))}
    {w : WM F} (h : w = wOne m c n) :
    (((mW.slice (Rect.unit (s := S2x1024x1024) o2 S1x1024x1024.size i2) h2).squeeze S1024x1024 q2).view.loc (c : Thread nD τ)
        ↦[((mW.slice (Rect.unit (s := S2x1024x1024) o2 S1x1024x1024.size i2) h2).squeeze S1024x1024 q2).view.set]{fullShare}
          (((mW.slice (Rect.unit (s := S2x1024x1024) o2 S1x1024x1024.size i2) h2).squeeze S1024x1024 q2).view.write (Elt F) f w Finset.univ) : sProp 𝕄)
      = pt c mW (ws p.val) fullShare (slotM 2 (wOne m c n)) := by
  subst h
  exact write_slot (inb := i2) (hr := h2) (hq := q2) (c : Thread nD τ) mW e2 f (wOne m c n)

/-- Expert `n` starts towards slot `p`. -/
theorem wp_w_start (p : Fin 2) (n : ℕ) (hn : n < 8) {o1 : Fin 1 → ℕ} {o2 o3 : Fin 3 → ℕ} {i1 i2 h2 q2 i3 h3 q3}
    (e1 : o1 = ![p.val]) (e2 : o2 = ![p.val, 0, 0]) (e3 : o3 = ![n, 0, 0]) {hsrc} {hdst} {hsem} :
    iprop(wHbm m c ∗ wFree c p)
      ⊢ iprop((wBusy m c p n -∗ wpc c (k ⟨⟩) Q)
          -∗ wpc c (.op (.enqueueDma ((mV.slice (Rect.unit (s := S8x1024x1024) o3 S1x1024x1024.size i3) h3).squeeze S1024x1024 q3)
            (.here ((mW.slice (Rect.unit (s := S2x1024x1024) o2 S1x1024x1024.size i2) h2).squeeze S1024x1024 q2))
            (.dma ((cc0_scratch14.slice (Rect.unit (s := S2) o1 S1.size i1)).squeeze S_ squeezes_S1_S_).sem) hsrc hdst hsem) k) Q) := by
  have hs := wS_eq (inb := i1) p e1
  generalize ((cc0_scratch14.slice (Rect.unit (s := S2) o1 S1.size i1)).squeeze S_ squeezes_S1_S_).sem = sm at hs hsem ⊢
  subst hs
  unfold wFree wBusy
  have hread := read_slot (inb := i3) (hr := h3) (hq := q3) (c : Thread nD τ) mV e3 (wOne m c n)
  iintro ⟨HV, ⟨Hs, ⟨%X, HW⟩⟩⟩ Hk
  icases (wHbm_split m c n hn).1 $$ HV with ⟨HV1, HV2⟩
  ihave HV1 := (show pt c mV (vs n) fullShare (slotM 8 (wOne m c n)) ⊢ _ from
    Entails.of_eq (end_slot (inb := i3) (hr := h3) (hq := q3) (c : Thread nD τ) mV e3 fullShare (slotM 8 (wOne m c n)))) $$ HV1
  ihave HW := (show pt c mW (ws p.val) fullShare X ⊢ _ from
    Entails.of_eq (end_slot (inb := i2) (hr := h2) (hq := q2) (c : Thread nD τ) mW e2 fullShare X)) $$ HW
  iapply (Transfers.wp_dmaLocal countersEmb 𝒱₀ (c : Thread nD τ) none () NW rfl NW_pos (Finset.Subset.refl _)) $$ [HV1 HW Hs]
  · isplitl [HV1]; · iexact HV1
    isplitl [HW]; · iexact HW
    iexact Hs
  iintro HF
  iapply Hk
  isplitl [HF]
  · iapply (Transfers.Flight_mono countersEmb (c : Thread nD τ) (BIClass.sep_mono
      (Entails.of_eq (arrive m c p n e2 hread))
      (Entails.of_eq (end_slot (inb := i3) (hr := h3) (hq := q3) (c : Thread nD τ) mV e3 fullShare (slotM 8 (wOne m c n))).symm))) $$ HF
  · iexact HV2

/-- Expert `n` has arrived in slot `p`. -/
theorem wp_w_wait (p : Fin 2) (n : ℕ) (hn : n < 8) (l : List (Fin 12)) {o1 : Fin 1 → ℕ} {i1}
    (e1 : o1 = ![p.val]) {sp sp' : Space} {s s' : Shape} {e e' : EltTy} {srcw : Memref sig .tc sp s e} {dstw : Memref sig .tc sp' s' e'}
    {hsrc} {hdst} (hN : dstw.view.dmaCredit = NW) :
    iprop(Amb m K ∗ wBusy m c p n ∗ Ow c l)
      ⊢ iprop((wHas m c p n ∗ wHbm m c ∗ Ow c l -∗ wpc c (k ⟨⟩) Q)
          -∗ wpc c (.op (.waitDma2 ((cc0_scratch14.slice (Rect.unit (s := S2) o1 S1.size i1)).squeeze S_ squeezes_S1_S_).sem srcw dstw hsrc hdst) k) Q) := by
  rw [wS_eq (inb := i1) p e1]
  unfold wBusy wHas Ow
  iintro ⟨#HA, ⟨HF, HV⟩, ⟨%W, HO⟩⟩ Hk
  iapply (Transfers.wp_waitLocalO countersEmb 𝒱₀ (c : Thread nD τ) none () hN) $$ [HF HO]
  · isplitl [HF]; · iexact HF
    isplitl [HO]; · iexact HO
    iapply (mayWait_oweL c (.dma (wS p)) l 0 (wS_lv c p) (fun i _ => chLv_pos i))
    iapply (Amb_lev m K) $$ HA
  iintro ⟨⟨HW, HV1⟩, Hs, HO⟩
  iapply Hk
  isplitl [Hs HW]
  · isplitl [Hs]; · iexact Hs
    iexact HW
  isplitl [HV1 HV]
  · iapply (wHbm_split m c n hn).2
    isplitl [HV1]; · iexact HV1
    iexact HV
  · iexists (insert (SemLoc.dma (wS p), ()) W); iexact HO

/-! ## The stream before each trip of an expert loop -/

def par (n : ℕ) : Fin 2 := ⟨n % 2, Nat.mod_lt _ (by decide)⟩
theorem par_two (n : ℕ) : par (n + 2) = par n := Fin.ext (by show (n + 2) % 2 = n % 2; omega)

/-- Before trip `n` its expert is on its way, before a trip past the last one nothing is. -/
def wNext (n : ℕ) : sProp 𝕄 := if n < 8 then wBusy m c (par n) n else iprop(wHbm m c ∗ wFree c (par n))

theorem wNext_busy {n : ℕ} (h : n < 8) : wNext m c n = wBusy m c (par n) n := if_pos h
theorem wNext_done {n : ℕ} (h : ¬ n < 8) : wNext m c n = iprop(wHbm m c ∗ wFree c (par n)) := if_neg h

end Cert.KernelIdeal.Moe

end
-- ==== Proof.KernelIdeal.Trips.lean ====
/-
# The trips of the expert loops

Every trip waits for its expert's weights, starts the next one on its way, and adds the expert's share to the four
row tiles of the sum.
-/
module

public import proofs.«01_k».proof.Proof.KernelIdeal.Stream

@[expose] public section

noncomputable section

namespace Cert.KernelIdeal.Moe

open Cert.KernelIdeal Cert.KernelIdeal.Gen Cert.Moe
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (m : (ℓ : Loc nD τ sig) → Buf (Elt F) ℓ) (K : Dev nD × CI → ℕ)
variable {α : Type}
variable (c : Dev nD)

theorem wpc_bind {β : Type} (p : Prog (TpuEff nD τ sig (Elt F) Λ₀ .tc) α) (k : α → Prog (TpuEff nD τ sig (Elt F) Λ₀ .tc) β)
    (Q : β → sProp (MT nD τ sig Unit (Elt F) ℕ UU ℕ)) : wpc c (p >>= k) Q = wpc c p (fun a => wpc c (k a) Q) := wp_bind _ _ _ _ _ _

theorem cond1_iff (t : Fin k0_t1_loop.trips) : k0_cond1 t = 1#1 ↔ t.val < 7 := by revert t; decide +kernel
theorem cond2_iff (t : Fin k0_t2_loop.trips) : k0_cond2 t = 1#1 ↔ t.val < 7 := by revert t; decide +kernel
theorem cond3_iff (t : Fin k0_t3_loop.trips) : k0_cond3 t = 1#1 ↔ t.val < 7 := by revert t; decide +kernel

theorem getT_setT_lt {β : Type} {C : ℕ} (X : (Sh2 2048 C).Idx → β) (p : (Sh3 1 512 C).Idx → β) :
    getT (setT X 0 p) 1 = getT X 1 ∧ getT (setT X 0 p) 2 = getT X 2 ∧ getT (setT X 0 p) 3 = getT X 3
      ∧ getT (setT X 1 p) 2 = getT X 2 ∧ getT (setT X 1 p) 3 = getT X 3 ∧ getT (setT X 2 p) 3 = getT X 3 :=
  ⟨getT_setT_ne X (by decide) p, getT_setT_ne X (by decide) p, getT_setT_ne X (by decide) p, getT_setT_ne X (by decide) p,
    getT_setT_ne X (by decide) p, getT_setT_ne X (by decide) p⟩

/-- A load of the expert a slot holds. -/
theorem wp_w_load {Q : α → sProp (MT nD τ sig Unit (Elt F) ℕ UU ℕ)} (p : Fin 2) (n : ℕ) {off : Fin 3 → ℕ} {inb} {hl}
    {k : ((Sh3 1 1024 1024).Idx → Elt F .bf16) → Prog (TpuEff nD τ sig (Elt F) Λ₀ .tc) α} (e : off = ![p.val, 0, 0]) :
    wHas m c p n ⊢ iprop((wHas m c p n -∗ wpc c (k (up (wOne m c n))) Q)
      -∗ wpc c (.op (.load mW (Rect.unit (s := S2x1024x1024) off S1x1024x1024.size inb).toLoadRect hl) k) Q) := by
  unfold wHas
  iintro ⟨Hs, Hw⟩ Hk
  iapply (wp_load_slot p.val e) $$ Hw
  iintro Hw
  iapply Hk
  isplitl [Hs]; · iexact Hs
  iexact Hw

theorem part1 {Q : (Σ' (_ : BitVec 32), FVec F S2048x1 .f32) → sProp (MT nD τ sig Unit (Elt F) ℕ UU ℕ)}
    (g : FVec F S2048x8 .f32) (t : Fin k0_t1_loop.trips) (l : List (Fin 12)) (q : PosShare TreeShare) (X A : XM F) :
    iprop(Amb m K ∗ wNext m c t.val ∗ wFree c (par (t.val + 1)) ∗ Ow c l ∗ pt c mX Finset.univ q X ∗ pt c mA (acs 0) fullShare (slotM 2 (A)))
      ⊢ iprop((wNext m c (t.val + 1) ∗ wHas m c (par t.val) t.val ∗ Ow c l ∗ pt c mX Finset.univ q X ∗ pt c mA (acs 0) fullShare (slotM 2 (setT A 0 (k0_pay2 exps g 0#32 1#32 t (getR X 0) (up (wOne m c t.val)) (getT A 0))))
            -∗ Q ⟨Scalar.remsi (Scf.iv 0#32 1#32 t) 2#32, k0_pay1 exps g 0#32 1#32 t⟩)
          -∗ wpc c (k0_part1 mX (hstage0_0 0) mR (hstage0_1 0) mI (hstage0_2 0) mV (Memref.isWhole_whole _) mO (hstage0_3 0) mXr (Memref.isWhole_whole _) mG (Memref.isWhole_whole _) mGr (Memref.isWhole_whole _) mA (Memref.isWhole_whole _) mB (Memref.isWhole_whole _) mW (Memref.isWhole_whole _) cc0_scratch6 cc0_scratch7 cc0_scratch8 cc0_scratch9 cc0_scratch10 cc0_scratch11 cc0_scratch12 cc0_scratch13 cc0_scratch14 exps g 0#32 1#32 t) Q) := by
  have ht : t.val < 8 := t.isLt
  rw [k0_part1_eq_skeleton]; unfold k0_part1_skel
  simp only [Prog.lift, Prog.bind_op, Prog.bind_ret, Prog.pure_eq_ret]
  rw [wNext_busy m c (show t.val < 8 by omega)]
  iintro ⟨#HK, Hb, Hf, HO, Hx, HA⟩ Hk
  iapply (wp_w_wait m K c (par t.val) t.val (show t.val < 8 by omega) l (k0_off1_eq t) (by rfl)) $$ [Hb HO]
  · isplitr; · iexact HK
    isplitl [Hb]; · iexact Hb
    iexact HO
  iintro ⟨Hw, HV, HO⟩
  by_cases h : k0_cond1 t = 1#1
  · have ht' : t.val + 1 < 8 := by have := (cond1_iff t).mp h; omega
    rw [dif_pos h, wNext_busy m c ht']
    iapply (wp_w_start m c (par (t.val + 1)) (t.val + 1) ht' (k0_off4_eq t) (k0_off5_eq t) (k0_off6_eq t)) $$ [HV Hf]
    · isplitl [HV]; · iexact HV
      iexact Hf
    iintro Hb
    iapply (wp_load_rows 0 rfl) $$ Hx; iintro Hx
    iapply (wp_w_load m c (par t.val) t.val (k0_off7_eq t)) $$ Hw; iintro Hw
    iapply (wp_load_tile 0 0 rfl (tile_subset_slot 0 0)) $$ HA; iintro HA
    iapply (wp_load_tile 0 0 rfl (tile_subset_slot 0 0)) $$ HA; iintro HA
    iapply (wp_store_tile 0 0 rfl (tile_subset_slot 0 0) (Finset.Subset.refl _)) $$ HA; iintro HA
    rw [wp_ret]; imodintro; iapply Hk
    isplitl [Hb]; · iexact Hb
    isplitl [Hw]; · iexact Hw
    isplitl [HO]; · iexact HO
    isplitl [Hx]; · iexact Hx
    iexact HA
  · have ht' : ¬ t.val + 1 < 8 := fun hh => h ((cond1_iff t).mpr (by omega))
    rw [dif_neg h, wNext_done m c ht']
    iapply (wp_load_rows 0 rfl) $$ Hx; iintro Hx
    iapply (wp_w_load m c (par t.val) t.val (k0_off7_eq t)) $$ Hw; iintro Hw
    iapply (wp_load_tile 0 0 rfl (tile_subset_slot 0 0)) $$ HA; iintro HA
    iapply (wp_load_tile 0 0 rfl (tile_subset_slot 0 0)) $$ HA; iintro HA
    iapply (wp_store_tile 0 0 rfl (tile_subset_slot 0 0) (Finset.Subset.refl _)) $$ HA; iintro HA
    rw [wp_ret]; imodintro; iapply Hk
    isplitl [HV Hf]
    · isplitl [HV]; · iexact HV
      iexact Hf
    isplitl [Hw]; · iexact Hw
    isplitl [HO]; · iexact HO
    isplitl [Hx]; · iexact Hx
    iexact HA

theorem part2 {Q : Vec F S512x1024 .bf16 → sProp (MT nD τ sig Unit (Elt F) ℕ UU ℕ)}
    (t : Fin k0_t1_loop.trips) (iv : BitVec 32) (gv : FVec F S2048x1 .f32) (q : PosShare TreeShare) (X A : XM F) :
    iprop(wHas m c (par t.val) t.val ∗ pt c mX Finset.univ q X ∗ pt c mA (acs 0) fullShare (slotM 2 (A)))
      ⊢ iprop((wHas m c (par t.val) t.val ∗ pt c mX Finset.univ q X ∗ pt c mA (acs 0) fullShare (slotM 2 (setT (setT A 1 (k0_pay3 gv (getR X 1) (up (wOne m c t.val)) (getT A 1))) 2 (k0_pay4 gv (getR X 2) (up (wOne m c t.val)) (getT (setT A 1 (k0_pay3 gv (getR X 1) (up (wOne m c t.val)) (getT A 1))) 2))))
            -∗ Q (getR X 3))
          -∗ wpc c (k0_part2 mX (hstage0_0 0) mR (hstage0_1 0) mI (hstage0_2 0) mV (Memref.isWhole_whole _) mO (hstage0_3 0) mXr (Memref.isWhole_whole _) mG (Memref.isWhole_whole _) mGr (Memref.isWhole_whole _) mA (Memref.isWhole_whole _) mB (Memref.isWhole_whole _) mW (Memref.isWhole_whole _) cc0_scratch6 cc0_scratch7 cc0_scratch8 cc0_scratch9 cc0_scratch10 cc0_scratch11 cc0_scratch12 cc0_scratch13 cc0_scratch14 t iv gv) Q) := by
  rw [k0_part2_eq_skeleton]; unfold k0_part2_skel
  simp only [Prog.lift, Prog.bind_op, Prog.bind_ret, Prog.pure_eq_ret]
  iintro ⟨Hw, Hx, HA⟩ Hk
  iapply (wp_load_rows 1 rfl) $$ Hx; iintro Hx
  iapply (wp_w_load m c (par t.val) t.val (k0_off7_eq t)) $$ Hw; iintro Hw
  iapply (wp_load_tile 0 1 rfl (tile_subset_slot 0 1)) $$ HA; iintro HA
  iapply (wp_load_tile 0 1 rfl (tile_subset_slot 0 1)) $$ HA; iintro HA
  iapply (wp_store_tile 0 1 rfl (tile_subset_slot 0 1) (Finset.Subset.refl _)) $$ HA; iintro HA
  iapply (wp_load_rows 2 rfl) $$ Hx; iintro Hx
  iapply (wp_w_load m c (par t.val) t.val (k0_off7_eq t)) $$ Hw; iintro Hw
  iapply (wp_load_tile 0 2 rfl (tile_subset_slot 0 2)) $$ HA; iintro HA
  iapply (wp_load_tile 0 2 rfl (tile_subset_slot 0 2)) $$ HA; iintro HA
  iapply (wp_store_tile 0 2 rfl (tile_subset_slot 0 2) (Finset.Subset.refl _)) $$ HA; iintro HA
  iapply (wp_load_rows 3 rfl) $$ Hx; iintro Hx
  rw [wp_ret]; imodintro; iapply Hk
  isplitl [Hw]; · iexact Hw
  isplitl [Hx]; · iexact Hx
  iexact HA

theorem trip1_setT (g : FVec F S2048x8 .f32) (t : Fin k0_t1_loop.trips) (X : XM F) (W : WM F) (A : XM F) :
    setT (setT (setT (setT A 0 (k0_pay2 exps g 0#32 1#32 t (getR X 0) (up W) (getT A 0))) 1 (k0_pay3 (k0_pay1 exps g 0#32 1#32 t) (getR X 1) (up W) (getT (setT A 0 (k0_pay2 exps g 0#32 1#32 t (getR X 0) (up W) (getT A 0))) 1))) 2 (k0_pay4 (k0_pay1 exps g 0#32 1#32 t) (getR X 2) (up W) (getT (setT (setT A 0 (k0_pay2 exps g 0#32 1#32 t (getR X 0) (up W) (getT A 0))) 1 (k0_pay3 (k0_pay1 exps g 0#32 1#32 t) (getR X 1) (up W) (getT (setT A 0 (k0_pay2 exps g 0#32 1#32 t (getR X 0) (up W) (getT A 0))) 1))) 2))) 3 (k0_pay30 (k0_pay1 exps g 0#32 1#32 t) (getR X 3) (up W) (getT (setT (setT (setT A 0 (k0_pay2 exps g 0#32 1#32 t (getR X 0) (up W) (getT A 0))) 1 (k0_pay3 (k0_pay1 exps g 0#32 1#32 t) (getR X 1) (up W) (getT (setT A 0 (k0_pay2 exps g 0#32 1#32 t (getR X 0) (up W) (getT A 0))) 1))) 2 (k0_pay4 (k0_pay1 exps g 0#32 1#32 t) (getR X 2) (up W) (getT (setT (setT A 0 (k0_pay2 exps g 0#32 1#32 t (getR X 0) (up W) (getT A 0))) 1 (k0_pay3 (k0_pay1 exps g 0#32 1#32 t) (getR X 1) (up W) (getT (setT A 0 (k0_pay2 exps g 0#32 1#32 t (getR X 0) (up W) (getT A 0))) 1))) 2))) 3))
      = trip1 g t X W A := by
  simp only [getT_setT_lt]
  exact setT_all A ![_, _, _, _]
theorem sum1_succ (t : Fin k0_t1_loop.trips) : sum1 m c (t.val + 1) = trip1 (gate0 m c) t (xh m 0 c) (wOne m c t.val) (sum1 m c t.val) := dif_pos t.isLt

theorem trip1_wp (l : List (Fin 12)) (q : PosShare TreeShare) (v100 : FVec F S512x1024 .bf16) (t : Fin k0_t1_loop.trips) (u : Unit) :
    iprop(Amb m K ∗ wNext m c (t.val) ∗ wFree c (par (t.val + 1)) ∗ Ow c l ∗ pt c mX Finset.univ q (xh m 0 c) ∗ pt c mA (acs 0) fullShare (slotM 2 (sum1 m c (t.val))))
      ⊢ wpc c (k0_t1_body mX (hstage0_0 0) mR (hstage0_1 0) mI (hstage0_2 0) mV (Memref.isWhole_whole _) mO (hstage0_3 0) mXr (Memref.isWhole_whole _) mG (Memref.isWhole_whole _) mGr (Memref.isWhole_whole _) mA (Memref.isWhole_whole _) mB (Memref.isWhole_whole _) mW (Memref.isWhole_whole _) cc0_scratch6 cc0_scratch7 cc0_scratch8 cc0_scratch9 cc0_scratch10 cc0_scratch11 cc0_scratch12 cc0_scratch13 cc0_scratch14 exps (gate0 m c) v100 t u)
        (fun _ => iprop(Amb m K ∗ wNext m c (t.val + 1) ∗ wFree c (par (t.val + 1 + 1)) ∗ Ow c l ∗ pt c mX Finset.univ q (xh m 0 c) ∗ pt c mA (acs 0) fullShare (slotM 2 (sum1 m c (t.val + 1))))) := by
  unfold k0_t1_body
  iintro ⟨#HK, Hb, Hf, HO, Hx, HA⟩
  first | rw [wpc_bind] | rw [wp_bind]
  iapply (part1 m K c (gate0 m c) t l q (xh m 0 c) (sum1 m c t.val)) $$ [Hb Hf HO Hx HA]
  · isplitr; · iexact HK
    isplitl [Hb]; · iexact Hb
    isplitl [Hf]; · iexact Hf
    isplitl [HO]; · iexact HO
    isplitl [Hx]; · iexact Hx
    iexact HA
  iintro ⟨Hb, Hw, HO, Hx, HA⟩
  dsimp only
  first | rw [wpc_bind] | rw [wp_bind]
  iapply (part2 m c t _ _ q (xh m 0 c) _) $$ [Hw Hx HA]
  · isplitl [Hw]; · iexact Hw
    isplitl [Hx]; · iexact Hx
    iexact HA
  iintro ⟨Hw, Hx, HA⟩
  simp only [Prog.lift, Prog.bind_op, Prog.bind_ret, Prog.pure_eq_ret]
  iapply (wp_w_load m c (par t.val) t.val (k0_off7_eq t)) $$ Hw; iintro Hw
  iapply (wp_load_tile 0 3 rfl (tile_subset_slot 0 3)) $$ HA; iintro HA
  iapply (wp_load_tile 0 3 rfl (tile_subset_slot 0 3)) $$ HA; iintro HA
  iapply (wp_store_tile 0 3 rfl (tile_subset_slot 0 3) (Finset.Subset.refl _)) $$ HA; iintro HA
  rw [wp_ret]; imodintro
  isplitr; · iexact HK
  isplitl [Hb]; · iexact Hb
  isplitl [Hw]; · rw [par_two]; iapply (wHas_free m c _ _) $$ Hw
  isplitl [HO]; · iexact HO
  isplitl [Hx]; · iexact Hx
  rw [sum1_succ, ← trip1_setT]; iexact HA

theorem wp_loop1 {β : Type} {Q : β → sProp (MT nD τ sig Unit (Elt F) ℕ UU ℕ)} {kk : Unit → Prog (TpuEff nD τ sig (Elt F) Λ₀ .tc) β}
    (l : List (Fin 12)) (q : PosShare TreeShare) (v100 : FVec F S512x1024 .bf16) :
    iprop(Amb m K ∗ wNext m c (0) ∗ wFree c (par (0 + 1)) ∗ Ow c l ∗ pt c mX Finset.univ q (xh m 0 c) ∗ pt c mA (acs 0) fullShare (slotM 2 (sum1 m c (0))))
      ⊢ iprop(((wNext m c (8) ∗ wFree c (par (8 + 1)) ∗ Ow c l ∗ pt c mX Finset.univ q (xh m 0 c) ∗ pt c mA (acs 0) fullShare (slotM 2 (sum1 m c (8)))) -∗ wpc c (kk ⟨⟩) Q)
        -∗ wpc c (Scf.Loop.for k0_t1_loop k0_t1_ok ⟨⟩ (k0_t1_body mX (hstage0_0 0) mR (hstage0_1 0) mI (hstage0_2 0) mV (Memref.isWhole_whole _) mO (hstage0_3 0) mXr (Memref.isWhole_whole _) mG (Memref.isWhole_whole _) mGr (Memref.isWhole_whole _) mA (Memref.isWhole_whole _) mB (Memref.isWhole_whole _) mW (Memref.isWhole_whole _) cc0_scratch6 cc0_scratch7 cc0_scratch8 cc0_scratch9 cc0_scratch10 cc0_scratch11 cc0_scratch12 cc0_scratch13 cc0_scratch14 exps (gate0 m c) v100) >>= kk) Q) := by
  iintro H Hk
  iapply (Scf.wp_for_bind frame (wpE (defs₀ (F := F)) 𝒱₀ (c : Thread nD τ) none) Set.univ k0_t1_loop.lb k0_t1_loop.ub k0_t1_loop.st k0_t1_ok ⟨⟩ (k0_t1_body mX (hstage0_0 0) mR (hstage0_1 0) mI (hstage0_2 0) mV (Memref.isWhole_whole _) mO (hstage0_3 0) mXr (Memref.isWhole_whole _) mG (Memref.isWhole_whole _) mGr (Memref.isWhole_whole _) mA (Memref.isWhole_whole _) mB (Memref.isWhole_whole _) mW (Memref.isWhole_whole _) cc0_scratch6 cc0_scratch7 cc0_scratch8 cc0_scratch9 cc0_scratch10 cc0_scratch11 cc0_scratch12 cc0_scratch13 cc0_scratch14 exps (gate0 m c) v100)
    (fun n _ => iprop(Amb m K ∗ wNext m c (n) ∗ wFree c (par (n + 1)) ∗ Ow c l ∗ pt c mX Finset.univ q (xh m 0 c) ∗ pt c mA (acs 0) fullShare (slotM 2 (sum1 m c (n)))))
    (fun t u => trip1_wp m K c l q v100 t u)) $$ H
  iintro %u ⟨-, H⟩
  iapply Hk
  iexact H

theorem part3 {Q : (Σ' (_ : BitVec 32), FVec F S2048x1 .f32) → sProp (MT nD τ sig Unit (Elt F) ℕ UU ℕ)}
    (g : FVec F S2048x8 .f32) (t : Fin k0_t2_loop.trips) (l : List (Fin 12)) (q : PosShare TreeShare) (X A : XM F) :
    iprop(Amb m K ∗ wNext m c t.val ∗ wFree c (par (t.val + 1)) ∗ Ow c l ∗ pt c mXr (xs 0) q (slotM 3 X) ∗ pt c mA (acs 0) fullShare (slotM 2 (A)))
      ⊢ iprop((wNext m c (t.val + 1) ∗ wHas m c (par t.val) t.val ∗ Ow c l ∗ pt c mXr (xs 0) q (slotM 3 X) ∗ pt c mA (acs 0) fullShare (slotM 2 (setT A 0 (k0_pay6 exps g 0#32 1#32 t (getT X 0) (up (wOne m c t.val)) (getT A 0))))
            -∗ Q ⟨Scalar.remsi (Scf.iv 0#32 1#32 t) 2#32, k0_pay5 exps g 0#32 1#32 t⟩)
          -∗ wpc c (k0_part3 mX (hstage0_0 0) mR (hstage0_1 0) mI (hstage0_2 0) mV (Memref.isWhole_whole _) mO (hstage0_3 0) mXr (Memref.isWhole_whole _) mG (Memref.isWhole_whole _) mGr (Memref.isWhole_whole _) mA (Memref.isWhole_whole _) mB (Memref.isWhole_whole _) mW (Memref.isWhole_whole _) cc0_scratch6 cc0_scratch7 cc0_scratch8 cc0_scratch9 cc0_scratch10 cc0_scratch11 cc0_scratch12 cc0_scratch13 cc0_scratch14 exps g 0#32 1#32 t) Q) := by
  have ht : t.val < 8 := t.isLt
  rw [k0_part3_eq_skeleton]; unfold k0_part3_skel
  simp only [Prog.lift, Prog.bind_op, Prog.bind_ret, Prog.pure_eq_ret]
  rw [wNext_busy m c (show t.val < 8 by omega)]
  iintro ⟨#HK, Hb, Hf, HO, Hx, HA⟩ Hk
  iapply (wp_w_wait m K c (par t.val) t.val (show t.val < 8 by omega) l (k0_off8_eq t) (by rfl)) $$ [Hb HO]
  · isplitr; · iexact HK
    isplitl [Hb]; · iexact Hb
    iexact HO
  iintro ⟨Hw, HV, HO⟩
  by_cases h : k0_cond2 t = 1#1
  · have ht' : t.val + 1 < 8 := by have := (cond2_iff t).mp h; omega
    rw [dif_pos h, wNext_busy m c ht']
    iapply (wp_w_start m c (par (t.val + 1)) (t.val + 1) ht' (k0_off11_eq t) (k0_off12_eq t) (k0_off13_eq t)) $$ [HV Hf]
    · isplitl [HV]; · iexact HV
      iexact Hf
    iintro Hb
    iapply (wp_load_tile 0 0 rfl (tile_subset_slot 0 0)) $$ Hx; iintro Hx
    iapply (wp_w_load m c (par t.val) t.val (k0_off14_eq t)) $$ Hw; iintro Hw
    iapply (wp_load_tile 0 0 rfl (tile_subset_slot 0 0)) $$ HA; iintro HA
    iapply (wp_load_tile 0 0 rfl (tile_subset_slot 0 0)) $$ HA; iintro HA
    iapply (wp_store_tile 0 0 rfl (tile_subset_slot 0 0) (Finset.Subset.refl _)) $$ HA; iintro HA
    rw [wp_ret]; imodintro; iapply Hk
    isplitl [Hb]; · iexact Hb
    isplitl [Hw]; · iexact Hw
    isplitl [HO]; · iexact HO
    isplitl [Hx]; · iexact Hx
    iexact HA
  · have ht' : ¬ t.val + 1 < 8 := fun hh => h ((cond2_iff t).mpr (by omega))
    rw [dif_neg h, wNext_done m c ht']
    iapply (wp_load_tile 0 0 rfl (tile_subset_slot 0 0)) $$ Hx; iintro Hx
    iapply (wp_w_load m c (par t.val) t.val (k0_off14_eq t)) $$ Hw; iintro Hw
    iapply (wp_load_tile 0 0 rfl (tile_subset_slot 0 0)) $$ HA; iintro HA
    iapply (wp_load_tile 0 0 rfl (tile_subset_slot 0 0)) $$ HA; iintro HA
    iapply (wp_store_tile 0 0 rfl (tile_subset_slot 0 0) (Finset.Subset.refl _)) $$ HA; iintro HA
    rw [wp_ret]; imodintro; iapply Hk
    isplitl [HV Hf]
    · isplitl [HV]; · iexact HV
      iexact Hf
    isplitl [Hw]; · iexact Hw
    isplitl [HO]; · iexact HO
    isplitl [Hx]; · iexact Hx
    iexact HA

theorem part4 {Q : PUnit → sProp (MT nD τ sig Unit (Elt F) ℕ UU ℕ)}
    (t : Fin k0_t2_loop.trips) (iv : BitVec 32) (gv : FVec F S2048x1 .f32) (q : PosShare TreeShare) (X A : XM F) :
    iprop(wHas m c (par t.val) t.val ∗ pt c mXr (xs 0) q (slotM 3 X) ∗ pt c mA (acs 0) fullShare (slotM 2 (A)))
      ⊢ iprop((wHas m c (par t.val) t.val ∗ pt c mXr (xs 0) q (slotM 3 X) ∗ pt c mA (acs 0) fullShare (slotM 2 (setT (setT A 1 (k0_pay7 gv (getT X 1) (up (wOne m c t.val)) (getT A 1))) 2 (k0_pay8 gv (getT X 2) (up (wOne m c t.val)) (getT (setT A 1 (k0_pay7 gv (getT X 1) (up (wOne m c t.val)) (getT A 1))) 2))))
            -∗ Q ⟨⟩)
          -∗ wpc c (k0_part4 mX (hstage0_0 0) mR (hstage0_1 0) mI (hstage0_2 0) mV (Memref.isWhole_whole _) mO (hstage0_3 0) mXr (Memref.isWhole_whole _) mG (Memref.isWhole_whole _) mGr (Memref.isWhole_whole _) mA (Memref.isWhole_whole _) mB (Memref.isWhole_whole _) mW (Memref.isWhole_whole _) cc0_scratch6 cc0_scratch7 cc0_scratch8 cc0_scratch9 cc0_scratch10 cc0_scratch11 cc0_scratch12 cc0_scratch13 cc0_scratch14 t iv gv) Q) := by
  rw [k0_part4_eq_skeleton]; unfold k0_part4_skel
  simp only [Prog.lift, Prog.bind_op, Prog.bind_ret, Prog.pure_eq_ret]
  iintro ⟨Hw, Hx, HA⟩ Hk
  iapply (wp_load_tile 0 1 rfl (tile_subset_slot 0 1)) $$ Hx; iintro Hx
  iapply (wp_w_load m c (par t.val) t.val (k0_off14_eq t)) $$ Hw; iintro Hw
  iapply (wp_load_tile 0 1 rfl (tile_subset_slot 0 1)) $$ HA; iintro HA
  iapply (wp_load_tile 0 1 rfl (tile_subset_slot 0 1)) $$ HA; iintro HA
  iapply (wp_store_tile 0 1 rfl (tile_subset_slot 0 1) (Finset.Subset.refl _)) $$ HA; iintro HA
  iapply (wp_load_tile 0 2 rfl (tile_subset_slot 0 2)) $$ Hx; iintro Hx
  iapply (wp_w_load m c (par t.val) t.val (k0_off14_eq t)) $$ Hw; iintro Hw
  iapply (wp_load_tile 0 2 rfl (tile_subset_slot 0 2)) $$ HA; iintro HA
  iapply (wp_load_tile 0 2 rfl (tile_subset_slot 0 2)) $$ HA; iintro HA
  iapply (wp_store_tile 0 2 rfl (tile_subset_slot 0 2) (Finset.Subset.refl _)) $$ HA; iintro HA
  rw [wp_ret]; imodintro; iapply Hk
  isplitl [Hw]; · iexact Hw
  isplitl [Hx]; · iexact Hx
  iexact HA

theorem trip2_setT (g : FVec F S2048x8 .f32) (t : Fin k0_t2_loop.trips) (X : XM F) (W : WM F) (A : XM F) :
    setT (setT (setT (setT A 0 (k0_pay6 exps g 0#32 1#32 t (getT X 0) (up W) (getT A 0))) 1 (k0_pay7 (k0_pay5 exps g 0#32 1#32 t) (getT X 1) (up W) (getT (setT A 0 (k0_pay6 exps g 0#32 1#32 t (getT X 0) (up W) (getT A 0))) 1))) 2 (k0_pay8 (k0_pay5 exps g 0#32 1#32 t) (getT X 2) (up W) (getT (setT (setT A 0 (k0_pay6 exps g 0#32 1#32 t (getT X 0) (up W) (getT A 0))) 1 (k0_pay7 (k0_pay5 exps g 0#32 1#32 t) (getT X 1) (up W) (getT (setT A 0 (k0_pay6 exps g 0#32 1#32 t (getT X 0) (up W) (getT A 0))) 1))) 2))) 3 (k0_pay40 (k0_pay5 exps g 0#32 1#32 t) (getT X 3) (up W) (getT (setT (setT (setT A 0 (k0_pay6 exps g 0#32 1#32 t (getT X 0) (up W) (getT A 0))) 1 (k0_pay7 (k0_pay5 exps g 0#32 1#32 t) (getT X 1) (up W) (getT (setT A 0 (k0_pay6 exps g 0#32 1#32 t (getT X 0) (up W) (getT A 0))) 1))) 2 (k0_pay8 (k0_pay5 exps g 0#32 1#32 t) (getT X 2) (up W) (getT (setT (setT A 0 (k0_pay6 exps g 0#32 1#32 t (getT X 0) (up W) (getT A 0))) 1 (k0_pay7 (k0_pay5 exps g 0#32 1#32 t) (getT X 1) (up W) (getT (setT A 0 (k0_pay6 exps g 0#32 1#32 t (getT X 0) (up W) (getT A 0))) 1))) 2))) 3))
      = trip2 g t X W A := by
  simp only [getT_setT_lt]
  exact setT_all A ![_, _, _, _]
theorem sum2_succ (t : Fin k0_t2_loop.trips) : sum2 m c (t.val + 1) = trip2 (gate1 m c) t (xh m 1 c) (wOne m c t.val) (sum2 m c t.val) := dif_pos t.isLt

theorem trip2_wp (l : List (Fin 12)) (q : PosShare TreeShare) (d0 : Dev nD) (v13 : BitVec 32) (t : Fin k0_t2_loop.trips) (u : Unit) :
    iprop(Amb m K ∗ wNext m c (t.val) ∗ wFree c (par (t.val + 1)) ∗ Ow c l ∗ pt c mXr (xs 0) q (slotM 3 (xh m 1 c)) ∗ pt c mA (acs 0) fullShare (slotM 2 (sum2 m c (t.val))))
      ⊢ wpc c (k0_t2_body mX (hstage0_0 0) mR (hstage0_1 0) mI (hstage0_2 0) mV (Memref.isWhole_whole _) mO (hstage0_3 0) mXr (Memref.isWhole_whole _) mG (Memref.isWhole_whole _) mGr (Memref.isWhole_whole _) mA (Memref.isWhole_whole _) mB (Memref.isWhole_whole _) mW (Memref.isWhole_whole _) cc0_scratch6 cc0_scratch7 cc0_scratch8 cc0_scratch9 cc0_scratch10 cc0_scratch11 cc0_scratch12 cc0_scratch13 cc0_scratch14 d0 v13 exps (gate1 m c) t u)
        (fun _ => iprop(Amb m K ∗ wNext m c (t.val + 1) ∗ wFree c (par (t.val + 1 + 1)) ∗ Ow c l ∗ pt c mXr (xs 0) q (slotM 3 (xh m 1 c)) ∗ pt c mA (acs 0) fullShare (slotM 2 (sum2 m c (t.val + 1))))) := by
  unfold k0_t2_body
  iintro ⟨#HK, Hb, Hf, HO, Hx, HA⟩
  first | rw [wpc_bind] | rw [wp_bind]
  iapply (part3 m K c (gate1 m c) t l q (xh m 1 c) (sum2 m c t.val)) $$ [Hb Hf HO Hx HA]
  · isplitr; · iexact HK
    isplitl [Hb]; · iexact Hb
    isplitl [Hf]; · iexact Hf
    isplitl [HO]; · iexact HO
    isplitl [Hx]; · iexact Hx
    iexact HA
  iintro ⟨Hb, Hw, HO, Hx, HA⟩
  dsimp only
  first | rw [wpc_bind] | rw [wp_bind]
  iapply (part4 m c t _ _ q (xh m 1 c) _) $$ [Hw Hx HA]
  · isplitl [Hw]; · iexact Hw
    isplitl [Hx]; · iexact Hx
    iexact HA
  iintro ⟨Hw, Hx, HA⟩
  simp only [Prog.lift, Prog.bind_op, Prog.bind_ret, Prog.pure_eq_ret]
  iapply (wp_load_tile 0 3 rfl (tile_subset_slot 0 3)) $$ Hx; iintro Hx
  iapply (wp_w_load m c (par t.val) t.val (k0_off14_eq t)) $$ Hw; iintro Hw
  iapply (wp_load_tile 0 3 rfl (tile_subset_slot 0 3)) $$ HA; iintro HA
  iapply (wp_load_tile 0 3 rfl (tile_subset_slot 0 3)) $$ HA; iintro HA
  iapply (wp_store_tile 0 3 rfl (tile_subset_slot 0 3) (Finset.Subset.refl _)) $$ HA; iintro HA
  rw [wp_ret]; imodintro
  isplitr; · iexact HK
  isplitl [Hb]; · iexact Hb
  isplitl [Hw]; · rw [par_two]; iapply (wHas_free m c _ _) $$ Hw
  isplitl [HO]; · iexact HO
  isplitl [Hx]; · iexact Hx
  rw [sum2_succ, ← trip2_setT]; iexact HA

theorem wp_loop2 {β : Type} {Q : β → sProp (MT nD τ sig Unit (Elt F) ℕ UU ℕ)} {kk : Unit → Prog (TpuEff nD τ sig (Elt F) Λ₀ .tc) β}
    (l : List (Fin 12)) (q : PosShare TreeShare) (d0 : Dev nD) (v13 : BitVec 32) :
    iprop(Amb m K ∗ wNext m c (0) ∗ wFree c (par (0 + 1)) ∗ Ow c l ∗ pt c mXr (xs 0) q (slotM 3 (xh m 1 c)) ∗ pt c mA (acs 0) fullShare (slotM 2 (sum2 m c (0))))
      ⊢ iprop(((wNext m c (8) ∗ wFree c (par (8 + 1)) ∗ Ow c l ∗ pt c mXr (xs 0) q (slotM 3 (xh m 1 c)) ∗ pt c mA (acs 0) fullShare (slotM 2 (sum2 m c (8)))) -∗ wpc c (kk ⟨⟩) Q)
        -∗ wpc c (Scf.Loop.for k0_t2_loop k0_t2_ok ⟨⟩ (k0_t2_body mX (hstage0_0 0) mR (hstage0_1 0) mI (hstage0_2 0) mV (Memref.isWhole_whole _) mO (hstage0_3 0) mXr (Memref.isWhole_whole _) mG (Memref.isWhole_whole _) mGr (Memref.isWhole_whole _) mA (Memref.isWhole_whole _) mB (Memref.isWhole_whole _) mW (Memref.isWhole_whole _) cc0_scratch6 cc0_scratch7 cc0_scratch8 cc0_scratch9 cc0_scratch10 cc0_scratch11 cc0_scratch12 cc0_scratch13 cc0_scratch14 d0 v13 exps (gate1 m c)) >>= kk) Q) := by
  iintro H Hk
  iapply (Scf.wp_for_bind frame (wpE (defs₀ (F := F)) 𝒱₀ (c : Thread nD τ) none) Set.univ k0_t2_loop.lb k0_t2_loop.ub k0_t2_loop.st k0_t2_ok ⟨⟩ (k0_t2_body mX (hstage0_0 0) mR (hstage0_1 0) mI (hstage0_2 0) mV (Memref.isWhole_whole _) mO (hstage0_3 0) mXr (Memref.isWhole_whole _) mG (Memref.isWhole_whole _) mGr (Memref.isWhole_whole _) mA (Memref.isWhole_whole _) mB (Memref.isWhole_whole _) mW (Memref.isWhole_whole _) cc0_scratch6 cc0_scratch7 cc0_scratch8 cc0_scratch9 cc0_scratch10 cc0_scratch11 cc0_scratch12 cc0_scratch13 cc0_scratch14 d0 v13 exps (gate1 m c))
    (fun n _ => iprop(Amb m K ∗ wNext m c (n) ∗ wFree c (par (n + 1)) ∗ Ow c l ∗ pt c mXr (xs 0) q (slotM 3 (xh m 1 c)) ∗ pt c mA (acs 0) fullShare (slotM 2 (sum2 m c (n)))))
    (fun t u => trip2_wp m K c l q d0 v13 t u)) $$ H
  iintro %u ⟨-, H⟩
  iapply Hk
  iexact H

theorem part5 {Q : (Σ' (_ : BitVec 32), FVec F S2048x1 .f32) → sProp (MT nD τ sig Unit (Elt F) ℕ UU ℕ)}
    (g : FVec F S2048x8 .f32) (t : Fin k0_t3_loop.trips) (l : List (Fin 12)) (q : PosShare TreeShare) (X A : XM F) :
    iprop(Amb m K ∗ wNext m c t.val ∗ wFree c (par (t.val + 1)) ∗ Ow c l ∗ pt c mXr (xs 1) q (slotM 3 X) ∗ pt c mA (acs 1) fullShare (slotM 2 (A)))
      ⊢ iprop((wNext m c (t.val + 1) ∗ wHas m c (par t.val) t.val ∗ Ow c l ∗ pt c mXr (xs 1) q (slotM 3 X) ∗ pt c mA (acs 1) fullShare (slotM 2 (setT A 0 (k0_pay10 exps g 0#32 1#32 t (getT X 0) (up (wOne m c t.val)) (getT A 0))))
            -∗ Q ⟨Scalar.remsi (Scf.iv 0#32 1#32 t) 2#32, k0_pay9 exps g 0#32 1#32 t⟩)
          -∗ wpc c (k0_part5 mX (hstage0_0 0) mR (hstage0_1 0) mI (hstage0_2 0) mV (Memref.isWhole_whole _) mO (hstage0_3 0) mXr (Memref.isWhole_whole _) mG (Memref.isWhole_whole _) mGr (Memref.isWhole_whole _) mA (Memref.isWhole_whole _) mB (Memref.isWhole_whole _) mW (Memref.isWhole_whole _) cc0_scratch6 cc0_scratch7 cc0_scratch8 cc0_scratch9 cc0_scratch10 cc0_scratch11 cc0_scratch12 cc0_scratch13 cc0_scratch14 exps g 0#32 1#32 t) Q) := by
  have ht : t.val < 8 := t.isLt
  rw [k0_part5_eq_skeleton]; unfold k0_part5_skel
  simp only [Prog.lift, Prog.bind_op, Prog.bind_ret, Prog.pure_eq_ret]
  rw [wNext_busy m c (show t.val < 8 by omega)]
  iintro ⟨#HK, Hb, Hf, HO, Hx, HA⟩ Hk
  iapply (wp_w_wait m K c (par t.val) t.val (show t.val < 8 by omega) l (k0_off15_eq t) (by rfl)) $$ [Hb HO]
  · isplitr; · iexact HK
    isplitl [Hb]; · iexact Hb
    iexact HO
  iintro ⟨Hw, HV, HO⟩
  by_cases h : k0_cond3 t = 1#1
  · have ht' : t.val + 1 < 8 := by have := (cond3_iff t).mp h; omega
    rw [dif_pos h, wNext_busy m c ht']
    iapply (wp_w_start m c (par (t.val + 1)) (t.val + 1) ht' (k0_off18_eq t) (k0_off19_eq t) (k0_off20_eq t)) $$ [HV Hf]
    · isplitl [HV]; · iexact HV
      iexact Hf
    iintro Hb
    iapply (wp_load_tile 1 0 rfl (tile_subset_slot 1 0)) $$ Hx; iintro Hx
    iapply (wp_w_load m c (par t.val) t.val (k0_off21_eq t)) $$ Hw; iintro Hw
    iapply (wp_load_tile 1 0 rfl (tile_subset_slot 1 0)) $$ HA; iintro HA
    iapply (wp_load_tile 1 0 rfl (tile_subset_slot 1 0)) $$ HA; iintro HA
    iapply (wp_store_tile 1 0 rfl (tile_subset_slot 1 0) (Finset.Subset.refl _)) $$ HA; iintro HA
    rw [wp_ret]; imodintro; iapply Hk
    isplitl [Hb]; · iexact Hb
    isplitl [Hw]; · iexact Hw
    isplitl [HO]; · iexact HO
    isplitl [Hx]; · iexact Hx
    iexact HA
  · have ht' : ¬ t.val + 1 < 8 := fun hh => h ((cond3_iff t).mpr (by omega))
    rw [dif_neg h, wNext_done m c ht']
    iapply (wp_load_tile 1 0 rfl (tile_subset_slot 1 0)) $$ Hx; iintro Hx
    iapply (wp_w_load m c (par t.val) t.val (k0_off21_eq t)) $$ Hw; iintro Hw
    iapply (wp_load_tile 1 0 rfl (tile_subset_slot 1 0)) $$ HA; iintro HA
    iapply (wp_load_tile 1 0 rfl (tile_subset_slot 1 0)) $$ HA; iintro HA
    iapply (wp_store_tile 1 0 rfl (tile_subset_slot 1 0) (Finset.Subset.refl _)) $$ HA; iintro HA
    rw [wp_ret]; imodintro; iapply Hk
    isplitl [HV Hf]
    · isplitl [HV]; · iexact HV
      iexact Hf
    isplitl [Hw]; · iexact Hw
    isplitl [HO]; · iexact HO
    isplitl [Hx]; · iexact Hx
    iexact HA

theorem part6 {Q : PUnit → sProp (MT nD τ sig Unit (Elt F) ℕ UU ℕ)}
    (t : Fin k0_t3_loop.trips) (iv : BitVec 32) (gv : FVec F S2048x1 .f32) (q : PosShare TreeShare) (X A : XM F) :
    iprop(wHas m c (par t.val) t.val ∗ pt c mXr (xs 1) q (slotM 3 X) ∗ pt c mA (acs 1) fullShare (slotM 2 (A)))
      ⊢ iprop((wHas m c (par t.val) t.val ∗ pt c mXr (xs 1) q (slotM 3 X) ∗ pt c mA (acs 1) fullShare (slotM 2 (setT (setT A 1 (k0_pay11 gv (getT X 1) (up (wOne m c t.val)) (getT A 1))) 2 (k0_pay12 gv (getT X 2) (up (wOne m c t.val)) (getT (setT A 1 (k0_pay11 gv (getT X 1) (up (wOne m c t.val)) (getT A 1))) 2))))
            -∗ Q ⟨⟩)
          -∗ wpc c (k0_part6 mX (hstage0_0 0) mR (hstage0_1 0) mI (hstage0_2 0) mV (Memref.isWhole_whole _) mO (hstage0_3 0) mXr (Memref.isWhole_whole _) mG (Memref.isWhole_whole _) mGr (Memref.isWhole_whole _) mA (Memref.isWhole_whole _) mB (Memref.isWhole_whole _) mW (Memref.isWhole_whole _) cc0_scratch6 cc0_scratch7 cc0_scratch8 cc0_scratch9 cc0_scratch10 cc0_scratch11 cc0_scratch12 cc0_scratch13 cc0_scratch14 t iv gv) Q) := by
  rw [k0_part6_eq_skeleton]; unfold k0_part6_skel
  simp only [Prog.lift, Prog.bind_op, Prog.bind_ret, Prog.pure_eq_ret]
  iintro ⟨Hw, Hx, HA⟩ Hk
  iapply (wp_load_tile 1 1 rfl (tile_subset_slot 1 1)) $$ Hx; iintro Hx
  iapply (wp_w_load m c (par t.val) t.val (k0_off21_eq t)) $$ Hw; iintro Hw
  iapply (wp_load_tile 1 1 rfl (tile_subset_slot 1 1)) $$ HA; iintro HA
  iapply (wp_load_tile 1 1 rfl (tile_subset_slot 1 1)) $$ HA; iintro HA
  iapply (wp_store_tile 1 1 rfl (tile_subset_slot 1 1) (Finset.Subset.refl _)) $$ HA; iintro HA
  iapply (wp_load_tile 1 2 rfl (tile_subset_slot 1 2)) $$ Hx; iintro Hx
  iapply (wp_w_load m c (par t.val) t.val (k0_off21_eq t)) $$ Hw; iintro Hw
  iapply (wp_load_tile 1 2 rfl (tile_subset_slot 1 2)) $$ HA; iintro HA
  iapply (wp_load_tile 1 2 rfl (tile_subset_slot 1 2)) $$ HA; iintro HA
  iapply (wp_store_tile 1 2 rfl (tile_subset_slot 1 2) (Finset.Subset.refl _)) $$ HA; iintro HA
  rw [wp_ret]; imodintro; iapply Hk
  isplitl [Hw]; · iexact Hw
  isplitl [Hx]; · iexact Hx
  iexact HA

theorem trip3_setT (g : FVec F S2048x8 .f32) (t : Fin k0_t3_loop.trips) (X : XM F) (W : WM F) (A : XM F) :
    setT (setT (setT (setT A 0 (k0_pay10 exps g 0#32 1#32 t (getT X 0) (up W) (getT A 0))) 1 (k0_pay11 (k0_pay9 exps g 0#32 1#32 t) (getT X 1) (up W) (getT (setT A 0 (k0_pay10 exps g 0#32 1#32 t (getT X 0) (up W) (getT A 0))) 1))) 2 (k0_pay12 (k0_pay9 exps g 0#32 1#32 t) (getT X 2) (up W) (getT (setT (setT A 0 (k0_pay10 exps g 0#32 1#32 t (getT X 0) (up W) (getT A 0))) 1 (k0_pay11 (k0_pay9 exps g 0#32 1#32 t) (getT X 1) (up W) (getT (setT A 0 (k0_pay10 exps g 0#32 1#32 t (getT X 0) (up W) (getT A 0))) 1))) 2))) 3 (k0_pay46 (k0_pay9 exps g 0#32 1#32 t) (getT X 3) (up W) (getT (setT (setT (setT A 0 (k0_pay10 exps g 0#32 1#32 t (getT X 0) (up W) (getT A 0))) 1 (k0_pay11 (k0_pay9 exps g 0#32 1#32 t) (getT X 1) (up W) (getT (setT A 0 (k0_pay10 exps g 0#32 1#32 t (getT X 0) (up W) (getT A 0))) 1))) 2 (k0_pay12 (k0_pay9 exps g 0#32 1#32 t) (getT X 2) (up W) (getT (setT (setT A 0 (k0_pay10 exps g 0#32 1#32 t (getT X 0) (up W) (getT A 0))) 1 (k0_pay11 (k0_pay9 exps g 0#32 1#32 t) (getT X 1) (up W) (getT (setT A 0 (k0_pay10 exps g 0#32 1#32 t (getT X 0) (up W) (getT A 0))) 1))) 2))) 3))
      = trip3 g t X W A := by
  simp only [getT_setT_lt]
  exact setT_all A ![_, _, _, _]
theorem sum3_succ (t : Fin k0_t3_loop.trips) : sum3 m c (t.val + 1) = trip3 (gate2 m c) t (xh m 2 c) (wOne m c t.val) (sum3 m c t.val) := dif_pos t.isLt

theorem trip3_wp (l : List (Fin 12)) (q : PosShare TreeShare) (v68 : FVec F S32x8 .bf16) (v227 : Vec F S1x2048x32 .bf16) (hg : k0_pay41 v68 v227 = gate2 m c) (t : Fin k0_t3_loop.trips) (u : Unit) :
    iprop(Amb m K ∗ wNext m c (t.val) ∗ wFree c (par (t.val + 1)) ∗ Ow c l ∗ pt c mXr (xs 1) q (slotM 3 (xh m 2 c)) ∗ pt c mA (acs 1) fullShare (slotM 2 (sum3 m c (t.val))))
      ⊢ wpc c (k0_t3_body mX (hstage0_0 0) mR (hstage0_1 0) mI (hstage0_2 0) mV (Memref.isWhole_whole _) mO (hstage0_3 0) mXr (Memref.isWhole_whole _) mG (Memref.isWhole_whole _) mGr (Memref.isWhole_whole _) mA (Memref.isWhole_whole _) mB (Memref.isWhole_whole _) mW (Memref.isWhole_whole _) cc0_scratch6 cc0_scratch7 cc0_scratch8 cc0_scratch9 cc0_scratch10 cc0_scratch11 cc0_scratch12 cc0_scratch13 cc0_scratch14 v68 exps v227 t u)
        (fun _ => iprop(Amb m K ∗ wNext m c (t.val + 1) ∗ wFree c (par (t.val + 1 + 1)) ∗ Ow c l ∗ pt c mXr (xs 1) q (slotM 3 (xh m 2 c)) ∗ pt c mA (acs 1) fullShare (slotM 2 (sum3 m c (t.val + 1))))) := by
  unfold k0_t3_body
  rw [hg]
  iintro ⟨#HK, Hb, Hf, HO, Hx, HA⟩
  first | rw [wpc_bind] | rw [wp_bind]
  iapply (part5 m K c (gate2 m c) t l q (xh m 2 c) (sum3 m c t.val)) $$ [Hb Hf HO Hx HA]
  · isplitr; · iexact HK
    isplitl [Hb]; · iexact Hb
    isplitl [Hf]; · iexact Hf
    isplitl [HO]; · iexact HO
    isplitl [Hx]; · iexact Hx
    iexact HA
  iintro ⟨Hb, Hw, HO, Hx, HA⟩
  dsimp only
  first | rw [wpc_bind] | rw [wp_bind]
  iapply (part6 m c t _ _ q (xh m 2 c) _) $$ [Hw Hx HA]
  · isplitl [Hw]; · iexact Hw
    isplitl [Hx]; · iexact Hx
    iexact HA
  iintro ⟨Hw, Hx, HA⟩
  simp only [Prog.lift, Prog.bind_op, Prog.bind_ret, Prog.pure_eq_ret]
  iapply (wp_load_tile 1 3 rfl (tile_subset_slot 1 3)) $$ Hx; iintro Hx
  iapply (wp_w_load m c (par t.val) t.val (k0_off21_eq t)) $$ Hw; iintro Hw
  iapply (wp_load_tile 1 3 rfl (tile_subset_slot 1 3)) $$ HA; iintro HA
  iapply (wp_load_tile 1 3 rfl (tile_subset_slot 1 3)) $$ HA; iintro HA
  iapply (wp_store_tile 1 3 rfl (tile_subset_slot 1 3) (Finset.Subset.refl _)) $$ HA; iintro HA
  rw [wp_ret]; imodintro
  isplitr; · iexact HK
  isplitl [Hb]; · iexact Hb
  isplitl [Hw]; · rw [par_two]; iapply (wHas_free m c _ _) $$ Hw
  isplitl [HO]; · iexact HO
  isplitl [Hx]; · iexact Hx
  rw [sum3_succ, ← trip3_setT]; iexact HA

theorem wp_loop3 {β : Type} {Q : β → sProp (MT nD τ sig Unit (Elt F) ℕ UU ℕ)} {kk : Unit → Prog (TpuEff nD τ sig (Elt F) Λ₀ .tc) β}
    (l : List (Fin 12)) (q : PosShare TreeShare) (v68 : FVec F S32x8 .bf16) (v227 : Vec F S1x2048x32 .bf16) (hg : k0_pay41 v68 v227 = gate2 m c) :
    iprop(Amb m K ∗ wNext m c (0) ∗ wFree c (par (0 + 1)) ∗ Ow c l ∗ pt c mXr (xs 1) q (slotM 3 (xh m 2 c)) ∗ pt c mA (acs 1) fullShare (slotM 2 (sum3 m c (0))))
      ⊢ iprop(((wNext m c (8) ∗ wFree c (par (8 + 1)) ∗ Ow c l ∗ pt c mXr (xs 1) q (slotM 3 (xh m 2 c)) ∗ pt c mA (acs 1) fullShare (slotM 2 (sum3 m c (8)))) -∗ wpc c (kk ⟨⟩) Q)
        -∗ wpc c (Scf.Loop.for k0_t3_loop k0_t3_ok ⟨⟩ (k0_t3_body mX (hstage0_0 0) mR (hstage0_1 0) mI (hstage0_2 0) mV (Memref.isWhole_whole _) mO (hstage0_3 0) mXr (Memref.isWhole_whole _) mG (Memref.isWhole_whole _) mGr (Memref.isWhole_whole _) mA (Memref.isWhole_whole _) mB (Memref.isWhole_whole _) mW (Memref.isWhole_whole _) cc0_scratch6 cc0_scratch7 cc0_scratch8 cc0_scratch9 cc0_scratch10 cc0_scratch11 cc0_scratch12 cc0_scratch13 cc0_scratch14 v68 exps v227) >>= kk) Q) := by
  iintro H Hk
  iapply (Scf.wp_for_bind frame (wpE (defs₀ (F := F)) 𝒱₀ (c : Thread nD τ) none) Set.univ k0_t3_loop.lb k0_t3_loop.ub k0_t3_loop.st k0_t3_ok ⟨⟩ (k0_t3_body mX (hstage0_0 0) mR (hstage0_1 0) mI (hstage0_2 0) mV (Memref.isWhole_whole _) mO (hstage0_3 0) mXr (Memref.isWhole_whole _) mG (Memref.isWhole_whole _) mGr (Memref.isWhole_whole _) mA (Memref.isWhole_whole _) mB (Memref.isWhole_whole _) mW (Memref.isWhole_whole _) cc0_scratch6 cc0_scratch7 cc0_scratch8 cc0_scratch9 cc0_scratch10 cc0_scratch11 cc0_scratch12 cc0_scratch13 cc0_scratch14 v68 exps v227)
    (fun n _ => iprop(Amb m K ∗ wNext m c (n) ∗ wFree c (par (n + 1)) ∗ Ow c l ∗ pt c mXr (xs 1) q (slotM 3 (xh m 2 c)) ∗ pt c mA (acs 1) fullShare (slotM 2 (sum3 m c (n)))))
    (fun t u => trip3_wp m K c l q v68 v227 hg t u)) $$ H
  iintro %u ⟨-, H⟩
  iapply Hk
  iexact H

theorem part7 {Q : (Σ' (_ : BitVec 32) (_ : FVec F S2048x1 .f32) (_ : FVec F S512x1024 .f32), FVec F S512x1024 .f32) → sProp (MT nD τ sig Unit (Elt F) ℕ UU ℕ)}
    (g : FVec F S2048x8 .f32) (t : Fin k0_t4_loop.trips) (l : List (Fin 12)) (q : PosShare TreeShare) (X A : XM F) :
    iprop(Amb m K ∗ wNext m c t.val ∗ wFree c (par (t.val + 1)) ∗ Ow c l ∗ pt c mXr (xs 2) q (slotM 3 X) ∗ pt c mA (acs 0) fullShare (slotM 2 (A)))
      ⊢ iprop((wNext m c (t.val + 1) ∗ wHas m c (par t.val) t.val ∗ Ow c l ∗ pt c mXr (xs 2) q (slotM 3 X) ∗ pt c mA (acs 0) fullShare (slotM 2 (A))
            -∗ Q ⟨Scalar.remsi (Scf.iv 0#32 1#32 t) 2#32, k0_pay13 exps g 0#32 1#32 t, k0_pay14 (getT A 0), k0_pay15 exps g 0#32 1#32 t (getT X 0) (up (wOne m c t.val))⟩)
          -∗ wpc c (k0_part7 mX (hstage0_0 0) mR (hstage0_1 0) mI (hstage0_2 0) mV (Memref.isWhole_whole _) mO (hstage0_3 0) mXr (Memref.isWhole_whole _) mG (Memref.isWhole_whole _) mGr (Memref.isWhole_whole _) mA (Memref.isWhole_whole _) mB (Memref.isWhole_whole _) mW (Memref.isWhole_whole _) cc0_scratch6 cc0_scratch7 cc0_scratch8 cc0_scratch9 cc0_scratch10 cc0_scratch11 cc0_scratch12 cc0_scratch13 cc0_scratch14 exps g 0#32 1#32 t) Q) := by
  have ht : t.val < 7 := t.isLt
  rw [k0_part7_eq_skeleton]; unfold k0_part7_skel
  simp only [Prog.lift, Prog.bind_op, Prog.bind_ret, Prog.pure_eq_ret]
  rw [wNext_busy m c (show t.val < 8 by omega)]
  iintro ⟨#HK, Hb, Hf, HO, Hx, HA⟩ Hk
  iapply (wp_w_wait m K c (par t.val) t.val (show t.val < 8 by omega) l (k0_off22_eq t) (by rfl)) $$ [Hb HO]
  · isplitr; · iexact HK
    isplitl [Hb]; · iexact Hb
    iexact HO
  iintro ⟨Hw, HV, HO⟩
  rw [wNext_busy m c (show t.val + 1 < 8 by omega)]
  iapply (wp_w_start m c (par (t.val + 1)) (t.val + 1) (by omega) (k0_off25_eq t) (k0_off26_eq t) (k0_off27_eq t)) $$ [HV Hf]
  · isplitl [HV]; · iexact HV
    iexact Hf
  iintro Hb
  iapply (wp_load_tile 2 0 rfl (tile_subset_slot 2 0)) $$ Hx; iintro Hx
  iapply (wp_w_load m c (par t.val) t.val (k0_off28_eq t)) $$ Hw; iintro Hw
  iapply (wp_load_tile 0 0 rfl (tile_subset_slot 0 0)) $$ HA; iintro HA
  rw [wp_ret]; imodintro; iapply Hk
  isplitl [Hb]; · iexact Hb
  isplitl [Hw]; · iexact Hw
  isplitl [HO]; · iexact HO
  isplitl [Hx]; · iexact Hx
  iexact HA

theorem part8 {Q : (Σ' (_ : FVec F S512x1024 .f32), FVec F S512x1024 .f32) → sProp (MT nD τ sig Unit (Elt F) ℕ UU ℕ)}
    (t : Fin k0_t4_loop.trips) (iv : BitVec 32) (gv : FVec F S2048x1 .f32) (v658 v661 : FVec F S512x1024 .f32) (q : PosShare TreeShare) (X A : XM F) :
    iprop(wHas m c (par t.val) t.val ∗ pt c mXr (xs 2) q (slotM 3 X) ∗ pt c mA (acs 0) fullShare (slotM 2 (A)))
      ⊢ iprop((wHas m c (par t.val) t.val ∗ pt c mXr (xs 2) q (slotM 3 X) ∗ pt c mA (acs 0) fullShare (slotM 2 (setT (setT A 0 (k0_pay16 v658 v661)) 1 (k0_pay17 gv (getT X 1) (up (wOne m c t.val)) (getT (setT A 0 (k0_pay16 v658 v661)) 1))))
            -∗ Q ⟨k0_pay18 (getT (setT (setT A 0 (k0_pay16 v658 v661)) 1 (k0_pay17 gv (getT X 1) (up (wOne m c t.val)) (getT (setT A 0 (k0_pay16 v658 v661)) 1))) 2), k0_pay19 gv (getT X 2) (up (wOne m c t.val))⟩)
          -∗ wpc c (k0_part8 mX (hstage0_0 0) mR (hstage0_1 0) mI (hstage0_2 0) mV (Memref.isWhole_whole _) mO (hstage0_3 0) mXr (Memref.isWhole_whole _) mG (Memref.isWhole_whole _) mGr (Memref.isWhole_whole _) mA (Memref.isWhole_whole _) mB (Memref.isWhole_whole _) mW (Memref.isWhole_whole _) cc0_scratch6 cc0_scratch7 cc0_scratch8 cc0_scratch9 cc0_scratch10 cc0_scratch11 cc0_scratch12 cc0_scratch13 cc0_scratch14 t iv gv v658 v661) Q) := by
  rw [k0_part8_eq_skeleton]; unfold k0_part8_skel
  simp only [Prog.lift, Prog.bind_op, Prog.bind_ret, Prog.pure_eq_ret]
  iintro ⟨Hw, Hx, HA⟩ Hk
  iapply (wp_load_tile 0 0 rfl (tile_subset_slot 0 0)) $$ HA; iintro HA
  iapply (wp_store_tile 0 0 rfl (tile_subset_slot 0 0) (Finset.Subset.refl _)) $$ HA; iintro HA
  iapply (wp_load_tile 2 1 rfl (tile_subset_slot 2 1)) $$ Hx; iintro Hx
  iapply (wp_w_load m c (par t.val) t.val (k0_off28_eq t)) $$ Hw; iintro Hw
  iapply (wp_load_tile 0 1 rfl (tile_subset_slot 0 1)) $$ HA; iintro HA
  iapply (wp_load_tile 0 1 rfl (tile_subset_slot 0 1)) $$ HA; iintro HA
  iapply (wp_store_tile 0 1 rfl (tile_subset_slot 0 1) (Finset.Subset.refl _)) $$ HA; iintro HA
  iapply (wp_load_tile 2 2 rfl (tile_subset_slot 2 2)) $$ Hx; iintro Hx
  iapply (wp_w_load m c (par t.val) t.val (k0_off28_eq t)) $$ Hw; iintro Hw
  iapply (wp_load_tile 0 2 rfl (tile_subset_slot 0 2)) $$ HA; iintro HA
  rw [wp_ret]; imodintro; iapply Hk
  isplitl [Hw]; · iexact Hw
  isplitl [Hx]; · iexact Hx
  iexact HA

theorem trip4_setT (g : FVec F S2048x8 .f32) (t : Fin k0_t4_loop.trips) (X : XM F) (W : WM F) (A : XM F) :
    setT (setT (setT (setT A 0 (k0_pay16 (k0_pay14 (getT A 0)) (k0_pay15 exps g 0#32 1#32 t (getT X 0) (up W)))) 1 (k0_pay17 (k0_pay13 exps g 0#32 1#32 t) (getT X 1) (up W) (getT (setT A 0 (k0_pay16 (k0_pay14 (getT A 0)) (k0_pay15 exps g 0#32 1#32 t (getT X 0) (up W)))) 1))) 2 (k0_pay56 (k0_pay18 (getT (setT (setT A 0 (k0_pay16 (k0_pay14 (getT A 0)) (k0_pay15 exps g 0#32 1#32 t (getT X 0) (up W)))) 1 (k0_pay17 (k0_pay13 exps g 0#32 1#32 t) (getT X 1) (up W) (getT (setT A 0 (k0_pay16 (k0_pay14 (getT A 0)) (k0_pay15 exps g 0#32 1#32 t (getT X 0) (up W)))) 1))) 2)) (k0_pay19 (k0_pay13 exps g 0#32 1#32 t) (getT X 2) (up W)))) 3 (k0_pay57 (k0_pay13 exps g 0#32 1#32 t) (getT X 3) (up W) (getT (setT (setT (setT A 0 (k0_pay16 (k0_pay14 (getT A 0)) (k0_pay15 exps g 0#32 1#32 t (getT X 0) (up W)))) 1 (k0_pay17 (k0_pay13 exps g 0#32 1#32 t) (getT X 1) (up W) (getT (setT A 0 (k0_pay16 (k0_pay14 (getT A 0)) (k0_pay15 exps g 0#32 1#32 t (getT X 0) (up W)))) 1))) 2 (k0_pay56 (k0_pay18 (getT (setT (setT A 0 (k0_pay16 (k0_pay14 (getT A 0)) (k0_pay15 exps g 0#32 1#32 t (getT X 0) (up W)))) 1 (k0_pay17 (k0_pay13 exps g 0#32 1#32 t) (getT X 1) (up W) (getT (setT A 0 (k0_pay16 (k0_pay14 (getT A 0)) (k0_pay15 exps g 0#32 1#32 t (getT X 0) (up W)))) 1))) 2)) (k0_pay19 (k0_pay13 exps g 0#32 1#32 t) (getT X 2) (up W)))) 3))
      = trip4 g t X W A := by
  simp only [getT_setT_lt]
  exact setT_all A ![_, _, _, _]
theorem sum4_succ (t : Fin k0_t4_loop.trips) : sum4 m c (t.val + 1) = trip4 (gate3 m c) t (xh m 3 c) (wOne m c t.val) (sum4 m c t.val) := dif_pos t.isLt

theorem trip4_wp (l : List (Fin 12)) (q : PosShare TreeShare) (v68 : FVec F S32x8 .bf16) (v337 : Vec F S1x2048x32 .bf16) (hg : k0_pay51 v68 v337 = gate3 m c) (t : Fin k0_t4_loop.trips) (u : Unit) :
    iprop(Amb m K ∗ wNext m c (t.val) ∗ wFree c (par (t.val + 1)) ∗ Ow c l ∗ pt c mXr (xs 2) q (slotM 3 (xh m 3 c)) ∗ pt c mA (acs 0) fullShare (slotM 2 (sum4 m c (t.val))))
      ⊢ wpc c (k0_t4_body mX (hstage0_0 0) mR (hstage0_1 0) mI (hstage0_2 0) mV (Memref.isWhole_whole _) mO (hstage0_3 0) mXr (Memref.isWhole_whole _) mG (Memref.isWhole_whole _) mGr (Memref.isWhole_whole _) mA (Memref.isWhole_whole _) mB (Memref.isWhole_whole _) mW (Memref.isWhole_whole _) cc0_scratch6 cc0_scratch7 cc0_scratch8 cc0_scratch9 cc0_scratch10 cc0_scratch11 cc0_scratch12 cc0_scratch13 cc0_scratch14 v68 exps v337 t u)
        (fun _ => iprop(Amb m K ∗ wNext m c (t.val + 1) ∗ wFree c (par (t.val + 1 + 1)) ∗ Ow c l ∗ pt c mXr (xs 2) q (slotM 3 (xh m 3 c)) ∗ pt c mA (acs 0) fullShare (slotM 2 (sum4 m c (t.val + 1))))) := by
  unfold k0_t4_body
  rw [hg]
  iintro ⟨#HK, Hb, Hf, HO, Hx, HA⟩
  first | rw [wpc_bind] | rw [wp_bind]
  iapply (part7 m K c (gate3 m c) t l q (xh m 3 c) (sum4 m c t.val)) $$ [Hb Hf HO Hx HA]
  · isplitr; · iexact HK
    isplitl [Hb]; · iexact Hb
    isplitl [Hf]; · iexact Hf
    isplitl [HO]; · iexact HO
    isplitl [Hx]; · iexact Hx
    iexact HA
  iintro ⟨Hb, Hw, HO, Hx, HA⟩
  dsimp only
  first | rw [wpc_bind] | rw [wp_bind]
  iapply (part8 m c t _ _ _ _ q (xh m 3 c) _) $$ [Hw Hx HA]
  · isplitl [Hw]; · iexact Hw
    isplitl [Hx]; · iexact Hx
    iexact HA
  iintro ⟨Hw, Hx, HA⟩
  simp only [Prog.lift, Prog.bind_op, Prog.bind_ret, Prog.pure_eq_ret]
  iapply (wp_load_tile 0 2 rfl (tile_subset_slot 0 2)) $$ HA; iintro HA
  iapply (wp_store_tile 0 2 rfl (tile_subset_slot 0 2) (Finset.Subset.refl _)) $$ HA; iintro HA
  iapply (wp_load_tile 2 3 rfl (tile_subset_slot 2 3)) $$ Hx; iintro Hx
  iapply (wp_w_load m c (par t.val) t.val (k0_off28_eq t)) $$ Hw; iintro Hw
  iapply (wp_load_tile 0 3 rfl (tile_subset_slot 0 3)) $$ HA; iintro HA
  iapply (wp_load_tile 0 3 rfl (tile_subset_slot 0 3)) $$ HA; iintro HA
  iapply (wp_store_tile 0 3 rfl (tile_subset_slot 0 3) (Finset.Subset.refl _)) $$ HA; iintro HA
  rw [wp_ret]; imodintro
  isplitr; · iexact HK
  isplitl [Hb]; · iexact Hb
  isplitl [Hw]; · rw [par_two]; iapply (wHas_free m c _ _) $$ Hw
  isplitl [HO]; · iexact HO
  isplitl [Hx]; · iexact Hx
  rw [sum4_succ, ← trip4_setT]; iexact HA

theorem wp_loop4 {β : Type} {Q : β → sProp (MT nD τ sig Unit (Elt F) ℕ UU ℕ)} {kk : Unit → Prog (TpuEff nD τ sig (Elt F) Λ₀ .tc) β}
    (l : List (Fin 12)) (q : PosShare TreeShare) (v68 : FVec F S32x8 .bf16) (v337 : Vec F S1x2048x32 .bf16) (hg : k0_pay51 v68 v337 = gate3 m c) :
    iprop(Amb m K ∗ wNext m c (0) ∗ wFree c (par (0 + 1)) ∗ Ow c l ∗ pt c mXr (xs 2) q (slotM 3 (xh m 3 c)) ∗ pt c mA (acs 0) fullShare (slotM 2 (sum4 m c (0))))
      ⊢ iprop(((wNext m c (7) ∗ wFree c (par (7 + 1)) ∗ Ow c l ∗ pt c mXr (xs 2) q (slotM 3 (xh m 3 c)) ∗ pt c mA (acs 0) fullShare (slotM 2 (sum4 m c (7)))) -∗ wpc c (kk ⟨⟩) Q)
        -∗ wpc c (Scf.Loop.for k0_t4_loop k0_t4_ok ⟨⟩ (k0_t4_body mX (hstage0_0 0) mR (hstage0_1 0) mI (hstage0_2 0) mV (Memref.isWhole_whole _) mO (hstage0_3 0) mXr (Memref.isWhole_whole _) mG (Memref.isWhole_whole _) mGr (Memref.isWhole_whole _) mA (Memref.isWhole_whole _) mB (Memref.isWhole_whole _) mW (Memref.isWhole_whole _) cc0_scratch6 cc0_scratch7 cc0_scratch8 cc0_scratch9 cc0_scratch10 cc0_scratch11 cc0_scratch12 cc0_scratch13 cc0_scratch14 v68 exps v337) >>= kk) Q) := by
  iintro H Hk
  iapply (Scf.wp_for_bind frame (wpE (defs₀ (F := F)) 𝒱₀ (c : Thread nD τ) none) Set.univ k0_t4_loop.lb k0_t4_loop.ub k0_t4_loop.st k0_t4_ok ⟨⟩ (k0_t4_body mX (hstage0_0 0) mR (hstage0_1 0) mI (hstage0_2 0) mV (Memref.isWhole_whole _) mO (hstage0_3 0) mXr (Memref.isWhole_whole _) mG (Memref.isWhole_whole _) mGr (Memref.isWhole_whole _) mA (Memref.isWhole_whole _) mB (Memref.isWhole_whole _) mW (Memref.isWhole_whole _) cc0_scratch6 cc0_scratch7 cc0_scratch8 cc0_scratch9 cc0_scratch10 cc0_scratch11 cc0_scratch12 cc0_scratch13 cc0_scratch14 v68 exps v337)
    (fun n _ => iprop(Amb m K ∗ wNext m c (n) ∗ wFree c (par (n + 1)) ∗ Ow c l ∗ pt c mXr (xs 2) q (slotM 3 (xh m 3 c)) ∗ pt c mA (acs 0) fullShare (slotM 2 (sum4 m c (n)))))
    (fun t u => trip4_wp m K c l q v68 v337 hg t u)) $$ H
  iintro %u ⟨-, H⟩
  iapply Hk
  iexact H

end Cert.KernelIdeal.Moe

end
-- ==== Proof.KernelIdeal.StepsA.lean ====
/-
# The first half of the body

Each piece of the program up to the second hop, as a rule: what it takes, what it leaves.
-/
module

public import proofs.«01_k».proof.Proof.KernelIdeal.Trips

@[expose] public section

noncomputable section

namespace Cert.KernelIdeal.Moe

open Cert.KernelIdeal Cert.KernelIdeal.Gen Cert.Moe
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (m : (ℓ : Loc nD τ sig) → Buf (Elt F) ℓ) (K : Dev nD × CI → ℕ)
variable {α : Type}
variable (c : Dev nD)

theorem dev1_eq : (⟨k0_dev1 c, k0_dev1_lt c⟩ : Dev nD) = prv c := by revert c; decide +kernel
theorem dev2_eq : (⟨k0_dev2 c, k0_dev2_lt c⟩ : Dev nD) = nxt c := by revert c; decide +kernel
theorem dev3_eq : (⟨k0_dev3 c, k0_dev3_lt c⟩ : Dev nD) = nxt c := by revert c; decide +kernel
theorem dev4_eq : (⟨k0_dev4 c, k0_dev4_lt c⟩ : Dev nD) = nxt c := by revert c; decide +kernel
theorem dev5_eq : (⟨k0_dev5 c, k0_dev5_lt c⟩ : Dev nD) = nxt c := by revert c; decide +kernel
theorem dev6_eq : (⟨k0_dev6 c, k0_dev6_lt c⟩ : Dev nD) = nxt c := by revert c; decide +kernel
theorem dev7_eq : (⟨k0_dev7 c, k0_dev7_lt c⟩ : Dev nD) = nxt c := by revert c; decide +kernel
theorem dev8_eq : (⟨k0_dev8 c, k0_dev8_lt c⟩ : Dev nD) = nxt c := by revert c; decide +kernel
theorem dev9_eq : (⟨k0_dev9 c, k0_dev9_lt c⟩ : Dev nD) = nxt c := by revert c; decide +kernel
theorem dev10_eq : (⟨k0_dev10 c, k0_dev10_lt c⟩ : Dev nD) = nxt c := by revert c; decide +kernel
theorem dev11_eq : (⟨k0_dev11 c, k0_dev11_lt c⟩ : Dev nD) = nxt c := by revert c; decide +kernel
theorem dev12_eq : (⟨k0_dev12 c, k0_dev12_lt c⟩ : Dev nD) = nxt c := by revert c; decide +kernel
theorem dev13_eq : (⟨k0_dev13 c, k0_dev13_lt c⟩ : Dev nD) = nxt c := by revert c; decide +kernel
theorem dev14_eq : (⟨k0_dev14 c, k0_dev14_lt c⟩ : Dev nD) = nxt c := by revert c; decide +kernel

theorem barPay_split : (barPay c : sProp (MT nD τ sig Unit (Elt F) ℕ UU ℕ)) = iprop(dstPay c 0 ∗ dstPay c 1 ∗ dstPay c 2 ∗ dstPay c 3 ∗ dstPay c 4 ∗ dstPay c 5 ∗ dstPay c 6 ∗ dstPay c 7 ∗ dstPay c 8 ∗ dstPay c 9 ∗ dstPay c 10 ∗ dstPay c 11) := by
  unfold barPay
  rw [bigSep_univ_eq_bigSepL ([0, 1, 2, 3, 4, 5, 6, 7, 8, 9, 10, 11] : List (Fin 12)) (by decide) (by decide)]
  rfl

theorem part9 {Q : (Σ' (d0 : Dev nD) (v2 : BitVec 32) (v13 : BitVec 32) (v24 : BitVec 32) (v29 : FVec F S2048x32 .f32) (v30 : IVec S2048x32 32), IVec S2048x32 1) → sProp (MT nD τ sig Unit (Elt F) ℕ UU ℕ)} :
    iprop(Amb m K ∗ pt c mX Finset.univ fullShare (xh m 0 c) ∗ pt c mR Finset.univ fullShare (rin m c) ∗ pt c mI Finset.univ fullShare (iin m c))
      ⊢ iprop((∀ v13 v24, (pt c mX Finset.univ fullShare (xh m 0 c) ∗ pt c mR Finset.univ fullShare (rin m c) ∗ pt c mI Finset.univ fullShare (iin m c)) -∗ Q ⟨c, Scalar.remsi (Scalar.divsi (Dev.word c) 1#32) 4#32, v13, v24, k0_pay20 (xh m 0 c) (rin m c), iota .tc S2048x32 32 [1] iota_S2048x32_d1_w32, k0_pay21 (icol0 m c)⟩)
          -∗ wpc c (k0_part9 mX (hstage0_0 0) mR (hstage0_1 0) mI (hstage0_2 0) mV (Memref.isWhole_whole _) mO (hstage0_3 0) mXr (Memref.isWhole_whole _) mG (Memref.isWhole_whole _) mGr (Memref.isWhole_whole _) mA (Memref.isWhole_whole _) mB (Memref.isWhole_whole _) mW (Memref.isWhole_whole _) cc0_scratch6 cc0_scratch7 cc0_scratch8 cc0_scratch9 cc0_scratch10 cc0_scratch11 cc0_scratch12 cc0_scratch13 cc0_scratch14 ) Q) := by
  rw [k0_part9_eq_skeleton]; unfold k0_part9_skel
  simp only [Prog.lift, Prog.bind_op, Prog.bind_ret, Prog.pure_eq_ret, semSignalWord, semWaitWord, wp_deviceId]
  iintro ⟨#HK, Hx, Hr, Hi⟩ Hk
  iapply (wp_load_mat rfl) $$ Hx; iintro Hx
  iapply (wp_load_mat rfl) $$ Hr; iintro Hr
  iapply (wp_load_part c (m := mI) (R := Finset.univ) (Finset.subset_univ _)) $$ Hi; iintro Hi
  rw [show (fun x : (Rect.unit (s := S2048x2) ![0, 0] ![2048, 1] inb_S2048x2_S2048x1_0_0).toLoadRect.shape.Idx => iin m c ((Rect.unit (s := S2048x2) ![0, 0] ![2048, 1] inb_S2048x2_S2048x1_0_0).toLoadRect.idx x)) = icol0 m c from rfl]
  first | rw [wp_ret] | (unfold wpc; rw [wp_ret])
  imodintro; iapply Hk
  isplitl [Hx]; · iexact Hx
  isplitl [Hr]; · iexact Hr
  iexact Hi

theorem part10 {Q : (Σ' (v68 : FVec F S32x8 .bf16) (v69 : IVec S2048x8 32) (v70 : BitVec 32), BitVec 32) → sProp (MT nD τ sig Unit (Elt F) ℕ UU ℕ)} (G0 : GM F) (v13 v24 : BitVec 32) (W : Waits sig Unit) :
    iprop(Amb m K ∗ pt c mI Finset.univ fullShare (iin m c) ∗ pt c mG Finset.univ fullShare G0 ∗ BOut c ∗ barPay c ∗ owes (c : Thread nD τ) (O₀ c) W ∗ BIn c)
      ⊢ iprop((∀ v70, (pt c mI Finset.univ fullShare (iin m c) ∗ pt c mG Finset.univ fullShare (gh m 0 c) ∗ semVal (barCell c) 0 ∗ Ow c [0, 1, 2, 3, 4, 5, 6, 7, 8, 9, 10, 11] ∗ dstPay (F := F) (nxt c) 0 ∗ dstPay (F := F) (nxt c) 1 ∗ dstPay (F := F) (nxt c) 2 ∗ dstPay (F := F) (nxt c) 3 ∗ dstPay (F := F) (nxt c) 4 ∗ dstPay (F := F) (nxt c) 5 ∗ dstPay (F := F) (nxt c) 6 ∗ dstPay (F := F) (nxt c) 7 ∗ dstPay (F := F) (nxt c) 8 ∗ dstPay (F := F) (nxt c) 9 ∗ dstPay (F := F) (nxt c) 10 ∗ dstPay (F := F) (nxt c) 11) -∗ Q ⟨sel c, exps, v70, 0#32⟩)
          -∗ wpc c (k0_part10 mX (hstage0_0 0) mR (hstage0_1 0) mI (hstage0_2 0) mV (Memref.isWhole_whole _) mO (hstage0_3 0) mXr (Memref.isWhole_whole _) mG (Memref.isWhole_whole _) mGr (Memref.isWhole_whole _) mA (Memref.isWhole_whole _) mB (Memref.isWhole_whole _) mW (Memref.isWhole_whole _) cc0_scratch6 cc0_scratch7 cc0_scratch8 cc0_scratch9 cc0_scratch10 cc0_scratch11 cc0_scratch12 cc0_scratch13 cc0_scratch14  c (Scalar.remsi (Scalar.divsi (Dev.word c) 1#32) 4#32) v13 v24 (k0_pay20 (xh m 0 c) (rin m c)) (iota .tc S2048x32 32 [1] iota_S2048x32_d1_w32) (k0_pay21 (icol0 m c))) Q) := by
  rw [k0_part10_eq_skeleton]; unfold k0_part10_skel
  simp only [Prog.lift, Prog.bind_op, Prog.bind_ret, Prog.pure_eq_ret, semSignalWord, semWaitWord, wp_deviceId]
  iintro ⟨#HK, Hi, Hg, HBO, HBP, HO0, HBI⟩ Hk
  iapply (wp_load_part c (m := mI) (R := Finset.univ) (Finset.subset_univ _)) $$ Hi; iintro Hi
  rw [show (fun x : (Rect.unit (s := S2048x2) ![0, 1] ![2048, 1] inb_S2048x2_S2048x1_0_1).toLoadRect.shape.Idx => iin m c ((Rect.unit (s := S2048x2) ![0, 1] ![2048, 1] inb_S2048x2_S2048x1_0_1).toLoadRect.idx x)) = icol1 m c from rfl]
  iapply (wp_load_mat rfl) $$ Hg; iintro Hg
  iapply (wp_store_mat rfl) $$ Hg; iintro Hg
  ihave Hg := (show pt c mG Finset.univ fullShare (k0_pay22 (k0_pay20 (xh m 0 c) (rin m c)) (iota .tc S2048x32 32 [1] iota_S2048x32_d1_w32) (k0_pay21 (icol0 m c)) (icol1 m c)) ⊢ pt c mG Finset.univ fullShare (gh m 0 c) from Entails.rfl) $$ Hg
  icases (show BOut c ⊢ iprop(dutyTok ER (barCell (prv c)) 0 true ∗ dutyTok ER (barCell (nxt c)) 0 false) from Entails.rfl) $$ HBO with ⟨HB1, HB2⟩
  iapply (wp_sig_prv m K c (dev1_eq c)) $$ [HBP HB1 HO0]
  · isplitr; · iexact HK
    isplitl [HBP]; · iexact HBP
    isplitl [HB1]; · iexact HB1
    iexact HO0
  iintro HO
  iapply (wp_sig_nxt m K c (dev2_eq c)) $$ [HB2 HO]
  · isplitr; · iexact HK
    isplitl [HB2]; · iexact HB2
    iexact HO
  iintro HO
  iapply (wp_bar_wait m K c) $$ [HBI HO]
  · isplitr; · iexact HK
    isplitl [HBI]; · iexact HBI
    iexact HO
  iintro ⟨HBN, HZb, HO⟩
  ihave HBN := (show barPay (nxt c) ⊢ iprop(dstPay (nxt c) 0 ∗ dstPay (nxt c) 1 ∗ dstPay (nxt c) 2 ∗ dstPay (nxt c) 3 ∗ dstPay (nxt c) 4 ∗ dstPay (nxt c) 5 ∗ dstPay (nxt c) 6 ∗ dstPay (nxt c) 7 ∗ dstPay (nxt c) 8 ∗ dstPay (nxt c) 9 ∗ dstPay (nxt c) 10 ∗ dstPay (nxt c) 11) from Entails.of_eq (barPay_split (nxt c))) $$ HBN
  icases HBN with ⟨HD0, HD1, HD2, HD3, HD4, HD5, HD6, HD7, HD8, HD9, HD10, HD11⟩
  first | rw [wp_ret] | (unfold wpc; rw [wp_ret])
  rw [show k0_pay23 (F := F) (Scalar.remsi (Scalar.divsi (Dev.word c) 1#32) 4#32) = sel c from rfl]
  imodintro; iapply Hk
  isplitl [Hi]; · iexact Hi
  isplitl [Hg]; · iexact Hg
  isplitl [HZb]; · iexact HZb
  isplitl [HO]; · iexact HO
  isplitl [HD0]; · iexact HD0
  isplitl [HD1]; · iexact HD1
  isplitl [HD2]; · iexact HD2
  isplitl [HD3]; · iexact HD3
  isplitl [HD4]; · iexact HD4
  isplitl [HD5]; · iexact HD5
  isplitl [HD6]; · iexact HD6
  isplitl [HD7]; · iexact HD7
  isplitl [HD8]; · iexact HD8
  isplitl [HD9]; · iexact HD9
  isplitl [HD10]; · iexact HD10
  iexact HD11

theorem part11 {Q : (Σ' (v87 : FVec F S2048x8 .f32), FVec F S512x1024 .bf16) → sProp (MT nD τ sig Unit (Elt F) ℕ UU ℕ)} (A0 : XM F) (v13 : BitVec 32) (v70 c0 : BitVec 32) :
    iprop(Amb m K ∗ pt c mX Finset.univ fullShare (xh m 0 c) ∗ dstPay (F := F) (nxt c) 0 ∗ SOut 0 c ∗ Ow c [0, 1, 2, 3, 4, 5, 6, 7, 8, 9, 10, 11] ∗ pt c mG Finset.univ fullShare (gh m 0 c) ∗ dstPay (F := F) (nxt c) 1 ∗ SOut 1 c ∗ pt c mA (acs 0) fullShare (slotM 2 (A0)))
      ⊢ iprop(((pt c mA (acs 0) fullShare (slotM 2 (setT (setT (setT (A0) 0 (k0_pay25)) 1 (k0_pay26)) 2 (k0_pay27))) ∗ Ow c [2, 3, 4, 5, 6, 7, 8, 9, 10, 11] ∗ pt c mX Finset.univ qR (xh m 0 c) ∗ SBack 0 c ∗ pt c mG Finset.univ qR (gh m 0 c) ∗ SBack 1 c) -∗ Q ⟨gate0 m c, k0_pay28⟩)
          -∗ wpc c (k0_part11 mX (hstage0_0 0) mR (hstage0_1 0) mI (hstage0_2 0) mV (Memref.isWhole_whole _) mO (hstage0_3 0) mXr (Memref.isWhole_whole _) mG (Memref.isWhole_whole _) mGr (Memref.isWhole_whole _) mA (Memref.isWhole_whole _) mB (Memref.isWhole_whole _) mW (Memref.isWhole_whole _) cc0_scratch6 cc0_scratch7 cc0_scratch8 cc0_scratch9 cc0_scratch10 cc0_scratch11 cc0_scratch12 cc0_scratch13 cc0_scratch14  c v13 (sel c) v70 c0) Q) := by
  rw [k0_part11_eq_skeleton]; unfold k0_part11_skel
  simp only [Prog.lift, Prog.bind_op, Prog.bind_ret, Prog.pure_eq_ret]
  iintro ⟨#HK, Hx, HD0, HSj0, HO, Hg, HD1, HSj1, HA0⟩ Hk
  icases (part_share c mX Finset.univ fullShare (xh m 0 c)).1 $$ Hx with ⟨HxL, Hx⟩
  ihave HxL := (show pt c mX Finset.univ qL (xh m 0 c) ⊢ sndPay m c 0 from Entails.rfl) $$ HxL
  iapply (wp_send_0 m K c [1, 2, 3, 4, 5, 6, 7, 8, 9, 10, 11] (dev3_eq c) (by rfl) (by rfl)) $$ [HxL HD0 HSj0 HO]
  · isplitr; · iexact HK
    isplitl [HxL]; · iexact HxL
    isplitl [HD0]; · iexact HD0
    isplitl [HSj0]; · iexact HSj0
    iexact HO
  iintro ⟨HBj0, HO⟩
  icases (part_share c mG Finset.univ fullShare (gh m 0 c)).1 $$ Hg with ⟨HgL, Hg⟩
  ihave HgL := (show pt c mG Finset.univ qL (gh m 0 c) ⊢ sndPay m c 1 from Entails.rfl) $$ HgL
  iapply (wp_send_1 m K c [2, 3, 4, 5, 6, 7, 8, 9, 10, 11] (dev4_eq c) (by rfl) (by rfl)) $$ [HgL HD1 HSj1 HO]
  · isplitr; · iexact HK
    isplitl [HgL]; · iexact HgL
    isplitl [HD1]; · iexact HD1
    isplitl [HSj1]; · iexact HSj1
    iexact HO
  iintro ⟨HBj1, HO⟩
  iapply (wp_load_mat rfl) $$ Hg; iintro Hg
  iapply (wp_load_tile 0 0 rfl (tile_subset_slot 0 0)) $$ HA0; iintro HA0
  iapply (wp_store_tile 0 0 rfl (tile_subset_slot 0 0) (Finset.Subset.refl _)) $$ HA0; iintro HA0
  iapply (wp_load_tile 0 1 rfl (tile_subset_slot 0 1)) $$ HA0; iintro HA0
  iapply (wp_store_tile 0 1 rfl (tile_subset_slot 0 1) (Finset.Subset.refl _)) $$ HA0; iintro HA0
  iapply (wp_load_tile 0 2 rfl (tile_subset_slot 0 2)) $$ HA0; iintro HA0
  iapply (wp_store_tile 0 2 rfl (tile_subset_slot 0 2) (Finset.Subset.refl _)) $$ HA0; iintro HA0
  first | rw [wp_ret] | (unfold wpc; rw [wp_ret])
  rw [show k0_pay24 (sel c) (gh m 0 c) = gate0 m c from rfl]
  imodintro; iapply Hk
  isplitl [HA0]; · iexact HA0
  isplitl [HO]; · iexact HO
  isplitl [Hx]; · iexact Hx
  isplitl [HBj0]; · iexact HBj0
  isplitl [Hg]; · iexact Hg
  iexact HBj1

theorem part12 {Q : (FVec F S512x1024 .bf16) → sProp (MT nD τ sig Unit (Elt F) ℕ UU ℕ)} (A0 O0 : XM F) :
    iprop(Amb m K ∗ pt c mA (acs 0) fullShare (slotM 2 (setT (setT (setT (A0) 0 (k0_pay25)) 1 (k0_pay26)) 2 (k0_pay27))) ∗ wHbm m c ∗ wFree c (par 0) ∗ wFree c (par 1) ∗ Ow c [2, 3, 4, 5, 6, 7, 8, 9, 10, 11] ∗ pt c mX Finset.univ qR (xh m 0 c) ∗ pt c mO Finset.univ fullShare O0)
      ⊢ iprop(((pt c mO Finset.univ fullShare (setR (setR (setR (O0) 0 (k0_pay31 (getT (sum1 m c 8) 0))) 1 (k0_pay32 (getT (sum1 m c 8) 1))) 2 (k0_pay33 (getT (sum1 m c 8) 2))) ∗ pt c mA (acs 0) fullShare (slotM 2 (sum1 m c 8)) ∗ wFree c (par 1) ∗ Ow c [2, 3, 4, 5, 6, 7, 8, 9, 10, 11] ∗ pt c mX Finset.univ qR (xh m 0 c) ∗ wHbm m c ∗ wFree c (par 0)) -∗ Q (k0_pay34 (getT (sum1 m c 8) 3)))
          -∗ wpc c (k0_part12 mX (hstage0_0 0) mR (hstage0_1 0) mI (hstage0_2 0) mV (Memref.isWhole_whole _) mO (hstage0_3 0) mXr (Memref.isWhole_whole _) mG (Memref.isWhole_whole _) mGr (Memref.isWhole_whole _) mA (Memref.isWhole_whole _) mB (Memref.isWhole_whole _) mW (Memref.isWhole_whole _) cc0_scratch6 cc0_scratch7 cc0_scratch8 cc0_scratch9 cc0_scratch10 cc0_scratch11 cc0_scratch12 cc0_scratch13 cc0_scratch14  exps (gate0 m c) k0_pay28) Q) := by
  rw [k0_part12_eq_skeleton]; unfold k0_part12_skel
  simp only [Prog.lift, Prog.bind_op, Prog.bind_ret, Prog.pure_eq_ret]
  iintro ⟨#HK, HA0, HV, HF0, HF1, HO, Hx, Ho⟩ Hk
  iapply (wp_load_tile 0 3 rfl (tile_subset_slot 0 3)) $$ HA0; iintro HA0
  iapply (wp_store_tile 0 3 rfl (tile_subset_slot 0 3) (Finset.Subset.refl _)) $$ HA0; iintro HA0
  ihave HA0 := (show pt c mA (acs 0) fullShare (slotM 2 (setT (setT (setT (setT (A0) 0 (k0_pay25)) 1 (k0_pay26)) 2 (k0_pay27)) 3 (k0_pay29 k0_pay28))) ⊢ pt c mA (acs 0) fullShare (slotM 2 (sum1 m c (0))) from Entails.of_eq (congrArg (fun Z => pt c mA (acs 0) fullShare (slotM 2 Z)) (setT_all A0 ![k0_pay25, k0_pay26, k0_pay27, k0_pay29 k0_pay28]))) $$ HA0
  iapply (wp_w_start m c (par 0) 0 (by decide) (by rfl) (by rfl) (by rfl)) $$ [HV HF0]
  · isplitl [HV]; · iexact HV
    iexact HF0
  iintro HW
  ihave HW := (show wBusy m c (par 0) 0 ⊢ wNext m c 0 from Entails.of_eq (wNext_busy m c (by decide)).symm) $$ HW
  ihave HF1 := (show wFree c (par 1) ⊢ wFree c (par (0 + 1)) from Entails.rfl) $$ HF1
  iapply (wp_loop1 m K c [2, 3, 4, 5, 6, 7, 8, 9, 10, 11] qR k0_pay28) $$ [HW HF1 HO Hx HA0]
  · isplitr; · iexact HK
    isplitl [HW]; · iexact HW
    isplitl [HF1]; · iexact HF1
    isplitl [HO]; · iexact HO
    isplitl [Hx]; · iexact Hx
    iexact HA0
  iintro ⟨HW, HF1, HO, Hx, HA0⟩
  ihave HF1 := (show wFree c (par (8 + 1)) ⊢ wFree c (par 1) from Entails.rfl) $$ HF1
  icases (Entails.of_eq (wNext_done m c (n := 8) (by decide))) $$ HW with ⟨HV, HF0⟩
  ihave HF0 := (show wFree c (par 8) ⊢ wFree c (par 0) from Entails.rfl) $$ HF0
  iapply (wp_load_tile 0 0 rfl (tile_subset_slot 0 0)) $$ HA0; iintro HA0
  iapply (wp_load_rows 0 rfl) $$ Ho; iintro Ho
  iapply (wp_store_rows 0 rfl) $$ Ho; iintro Ho
  iapply (wp_load_tile 0 1 rfl (tile_subset_slot 0 1)) $$ HA0; iintro HA0
  iapply (wp_load_rows 1 rfl) $$ Ho; iintro Ho
  iapply (wp_store_rows 1 rfl) $$ Ho; iintro Ho
  iapply (wp_load_tile 0 2 rfl (tile_subset_slot 0 2)) $$ HA0; iintro HA0
  iapply (wp_load_rows 2 rfl) $$ Ho; iintro Ho
  iapply (wp_store_rows 2 rfl) $$ Ho; iintro Ho
  iapply (wp_load_tile 0 3 rfl (tile_subset_slot 0 3)) $$ HA0; iintro HA0
  first | rw [wp_ret] | (unfold wpc; rw [wp_ret])
  imodintro; iapply Hk
  isplitl [Ho]; · iexact Ho
  isplitl [HA0]; · iexact HA0
  isplitl [HF1]; · iexact HF1
  isplitl [HO]; · iexact HO
  isplitl [Hx]; · iexact Hx
  isplitl [HV]; · iexact HV
  iexact HF0

theorem part13 {Q : (PUnit) → sProp (MT nD τ sig Unit (Elt F) ℕ UU ℕ)} (O0 : XM F) (v13 : BitVec 32) :
    iprop(Amb m K ∗ pt c mO Finset.univ fullShare (setR (setR (setR (O0) 0 (k0_pay31 (getT (sum1 m c 8) 0))) 1 (k0_pay32 (getT (sum1 m c 8) 1))) 2 (k0_pay33 (getT (sum1 m c 8) 2))) ∗ RIn 0 c ∗ Ow c [2, 3, 4, 5, 6, 7, 8, 9, 10, 11] ∗ RIn 1 c ∗ dstPay (F := F) (nxt c) 2 ∗ SOut 2 c)
      ⊢ iprop(((pt c mO Finset.univ fullShare (own m c) ∗ Ow c [3, 4, 5, 6, 7, 8, 9, 10, 11] ∗ Zr 0 c ∗ Zr 1 c ∗ pt c mGr (gs 0) fullShare (slotM 3 (gh m 1 c)) ∗ pt c mXr (xs 0) qR (slotM 3 (xh m 1 c)) ∗ SBack 2 c) -∗ Q ⟨⟩)
          -∗ wpc c (k0_part13 mX (hstage0_0 0) mR (hstage0_1 0) mI (hstage0_2 0) mV (Memref.isWhole_whole _) mO (hstage0_3 0) mXr (Memref.isWhole_whole _) mG (Memref.isWhole_whole _) mGr (Memref.isWhole_whole _) mA (Memref.isWhole_whole _) mB (Memref.isWhole_whole _) mW (Memref.isWhole_whole _) cc0_scratch6 cc0_scratch7 cc0_scratch8 cc0_scratch9 cc0_scratch10 cc0_scratch11 cc0_scratch12 cc0_scratch13 cc0_scratch14  c v13 (k0_pay34 (getT (sum1 m c 8) 3))) Q) := by
  rw [k0_part13_eq_skeleton]; unfold k0_part13_skel
  simp only [Prog.lift, Prog.bind_op, Prog.bind_ret, Prog.pure_eq_ret]
  iintro ⟨#HK, Ho, HRj0, HO, HRj1, HD2, HSj2⟩ Hk
  iapply (wp_load_rows 3 rfl) $$ Ho; iintro Ho
  iapply (wp_store_rows 3 rfl) $$ Ho; iintro Ho
  ihave Ho := (show pt c mO Finset.univ fullShare (setR (setR (setR (setR (O0) 0 (k0_pay31 (getT (sum1 m c 8) 0))) 1 (k0_pay32 (getT (sum1 m c 8) 1))) 2 (k0_pay33 (getT (sum1 m c 8) 2))) 3 (k0_pay34 (getT (sum1 m c 8) 3))) ⊢ pt c mO Finset.univ fullShare (own m c) from Entails.of_eq (congrArg (fun Z => pt c mO Finset.univ fullShare Z) (setR_all O0 ![k0_pay31 (getT (sum1 m c 8) 0), k0_pay32 (getT (sum1 m c 8) 1), k0_pay33 (getT (sum1 m c 8) 2), k0_pay34 (getT (sum1 m c 8) 3)]))) $$ Ho
  iapply (wp_recv m K c 0 [2, 3, 4, 5, 6, 7, 8, 9, 10, 11] (by rfl) (by decide) (by rfl)) $$ [HRj0 HO]
  · isplitr; · iexact HK
    isplitl [HRj0]; · iexact HRj0
    iexact HO
  iintro ⟨Hx0, HZr0, HO⟩
  ihave Hx0 := (show rcvPay m c 0 ⊢ pt c mXr (xs 0) fullShare (slotM 3 (xh m 1 c)) from Entails.rfl) $$ Hx0
  iapply (wp_recv m K c 1 [2, 3, 4, 5, 6, 7, 8, 9, 10, 11] (by rfl) (by decide) (by rfl)) $$ [HRj1 HO]
  · isplitr; · iexact HK
    isplitl [HRj1]; · iexact HRj1
    iexact HO
  iintro ⟨Hg0, HZr1, HO⟩
  ihave Hg0 := (show rcvPay m c 1 ⊢ pt c mGr (gs 0) fullShare (slotM 3 (gh m 1 c)) from Entails.rfl) $$ Hg0
  icases (part_share c mXr (xs 0) fullShare (slotM 3 (xh m 1 c))).1 $$ Hx0 with ⟨Hx0L, Hx0⟩
  ihave Hx0L := (show pt c mXr (xs 0) qL (slotM 3 (xh m 1 c)) ⊢ sndPay m c 2 from Entails.rfl) $$ Hx0L
  iapply (wp_send_2 m K c [3, 4, 5, 6, 7, 8, 9, 10, 11] (dev5_eq c) (by rfl) (by rfl)) $$ [Hx0L HD2 HSj2 HO]
  · isplitr; · iexact HK
    isplitl [Hx0L]; · iexact Hx0L
    isplitl [HD2]; · iexact HD2
    isplitl [HSj2]; · iexact HSj2
    iexact HO
  iintro ⟨HBj2, HO⟩
  first | rw [wp_ret] | (unfold wpc; rw [wp_ret])
  imodintro; iapply Hk
  isplitl [Ho]; · iexact Ho
  isplitl [HO]; · iexact HO
  isplitl [HZr0]; · iexact HZr0
  isplitl [HZr1]; · iexact HZr1
  isplitl [Hg0]; · iexact Hg0
  isplitl [Hx0]; · iexact Hx0
  iexact HBj2

theorem part14 {Q : (FVec F S2048x8 .f32) → sProp (MT nD τ sig Unit (Elt F) ℕ UU ℕ)} :
    iprop(Amb m K ∗ pt c mGr (gs 0) fullShare (slotM 3 (gh m 1 c)) ∗ dstPay (F := F) (nxt c) 3 ∗ SOut 3 c ∗ Ow c [3, 4, 5, 6, 7, 8, 9, 10, 11] ∗ pt c mA (acs 0) fullShare (slotM 2 (sum1 m c 8)))
      ⊢ iprop(((pt c mA (acs 0) fullShare (slotM 2 (sum2 m c (0))) ∗ Ow c [4, 5, 6, 7, 8, 9, 10, 11] ∗ pt c mGr (gs 0) qR (slotM 3 (gh m 1 c)) ∗ SBack 3 c) -∗ Q (gate1 m c))
          -∗ wpc c (k0_part14 mX (hstage0_0 0) mR (hstage0_1 0) mI (hstage0_2 0) mV (Memref.isWhole_whole _) mO (hstage0_3 0) mXr (Memref.isWhole_whole _) mG (Memref.isWhole_whole _) mGr (Memref.isWhole_whole _) mA (Memref.isWhole_whole _) mB (Memref.isWhole_whole _) mW (Memref.isWhole_whole _) cc0_scratch6 cc0_scratch7 cc0_scratch8 cc0_scratch9 cc0_scratch10 cc0_scratch11 cc0_scratch12 cc0_scratch13 cc0_scratch14  c (sel c)) Q) := by
  rw [k0_part14_eq_skeleton]; unfold k0_part14_skel
  simp only [Prog.lift, Prog.bind_op, Prog.bind_ret, Prog.pure_eq_ret]
  iintro ⟨#HK, Hg0, HD3, HSj3, HO, HA0⟩ Hk
  icases (part_share c mGr (gs 0) fullShare (slotM 3 (gh m 1 c))).1 $$ Hg0 with ⟨Hg0L, Hg0⟩
  ihave Hg0L := (show pt c mGr (gs 0) qL (slotM 3 (gh m 1 c)) ⊢ sndPay m c 3 from Entails.rfl) $$ Hg0L
  iapply (wp_send_3 m K c [4, 5, 6, 7, 8, 9, 10, 11] (dev6_eq c) (by rfl) (by rfl)) $$ [Hg0L HD3 HSj3 HO]
  · isplitr; · iexact HK
    isplitl [Hg0L]; · iexact Hg0L
    isplitl [HD3]; · iexact HD3
    isplitl [HSj3]; · iexact HSj3
    iexact HO
  iintro ⟨HBj3, HO⟩
  iapply (wp_load_slot 0 rfl) $$ Hg0; iintro Hg0
  iapply (wp_load_tile 0 0 rfl (tile_subset_slot 0 0)) $$ HA0; iintro HA0
  iapply (wp_store_tile 0 0 rfl (tile_subset_slot 0 0) (Finset.Subset.refl _)) $$ HA0; iintro HA0
  iapply (wp_load_tile 0 1 rfl (tile_subset_slot 0 1)) $$ HA0; iintro HA0
  iapply (wp_store_tile 0 1 rfl (tile_subset_slot 0 1) (Finset.Subset.refl _)) $$ HA0; iintro HA0
  iapply (wp_load_tile 0 2 rfl (tile_subset_slot 0 2)) $$ HA0; iintro HA0
  iapply (wp_store_tile 0 2 rfl (tile_subset_slot 0 2) (Finset.Subset.refl _)) $$ HA0; iintro HA0
  iapply (wp_load_tile 0 3 rfl (tile_subset_slot 0 3)) $$ HA0; iintro HA0
  iapply (wp_store_tile 0 3 rfl (tile_subset_slot 0 3) (Finset.Subset.refl _)) $$ HA0; iintro HA0
  ihave HA0 := (show pt c mA (acs 0) fullShare (slotM 2 (setT (setT (setT (setT (sum1 m c 8) 0 (k0_pay36)) 1 (k0_pay37)) 2 (k0_pay38)) 3 (k0_pay39))) ⊢ pt c mA (acs 0) fullShare (slotM 2 (sum2 m c (0))) from Entails.of_eq (congrArg (fun Z => pt c mA (acs 0) fullShare (slotM 2 Z)) (setT_all (sum1 m c 8) ![k0_pay36, k0_pay37, k0_pay38, k0_pay39]))) $$ HA0
  first | rw [wp_ret] | (unfold wpc; rw [wp_ret])
  rw [show k0_pay35 (sel c) (up (gh m 1 c)) = gate1 m c from rfl]
  imodintro; iapply Hk
  isplitl [HA0]; · iexact HA0
  isplitl [HO]; · iexact HO
  isplitl [Hg0]; · iexact Hg0
  iexact HBj3

end Cert.KernelIdeal.Moe

end
-- ==== Proof.KernelIdeal.StepsB.lean ====
/-
# The middle of the body

The pieces of the program around the second and third hops, as rules.
-/
module

public import proofs.«01_k».proof.Proof.KernelIdeal.StepsA

@[expose] public section

noncomputable section

namespace Cert.KernelIdeal.Moe

open Cert.KernelIdeal Cert.KernelIdeal.Gen Cert.Moe
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (m : (ℓ : Loc nD τ sig) → Buf (Elt F) ℓ) (K : Dev nD × CI → ℕ)
variable {α : Type}
variable (c : Dev nD)

theorem part15 {Q : (PUnit) → sProp (MT nD τ sig Unit (Elt F) ℕ UU ℕ)} (v13 : BitVec 32) :
    iprop(Amb m K ∗ wHbm m c ∗ wFree c (par 0) ∗ wFree c (par 1) ∗ Ow c [4, 5, 6, 7, 8, 9, 10, 11] ∗ pt c mXr (xs 0) qR (slotM 3 (xh m 1 c)) ∗ pt c mA (acs 0) fullShare (slotM 2 (sum2 m c (0))) ∗ dstPay (F := F) (nxt c) 4 ∗ SOut 4 c ∗ RIn 2 c)
      ⊢ iprop(((wFree c (par 1) ∗ Ow c [5, 6, 7, 8, 9, 10, 11] ∗ pt c mXr (xs 0) qR (slotM 3 (xh m 1 c)) ∗ wHbm m c ∗ wFree c (par 0) ∗ SBack 4 c ∗ Zr 2 c ∗ pt c mXr (xs 1) fullShare (slotM 3 (xh m 2 c))) -∗ Q ⟨⟩)
          -∗ wpc c (k0_part15 mX (hstage0_0 0) mR (hstage0_1 0) mI (hstage0_2 0) mV (Memref.isWhole_whole _) mO (hstage0_3 0) mXr (Memref.isWhole_whole _) mG (Memref.isWhole_whole _) mGr (Memref.isWhole_whole _) mA (Memref.isWhole_whole _) mB (Memref.isWhole_whole _) mW (Memref.isWhole_whole _) cc0_scratch6 cc0_scratch7 cc0_scratch8 cc0_scratch9 cc0_scratch10 cc0_scratch11 cc0_scratch12 cc0_scratch13 cc0_scratch14  c v13 exps (gate1 m c)) Q) := by
  rw [k0_part15_eq_skeleton]; unfold k0_part15_skel
  simp only [Prog.lift, Prog.bind_op, Prog.bind_ret, Prog.pure_eq_ret]
  iintro ⟨#HK, HV, HF0, HF1, HO, Hx0, HA0, HD4, HSj4, HRj2⟩ Hk
  iapply (wp_w_start m c (par 0) 0 (by decide) (by rfl) (by rfl) (by rfl)) $$ [HV HF0]
  · isplitl [HV]; · iexact HV
    iexact HF0
  iintro HW
  ihave HW := (show wBusy m c (par 0) 0 ⊢ wNext m c 0 from Entails.of_eq (wNext_busy m c (by decide)).symm) $$ HW
  ihave HF1 := (show wFree c (par 1) ⊢ wFree c (par (0 + 1)) from Entails.rfl) $$ HF1
  iapply (wp_loop2 m K c [4, 5, 6, 7, 8, 9, 10, 11] qR c v13) $$ [HW HF1 HO Hx0 HA0]
  · isplitr; · iexact HK
    isplitl [HW]; · iexact HW
    isplitl [HF1]; · iexact HF1
    isplitl [HO]; · iexact HO
    isplitl [Hx0]; · iexact Hx0
    iexact HA0
  iintro ⟨HW, HF1, HO, Hx0, HA0⟩
  ihave HF1 := (show wFree c (par (8 + 1)) ⊢ wFree c (par 1) from Entails.rfl) $$ HF1
  icases (Entails.of_eq (wNext_done m c (n := 8) (by decide))) $$ HW with ⟨HV, HF0⟩
  ihave HF0 := (show wFree c (par 8) ⊢ wFree c (par 0) from Entails.rfl) $$ HF0
  ihave HA0 := (show pt c mA (acs 0) fullShare (slotM 2 (sum2 m c 8)) ⊢ pt c mA (acs 0) fullShare (slotM 2 (pass1 m c)) from Entails.rfl) $$ HA0
  ihave HA0 := (show pt c mA (acs 0) fullShare (slotM 2 (pass1 m c)) ⊢ sndPay m c 4 from Entails.rfl) $$ HA0
  iapply (wp_send_4 m K c [5, 6, 7, 8, 9, 10, 11] (dev7_eq c) (by rfl) (by rfl)) $$ [HA0 HD4 HSj4 HO]
  · isplitr; · iexact HK
    isplitl [HA0]; · iexact HA0
    isplitl [HD4]; · iexact HD4
    isplitl [HSj4]; · iexact HSj4
    iexact HO
  iintro ⟨HBj4, HO⟩
  iapply (wp_recv m K c 2 [5, 6, 7, 8, 9, 10, 11] (by rfl) (by decide) (by rfl)) $$ [HRj2 HO]
  · isplitr; · iexact HK
    isplitl [HRj2]; · iexact HRj2
    iexact HO
  iintro ⟨Hx1, HZr2, HO⟩
  ihave Hx1 := (show rcvPay m c 2 ⊢ pt c mXr (xs 1) fullShare (slotM 3 (xh m 2 c)) from Entails.rfl) $$ Hx1
  first | rw [wp_ret] | (unfold wpc; rw [wp_ret])
  imodintro; iapply Hk
  isplitl [HF1]; · iexact HF1
  isplitl [HO]; · iexact HO
  isplitl [Hx0]; · iexact Hx0
  isplitl [HV]; · iexact HV
  isplitl [HF0]; · iexact HF0
  isplitl [HBj4]; · iexact HBj4
  isplitl [HZr2]; · iexact HZr2
  iexact Hx1

theorem part16 {Q : (PUnit) → sProp (MT nD τ sig Unit (Elt F) ℕ UU ℕ)} (v13 : BitVec 32) :
    iprop(Amb m K ∗ RIn 3 c ∗ Ow c [5, 6, 7, 8, 9, 10, 11] ∗ pt c mXr (xs 1) fullShare (slotM 3 (xh m 2 c)) ∗ dstPay (F := F) (nxt c) 5 ∗ SOut 5 c ∗ dstPay (F := F) (nxt c) 6 ∗ SOut 6 c)
      ⊢ iprop(((Ow c [7, 8, 9, 10, 11] ∗ Zr 3 c ∗ pt c mXr (xs 1) qR (slotM 3 (xh m 2 c)) ∗ SBack 5 c ∗ pt c mGr (gs 1) qR (slotM 3 (gh m 2 c)) ∗ SBack 6 c) -∗ Q ⟨⟩)
          -∗ wpc c (k0_part16 mX (hstage0_0 0) mR (hstage0_1 0) mI (hstage0_2 0) mV (Memref.isWhole_whole _) mO (hstage0_3 0) mXr (Memref.isWhole_whole _) mG (Memref.isWhole_whole _) mGr (Memref.isWhole_whole _) mA (Memref.isWhole_whole _) mB (Memref.isWhole_whole _) mW (Memref.isWhole_whole _) cc0_scratch6 cc0_scratch7 cc0_scratch8 cc0_scratch9 cc0_scratch10 cc0_scratch11 cc0_scratch12 cc0_scratch13 cc0_scratch14  c v13) Q) := by
  rw [k0_part16_eq_skeleton]; unfold k0_part16_skel
  simp only [Prog.lift, Prog.bind_op, Prog.bind_ret, Prog.pure_eq_ret]
  iintro ⟨#HK, HRj3, HO, Hx1, HD5, HSj5, HD6, HSj6⟩ Hk
  iapply (wp_recv m K c 3 [5, 6, 7, 8, 9, 10, 11] (by rfl) (by decide) (by rfl)) $$ [HRj3 HO]
  · isplitr; · iexact HK
    isplitl [HRj3]; · iexact HRj3
    iexact HO
  iintro ⟨Hg1, HZr3, HO⟩
  ihave Hg1 := (show rcvPay m c 3 ⊢ pt c mGr (gs 1) fullShare (slotM 3 (gh m 2 c)) from Entails.rfl) $$ Hg1
  icases (part_share c mXr (xs 1) fullShare (slotM 3 (xh m 2 c))).1 $$ Hx1 with ⟨Hx1L, Hx1⟩
  ihave Hx1L := (show pt c mXr (xs 1) qL (slotM 3 (xh m 2 c)) ⊢ sndPay m c 5 from Entails.rfl) $$ Hx1L
  iapply (wp_send_5 m K c [6, 7, 8, 9, 10, 11] (dev8_eq c) (by rfl) (by rfl)) $$ [Hx1L HD5 HSj5 HO]
  · isplitr; · iexact HK
    isplitl [Hx1L]; · iexact Hx1L
    isplitl [HD5]; · iexact HD5
    isplitl [HSj5]; · iexact HSj5
    iexact HO
  iintro ⟨HBj5, HO⟩
  icases (part_share c mGr (gs 1) fullShare (slotM 3 (gh m 2 c))).1 $$ Hg1 with ⟨Hg1L, Hg1⟩
  ihave Hg1L := (show pt c mGr (gs 1) qL (slotM 3 (gh m 2 c)) ⊢ sndPay m c 6 from Entails.rfl) $$ Hg1L
  iapply (wp_send_6 m K c [7, 8, 9, 10, 11] (dev9_eq c) (by rfl) (by rfl)) $$ [Hg1L HD6 HSj6 HO]
  · isplitr; · iexact HK
    isplitl [Hg1L]; · iexact Hg1L
    isplitl [HD6]; · iexact HD6
    isplitl [HSj6]; · iexact HSj6
    iexact HO
  iintro ⟨HBj6, HO⟩
  first | rw [wp_ret] | (unfold wpc; rw [wp_ret])
  imodintro; iapply Hk
  isplitl [HO]; · iexact HO
  isplitl [HZr3]; · iexact HZr3
  isplitl [Hx1]; · iexact Hx1
  isplitl [HBj5]; · iexact HBj5
  isplitl [Hg1]; · iexact Hg1
  iexact HBj6

theorem part17 {Q : (PUnit) → sProp (MT nD τ sig Unit (Elt F) ℕ UU ℕ)} (A1 : XM F) :
    iprop(Amb m K ∗ pt c mGr (gs 1) qR (slotM 3 (gh m 2 c)) ∗ pt c mA (acs 1) fullShare (slotM 2 (A1)) ∗ wHbm m c ∗ wFree c (par 0) ∗ wFree c (par 1) ∗ Ow c [7, 8, 9, 10, 11] ∗ pt c mXr (xs 1) qR (slotM 3 (xh m 2 c)))
      ⊢ iprop(((pt c mA (acs 1) fullShare (slotM 2 (sum3 m c 8)) ∗ wFree c (par 1) ∗ Ow c [7, 8, 9, 10, 11] ∗ pt c mXr (xs 1) qR (slotM 3 (xh m 2 c)) ∗ pt c mGr (gs 1) qR (slotM 3 (gh m 2 c)) ∗ wHbm m c ∗ wFree c (par 0)) -∗ Q ⟨⟩)
          -∗ wpc c (k0_part17 mX (hstage0_0 0) mR (hstage0_1 0) mI (hstage0_2 0) mV (Memref.isWhole_whole _) mO (hstage0_3 0) mXr (Memref.isWhole_whole _) mG (Memref.isWhole_whole _) mGr (Memref.isWhole_whole _) mA (Memref.isWhole_whole _) mB (Memref.isWhole_whole _) mW (Memref.isWhole_whole _) cc0_scratch6 cc0_scratch7 cc0_scratch8 cc0_scratch9 cc0_scratch10 cc0_scratch11 cc0_scratch12 cc0_scratch13 cc0_scratch14  (sel c) exps) Q) := by
  rw [k0_part17_eq_skeleton]; unfold k0_part17_skel
  simp only [Prog.lift, Prog.bind_op, Prog.bind_ret, Prog.pure_eq_ret]
  iintro ⟨#HK, Hg1, HA1, HV, HF0, HF1, HO, Hx1⟩ Hk
  iapply (wp_load_slot 1 rfl) $$ Hg1; iintro Hg1
  iapply (wp_load_tile 1 0 rfl (tile_subset_slot 1 0)) $$ HA1; iintro HA1
  iapply (wp_store_tile 1 0 rfl (tile_subset_slot 1 0) (Finset.Subset.refl _)) $$ HA1; iintro HA1
  iapply (wp_load_tile 1 1 rfl (tile_subset_slot 1 1)) $$ HA1; iintro HA1
  iapply (wp_store_tile 1 1 rfl (tile_subset_slot 1 1) (Finset.Subset.refl _)) $$ HA1; iintro HA1
  iapply (wp_load_tile 1 2 rfl (tile_subset_slot 1 2)) $$ HA1; iintro HA1
  iapply (wp_store_tile 1 2 rfl (tile_subset_slot 1 2) (Finset.Subset.refl _)) $$ HA1; iintro HA1
  iapply (wp_load_tile 1 3 rfl (tile_subset_slot 1 3)) $$ HA1; iintro HA1
  iapply (wp_store_tile 1 3 rfl (tile_subset_slot 1 3) (Finset.Subset.refl _)) $$ HA1; iintro HA1
  ihave HA1 := (show pt c mA (acs 1) fullShare (slotM 2 (setT (setT (setT (setT (A1) 0 (k0_pay42)) 1 (k0_pay43)) 2 (k0_pay44)) 3 (k0_pay45))) ⊢ pt c mA (acs 1) fullShare (slotM 2 (sum3 m c (0))) from Entails.of_eq (congrArg (fun Z => pt c mA (acs 1) fullShare (slotM 2 Z)) (setT_all A1 ![k0_pay42, k0_pay43, k0_pay44, k0_pay45]))) $$ HA1
  iapply (wp_w_start m c (par 0) 0 (by decide) (by rfl) (by rfl) (by rfl)) $$ [HV HF0]
  · isplitl [HV]; · iexact HV
    iexact HF0
  iintro HW
  ihave HW := (show wBusy m c (par 0) 0 ⊢ wNext m c 0 from Entails.of_eq (wNext_busy m c (by decide)).symm) $$ HW
  ihave HF1 := (show wFree c (par 1) ⊢ wFree c (par (0 + 1)) from Entails.rfl) $$ HF1
  iapply (wp_loop3 m K c [7, 8, 9, 10, 11] qR (sel c) (up (gh m 2 c)) rfl) $$ [HW HF1 HO Hx1 HA1]
  · isplitr; · iexact HK
    isplitl [HW]; · iexact HW
    isplitl [HF1]; · iexact HF1
    isplitl [HO]; · iexact HO
    isplitl [Hx1]; · iexact Hx1
    iexact HA1
  iintro ⟨HW, HF1, HO, Hx1, HA1⟩
  ihave HF1 := (show wFree c (par (8 + 1)) ⊢ wFree c (par 1) from Entails.rfl) $$ HF1
  icases (Entails.of_eq (wNext_done m c (n := 8) (by decide))) $$ HW with ⟨HV, HF0⟩
  ihave HF0 := (show wFree c (par 8) ⊢ wFree c (par 0) from Entails.rfl) $$ HF0
  first | rw [wp_ret] | (unfold wpc; rw [wp_ret])
  imodintro; iapply Hk
  isplitl [HA1]; · iexact HA1
  isplitl [HF1]; · iexact HF1
  isplitl [HO]; · iexact HO
  isplitl [Hx1]; · iexact Hx1
  isplitl [Hg1]; · iexact Hg1
  isplitl [HV]; · iexact HV
  iexact HF0

theorem part18 {Q : (FVec F S1x512x1024 .bf16) → sProp (MT nD τ sig Unit (Elt F) ℕ UU ℕ)} (v13 : BitVec 32) :
    iprop(Amb m K ∗ RIn 4 c ∗ Ow c [7, 8, 9, 10, 11] ∗ pt c mA (acs 1) fullShare (slotM 2 (sum3 m c 8)))
      ⊢ iprop(((pt c mA (acs 1) fullShare (slotM 2 (setT (sum3 m c 8) 0 (k0_pay47 (getT (sum3 m c 8) 0) (getT (pass1 m (prv c)) 0)))) ∗ Ow c [7, 8, 9, 10, 11] ∗ Zr 4 c ∗ pt c mB (xs 0) fullShare (slotM 3 (pass1 m (prv c)))) -∗ Q (k0_pay48 (getT (setT (sum3 m c 8) 0 (k0_pay47 (getT (sum3 m c 8) 0) (getT (pass1 m (prv c)) 0))) 1) (getT (pass1 m (prv c)) 1)))
          -∗ wpc c (k0_part18 mX (hstage0_0 0) mR (hstage0_1 0) mI (hstage0_2 0) mV (Memref.isWhole_whole _) mO (hstage0_3 0) mXr (Memref.isWhole_whole _) mG (Memref.isWhole_whole _) mGr (Memref.isWhole_whole _) mA (Memref.isWhole_whole _) mB (Memref.isWhole_whole _) mW (Memref.isWhole_whole _) cc0_scratch6 cc0_scratch7 cc0_scratch8 cc0_scratch9 cc0_scratch10 cc0_scratch11 cc0_scratch12 cc0_scratch13 cc0_scratch14  v13) Q) := by
  rw [k0_part18_eq_skeleton]; unfold k0_part18_skel
  simp only [Prog.lift, Prog.bind_op, Prog.bind_ret, Prog.pure_eq_ret]
  iintro ⟨#HK, HRj4, HO, HA1⟩ Hk
  iapply (wp_recv m K c 4 [7, 8, 9, 10, 11] (by rfl) (by decide) (by rfl)) $$ [HRj4 HO]
  · isplitr; · iexact HK
    isplitl [HRj4]; · iexact HRj4
    iexact HO
  iintro ⟨HB0, HZr4, HO⟩
  ihave HB0 := (show rcvPay m c 4 ⊢ pt c mB (xs 0) fullShare (slotM 3 (pass1 m (prv c))) from Entails.rfl) $$ HB0
  iapply (wp_load_tile 1 0 rfl (tile_subset_slot 1 0)) $$ HA1; iintro HA1
  iapply (wp_load_tile 0 0 rfl (tile_subset_slot 0 0)) $$ HB0; iintro HB0
  iapply (wp_load_tile 1 0 rfl (tile_subset_slot 1 0)) $$ HA1; iintro HA1
  iapply (wp_store_tile 1 0 rfl (tile_subset_slot 1 0) (Finset.Subset.refl _)) $$ HA1; iintro HA1
  iapply (wp_load_tile 1 1 rfl (tile_subset_slot 1 1)) $$ HA1; iintro HA1
  iapply (wp_load_tile 0 1 rfl (tile_subset_slot 0 1)) $$ HB0; iintro HB0
  iapply (wp_load_tile 1 1 rfl (tile_subset_slot 1 1)) $$ HA1; iintro HA1
  first | rw [wp_ret] | (unfold wpc; rw [wp_ret])
  imodintro; iapply Hk
  isplitl [HA1]; · iexact HA1
  isplitl [HO]; · iexact HO
  isplitl [HZr4]; · iexact HZr4
  iexact HB0

theorem part19 {Q : (PUnit) → sProp (MT nD τ sig Unit (Elt F) ℕ UU ℕ)} (v13 : BitVec 32) :
    iprop(Amb m K ∗ pt c mA (acs 1) fullShare (slotM 2 (setT (sum3 m c 8) 0 (k0_pay47 (getT (sum3 m c 8) 0) (getT (pass1 m (prv c)) 0)))) ∗ pt c mB (xs 0) fullShare (slotM 3 (pass1 m (prv c))))
      ⊢ iprop(((pt c mA (acs 1) fullShare (slotM 2 (pass2 m c)) ∗ pt c mB (xs 0) fullShare (slotM 3 (pass1 m (prv c)))) -∗ Q ⟨⟩)
          -∗ wpc c (k0_part19 mX (hstage0_0 0) mR (hstage0_1 0) mI (hstage0_2 0) mV (Memref.isWhole_whole _) mO (hstage0_3 0) mXr (Memref.isWhole_whole _) mG (Memref.isWhole_whole _) mGr (Memref.isWhole_whole _) mA (Memref.isWhole_whole _) mB (Memref.isWhole_whole _) mW (Memref.isWhole_whole _) cc0_scratch6 cc0_scratch7 cc0_scratch8 cc0_scratch9 cc0_scratch10 cc0_scratch11 cc0_scratch12 cc0_scratch13 cc0_scratch14  v13 (k0_pay48 (getT (setT (sum3 m c 8) 0 (k0_pay47 (getT (sum3 m c 8) 0) (getT (pass1 m (prv c)) 0))) 1) (getT (pass1 m (prv c)) 1))) Q) := by
  rw [k0_part19_eq_skeleton]; unfold k0_part19_skel
  simp only [Prog.lift, Prog.bind_op, Prog.bind_ret, Prog.pure_eq_ret]
  iintro ⟨#HK, HA1, HB0⟩ Hk
  iapply (wp_store_tile 1 1 rfl (tile_subset_slot 1 1) (Finset.Subset.refl _)) $$ HA1; iintro HA1
  iapply (wp_load_tile 1 2 rfl (tile_subset_slot 1 2)) $$ HA1; iintro HA1
  iapply (wp_load_tile 0 2 rfl (tile_subset_slot 0 2)) $$ HB0; iintro HB0
  iapply (wp_load_tile 1 2 rfl (tile_subset_slot 1 2)) $$ HA1; iintro HA1
  iapply (wp_store_tile 1 2 rfl (tile_subset_slot 1 2) (Finset.Subset.refl _)) $$ HA1; iintro HA1
  iapply (wp_load_tile 1 3 rfl (tile_subset_slot 1 3)) $$ HA1; iintro HA1
  iapply (wp_load_tile 0 3 rfl (tile_subset_slot 0 3)) $$ HB0; iintro HB0
  iapply (wp_load_tile 1 3 rfl (tile_subset_slot 1 3)) $$ HA1; iintro HA1
  iapply (wp_store_tile 1 3 rfl (tile_subset_slot 1 3) (Finset.Subset.refl _)) $$ HA1; iintro HA1
  ihave HA1 := (show pt c mA (acs 1) fullShare (slotM 2 (setT (setT (setT (setT (sum3 m c 8) 0 (k0_pay47 (getT (sum3 m c 8) 0) (getT (pass1 m (prv c)) 0))) 1 ((k0_pay48 (getT (setT (sum3 m c 8) 0 (k0_pay47 (getT (sum3 m c 8) 0) (getT (pass1 m (prv c)) 0))) 1) (getT (pass1 m (prv c)) 1)))) 2 (k0_pay49 (getT (setT (setT (sum3 m c 8) 0 (k0_pay47 (getT (sum3 m c 8) 0) (getT (pass1 m (prv c)) 0))) 1 ((k0_pay48 (getT (setT (sum3 m c 8) 0 (k0_pay47 (getT (sum3 m c 8) 0) (getT (pass1 m (prv c)) 0))) 1) (getT (pass1 m (prv c)) 1)))) 2) (getT (pass1 m (prv c)) 2))) 3 (k0_pay50 (getT (setT (setT (setT (sum3 m c 8) 0 (k0_pay47 (getT (sum3 m c 8) 0) (getT (pass1 m (prv c)) 0))) 1 ((k0_pay48 (getT (setT (sum3 m c 8) 0 (k0_pay47 (getT (sum3 m c 8) 0) (getT (pass1 m (prv c)) 0))) 1) (getT (pass1 m (prv c)) 1)))) 2 (k0_pay49 (getT (setT (setT (sum3 m c 8) 0 (k0_pay47 (getT (sum3 m c 8) 0) (getT (pass1 m (prv c)) 0))) 1 ((k0_pay48 (getT (setT (sum3 m c 8) 0 (k0_pay47 (getT (sum3 m c 8) 0) (getT (pass1 m (prv c)) 0))) 1) (getT (pass1 m (prv c)) 1)))) 2) (getT (pass1 m (prv c)) 2))) 3) (getT (pass1 m (prv c)) 3)))) ⊢ pt c mA (acs 1) fullShare (slotM 2 (pass2 m c)) from Entails.of_eq (by simp only [getT_setT_lt]; exact congrArg (fun Z => pt c mA (acs 1) fullShare (slotM 2 Z)) (setT_all (sum3 m c 8) ![k0_pay47 (getT (sum3 m c 8) 0) (getT (pass1 m (prv c)) 0), k0_pay48 (getT (sum3 m c 8) 1) (getT (pass1 m (prv c)) 1), k0_pay49 (getT (sum3 m c 8) 2) (getT (pass1 m (prv c)) 2), k0_pay50 (getT (sum3 m c 8) 3) (getT (pass1 m (prv c)) 3)]))) $$ HA1
  first | rw [wp_ret] | (unfold wpc; rw [wp_ret])
  imodintro; iapply Hk
  isplitl [HA1]; · iexact HA1
  iexact HB0

theorem part20 {Q : (PUnit) → sProp (MT nD τ sig Unit (Elt F) ℕ UU ℕ)} (v13 : BitVec 32) :
    iprop(Amb m K ∗ pt c mA (acs 1) fullShare (slotM 2 (pass2 m c)) ∗ dstPay (F := F) (nxt c) 7 ∗ SOut 7 c ∗ Ow c [7, 8, 9, 10, 11] ∗ SBack 4 c ∗ RIn 5 c ∗ RIn 6 c)
      ⊢ iprop(((Ow c [8, 9, 10, 11] ∗ SBack 7 c ∗ Zs 4 c ∗ pt c mA (acs 0) fullShare (slotM 2 (pass1 m c)) ∗ Zr 5 c ∗ pt c mXr (xs 2) fullShare (slotM 3 (xh m 3 c)) ∗ Zr 6 c ∗ pt c mGr (gs 2) fullShare (slotM 3 (gh m 3 c))) -∗ Q ⟨⟩)
          -∗ wpc c (k0_part20 mX (hstage0_0 0) mR (hstage0_1 0) mI (hstage0_2 0) mV (Memref.isWhole_whole _) mO (hstage0_3 0) mXr (Memref.isWhole_whole _) mG (Memref.isWhole_whole _) mGr (Memref.isWhole_whole _) mA (Memref.isWhole_whole _) mB (Memref.isWhole_whole _) mW (Memref.isWhole_whole _) cc0_scratch6 cc0_scratch7 cc0_scratch8 cc0_scratch9 cc0_scratch10 cc0_scratch11 cc0_scratch12 cc0_scratch13 cc0_scratch14  c v13) Q) := by
  rw [k0_part20_eq_skeleton]; unfold k0_part20_skel
  simp only [Prog.lift, Prog.bind_op, Prog.bind_ret, Prog.pure_eq_ret]
  iintro ⟨#HK, HA1, HD7, HSj7, HO, HBj4, HRj5, HRj6⟩ Hk
  ihave HA1 := (show pt c mA (acs 1) fullShare (slotM 2 (pass2 m c)) ⊢ sndPay m c 7 from Entails.rfl) $$ HA1
  iapply (wp_send_7 m K c [8, 9, 10, 11] (dev10_eq c) (by rfl) (by rfl)) $$ [HA1 HD7 HSj7 HO]
  · isplitr; · iexact HK
    isplitl [HA1]; · iexact HA1
    isplitl [HD7]; · iexact HD7
    isplitl [HSj7]; · iexact HSj7
    iexact HO
  iintro ⟨HBj7, HO⟩
  iapply (wp_back m K c 4 [8, 9, 10, 11] (by rfl) (by rfl)) $$ [HBj4 HO]
  · isplitr; · iexact HK
    isplitl [HBj4]; · iexact HBj4
    iexact HO
  iintro ⟨HA0, HZs4, HO⟩
  ihave HA0 := (show sndPay m c 4 ⊢ pt c mA (acs 0) fullShare (slotM 2 (pass1 m c)) from Entails.rfl) $$ HA0
  iapply (wp_recv m K c 5 [8, 9, 10, 11] (by rfl) (by decide) (by rfl)) $$ [HRj5 HO]
  · isplitr; · iexact HK
    isplitl [HRj5]; · iexact HRj5
    iexact HO
  iintro ⟨Hx2, HZr5, HO⟩
  ihave Hx2 := (show rcvPay m c 5 ⊢ pt c mXr (xs 2) fullShare (slotM 3 (xh m 3 c)) from Entails.rfl) $$ Hx2
  iapply (wp_recv m K c 6 [8, 9, 10, 11] (by rfl) (by decide) (by rfl)) $$ [HRj6 HO]
  · isplitr; · iexact HK
    isplitl [HRj6]; · iexact HRj6
    iexact HO
  iintro ⟨Hg2, HZr6, HO⟩
  ihave Hg2 := (show rcvPay m c 6 ⊢ pt c mGr (gs 2) fullShare (slotM 3 (gh m 3 c)) from Entails.rfl) $$ Hg2
  first | rw [wp_ret] | (unfold wpc; rw [wp_ret])
  imodintro; iapply Hk
  isplitl [HO]; · iexact HO
  isplitl [HBj7]; · iexact HBj7
  isplitl [HZs4]; · iexact HZs4
  isplitl [HA0]; · iexact HA0
  isplitl [HZr5]; · iexact HZr5
  isplitl [Hx2]; · iexact Hx2
  isplitl [HZr6]; · iexact HZr6
  iexact Hg2

theorem part21 {Q : (FVec F S2048x8 .f32) → sProp (MT nD τ sig Unit (Elt F) ℕ UU ℕ)} :
    iprop(Amb m K ∗ pt c mGr (gs 2) fullShare (slotM 3 (gh m 3 c)) ∗ pt c mA (acs 0) fullShare (slotM 2 (pass1 m c)) ∗ wHbm m c ∗ wFree c (par 0) ∗ wFree c (par 1) ∗ Ow c [8, 9, 10, 11] ∗ pt c mXr (xs 2) fullShare (slotM 3 (xh m 3 c)))
      ⊢ iprop(((wFree c (par 0) ∗ Ow c [8, 9, 10, 11] ∗ pt c mA (acs 0) fullShare (slotM 2 (sum4 m c 7)) ∗ pt c mXr (xs 2) fullShare (slotM 3 (xh m 3 c)) ∗ pt c mGr (gs 2) fullShare (slotM 3 (gh m 3 c)) ∗ wBusy m c (par 1) 7) -∗ Q (gate3 m c))
          -∗ wpc c (k0_part21 mX (hstage0_0 0) mR (hstage0_1 0) mI (hstage0_2 0) mV (Memref.isWhole_whole _) mO (hstage0_3 0) mXr (Memref.isWhole_whole _) mG (Memref.isWhole_whole _) mGr (Memref.isWhole_whole _) mA (Memref.isWhole_whole _) mB (Memref.isWhole_whole _) mW (Memref.isWhole_whole _) cc0_scratch6 cc0_scratch7 cc0_scratch8 cc0_scratch9 cc0_scratch10 cc0_scratch11 cc0_scratch12 cc0_scratch13 cc0_scratch14  (sel c) exps) Q) := by
  rw [k0_part21_eq_skeleton]; unfold k0_part21_skel
  simp only [Prog.lift, Prog.bind_op, Prog.bind_ret, Prog.pure_eq_ret]
  iintro ⟨#HK, Hg2, HA0, HV, HF0, HF1, HO, Hx2⟩ Hk
  iapply (wp_load_slot 2 rfl) $$ Hg2; iintro Hg2
  iapply (wp_load_tile 0 0 rfl (tile_subset_slot 0 0)) $$ HA0; iintro HA0
  iapply (wp_store_tile 0 0 rfl (tile_subset_slot 0 0) (Finset.Subset.refl _)) $$ HA0; iintro HA0
  iapply (wp_load_tile 0 1 rfl (tile_subset_slot 0 1)) $$ HA0; iintro HA0
  iapply (wp_store_tile 0 1 rfl (tile_subset_slot 0 1) (Finset.Subset.refl _)) $$ HA0; iintro HA0
  iapply (wp_load_tile 0 2 rfl (tile_subset_slot 0 2)) $$ HA0; iintro HA0
  iapply (wp_store_tile 0 2 rfl (tile_subset_slot 0 2) (Finset.Subset.refl _)) $$ HA0; iintro HA0
  iapply (wp_load_tile 0 3 rfl (tile_subset_slot 0 3)) $$ HA0; iintro HA0
  iapply (wp_store_tile 0 3 rfl (tile_subset_slot 0 3) (Finset.Subset.refl _)) $$ HA0; iintro HA0
  ihave HA0 := (show pt c mA (acs 0) fullShare (slotM 2 (setT (setT (setT (setT (pass1 m c) 0 (k0_pay52)) 1 (k0_pay53)) 2 (k0_pay54)) 3 (k0_pay55))) ⊢ pt c mA (acs 0) fullShare (slotM 2 (sum4 m c (0))) from Entails.of_eq (congrArg (fun Z => pt c mA (acs 0) fullShare (slotM 2 Z)) (setT_all (pass1 m c) ![k0_pay52, k0_pay53, k0_pay54, k0_pay55]))) $$ HA0
  iapply (wp_w_start m c (par 0) 0 (by decide) (by rfl) (by rfl) (by rfl)) $$ [HV HF0]
  · isplitl [HV]; · iexact HV
    iexact HF0
  iintro HW
  ihave HW := (show wBusy m c (par 0) 0 ⊢ wNext m c 0 from Entails.of_eq (wNext_busy m c (by decide)).symm) $$ HW
  ihave HF1 := (show wFree c (par 1) ⊢ wFree c (par (0 + 1)) from Entails.rfl) $$ HF1
  iapply (wp_loop4 m K c [8, 9, 10, 11] fullShare (sel c) (up (gh m 3 c)) rfl) $$ [HW HF1 HO Hx2 HA0]
  · isplitr; · iexact HK
    isplitl [HW]; · iexact HW
    isplitl [HF1]; · iexact HF1
    isplitl [HO]; · iexact HO
    isplitl [Hx2]; · iexact Hx2
    iexact HA0
  iintro ⟨HW, HF1, HO, Hx2, HA0⟩
  ihave HF1 := (show wFree c (par (7 + 1)) ⊢ wFree c (par 0) from Entails.rfl) $$ HF1
  ihave HW := (show wNext m c 7 ⊢ wBusy m c (par 1) 7 from Entails.of_eq (wNext_busy m c (by decide))) $$ HW
  first | rw [wp_ret] | (unfold wpc; rw [wp_ret])
  rw [show k0_pay51 (sel c) (up (gh m 3 c)) = gate3 m c from rfl]
  imodintro; iapply Hk
  isplitl [HF1]; · iexact HF1
  isplitl [HO]; · iexact HO
  isplitl [HA0]; · iexact HA0
  isplitl [Hx2]; · iexact Hx2
  isplitl [Hg2]; · iexact Hg2
  iexact HW

end Cert.KernelIdeal.Moe

end
-- ==== Proof.KernelIdeal.StepsC.lean ====
/-
# The end of the body

The pieces of the program that finish the sums and drain the transfers, as rules.
-/
module

public import proofs.«01_k».proof.Proof.KernelIdeal.StepsB

@[expose] public section

noncomputable section

namespace Cert.KernelIdeal.Moe

open Cert.KernelIdeal Cert.KernelIdeal.Gen Cert.Moe
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (m : (ℓ : Loc nD τ sig) → Buf (Elt F) ℓ) (K : Dev nD × CI → ℕ)
variable {α : Type}
variable (c : Dev nD)

/-- Storing a tile of a matrix leaves the later tiles. -/
theorem getR_setR_lt {β : Type} {C : ℕ} (X : (Sh2 2048 C).Idx → β) (p : (Sh2 512 C).Idx → β) :
    getR (setR X 0 p) 1 = getR X 1 ∧ getR (setR X 0 p) 2 = getR X 2 ∧ getR (setR X 0 p) 3 = getR X 3
      ∧ getR (setR X 1 p) 2 = getR X 2 ∧ getR (setR X 1 p) 3 = getR X 3 ∧ getR (setR X 2 p) 3 = getR X 3 :=
  ⟨getR_setR_ne X (by decide) p, getR_setR_ne X (by decide) p, getR_setR_ne X (by decide) p, getR_setR_ne X (by decide) p,
    getR_setR_ne X (by decide) p, getR_setR_ne X (by decide) p⟩

/-- A slot of the sum, cut into its four tiles. -/
theorem acc_tiles (q : PosShare TreeShare) (Z : (Sh3 2 2048 1024).Idx → Elt F .bf16) :
    (pt c mA (acs 0) q Z : sProp (MT nD τ sig Unit (Elt F) ℕ UU ℕ))
      ⊢ iprop(pt c mA (ats 0 0) q Z ∗ pt c mA (ats 0 1) q Z ∗ pt c mA (ats 0 2) q Z ∗ pt c mA (ats 0 3) q Z) := by
  have d : ∀ a b : ℕ, a ≠ b → Disjoint (ats 0 a) (ats 0 b) := fun a b h => tile_disjoint h
  show part (c : Thread nD τ) mA (acs 0) q Z ⊢ _
  rw [show acs 0 = ats 0 0 ∪ (ats 0 1 ∪ (ats 0 2 ∪ ats 0 3)) from slot_tiles 0]
  refine (part_union (c : Thread nD τ) mA q Z (Finset.disjoint_union_right.mpr ⟨d 0 1 (by decide), Finset.disjoint_union_right.mpr ⟨d 0 2 (by decide), d 0 3 (by decide)⟩⟩)).1.trans ?_
  refine sep_mono_right ?_
  refine (part_union (c : Thread nD τ) mA q Z (Finset.disjoint_union_right.mpr ⟨d 1 2 (by decide), d 1 3 (by decide)⟩)).1.trans ?_
  exact sep_mono_right (part_union (c : Thread nD τ) mA q Z (d 2 3 (by decide))).1

/-- A tile of a slot depends only on the matrix's tile. -/
theorem acc_tile_eq (t : Fin 4) (X Y : XM F) (h : getT X t = getT Y t) :
    (pt c mA (ats 0 t.val) fullShare (slotM 2 X) : sProp (MT nD τ sig Unit (Elt F) ℕ UU ℕ)) = pt c mA (ats 0 t.val) fullShare (slotM 2 Y) := by
  refine part_congr (c : Thread nD τ) mA _ _ fun i hi => ?_
  obtain ⟨h0, h1⟩ := mem_tile.mp hi
  have hb : (i 1).val - 512 * t.val < 512 := by omega
  have e := congrFun h (ix3 (0 : Fin 1) (⟨(i 1).val - 512 * t.val, hb⟩ : Fin 512) (i 2))
  have hi' : (ix2 ⟨512 * t.val + ((i 1).val - 512 * t.val), by have := (i 1).isLt; have : (i 1).val < 2048 := this; omega⟩ (i 2) : (Sh2 2048 1024).Idx)
      = ix2 (i 1) (i 2) := idx2_eq (by show 512 * t.val + ((i 1).val - 512 * t.val) = (i 1).val; omega) rfl
  have e' : X (ix2 ⟨512 * t.val + ((i 1).val - 512 * t.val), by have := (i 1).isLt; have : (i 1).val < 2048 := this; omega⟩ (i 2))
      = Y (ix2 ⟨512 * t.val + ((i 1).val - 512 * t.val), by have := (i 1).isLt; have : (i 1).val < 2048 := this; omega⟩ (i 2)) := e
  rw [hi'] at e'
  exact e'

theorem pass3_0 : getT (pass3 m c) 0 = k0_pay59 (k0_pay58 (gate3 m c) (getT (xh m 3 c) 0) (up (wOne m c 7)) (getT (sum4 m c 7) 0)) (getT (pass2 m (prv c)) 0) := getT_ofTiles _ _
theorem pass3_1 : getT (pass3 m c) 1 = k0_pay62 (k0_pay60 (gate3 m c) (getT (xh m 3 c) 1) (up (wOne m c 7)) (getT (sum4 m c 7) 1)) (k0_pay61 (getT (pass2 m (prv c)) 1)) := getT_ofTiles _ _
theorem pass3_2 : getT (pass3 m c) 2 = k0_pay64 (k0_pay63 (gate3 m c) (getT (xh m 3 c) 2) (up (wOne m c 7)) (getT (sum4 m c 7) 2) (getT (pass2 m (prv c)) 2)) := getT_ofTiles _ _
theorem pass3_3 : getT (pass3 m c) 3 = k0_pay66 (k0_pay65 (gate3 m c) (getT (xh m 3 c) 3) (up (wOne m c 7)) (getT (sum4 m c 7) 3) (getT (pass2 m (prv c)) 3)) := getT_ofTiles _ _

theorem part22 {Q : (Σ' (v388 : FVec F S512x1024 .f32), Vec F S1x512x1024 .bf16) → sProp (MT nD τ sig Unit (Elt F) ℕ UU ℕ)} (v13 : BitVec 32) :
    iprop(Amb m K ∗ wBusy m c (par 1) 7 ∗ Ow c [8, 9, 10, 11] ∗ RIn 7 c ∗ pt c mA (acs 0) fullShare (slotM 2 (sum4 m c 7)) ∗ pt c mXr (xs 2) fullShare (slotM 3 (xh m 3 c)))
      ⊢ iprop(((Ow c [8, 9, 10, 11] ∗ pt c mXr (xs 2) fullShare (slotM 3 (xh m 3 c)) ∗ wHas m c (par 1) 7 ∗ wHbm m c ∗ Zr 7 c ∗ pt c mB (xs 1) fullShare (slotM 3 (pass2 m (prv c))) ∗ pt c mA (ats 0 0) fullShare (slotM 2 (sum4 m c 7)) ∗ pt c mA (ats 0 1) fullShare (slotM 2 (sum4 m c 7)) ∗ pt c mA (ats 0 2) fullShare (slotM 2 (sum4 m c 7)) ∗ pt c mA (ats 0 3) fullShare (slotM 2 (sum4 m c 7))) -∗ Q ⟨(k0_pay58 (gate3 m c) (getT (xh m 3 c) 0) (up (wOne m c 7)) (getT (sum4 m c 7) 0)), (getT (pass2 m (prv c)) 0)⟩)
          -∗ wpc c (k0_part22 mX (hstage0_0 0) mR (hstage0_1 0) mI (hstage0_2 0) mV (Memref.isWhole_whole _) mO (hstage0_3 0) mXr (Memref.isWhole_whole _) mG (Memref.isWhole_whole _) mGr (Memref.isWhole_whole _) mA (Memref.isWhole_whole _) mB (Memref.isWhole_whole _) mW (Memref.isWhole_whole _) cc0_scratch6 cc0_scratch7 cc0_scratch8 cc0_scratch9 cc0_scratch10 cc0_scratch11 cc0_scratch12 cc0_scratch13 cc0_scratch14  v13 (gate3 m c)) Q) := by
  rw [k0_part22_eq_skeleton]; unfold k0_part22_skel
  simp only [Prog.lift, Prog.bind_op, Prog.bind_ret, Prog.pure_eq_ret]
  iintro ⟨#HK, HW, HO, HRj7, HA0, Hx2⟩ Hk
  iapply (wp_w_wait m K c (par 1) 7 (by decide) [8, 9, 10, 11] (by rfl) (by rfl)) $$ [HW HO]
  · isplitr; · iexact HK
    isplitl [HW]; · iexact HW
    iexact HO
  iintro ⟨HW, HV, HO⟩
  iapply (wp_recv m K c 7 [8, 9, 10, 11] (by rfl) (by decide) (by rfl)) $$ [HRj7 HO]
  · isplitr; · iexact HK
    isplitl [HRj7]; · iexact HRj7
    iexact HO
  iintro ⟨HB1, HZr7, HO⟩
  ihave HB1 := (show rcvPay m c 7 ⊢ pt c mB (xs 1) fullShare (slotM 3 (pass2 m (prv c))) from Entails.rfl) $$ HB1
  icases (acc_tiles c fullShare (slotM 2 (sum4 m c 7))) $$ HA0 with ⟨HT0, HT1, HT2, HT3⟩
  iapply (wp_load_tile 2 0 rfl (tile_subset_slot 2 0)) $$ Hx2; iintro Hx2
  iapply (wp_w_load m c (par 1) 7 (by rfl)) $$ HW; iintro HW
  iapply (wp_load_tile 0 0 rfl (Finset.Subset.refl (ats 0 0))) $$ HT0; iintro HT0
  iapply (wp_load_tile 1 0 rfl (tile_subset_slot 1 0)) $$ HB1; iintro HB1
  first | rw [wp_ret] | (unfold wpc; rw [wp_ret])
  imodintro; iapply Hk
  isplitl [HO]; · iexact HO
  isplitl [Hx2]; · iexact Hx2
  isplitl [HW]; · iexact HW
  isplitl [HV]; · iexact HV
  isplitl [HZr7]; · iexact HZr7
  isplitl [HB1]; · iexact HB1
  isplitl [HT0]; · iexact HT0
  isplitl [HT1]; · iexact HT1
  isplitl [HT2]; · iexact HT2
  iexact HT3

theorem part23 {Q : (Σ' (v418 : FVec F S512x1024 .f32), FVec F S512x1024 .f32) → sProp (MT nD τ sig Unit (Elt F) ℕ UU ℕ)} (v13 : BitVec 32) :
    iprop(Amb m K ∗ pt c mA (ats 0 0) fullShare (slotM 2 (sum4 m c 7)) ∗ dstPay (F := F) (nxt c) 8 ∗ SOut 8 c ∗ Ow c [8, 9, 10, 11] ∗ pt c mXr (xs 2) fullShare (slotM 3 (xh m 3 c)) ∗ wHas m c (par 1) 7 ∗ pt c mA (ats 0 1) fullShare (slotM 2 (sum4 m c 7)) ∗ pt c mB (xs 1) fullShare (slotM 3 (pass2 m (prv c))))
      ⊢ iprop(((Ow c [9, 10, 11] ∗ pt c mXr (xs 2) fullShare (slotM 3 (xh m 3 c)) ∗ wHas m c (par 1) 7 ∗ pt c mB (xs 1) fullShare (slotM 3 (pass2 m (prv c))) ∗ pt c mA (ats 0 1) fullShare (slotM 2 (sum4 m c 7)) ∗ SBack 8 c) -∗ Q ⟨(k0_pay60 (gate3 m c) (getT (xh m 3 c) 1) (up (wOne m c 7)) (getT (sum4 m c 7) 1)), (k0_pay61 (getT (pass2 m (prv c)) 1))⟩)
          -∗ wpc c (k0_part23 mX (hstage0_0 0) mR (hstage0_1 0) mI (hstage0_2 0) mV (Memref.isWhole_whole _) mO (hstage0_3 0) mXr (Memref.isWhole_whole _) mG (Memref.isWhole_whole _) mGr (Memref.isWhole_whole _) mA (Memref.isWhole_whole _) mB (Memref.isWhole_whole _) mW (Memref.isWhole_whole _) cc0_scratch6 cc0_scratch7 cc0_scratch8 cc0_scratch9 cc0_scratch10 cc0_scratch11 cc0_scratch12 cc0_scratch13 cc0_scratch14  c v13 (gate3 m c) (k0_pay58 (gate3 m c) (getT (xh m 3 c) 0) (up (wOne m c 7)) (getT (sum4 m c 7) 0)) (getT (pass2 m (prv c)) 0)) Q) := by
  rw [k0_part23_eq_skeleton]; unfold k0_part23_skel
  simp only [Prog.lift, Prog.bind_op, Prog.bind_ret, Prog.pure_eq_ret]
  iintro ⟨#HK, HT0, HD8, HSj8, HO, Hx2, HW, HT1, HB1⟩ Hk
  iapply (wp_load_tile 0 0 rfl (Finset.Subset.refl (ats 0 0))) $$ HT0; iintro HT0
  iapply (wp_store_tile 0 0 rfl (Finset.Subset.refl (ats 0 0)) (tile_subset_slot 0 0)) $$ HT0; iintro HT0
  ihave HT0 := (show pt c mA (ats 0 0) fullShare (slotM 2 (setT (sum4 m c 7) 0 (k0_pay59 (k0_pay58 (gate3 m c) (getT (xh m 3 c) 0) (up (wOne m c 7)) (getT (sum4 m c 7) 0)) (getT (pass2 m (prv c)) 0)))) ⊢ pt c mA (ats 0 0) fullShare (slotM 2 (pass3 m c)) from Entails.of_eq (acc_tile_eq c 0 _ _ ((getT_setT _ _ _).trans (pass3_0 m c).symm))) $$ HT0
  ihave HT0 := (show pt c mA (ats 0 0) fullShare (slotM 2 (pass3 m c)) ⊢ sndPay m c 8 from Entails.rfl) $$ HT0
  iapply (wp_send_8 m K c [9, 10, 11] (dev11_eq c) (by rfl) (by rfl)) $$ [HT0 HD8 HSj8 HO]
  · isplitr; · iexact HK
    isplitl [HT0]; · iexact HT0
    isplitl [HD8]; · iexact HD8
    isplitl [HSj8]; · iexact HSj8
    iexact HO
  iintro ⟨HBj8, HO⟩
  iapply (wp_load_tile 2 1 rfl (tile_subset_slot 2 1)) $$ Hx2; iintro Hx2
  iapply (wp_w_load m c (par 1) 7 (by rfl)) $$ HW; iintro HW
  iapply (wp_load_tile 0 1 rfl (Finset.Subset.refl (ats 0 1))) $$ HT1; iintro HT1
  iapply (wp_load_tile 1 1 rfl (tile_subset_slot 1 1)) $$ HB1; iintro HB1
  first | rw [wp_ret] | (unfold wpc; rw [wp_ret])
  imodintro; iapply Hk
  isplitl [HO]; · iexact HO
  isplitl [Hx2]; · iexact Hx2
  isplitl [HW]; · iexact HW
  isplitl [HB1]; · iexact HB1
  isplitl [HT1]; · iexact HT1
  iexact HBj8

theorem part24 {Q : (FVec F S512x1024 .bf16) → sProp (MT nD τ sig Unit (Elt F) ℕ UU ℕ)} (v13 : BitVec 32) :
    iprop(Amb m K ∗ pt c mA (ats 0 1) fullShare (slotM 2 (sum4 m c 7)) ∗ dstPay (F := F) (nxt c) 9 ∗ SOut 9 c ∗ Ow c [9, 10, 11] ∗ pt c mXr (xs 2) fullShare (slotM 3 (xh m 3 c)) ∗ wHas m c (par 1) 7 ∗ pt c mA (ats 0 2) fullShare (slotM 2 (sum4 m c 7)) ∗ pt c mB (xs 1) fullShare (slotM 3 (pass2 m (prv c))))
      ⊢ iprop(((Ow c [10, 11] ∗ pt c mXr (xs 2) fullShare (slotM 3 (xh m 3 c)) ∗ wHas m c (par 1) 7 ∗ pt c mB (xs 1) fullShare (slotM 3 (pass2 m (prv c))) ∗ pt c mA (ats 0 2) fullShare (slotM 2 (sum4 m c 7)) ∗ SBack 9 c) -∗ Q (k0_pay63 (gate3 m c) (getT (xh m 3 c) 2) (up (wOne m c 7)) (getT (sum4 m c 7) 2) (getT (pass2 m (prv c)) 2)))
          -∗ wpc c (k0_part24 mX (hstage0_0 0) mR (hstage0_1 0) mI (hstage0_2 0) mV (Memref.isWhole_whole _) mO (hstage0_3 0) mXr (Memref.isWhole_whole _) mG (Memref.isWhole_whole _) mGr (Memref.isWhole_whole _) mA (Memref.isWhole_whole _) mB (Memref.isWhole_whole _) mW (Memref.isWhole_whole _) cc0_scratch6 cc0_scratch7 cc0_scratch8 cc0_scratch9 cc0_scratch10 cc0_scratch11 cc0_scratch12 cc0_scratch13 cc0_scratch14  c v13 (gate3 m c) (k0_pay60 (gate3 m c) (getT (xh m 3 c) 1) (up (wOne m c 7)) (getT (sum4 m c 7) 1)) (k0_pay61 (getT (pass2 m (prv c)) 1))) Q) := by
  rw [k0_part24_eq_skeleton]; unfold k0_part24_skel
  simp only [Prog.lift, Prog.bind_op, Prog.bind_ret, Prog.pure_eq_ret]
  iintro ⟨#HK, HT1, HD9, HSj9, HO, Hx2, HW, HT2, HB1⟩ Hk
  iapply (wp_load_tile 0 1 rfl (Finset.Subset.refl (ats 0 1))) $$ HT1; iintro HT1
  iapply (wp_store_tile 0 1 rfl (Finset.Subset.refl (ats 0 1)) (tile_subset_slot 0 1)) $$ HT1; iintro HT1
  ihave HT1 := (show pt c mA (ats 0 1) fullShare (slotM 2 (setT (sum4 m c 7) 1 (k0_pay62 (k0_pay60 (gate3 m c) (getT (xh m 3 c) 1) (up (wOne m c 7)) (getT (sum4 m c 7) 1)) (k0_pay61 (getT (pass2 m (prv c)) 1))))) ⊢ pt c mA (ats 0 1) fullShare (slotM 2 (pass3 m c)) from Entails.of_eq (acc_tile_eq c 1 _ _ ((getT_setT _ _ _).trans (pass3_1 m c).symm))) $$ HT1
  ihave HT1 := (show pt c mA (ats 0 1) fullShare (slotM 2 (pass3 m c)) ⊢ sndPay m c 9 from Entails.rfl) $$ HT1
  iapply (wp_send_9 m K c [10, 11] (dev12_eq c) (by rfl) (by rfl)) $$ [HT1 HD9 HSj9 HO]
  · isplitr; · iexact HK
    isplitl [HT1]; · iexact HT1
    isplitl [HD9]; · iexact HD9
    isplitl [HSj9]; · iexact HSj9
    iexact HO
  iintro ⟨HBj9, HO⟩
  iapply (wp_load_tile 2 2 rfl (tile_subset_slot 2 2)) $$ Hx2; iintro Hx2
  iapply (wp_w_load m c (par 1) 7 (by rfl)) $$ HW; iintro HW
  iapply (wp_load_tile 0 2 rfl (Finset.Subset.refl (ats 0 2))) $$ HT2; iintro HT2
  iapply (wp_load_tile 1 2 rfl (tile_subset_slot 1 2)) $$ HB1; iintro HB1
  first | rw [wp_ret] | (unfold wpc; rw [wp_ret])
  imodintro; iapply Hk
  isplitl [HO]; · iexact HO
  isplitl [Hx2]; · iexact Hx2
  isplitl [HW]; · iexact HW
  isplitl [HB1]; · iexact HB1
  isplitl [HT2]; · iexact HT2
  iexact HBj9

theorem part25 {Q : (FVec F S512x1024 .bf16) → sProp (MT nD τ sig Unit (Elt F) ℕ UU ℕ)} (v13 : BitVec 32) :
    iprop(Amb m K ∗ pt c mA (ats 0 2) fullShare (slotM 2 (sum4 m c 7)) ∗ dstPay (F := F) (nxt c) 10 ∗ SOut 10 c ∗ Ow c [10, 11] ∗ pt c mXr (xs 2) fullShare (slotM 3 (xh m 3 c)) ∗ wHas m c (par 1) 7 ∗ pt c mA (ats 0 3) fullShare (slotM 2 (sum4 m c 7)) ∗ pt c mB (xs 1) fullShare (slotM 3 (pass2 m (prv c))))
      ⊢ iprop(((Ow c [11] ∗ pt c mXr (xs 2) fullShare (slotM 3 (xh m 3 c)) ∗ wHas m c (par 1) 7 ∗ pt c mB (xs 1) fullShare (slotM 3 (pass2 m (prv c))) ∗ pt c mA (ats 0 3) fullShare (slotM 2 (sum4 m c 7)) ∗ SBack 10 c) -∗ Q (k0_pay65 (gate3 m c) (getT (xh m 3 c) 3) (up (wOne m c 7)) (getT (sum4 m c 7) 3) (getT (pass2 m (prv c)) 3)))
          -∗ wpc c (k0_part25 mX (hstage0_0 0) mR (hstage0_1 0) mI (hstage0_2 0) mV (Memref.isWhole_whole _) mO (hstage0_3 0) mXr (Memref.isWhole_whole _) mG (Memref.isWhole_whole _) mGr (Memref.isWhole_whole _) mA (Memref.isWhole_whole _) mB (Memref.isWhole_whole _) mW (Memref.isWhole_whole _) cc0_scratch6 cc0_scratch7 cc0_scratch8 cc0_scratch9 cc0_scratch10 cc0_scratch11 cc0_scratch12 cc0_scratch13 cc0_scratch14  c v13 (gate3 m c) (k0_pay63 (gate3 m c) (getT (xh m 3 c) 2) (up (wOne m c 7)) (getT (sum4 m c 7) 2) (getT (pass2 m (prv c)) 2))) Q) := by
  rw [k0_part25_eq_skeleton]; unfold k0_part25_skel
  simp only [Prog.lift, Prog.bind_op, Prog.bind_ret, Prog.pure_eq_ret]
  iintro ⟨#HK, HT2, HD10, HSj10, HO, Hx2, HW, HT3, HB1⟩ Hk
  iapply (wp_load_tile 0 2 rfl (Finset.Subset.refl (ats 0 2))) $$ HT2; iintro HT2
  iapply (wp_store_tile 0 2 rfl (Finset.Subset.refl (ats 0 2)) (tile_subset_slot 0 2)) $$ HT2; iintro HT2
  ihave HT2 := (show pt c mA (ats 0 2) fullShare (slotM 2 (setT (sum4 m c 7) 2 (k0_pay64 (k0_pay63 (gate3 m c) (getT (xh m 3 c) 2) (up (wOne m c 7)) (getT (sum4 m c 7) 2) (getT (pass2 m (prv c)) 2))))) ⊢ pt c mA (ats 0 2) fullShare (slotM 2 (pass3 m c)) from Entails.of_eq (acc_tile_eq c 2 _ _ ((getT_setT _ _ _).trans (pass3_2 m c).symm))) $$ HT2
  ihave HT2 := (show pt c mA (ats 0 2) fullShare (slotM 2 (pass3 m c)) ⊢ sndPay m c 10 from Entails.rfl) $$ HT2
  iapply (wp_send_10 m K c [11] (dev13_eq c) (by rfl) (by rfl)) $$ [HT2 HD10 HSj10 HO]
  · isplitr; · iexact HK
    isplitl [HT2]; · iexact HT2
    isplitl [HD10]; · iexact HD10
    isplitl [HSj10]; · iexact HSj10
    iexact HO
  iintro ⟨HBj10, HO⟩
  iapply (wp_load_tile 2 3 rfl (tile_subset_slot 2 3)) $$ Hx2; iintro Hx2
  iapply (wp_w_load m c (par 1) 7 (by rfl)) $$ HW; iintro HW
  iapply (wp_load_tile 0 3 rfl (Finset.Subset.refl (ats 0 3))) $$ HT3; iintro HT3
  iapply (wp_load_tile 1 3 rfl (tile_subset_slot 1 3)) $$ HB1; iintro HB1
  first | rw [wp_ret] | (unfold wpc; rw [wp_ret])
  imodintro; iapply Hk
  isplitl [HO]; · iexact HO
  isplitl [Hx2]; · iexact Hx2
  isplitl [HW]; · iexact HW
  isplitl [HB1]; · iexact HB1
  isplitl [HT3]; · iexact HT3
  iexact HBj10

theorem part26 {Q : (FVec F S512x1024 .bf16) → sProp (MT nD τ sig Unit (Elt F) ℕ UU ℕ)} (v13 : BitVec 32) :
    iprop(Amb m K ∗ pt c mA (ats 0 3) fullShare (slotM 2 (sum4 m c 7)) ∗ dstPay (F := F) (nxt c) 11 ∗ SOut 11 c ∗ Ow c [11] ∗ RIn 8 c ∗ pt c mO Finset.univ fullShare (own m c))
      ⊢ iprop(((pt c mO Finset.univ fullShare (own m c) ∗ Ow c [] ∗ SBack 11 c ∗ Zr 8 c ∗ pt c mB (xts 2 0) fullShare (slotM 3 (pass3 m (prv c)))) -∗ Q (k0_pay67 (getR (own m c) 0) (getT (pass3 m (prv c)) 0)))
          -∗ wpc c (k0_part26 mX (hstage0_0 0) mR (hstage0_1 0) mI (hstage0_2 0) mV (Memref.isWhole_whole _) mO (hstage0_3 0) mXr (Memref.isWhole_whole _) mG (Memref.isWhole_whole _) mGr (Memref.isWhole_whole _) mA (Memref.isWhole_whole _) mB (Memref.isWhole_whole _) mW (Memref.isWhole_whole _) cc0_scratch6 cc0_scratch7 cc0_scratch8 cc0_scratch9 cc0_scratch10 cc0_scratch11 cc0_scratch12 cc0_scratch13 cc0_scratch14  c v13 (k0_pay65 (gate3 m c) (getT (xh m 3 c) 3) (up (wOne m c 7)) (getT (sum4 m c 7) 3) (getT (pass2 m (prv c)) 3))) Q) := by
  rw [k0_part26_eq_skeleton]; unfold k0_part26_skel
  simp only [Prog.lift, Prog.bind_op, Prog.bind_ret, Prog.pure_eq_ret]
  iintro ⟨#HK, HT3, HD11, HSj11, HO, HRj8, Ho⟩ Hk
  iapply (wp_load_tile 0 3 rfl (Finset.Subset.refl (ats 0 3))) $$ HT3; iintro HT3
  iapply (wp_store_tile 0 3 rfl (Finset.Subset.refl (ats 0 3)) (tile_subset_slot 0 3)) $$ HT3; iintro HT3
  ihave HT3 := (show pt c mA (ats 0 3) fullShare (slotM 2 (setT (sum4 m c 7) 3 (k0_pay66 (k0_pay65 (gate3 m c) (getT (xh m 3 c) 3) (up (wOne m c 7)) (getT (sum4 m c 7) 3) (getT (pass2 m (prv c)) 3))))) ⊢ pt c mA (ats 0 3) fullShare (slotM 2 (pass3 m c)) from Entails.of_eq (acc_tile_eq c 3 _ _ ((getT_setT _ _ _).trans (pass3_3 m c).symm))) $$ HT3
  ihave HT3 := (show pt c mA (ats 0 3) fullShare (slotM 2 (pass3 m c)) ⊢ sndPay m c 11 from Entails.rfl) $$ HT3
  iapply (wp_send_11 m K c [] (dev14_eq c) (by rfl) (by rfl)) $$ [HT3 HD11 HSj11 HO]
  · isplitr; · iexact HK
    isplitl [HT3]; · iexact HT3
    isplitl [HD11]; · iexact HD11
    isplitl [HSj11]; · iexact HSj11
    iexact HO
  iintro ⟨HBj11, HO⟩
  iapply (wp_recv m K c 8 [] (by rfl) (by decide) (by rfl)) $$ [HRj8 HO]
  · isplitr; · iexact HK
    isplitl [HRj8]; · iexact HRj8
    iexact HO
  iintro ⟨HU0, HZr8, HO⟩
  ihave HU0 := (show rcvPay m c 8 ⊢ pt c mB (xts 2 0) fullShare (slotM 3 (pass3 m (prv c))) from Entails.rfl) $$ HU0
  iapply (wp_load_rows 0 rfl) $$ Ho; iintro Ho
  iapply (wp_load_tile 2 0 rfl (Finset.Subset.refl (xts 2 0))) $$ HU0; iintro HU0
  first | rw [wp_ret] | (unfold wpc; rw [wp_ret])
  imodintro; iapply Hk
  isplitl [Ho]; · iexact Ho
  isplitl [HO]; · iexact HO
  isplitl [HBj11]; · iexact HBj11
  isplitl [HZr8]; · iexact HZr8
  iexact HU0

theorem part27 {Q : (Vec F S512x1024 .bf16) → sProp (MT nD τ sig Unit (Elt F) ℕ UU ℕ)} (v13 : BitVec 32) :
    iprop(Amb m K ∗ pt c mO Finset.univ fullShare (own m c) ∗ RIn 9 c ∗ Ow c [] ∗ RIn 10 c)
      ⊢ iprop(((pt c mO Finset.univ fullShare (setR (setR (own m c) 0 ((k0_pay67 (getR (own m c) 0) (getT (pass3 m (prv c)) 0)))) 1 (k0_pay68 (getR (setR (own m c) 0 ((k0_pay67 (getR (own m c) 0) (getT (pass3 m (prv c)) 0)))) 1) (getT (pass3 m (prv c)) 1))) ∗ Ow c [] ∗ Zr 9 c ∗ pt c mB (xts 2 1) fullShare (slotM 3 (pass3 m (prv c))) ∗ Zr 10 c ∗ pt c mB (xts 2 2) fullShare (slotM 3 (pass3 m (prv c)))) -∗ Q (getR (setR (setR (own m c) 0 ((k0_pay67 (getR (own m c) 0) (getT (pass3 m (prv c)) 0)))) 1 (k0_pay68 (getR (setR (own m c) 0 ((k0_pay67 (getR (own m c) 0) (getT (pass3 m (prv c)) 0)))) 1) (getT (pass3 m (prv c)) 1))) 2))
          -∗ wpc c (k0_part27 mX (hstage0_0 0) mR (hstage0_1 0) mI (hstage0_2 0) mV (Memref.isWhole_whole _) mO (hstage0_3 0) mXr (Memref.isWhole_whole _) mG (Memref.isWhole_whole _) mGr (Memref.isWhole_whole _) mA (Memref.isWhole_whole _) mB (Memref.isWhole_whole _) mW (Memref.isWhole_whole _) cc0_scratch6 cc0_scratch7 cc0_scratch8 cc0_scratch9 cc0_scratch10 cc0_scratch11 cc0_scratch12 cc0_scratch13 cc0_scratch14  v13 (k0_pay67 (getR (own m c) 0) (getT (pass3 m (prv c)) 0))) Q) := by
  rw [k0_part27_eq_skeleton]; unfold k0_part27_skel
  simp only [Prog.lift, Prog.bind_op, Prog.bind_ret, Prog.pure_eq_ret]
  iintro ⟨#HK, Ho, HRj9, HO, HRj10⟩ Hk
  iapply (wp_load_rows 0 rfl) $$ Ho; iintro Ho
  iapply (wp_store_rows 0 rfl) $$ Ho; iintro Ho
  iapply (wp_recv m K c 9 [] (by rfl) (by decide) (by rfl)) $$ [HRj9 HO]
  · isplitr; · iexact HK
    isplitl [HRj9]; · iexact HRj9
    iexact HO
  iintro ⟨HU1, HZr9, HO⟩
  ihave HU1 := (show rcvPay m c 9 ⊢ pt c mB (xts 2 1) fullShare (slotM 3 (pass3 m (prv c))) from Entails.rfl) $$ HU1
  iapply (wp_load_rows 1 rfl) $$ Ho; iintro Ho
  iapply (wp_load_tile 2 1 rfl (Finset.Subset.refl (xts 2 1))) $$ HU1; iintro HU1
  iapply (wp_load_rows 1 rfl) $$ Ho; iintro Ho
  iapply (wp_store_rows 1 rfl) $$ Ho; iintro Ho
  iapply (wp_recv m K c 10 [] (by rfl) (by decide) (by rfl)) $$ [HRj10 HO]
  · isplitr; · iexact HK
    isplitl [HRj10]; · iexact HRj10
    iexact HO
  iintro ⟨HU2, HZr10, HO⟩
  ihave HU2 := (show rcvPay m c 10 ⊢ pt c mB (xts 2 2) fullShare (slotM 3 (pass3 m (prv c))) from Entails.rfl) $$ HU2
  iapply (wp_load_rows 2 rfl) $$ Ho; iintro Ho
  first | rw [wp_ret] | (unfold wpc; rw [wp_ret])
  imodintro; iapply Hk
  isplitl [Ho]; · iexact Ho
  isplitl [HO]; · iexact HO
  isplitl [HZr9]; · iexact HZr9
  isplitl [HU1]; · iexact HU1
  isplitl [HZr10]; · iexact HZr10
  iexact HU2

theorem part28 {Q : (PUnit) → sProp (MT nD τ sig Unit (Elt F) ℕ UU ℕ)} (v13 : BitVec 32) :
    iprop(Amb m K ∗ pt c mB (xts 2 2) fullShare (slotM 3 (pass3 m (prv c))) ∗ pt c mO Finset.univ fullShare (setR (setR (own m c) 0 ((k0_pay67 (getR (own m c) 0) (getT (pass3 m (prv c)) 0)))) 1 (k0_pay68 (getR (setR (own m c) 0 ((k0_pay67 (getR (own m c) 0) (getT (pass3 m (prv c)) 0)))) 1) (getT (pass3 m (prv c)) 1))) ∗ RIn 11 c ∗ Ow c [])
      ⊢ iprop(((pt c mO Finset.univ fullShare (outM m c) ∗ Ow c [] ∗ pt c mB (xts 2 2) fullShare (slotM 3 (pass3 m (prv c))) ∗ Zr 11 c ∗ pt c mB (xts 2 3) fullShare (slotM 3 (pass3 m (prv c)))) -∗ Q ⟨⟩)
          -∗ wpc c (k0_part28 mX (hstage0_0 0) mR (hstage0_1 0) mI (hstage0_2 0) mV (Memref.isWhole_whole _) mO (hstage0_3 0) mXr (Memref.isWhole_whole _) mG (Memref.isWhole_whole _) mGr (Memref.isWhole_whole _) mA (Memref.isWhole_whole _) mB (Memref.isWhole_whole _) mW (Memref.isWhole_whole _) cc0_scratch6 cc0_scratch7 cc0_scratch8 cc0_scratch9 cc0_scratch10 cc0_scratch11 cc0_scratch12 cc0_scratch13 cc0_scratch14  v13 (getR (setR (setR (own m c) 0 ((k0_pay67 (getR (own m c) 0) (getT (pass3 m (prv c)) 0)))) 1 (k0_pay68 (getR (setR (own m c) 0 ((k0_pay67 (getR (own m c) 0) (getT (pass3 m (prv c)) 0)))) 1) (getT (pass3 m (prv c)) 1))) 2)) Q) := by
  rw [k0_part28_eq_skeleton]; unfold k0_part28_skel
  simp only [Prog.lift, Prog.bind_op, Prog.bind_ret, Prog.pure_eq_ret]
  iintro ⟨#HK, HU2, Ho, HRj11, HO⟩ Hk
  iapply (wp_load_tile 2 2 rfl (Finset.Subset.refl (xts 2 2))) $$ HU2; iintro HU2
  iapply (wp_load_rows 2 rfl) $$ Ho; iintro Ho
  iapply (wp_store_rows 2 rfl) $$ Ho; iintro Ho
  iapply (wp_recv m K c 11 [] (by rfl) (by decide) (by rfl)) $$ [HRj11 HO]
  · isplitr; · iexact HK
    isplitl [HRj11]; · iexact HRj11
    iexact HO
  iintro ⟨HU3, HZr11, HO⟩
  ihave HU3 := (show rcvPay m c 11 ⊢ pt c mB (xts 2 3) fullShare (slotM 3 (pass3 m (prv c))) from Entails.rfl) $$ HU3
  iapply (wp_load_rows 3 rfl) $$ Ho; iintro Ho
  iapply (wp_load_tile 2 3 rfl (Finset.Subset.refl (xts 2 3))) $$ HU3; iintro HU3
  iapply (wp_load_rows 3 rfl) $$ Ho; iintro Ho
  iapply (wp_store_rows 3 rfl) $$ Ho; iintro Ho
  ihave Ho := (show pt c mO Finset.univ fullShare (setR (setR (setR (setR (own m c) 0 ((k0_pay67 (getR (own m c) 0) (getT (pass3 m (prv c)) 0)))) 1 (k0_pay68 (getR (setR (own m c) 0 ((k0_pay67 (getR (own m c) 0) (getT (pass3 m (prv c)) 0)))) 1) (getT (pass3 m (prv c)) 1))) 2 (k0_pay69 (getR (setR (setR (own m c) 0 ((k0_pay67 (getR (own m c) 0) (getT (pass3 m (prv c)) 0)))) 1 (k0_pay68 (getR (setR (own m c) 0 ((k0_pay67 (getR (own m c) 0) (getT (pass3 m (prv c)) 0)))) 1) (getT (pass3 m (prv c)) 1))) 2) (getT (pass3 m (prv c)) 2))) 3 (k0_pay70 (getR (setR (setR (setR (own m c) 0 ((k0_pay67 (getR (own m c) 0) (getT (pass3 m (prv c)) 0)))) 1 (k0_pay68 (getR (setR (own m c) 0 ((k0_pay67 (getR (own m c) 0) (getT (pass3 m (prv c)) 0)))) 1) (getT (pass3 m (prv c)) 1))) 2 (k0_pay69 (getR (setR (setR (own m c) 0 ((k0_pay67 (getR (own m c) 0) (getT (pass3 m (prv c)) 0)))) 1 (k0_pay68 (getR (setR (own m c) 0 ((k0_pay67 (getR (own m c) 0) (getT (pass3 m (prv c)) 0)))) 1) (getT (pass3 m (prv c)) 1))) 2) (getT (pass3 m (prv c)) 2))) 3) (getT (pass3 m (prv c)) 3))) ⊢ pt c mO Finset.univ fullShare (outM m c) from Entails.of_eq (by simp only [getR_setR_lt]; exact congrArg (fun Z => pt c mO Finset.univ fullShare Z) (setR_all (own m c) ![k0_pay67 (getR (own m c) 0) (getT (pass3 m (prv c)) 0), k0_pay68 (getR (own m c) 1) (getT (pass3 m (prv c)) 1), k0_pay69 (getR (own m c) 2) (getT (pass3 m (prv c)) 2), k0_pay70 (getR (own m c) 3) (getT (pass3 m (prv c)) 3)]))) $$ Ho
  first | rw [wp_ret] | (unfold wpc; rw [wp_ret])
  imodintro; iapply Hk
  isplitl [Ho]; · iexact Ho
  isplitl [HO]; · iexact HO
  isplitl [HU2]; · iexact HU2
  isplitl [HZr11]; · iexact HZr11
  iexact HU3

theorem part29 {Q : (PUnit) → sProp (MT nD τ sig Unit (Elt F) ℕ UU ℕ)} :
    iprop(Amb m K ∗ SBack 0 c ∗ Ow c [] ∗ SBack 1 c ∗ SBack 2 c ∗ SBack 3 c ∗ SBack 5 c)
      ⊢ iprop(((Ow c [] ∗ Zs 0 c ∗ pt c mX Finset.univ qL (xh m 0 c) ∗ Zs 1 c ∗ pt c mG Finset.univ qL (gh m 0 c) ∗ Zs 2 c ∗ pt c mXr (xs 0) qL (slotM 3 (xh m 1 c)) ∗ Zs 3 c ∗ pt c mGr (gs 0) qL (slotM 3 (gh m 1 c)) ∗ Zs 5 c ∗ pt c mXr (xs 1) qL (slotM 3 (xh m 2 c))) -∗ Q ⟨⟩)
          -∗ wpc c (k0_part29 mX (hstage0_0 0) mR (hstage0_1 0) mI (hstage0_2 0) mV (Memref.isWhole_whole _) mO (hstage0_3 0) mXr (Memref.isWhole_whole _) mG (Memref.isWhole_whole _) mGr (Memref.isWhole_whole _) mA (Memref.isWhole_whole _) mB (Memref.isWhole_whole _) mW (Memref.isWhole_whole _) cc0_scratch6 cc0_scratch7 cc0_scratch8 cc0_scratch9 cc0_scratch10 cc0_scratch11 cc0_scratch12 cc0_scratch13 cc0_scratch14 ) Q) := by
  rw [k0_part29_eq_skeleton]; unfold k0_part29_skel
  simp only [Prog.lift, Prog.bind_op, Prog.bind_ret, Prog.pure_eq_ret]
  iintro ⟨#HK, HBj0, HO, HBj1, HBj2, HBj3, HBj5⟩ Hk
  iapply (wp_back m K c 0 [] (by rfl) (by rfl)) $$ [HBj0 HO]
  · isplitr; · iexact HK
    isplitl [HBj0]; · iexact HBj0
    iexact HO
  iintro ⟨HxL, HZs0, HO⟩
  ihave HxL := (show sndPay m c 0 ⊢ pt c mX Finset.univ qL (xh m 0 c) from Entails.rfl) $$ HxL
  iapply (wp_back m K c 1 [] (by rfl) (by rfl)) $$ [HBj1 HO]
  · isplitr; · iexact HK
    isplitl [HBj1]; · iexact HBj1
    iexact HO
  iintro ⟨HgL, HZs1, HO⟩
  ihave HgL := (show sndPay m c 1 ⊢ pt c mG Finset.univ qL (gh m 0 c) from Entails.rfl) $$ HgL
  iapply (wp_back m K c 2 [] (by rfl) (by rfl)) $$ [HBj2 HO]
  · isplitr; · iexact HK
    isplitl [HBj2]; · iexact HBj2
    iexact HO
  iintro ⟨Hx0L, HZs2, HO⟩
  ihave Hx0L := (show sndPay m c 2 ⊢ pt c mXr (xs 0) qL (slotM 3 (xh m 1 c)) from Entails.rfl) $$ Hx0L
  iapply (wp_back m K c 3 [] (by rfl) (by rfl)) $$ [HBj3 HO]
  · isplitr; · iexact HK
    isplitl [HBj3]; · iexact HBj3
    iexact HO
  iintro ⟨Hg0L, HZs3, HO⟩
  ihave Hg0L := (show sndPay m c 3 ⊢ pt c mGr (gs 0) qL (slotM 3 (gh m 1 c)) from Entails.rfl) $$ Hg0L
  iapply (wp_back m K c 5 [] (by rfl) (by rfl)) $$ [HBj5 HO]
  · isplitr; · iexact HK
    isplitl [HBj5]; · iexact HBj5
    iexact HO
  iintro ⟨Hx1L, HZs5, HO⟩
  ihave Hx1L := (show sndPay m c 5 ⊢ pt c mXr (xs 1) qL (slotM 3 (xh m 2 c)) from Entails.rfl) $$ Hx1L
  first | rw [wp_ret] | (unfold wpc; rw [wp_ret])
  imodintro; iapply Hk
  isplitl [HO]; · iexact HO
  isplitl [HZs0]; · iexact HZs0
  isplitl [HxL]; · iexact HxL
  isplitl [HZs1]; · iexact HZs1
  isplitl [HgL]; · iexact HgL
  isplitl [HZs2]; · iexact HZs2
  isplitl [Hx0L]; · iexact Hx0L
  isplitl [HZs3]; · iexact HZs3
  isplitl [Hg0L]; · iexact Hg0L
  isplitl [HZs5]; · iexact HZs5
  iexact Hx1L

theorem part30 {Q : (PUnit) → sProp (MT nD τ sig Unit (Elt F) ℕ UU ℕ)} :
    iprop(Amb m K ∗ SBack 6 c ∗ Ow c [] ∗ SBack 7 c ∗ SBack 8 c)
      ⊢ iprop(((Ow c [] ∗ Zs 6 c ∗ pt c mGr (gs 1) qL (slotM 3 (gh m 2 c)) ∗ Zs 7 c ∗ pt c mA (acs 1) fullShare (slotM 2 (pass2 m c)) ∗ Zs 8 c ∗ pt c mA (ats 0 0) fullShare (slotM 2 (pass3 m c))) -∗ Q ⟨⟩)
          -∗ wpc c (k0_part30 mX (hstage0_0 0) mR (hstage0_1 0) mI (hstage0_2 0) mV (Memref.isWhole_whole _) mO (hstage0_3 0) mXr (Memref.isWhole_whole _) mG (Memref.isWhole_whole _) mGr (Memref.isWhole_whole _) mA (Memref.isWhole_whole _) mB (Memref.isWhole_whole _) mW (Memref.isWhole_whole _) cc0_scratch6 cc0_scratch7 cc0_scratch8 cc0_scratch9 cc0_scratch10 cc0_scratch11 cc0_scratch12 cc0_scratch13 cc0_scratch14 ) Q) := by
  rw [k0_part30_eq_skeleton]; unfold k0_part30_skel
  simp only [Prog.lift, Prog.bind_op, Prog.bind_ret, Prog.pure_eq_ret]
  iintro ⟨#HK, HBj6, HO, HBj7, HBj8⟩ Hk
  iapply (wp_back m K c 6 [] (by rfl) (by rfl)) $$ [HBj6 HO]
  · isplitr; · iexact HK
    isplitl [HBj6]; · iexact HBj6
    iexact HO
  iintro ⟨Hg1L, HZs6, HO⟩
  ihave Hg1L := (show sndPay m c 6 ⊢ pt c mGr (gs 1) qL (slotM 3 (gh m 2 c)) from Entails.rfl) $$ Hg1L
  iapply (wp_back m K c 7 [] (by rfl) (by rfl)) $$ [HBj7 HO]
  · isplitr; · iexact HK
    isplitl [HBj7]; · iexact HBj7
    iexact HO
  iintro ⟨HA1, HZs7, HO⟩
  ihave HA1 := (show sndPay m c 7 ⊢ pt c mA (acs 1) fullShare (slotM 2 (pass2 m c)) from Entails.rfl) $$ HA1
  iapply (wp_back m K c 8 [] (by rfl) (by rfl)) $$ [HBj8 HO]
  · isplitr; · iexact HK
    isplitl [HBj8]; · iexact HBj8
    iexact HO
  iintro ⟨HT0, HZs8, HO⟩
  ihave HT0 := (show sndPay m c 8 ⊢ pt c mA (ats 0 0) fullShare (slotM 2 (pass3 m c)) from Entails.rfl) $$ HT0
  first | rw [wp_ret] | (unfold wpc; rw [wp_ret])
  imodintro; iapply Hk
  isplitl [HO]; · iexact HO
  isplitl [HZs6]; · iexact HZs6
  isplitl [Hg1L]; · iexact Hg1L
  isplitl [HZs7]; · iexact HZs7
  isplitl [HA1]; · iexact HA1
  isplitl [HZs8]; · iexact HZs8
  iexact HT0

end Cert.KernelIdeal.Moe

end
-- ==== Proof.KernelIdeal.Body.lean ====
/-
# The body

The pieces put together: what the body takes and what it leaves.
-/
module

public import proofs.«01_k».proof.Proof.KernelIdeal.StepsC

@[expose] public section

noncomputable section

namespace Cert.KernelIdeal.Moe

open Cert.KernelIdeal Cert.KernelIdeal.Gen Cert.Moe
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (m : (ℓ : Loc nD τ sig) → Buf (Elt F) ℓ) (K : Dev nD × CI → ℕ)
variable {α : Type}
variable (c : Dev nD)

/-- What the body leaves of the ring's cells, and of the scratch buffers. -/
def cellsDone (c : Dev nD) : sProp (MT nD τ sig Unit (Elt F) ℕ UU ℕ) :=
  iprop(semVal (barCell c) 0 ∗ bigSep Finset.univ (fun j => Zs j c) ∗ bigSep Finset.univ (fun j => Zr j c)
    ∗ semVal ((c : Thread nD τ), SemLoc.dma (wS 0)) 0 ∗ semVal ((c : Thread nD τ), SemLoc.dma (wS 1)) 0)
def scratch (c : Dev nD) : sProp (MT nD τ sig Unit (Elt F) ℕ UU ℕ) :=
  iprop((∃ X, pt c mXr Finset.univ fullShare X) ∗ (∃ X, pt c mG Finset.univ fullShare X) ∗ (∃ X, pt c mGr Finset.univ fullShare X)
    ∗ (∃ X, pt c mA Finset.univ fullShare X) ∗ (∃ X, pt c mB Finset.univ fullShare X) ∗ ∃ X, pt c mW Finset.univ fullShare X)
/-- What the body leaves. -/
def bodyFin (c : Dev nD) : sProp (MT nD τ sig Unit (Elt F) ℕ UU ℕ) :=
  iprop((pt c mX Finset.univ fullShare (xh m 0 c) ∗ pt c mR Finset.univ fullShare (rin m c) ∗ pt c mI Finset.univ fullShare (iin m c)
      ∗ pt c mO Finset.univ fullShare (outM m c))
    ∗ Ow c [] ∗ cellsDone (F := F) c ∗ wHbm m c ∗ scratch (F := F) c)

theorem bigSep_12 {I : Fin 12 → sProp (MT nD τ sig Unit (Elt F) ℕ UU ℕ)} : bigSep Finset.univ I = iprop(I 0 ∗ I 1 ∗ I 2 ∗ I 3 ∗ I 4 ∗ I 5 ∗ I 6 ∗ I 7 ∗ I 8 ∗ I 9 ∗ I 10 ∗ I 11) := by
  rw [bigSep_univ_eq_bigSepL ([0, 1, 2, 3, 4, 5, 6, 7, 8, 9, 10, 11] : List (Fin 12)) (by decide) (by decide)]
  rfl

/-- Two parts of one buffer, each at some contents, are their union at some contents. -/
theorem some_join {sp : Space} {s : Shape} {e : EltTy} (M : Memref sig .tc sp s e) {R R' S : Finset s.Idx} (X X' : s.Idx → Elt F e) (h : Disjoint R R') (hS : R ∪ R' = S) :
    iprop(pt c M R fullShare X ∗ pt c M R' fullShare X') ⊢ (∃ Z, pt c M S fullShare Z : sProp (MT nD τ sig Unit (Elt F) ℕ UU ℕ)) := by
  subst hS
  exact part_join (c : Thread nD τ) M fullShare X X' h

theorem slots_join {C : ℕ} {e : EltTy} (M : Memref sig .tc .vmem (Sh3 3 2048 C) e) (X Y Z : (Sh3 3 2048 C).Idx → Elt F e) :
    iprop(pt c M (slot 3 2048 C 0) fullShare X ∗ pt c M (slot 3 2048 C 1) fullShare Y ∗ pt c M (slot 3 2048 C 2) fullShare Z)
      ⊢ (∃ W, pt c M Finset.univ fullShare W : sProp (MT nD τ sig Unit (Elt F) ℕ UU ℕ)) := by
  iintro ⟨H0, H1, H2⟩
  icases (some_join c M Y Z (slot_disjoint (k := 1) (k' := 2) (by decide)) rfl) $$ [H1 H2] with ⟨%W, H⟩
  · isplitl [H1]; · iexact H1
    iexact H2
  iapply (some_join c M X W (Finset.disjoint_union_right.mpr ⟨slot_disjoint (k := 0) (k' := 1) (by decide), slot_disjoint (k := 0) (k' := 2) (by decide)⟩) univ_slots3.symm)
  isplitl [H0]; · iexact H0
  iexact H

theorem tiles_join {n : ℕ} (M : Memref sig .tc .vmem (Sh3 n 2048 1024) .bf16) (k : ℕ) (X0 X1 X2 X3 : (Sh3 n 2048 1024).Idx → Elt F .bf16) :
    iprop(pt c M (tile n 2048 1024 k 0) fullShare X0 ∗ pt c M (tile n 2048 1024 k 1) fullShare X1 ∗ pt c M (tile n 2048 1024 k 2) fullShare X2
        ∗ pt c M (tile n 2048 1024 k 3) fullShare X3)
      ⊢ (∃ W, pt c M (slot n 2048 1024 k) fullShare W : sProp (MT nD τ sig Unit (Elt F) ℕ UU ℕ)) := by
  have d : ∀ a b : ℕ, a ≠ b → Disjoint (tile n 2048 1024 k a) (tile n 2048 1024 k b) := fun a b h => tile_disjoint h
  iintro ⟨H0, H1, H2, H3⟩
  icases (some_join c M X2 X3 (d 2 3 (by decide)) rfl) $$ [H2 H3] with ⟨%W, H⟩
  · isplitl [H2]; · iexact H2
    iexact H3
  icases (some_join c M X1 W (Finset.disjoint_union_right.mpr ⟨d 1 2 (by decide), d 1 3 (by decide)⟩) rfl) $$ [H1 H] with ⟨%W', H⟩
  · isplitl [H1]; · iexact H1
    iexact H
  iapply (some_join c M X0 W' (Finset.disjoint_union_right.mpr ⟨d 0 1 (by decide), Finset.disjoint_union_right.mpr ⟨d 0 2 (by decide), d 0 3 (by decide)⟩⟩) (slot_tiles k).symm)
  isplitl [H0]; · iexact H0
  iexact H

set_option maxHeartbeats 1600000 in
/-- The body. -/
theorem body_wp {Q : PUnit → sProp (MT nD τ sig Unit (Elt F) ℕ UU ℕ)} (O0 A0 A1 : XM F) (G0 : GM F) (W : Waits sig Unit) :
    iprop(Amb m K ∗ owes (c : Thread nD τ) (O₀ c) W ∗ BOut c ∗ BIn c ∗ barPay c ∗ pt c mX Finset.univ fullShare (xh m 0 c) ∗ pt c mR Finset.univ fullShare (rin m c) ∗ pt c mI Finset.univ fullShare (iin m c) ∗ pt c mO Finset.univ fullShare O0 ∗ pt c mG Finset.univ fullShare G0 ∗ pt c mA (acs 0) fullShare (slotM 2 (A0)) ∗ pt c mA (acs 1) fullShare (slotM 2 (A1)) ∗ wFree c (par 0) ∗ wFree c (par 1) ∗ wHbm m c ∗ SOut 0 c ∗ RIn 0 c ∗ SOut 1 c ∗ RIn 1 c ∗ SOut 2 c ∗ RIn 2 c ∗ SOut 3 c ∗ RIn 3 c ∗ SOut 4 c ∗ RIn 4 c ∗ SOut 5 c ∗ RIn 5 c ∗ SOut 6 c ∗ RIn 6 c ∗ SOut 7 c ∗ RIn 7 c ∗ SOut 8 c ∗ RIn 8 c ∗ SOut 9 c ∗ RIn 9 c ∗ SOut 10 c ∗ RIn 10 c ∗ SOut 11 c ∗ RIn 11 c)
      ⊢ iprop((bodyFin m c -∗ Q ⟨⟩)
          -∗ wpc c (cc0_body mX (hstage0_0 0) mR (hstage0_1 0) mI (hstage0_2 0) mV (Memref.isWhole_whole _) mO (hstage0_3 0) mXr (Memref.isWhole_whole _) mG (Memref.isWhole_whole _) mGr (Memref.isWhole_whole _) mA (Memref.isWhole_whole _) mB (Memref.isWhole_whole _) mW (Memref.isWhole_whole _) cc0_scratch6 cc0_scratch7 cc0_scratch8 cc0_scratch9 cc0_scratch10 cc0_scratch11 cc0_scratch12 cc0_scratch13 cc0_scratch14) Q) := by
  rw [cc0_body_eq_skeleton]; unfold cc0_body_skel
  simp only [Prog.lift, Prog.bind_op, Prog.bind_ret, Prog.pure_eq_ret]
  iintro ⟨#HK, HO0, HBO, HBI, HBP, Hx, Hr, Hi, Ho, Hg, HA0, HA1, HF0, HF1, HV, HSj0, HRj0, HSj1, HRj1, HSj2, HRj2, HSj3, HRj3, HSj4, HRj4, HSj5, HRj5, HSj6, HRj6, HSj7, HRj7, HSj8, HRj8, HSj9, HRj9, HSj10, HRj10, HSj11, HRj11⟩ Hk
  rw [wpc_bind]
  iapply (part9 m K c) $$ [Hx Hr Hi]
  · isplitr; · iexact HK
    isplitl [Hx]; · iexact Hx
    isplitl [Hr]; · iexact Hr
    iexact Hi
  iintro %v13 %v24 ⟨Hx, Hr, Hi⟩
  dsimp only
  rw [wpc_bind]
  iapply (part10 m K c _ _ _ _) $$ [Hi Hg HBO HBP HO0 HBI]
  · isplitr; · iexact HK
    isplitl [Hi]; · iexact Hi
    isplitl [Hg]; · iexact Hg
    isplitl [HBO]; · iexact HBO
    isplitl [HBP]; · iexact HBP
    isplitl [HO0]; · iexact HO0
    iexact HBI
  iintro %v70 ⟨Hi, Hg, HZb, HO, HD0, HD1, HD2, HD3, HD4, HD5, HD6, HD7, HD8, HD9, HD10, HD11⟩
  dsimp only
  rw [wpc_bind]
  iapply (part11 m K c _ _ _) $$ [Hx HD0 HSj0 HO Hg HD1 HSj1 HA0]
  · isplitr; · iexact HK
    isplitl [Hx]; · iexact Hx
    isplitl [HD0]; · iexact HD0
    isplitl [HSj0]; · iexact HSj0
    isplitl [HO]; · iexact HO
    isplitl [Hg]; · iexact Hg
    isplitl [HD1]; · iexact HD1
    isplitl [HSj1]; · iexact HSj1
    iexact HA0
  iintro ⟨HA0, HO, Hx, HBj0, Hg, HBj1⟩
  dsimp only
  rw [wpc_bind]
  iapply (part12 m K c _ _) $$ [HA0 HV HF0 HF1 HO Hx Ho]
  · isplitr; · iexact HK
    isplitl [HA0]; · iexact HA0
    isplitl [HV]; · iexact HV
    isplitl [HF0]; · iexact HF0
    isplitl [HF1]; · iexact HF1
    isplitl [HO]; · iexact HO
    isplitl [Hx]; · iexact Hx
    iexact Ho
  iintro ⟨Ho, HA0, HF1, HO, Hx, HV, HF0⟩
  rw [wpc_bind]
  iapply (part13 m K c _ _) $$ [Ho HRj0 HO HRj1 HD2 HSj2]
  · isplitr; · iexact HK
    isplitl [Ho]; · iexact Ho
    isplitl [HRj0]; · iexact HRj0
    isplitl [HO]; · iexact HO
    isplitl [HRj1]; · iexact HRj1
    isplitl [HD2]; · iexact HD2
    iexact HSj2
  iintro ⟨Ho, HO, HZr0, HZr1, Hg0, Hx0, HBj2⟩
  rw [wpc_bind]
  iapply (part14 m K c) $$ [Hg0 HD3 HSj3 HO HA0]
  · isplitr; · iexact HK
    isplitl [Hg0]; · iexact Hg0
    isplitl [HD3]; · iexact HD3
    isplitl [HSj3]; · iexact HSj3
    isplitl [HO]; · iexact HO
    iexact HA0
  iintro ⟨HA0, HO, Hg0, HBj3⟩
  rw [wpc_bind]
  iapply (part15 m K c _) $$ [HV HF0 HF1 HO Hx0 HA0 HD4 HSj4 HRj2]
  · isplitr; · iexact HK
    isplitl [HV]; · iexact HV
    isplitl [HF0]; · iexact HF0
    isplitl [HF1]; · iexact HF1
    isplitl [HO]; · iexact HO
    isplitl [Hx0]; · iexact Hx0
    isplitl [HA0]; · iexact HA0
    isplitl [HD4]; · iexact HD4
    isplitl [HSj4]; · iexact HSj4
    iexact HRj2
  iintro ⟨HF1, HO, Hx0, HV, HF0, HBj4, HZr2, Hx1⟩
  rw [wpc_bind]
  iapply (part16 m K c _) $$ [HRj3 HO Hx1 HD5 HSj5 HD6 HSj6]
  · isplitr; · iexact HK
    isplitl [HRj3]; · iexact HRj3
    isplitl [HO]; · iexact HO
    isplitl [Hx1]; · iexact Hx1
    isplitl [HD5]; · iexact HD5
    isplitl [HSj5]; · iexact HSj5
    isplitl [HD6]; · iexact HD6
    iexact HSj6
  iintro ⟨HO, HZr3, Hx1, HBj5, Hg1, HBj6⟩
  rw [wpc_bind]
  iapply (part17 m K c _) $$ [Hg1 HA1 HV HF0 HF1 HO Hx1]
  · isplitr; · iexact HK
    isplitl [Hg1]; · iexact Hg1
    isplitl [HA1]; · iexact HA1
    isplitl [HV]; · iexact HV
    isplitl [HF0]; · iexact HF0
    isplitl [HF1]; · iexact HF1
    isplitl [HO]; · iexact HO
    iexact Hx1
  iintro ⟨HA1, HF1, HO, Hx1, Hg1, HV, HF0⟩
  rw [wpc_bind]
  iapply (part18 m K c _) $$ [HRj4 HO HA1]
  · isplitr; · iexact HK
    isplitl [HRj4]; · iexact HRj4
    isplitl [HO]; · iexact HO
    iexact HA1
  iintro ⟨HA1, HO, HZr4, HB0⟩
  rw [wpc_bind]
  iapply (part19 m K c _) $$ [HA1 HB0]
  · isplitr; · iexact HK
    isplitl [HA1]; · iexact HA1
    iexact HB0
  iintro ⟨HA1, HB0⟩
  rw [wpc_bind]
  iapply (part20 m K c _) $$ [HA1 HD7 HSj7 HO HBj4 HRj5 HRj6]
  · isplitr; · iexact HK
    isplitl [HA1]; · iexact HA1
    isplitl [HD7]; · iexact HD7
    isplitl [HSj7]; · iexact HSj7
    isplitl [HO]; · iexact HO
    isplitl [HBj4]; · iexact HBj4
    isplitl [HRj5]; · iexact HRj5
    iexact HRj6
  iintro ⟨HO, HBj7, HZs4, HA0, HZr5, Hx2, HZr6, Hg2⟩
  rw [wpc_bind]
  iapply (part21 m K c) $$ [Hg2 HA0 HV HF0 HF1 HO Hx2]
  · isplitr; · iexact HK
    isplitl [Hg2]; · iexact Hg2
    isplitl [HA0]; · iexact HA0
    isplitl [HV]; · iexact HV
    isplitl [HF0]; · iexact HF0
    isplitl [HF1]; · iexact HF1
    isplitl [HO]; · iexact HO
    iexact Hx2
  iintro ⟨HF1, HO, HA0, Hx2, Hg2, HW⟩
  rw [wpc_bind]
  iapply (part22 m K c _) $$ [HW HO HRj7 HA0 Hx2]
  · isplitr; · iexact HK
    isplitl [HW]; · iexact HW
    isplitl [HO]; · iexact HO
    isplitl [HRj7]; · iexact HRj7
    isplitl [HA0]; · iexact HA0
    iexact Hx2
  iintro ⟨HO, Hx2, HW, HV, HZr7, HB1, HT0, HT1, HT2, HT3⟩
  dsimp only
  rw [wpc_bind]
  iapply (part23 m K c _) $$ [HT0 HD8 HSj8 HO Hx2 HW HT1 HB1]
  · isplitr; · iexact HK
    isplitl [HT0]; · iexact HT0
    isplitl [HD8]; · iexact HD8
    isplitl [HSj8]; · iexact HSj8
    isplitl [HO]; · iexact HO
    isplitl [Hx2]; · iexact Hx2
    isplitl [HW]; · iexact HW
    isplitl [HT1]; · iexact HT1
    iexact HB1
  iintro ⟨HO, Hx2, HW, HB1, HT1, HBj8⟩
  dsimp only
  rw [wpc_bind]
  iapply (part24 m K c _) $$ [HT1 HD9 HSj9 HO Hx2 HW HT2 HB1]
  · isplitr; · iexact HK
    isplitl [HT1]; · iexact HT1
    isplitl [HD9]; · iexact HD9
    isplitl [HSj9]; · iexact HSj9
    isplitl [HO]; · iexact HO
    isplitl [Hx2]; · iexact Hx2
    isplitl [HW]; · iexact HW
    isplitl [HT2]; · iexact HT2
    iexact HB1
  iintro ⟨HO, Hx2, HW, HB1, HT2, HBj9⟩
  rw [wpc_bind]
  iapply (part25 m K c _) $$ [HT2 HD10 HSj10 HO Hx2 HW HT3 HB1]
  · isplitr; · iexact HK
    isplitl [HT2]; · iexact HT2
    isplitl [HD10]; · iexact HD10
    isplitl [HSj10]; · iexact HSj10
    isplitl [HO]; · iexact HO
    isplitl [Hx2]; · iexact Hx2
    isplitl [HW]; · iexact HW
    isplitl [HT3]; · iexact HT3
    iexact HB1
  iintro ⟨HO, Hx2, HW, HB1, HT3, HBj10⟩
  rw [wpc_bind]
  iapply (part26 m K c _) $$ [HT3 HD11 HSj11 HO HRj8 Ho]
  · isplitr; · iexact HK
    isplitl [HT3]; · iexact HT3
    isplitl [HD11]; · iexact HD11
    isplitl [HSj11]; · iexact HSj11
    isplitl [HO]; · iexact HO
    isplitl [HRj8]; · iexact HRj8
    iexact Ho
  iintro ⟨Ho, HO, HBj11, HZr8, HU0⟩
  rw [wpc_bind]
  iapply (part27 m K c _) $$ [Ho HRj9 HO HRj10]
  · isplitr; · iexact HK
    isplitl [Ho]; · iexact Ho
    isplitl [HRj9]; · iexact HRj9
    isplitl [HO]; · iexact HO
    iexact HRj10
  iintro ⟨Ho, HO, HZr9, HU1, HZr10, HU2⟩
  rw [wpc_bind]
  iapply (part28 m K c _) $$ [HU2 Ho HRj11 HO]
  · isplitr; · iexact HK
    isplitl [HU2]; · iexact HU2
    isplitl [Ho]; · iexact Ho
    isplitl [HRj11]; · iexact HRj11
    iexact HO
  iintro ⟨Ho, HO, HU2, HZr11, HU3⟩
  rw [wpc_bind]
  iapply (part29 m K c) $$ [HBj0 HO HBj1 HBj2 HBj3 HBj5]
  · isplitr; · iexact HK
    isplitl [HBj0]; · iexact HBj0
    isplitl [HO]; · iexact HO
    isplitl [HBj1]; · iexact HBj1
    isplitl [HBj2]; · iexact HBj2
    isplitl [HBj3]; · iexact HBj3
    iexact HBj5
  iintro ⟨HO, HZs0, HxL, HZs1, HgL, HZs2, Hx0L, HZs3, Hg0L, HZs5, Hx1L⟩
  rw [wpc_bind]
  iapply (part30 m K c) $$ [HBj6 HO HBj7 HBj8]
  · isplitr; · iexact HK
    isplitl [HBj6]; · iexact HBj6
    isplitl [HO]; · iexact HO
    isplitl [HBj7]; · iexact HBj7
    iexact HBj8
  iintro ⟨HO, HZs6, Hg1L, HZs7, HA1, HZs8, HT0⟩
  iapply (wp_back m K c 9 [] (by rfl) (by rfl)) $$ [HBj9 HO]
  · isplitr; · iexact HK
    isplitl [HBj9]; · iexact HBj9
    iexact HO
  iintro ⟨HT1, HZs9, HO⟩
  ihave HT1 := (show sndPay m c 9 ⊢ pt c mA (ats 0 1) fullShare (slotM 2 (pass3 m c)) from Entails.rfl) $$ HT1
  iapply (wp_back m K c 10 [] (by rfl) (by rfl)) $$ [HBj10 HO]
  · isplitr; · iexact HK
    isplitl [HBj10]; · iexact HBj10
    iexact HO
  iintro ⟨HT2, HZs10, HO⟩
  ihave HT2 := (show sndPay m c 10 ⊢ pt c mA (ats 0 2) fullShare (slotM 2 (pass3 m c)) from Entails.rfl) $$ HT2
  iapply (wp_back m K c 11 [] (by rfl) (by rfl)) $$ [HBj11 HO]
  · isplitr; · iexact HK
    isplitl [HBj11]; · iexact HBj11
    iexact HO
  iintro ⟨HT3, HZs11, HO⟩
  ihave HT3 := (show sndPay m c 11 ⊢ pt c mA (ats 0 3) fullShare (slotM 2 (pass3 m c)) from Entails.rfl) $$ HT3
  ihave Hx := (part_share (c : Thread nD τ) mX Finset.univ fullShare (xh m 0 c)).2 $$ [HxL Hx]
  · isplitl [HxL]; · iexact HxL
    iexact Hx
  ihave Hg := (part_share (c : Thread nD τ) mG Finset.univ fullShare (gh m 0 c)).2 $$ [HgL Hg]
  · isplitl [HgL]; · iexact HgL
    iexact Hg
  ihave Hx0 := (part_share (c : Thread nD τ) mXr (xs 0) fullShare (slotM 3 (xh m 1 c))).2 $$ [Hx0L Hx0]
  · isplitl [Hx0L]; · iexact Hx0L
    iexact Hx0
  ihave Hg0 := (part_share (c : Thread nD τ) mGr (gs 0) fullShare (slotM 3 (gh m 1 c))).2 $$ [Hg0L Hg0]
  · isplitl [Hg0L]; · iexact Hg0L
    iexact Hg0
  ihave Hx1 := (part_share (c : Thread nD τ) mXr (xs 1) fullShare (slotM 3 (xh m 2 c))).2 $$ [Hx1L Hx1]
  · isplitl [Hx1L]; · iexact Hx1L
    iexact Hx1
  ihave Hg1 := (part_share (c : Thread nD τ) mGr (gs 1) fullShare (slotM 3 (gh m 2 c))).2 $$ [Hg1L Hg1]
  · isplitl [Hg1L]; · iexact Hg1L
    iexact Hg1
  ihave HX := (slots_join c mXr _ _ _) $$ [Hx0 Hx1 Hx2]
  · isplitl [Hx0]; · iexact Hx0
    isplitl [Hx1]; · iexact Hx1
    iexact Hx2
  ihave HGr := (slots_join c mGr _ _ _) $$ [Hg0 Hg1 Hg2]
  · isplitl [Hg0]; · iexact Hg0
    isplitl [Hg1]; · iexact Hg1
    iexact Hg2
  icases (tiles_join c mA 0 _ _ _ _) $$ [HT0 HT1 HT2 HT3] with ⟨%ZA, HA0⟩
  · isplitl [HT0]; · iexact HT0
    isplitl [HT1]; · iexact HT1
    isplitl [HT2]; · iexact HT2
    iexact HT3
  ihave HAA := (some_join c mA ZA _ (slot_disjoint (k := 0) (k' := 1) (by decide)) univ_slots2.symm) $$ [HA0 HA1]
  · isplitl [HA0]; · iexact HA0
    iexact HA1
  icases (tiles_join c mB 2 _ _ _ _) $$ [HU0 HU1 HU2 HU3] with ⟨%ZB, HB2⟩
  · isplitl [HU0]; · iexact HU0
    isplitl [HU1]; · iexact HU1
    isplitl [HU2]; · iexact HU2
    iexact HU3
  ihave HBB := (slots_join c mB _ _ ZB) $$ [HB0 HB1 HB2]
  · isplitl [HB0]; · iexact HB0
    isplitl [HB1]; · iexact HB1
    iexact HB2
  icases (show wFree c (par 0) ⊢ iprop(semVal ((c : Thread nD τ), SemLoc.dma (wS 0)) 0 ∗ ∃ X, pt c mW (ws 0) fullShare X) from Entails.rfl) $$ HF1 with ⟨HS0, %ZW, HW0⟩
  icases (show wHas m c (par 1) 7 ⊢ iprop(semVal ((c : Thread nD τ), SemLoc.dma (wS 1)) 0 ∗ pt c mW (ws 1) fullShare (slotM 2 (wOne m c 7))) from Entails.rfl) $$ HW with ⟨HS1, HW1⟩
  ihave HWW := (some_join c mW ZW _ (slot_disjoint (k := 0) (k' := 1) (by decide)) univ_slots2.symm) $$ [HW0 HW1]
  · isplitl [HW0]; · iexact HW0
    iexact HW1
  first | rw [wp_ret] | (unfold wpc; rw [wp_ret])
  imodintro; iapply Hk; unfold bodyFin cellsDone scratch; rw [bigSep_12, bigSep_12]
  isplitl [Hx Hr Hi Ho]
  · isplitl [Hx]; · iexact Hx
    isplitl [Hr]; · iexact Hr
    isplitl [Hi]; · iexact Hi
    iexact Ho
  isplitl [HO]; · iexact HO
  isplitl [HZb HZs0 HZs1 HZs2 HZs3 HZs4 HZs5 HZs6 HZs7 HZs8 HZs9 HZs10 HZs11 HZr0 HZr1 HZr2 HZr3 HZr4 HZr5 HZr6 HZr7 HZr8 HZr9 HZr10 HZr11 HS0 HS1]
  · isplitl [HZb]; · iexact HZb
    isplitl [HZs0 HZs1 HZs2 HZs3 HZs4 HZs5 HZs6 HZs7 HZs8 HZs9 HZs10 HZs11]
    · isplitl [HZs0]; · iexact HZs0
      isplitl [HZs1]; · iexact HZs1
      isplitl [HZs2]; · iexact HZs2
      isplitl [HZs3]; · iexact HZs3
      isplitl [HZs4]; · iexact HZs4
      isplitl [HZs5]; · iexact HZs5
      isplitl [HZs6]; · iexact HZs6
      isplitl [HZs7]; · iexact HZs7
      isplitl [HZs8]; · iexact HZs8
      isplitl [HZs9]; · iexact HZs9
      isplitl [HZs10]; · iexact HZs10
      iexact HZs11
    isplitl [HZr0 HZr1 HZr2 HZr3 HZr4 HZr5 HZr6 HZr7 HZr8 HZr9 HZr10 HZr11]
    · isplitl [HZr0]; · iexact HZr0
      isplitl [HZr1]; · iexact HZr1
      isplitl [HZr2]; · iexact HZr2
      isplitl [HZr3]; · iexact HZr3
      isplitl [HZr4]; · iexact HZr4
      isplitl [HZr5]; · iexact HZr5
      isplitl [HZr6]; · iexact HZr6
      isplitl [HZr7]; · iexact HZr7
      isplitl [HZr8]; · iexact HZr8
      isplitl [HZr9]; · iexact HZr9
      isplitl [HZr10]; · iexact HZr10
      iexact HZr11
    isplitl [HS0]; · iexact HS0
    iexact HS1
  isplitl [HV]; · iexact HV
  isplitl [HX]; · iexact HX
  isplitl [Hg]; · iexists (gh m 0 c); iexact Hg
  isplitl [HGr]; · iexact HGr
  isplitl [HAA]; · iexact HAA
  isplitl [HBB]; · iexact HBB
  iexact HWW

end Cert.KernelIdeal.Moe

end
-- ==== Proof.KernelIdeal.Ghosts.lean ====
/-
# The launch's ghost state

The ring's cells are set up from the semaphores at zero: one invariant per cell, the duty tokens dealt around the ring, and the credit of what every device owes.
-/
module

public import proofs.«01_k».proof.Proof.KernelIdeal.Body

@[expose] public section

noncomputable section

namespace Cert.KernelIdeal.Moe

open Cert.KernelIdeal Cert.KernelIdeal.Gen Cert.Moe
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (m : (ℓ : Loc nD τ sig) → Buf (Elt F) ℓ) (K : Dev nD × CI → ℕ)
variable {α : Type}
variable (c : Dev nD)

open Idealize.ShloMosaic.Pipeline (Dat Cfg Window BodyObligation cellOf)

variable (ρ : Dev nD → PrngReg)

/-! ## The kernel's own semaphores -/

/-- The kernel's own semaphores: the twelve send, the twelve receive, the two of the weight stream, and two it never uses. -/
def osem : Fin 28 → SemLoc sig := fun
  | 0 => .dma (sS 0)
  | 1 => .dma (sS 1)
  | 2 => .dma (sS 2)
  | 3 => .dma (sS 3)
  | 4 => .dma (sS 4)
  | 5 => .dma (sS 5)
  | 6 => .dma (sS 6)
  | 7 => .dma (sS 7)
  | 8 => .dma (sS 8)
  | 9 => .dma (sS 9)
  | 10 => .dma (sS 10)
  | 11 => .dma (sS 11)
  | 12 => .dma (rS 0)
  | 13 => .dma (rS 1)
  | 14 => .dma (rS 2)
  | 15 => .dma (rS 3)
  | 16 => .dma (rS 4)
  | 17 => .dma (rS 5)
  | 18 => .dma (rS 6)
  | 19 => .dma (rS 7)
  | 20 => .dma (rS 8)
  | 21 => .dma (rS 9)
  | 22 => .dma (rS 10)
  | 23 => .dma (rS 11)
  | 24 => .dma (wS 0)
  | 25 => .dma (wS 1)
  | 26 => .dma (s3 cc0_scratch10 2 inb_S3_S1_2)
  | 27 => .dma (s3 cc0_scratch11 2 inb_S3_S1_2)
  | ⟨n + 28, h⟩ => absurd h (Nat.not_lt.2 (Nat.le_add_left _ _))

theorem ownSemFacts : Pipeline.OwnSemFacts cfg0.spec osem := by decide

/-- The semaphores that are no cell of the ring. -/
def spare (c : Dev nD) : sProp (MT nD τ sig Unit (Elt F) ℕ UU ℕ) :=
  iprop(semVal ((c : Thread nD τ), SemLoc.dma (wS 0)) 0 ∗ semVal ((c : Thread nD τ), SemLoc.dma (wS 1)) 0
    ∗ semVal ((c : Thread nD τ), SemLoc.dma (s3 cc0_scratch10 2 inb_S3_S1_2)) 0 ∗ semVal ((c : Thread nD τ), SemLoc.dma (s3 cc0_scratch11 2 inb_S3_S1_2)) 0)

abbrev ownS (c : Dev nD) : sProp (MT nD τ sig Unit (Elt F) ℕ UU ℕ) :=
  Pipeline.ownSems0 (Ix := Unit) (Name := ℕ) (U := UU) (Lvl := ℕ) (Val := Elt F) (τ := τ) osem c

theorem ownSems0_eq (c : Dev nD) : (ownS c : sProp (MT nD τ sig Unit (Elt F) ℕ UU ℕ))
    = iprop(semVal ((c : Thread nD τ), SemLoc.dma (sS 0)) 0 ∗ semVal ((c : Thread nD τ), SemLoc.dma (sS 1)) 0 ∗ semVal ((c : Thread nD τ), SemLoc.dma (sS 2)) 0 ∗ semVal ((c : Thread nD τ), SemLoc.dma (sS 3)) 0 ∗ semVal ((c : Thread nD τ), SemLoc.dma (sS 4)) 0 ∗ semVal ((c : Thread nD τ), SemLoc.dma (sS 5)) 0 ∗ semVal ((c : Thread nD τ), SemLoc.dma (sS 6)) 0 ∗ semVal ((c : Thread nD τ), SemLoc.dma (sS 7)) 0 ∗ semVal ((c : Thread nD τ), SemLoc.dma (sS 8)) 0 ∗ semVal ((c : Thread nD τ), SemLoc.dma (sS 9)) 0 ∗ semVal ((c : Thread nD τ), SemLoc.dma (sS 10)) 0 ∗ semVal ((c : Thread nD τ), SemLoc.dma (sS 11)) 0 ∗ semVal ((c : Thread nD τ), SemLoc.dma (rS 0)) 0 ∗ semVal ((c : Thread nD τ), SemLoc.dma (rS 1)) 0 ∗ semVal ((c : Thread nD τ), SemLoc.dma (rS 2)) 0 ∗ semVal ((c : Thread nD τ), SemLoc.dma (rS 3)) 0 ∗ semVal ((c : Thread nD τ), SemLoc.dma (rS 4)) 0 ∗ semVal ((c : Thread nD τ), SemLoc.dma (rS 5)) 0 ∗ semVal ((c : Thread nD τ), SemLoc.dma (rS 6)) 0 ∗ semVal ((c : Thread nD τ), SemLoc.dma (rS 7)) 0 ∗ semVal ((c : Thread nD τ), SemLoc.dma (rS 8)) 0 ∗ semVal ((c : Thread nD τ), SemLoc.dma (rS 9)) 0 ∗ semVal ((c : Thread nD τ), SemLoc.dma (rS 10)) 0 ∗ semVal ((c : Thread nD τ), SemLoc.dma (rS 11)) 0 ∗ semVal ((c : Thread nD τ), SemLoc.dma (wS 0)) 0 ∗ semVal ((c : Thread nD τ), SemLoc.dma (wS 1)) 0 ∗ semVal ((c : Thread nD τ), SemLoc.dma (s3 cc0_scratch10 2 inb_S3_S1_2)) 0 ∗ semVal ((c : Thread nD τ), SemLoc.dma (s3 cc0_scratch11 2 inb_S3_S1_2)) 0) := by
  unfold ownS
  rw [Pipeline.ownSems0_eq_of_list c osem [0, 1, 2, 3, 4, 5, 6, 7, 8, 9, 10, 11, 12, 13, 14, 15, 16, 17, 18, 19, 20, 21, 22, 23, 24, 25, 26, 27] (by decide) (by decide)]; rfl

theorem own_split (c : Dev nD) : (ownS c : sProp (MT nD τ sig Unit (Elt F) ℕ UU ℕ))
    ⊢ iprop(bigSep Finset.univ (fun j => Zs j c) ∗ bigSep Finset.univ (fun j => Zr j c) ∗ spare c) := by
  rw [ownSems0_eq, bigSep_12, bigSep_12]
  unfold spare Zs Zr
  iintro ⟨H0, H1, H2, H3, H4, H5, H6, H7, H8, H9, H10, H11, H12, H13, H14, H15, H16, H17, H18, H19, H20, H21, H22, H23, H24, H25, H26, H27⟩
  isplitl [H0 H1 H2 H3 H4 H5 H6 H7 H8 H9 H10 H11]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11
  isplitl [H12 H13 H14 H15 H16 H17 H18 H19 H20 H21 H22 H23]
  · isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    iexact H23
  isplitl [H24]; · iexact H24
  isplitl [H25]; · iexact H25
  isplitl [H26]; · iexact H26
  iexact H27

theorem own_join (c : Dev nD) :
    iprop(bigSep Finset.univ (fun j => Zs j c) ∗ bigSep Finset.univ (fun j => Zr j c) ∗ spare c) ⊢ (ownS c : sProp (MT nD τ sig Unit (Elt F) ℕ UU ℕ)) := by
  rw [ownSems0_eq, bigSep_12, bigSep_12]
  unfold spare Zs Zr
  iintro ⟨⟨H0, H1, H2, H3, H4, H5, H6, H7, H8, H9, H10, H11⟩, ⟨H12, H13, H14, H15, H16, H17, H18, H19, H20, H21, H22, H23⟩, H24, H25, H26, H27⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  iexact H27

theorem unscopedSems0_eq (c : Dev nD) : (unscopedSems0 c : sProp (MT nD τ sig Unit (Elt F) ℕ UU ℕ)) = semVal (barCell c) 0 := by
  unfold unscopedSems0; rw [bigSep_eq_bigSepL_of_eq [SemLoc.reg barS] (by decide) (by decide)]; rfl

/-! ## The ring's cells, device by device -/

/-- The kinds of cell, one by one. -/
def ciEquiv : Unit ⊕ (Fin 12 ⊕ Fin 12) ≃ CI where
  toFun := fun | .inl _ => none | .inr (.inl j) => some (false, j) | .inr (.inr j) => some (true, j)
  invFun := fun | none => .inl () | some (false, j) => .inr (.inl j) | some (true, j) => .inr (.inr j)
  left_inv := by rintro (_ | _ | _) <;> rfl
  right_inv := by rintro (_ | ⟨_ | _, _⟩) <;> rfl

theorem bigSep_CI (Φ : CI → sProp (MT nD τ sig Unit (Elt F) ℕ UU ℕ)) :
    bigSep Finset.univ Φ = iprop(Φ none ∗ bigSep Finset.univ (fun j => Φ (some (false, j))) ∗ bigSep Finset.univ (fun j => Φ (some (true, j)))) := by
  rw [bigSep_univ_equiv ciEquiv, bigSep_univ_sum, bigSep_univ_sum, bigSep_univ_eq_bigSepL ([()] : List Unit) (by decide) (by decide), bigSepL_singleton]
  rfl

theorem kcell_injective : Function.Injective (kcell : Dev nD × CI → GSem nD τ sig) := by
  rintro ⟨c, k⟩ ⟨c', k'⟩ h
  have h1 : c = c' := congrArg (fun g : GSem nD τ sig => g.1.1) h
  have h2 : k = k' := csem_injective (congrArg Prod.snd h)
  rw [h1, h2]
def ringCells : Finset (GSem nD τ sig) := Finset.univ.map ⟨kcell, kcell_injective⟩

abbrev tokOf (x : Dev nD × (CI × Bool)) : GSem nD τ sig × ℕ × Bool := (kcell (x.1, x.2.1), 0, x.2.2)
theorem tokOf_injective : Function.Injective tokOf := by
  rintro ⟨c, k, b⟩ ⟨c', k', b'⟩ h
  have h1 : (c, k) = (c', k') := kcell_injective (congrArg Prod.fst h)
  have h2 : b = b' := congrArg (fun y : GSem nD τ sig × ℕ × Bool => y.2.2) h
  cases h1; cases h2; rfl
def ringToks : Finset (GSem nD τ sig × ℕ × Bool) := Finset.univ.map ⟨tokOf, tokOf_injective⟩

def u₀ : UU :=
  (initOf (Pipeline.cells cfgs cellOf_inj) (Pipeline.launchToks cfgs cellOf_inj), (Emb.inl : Emb UB (UB × Counters)) (initOf ringCells ringToks))

/-- The duty tokens of device `c`'s own cells. -/
def toks (c : Dev nD) : sProp (MT nD τ sig Unit (Elt F) ℕ UU ℕ) := bigSep Finset.univ fun x : CI × Bool => dutyTok ER (kcell (c, x.1)) 0 x.2

/-- What the launch element deals device `c`. -/
def G (c : Dev nD) : sProp (MT nD τ sig Unit (Elt F) ℕ UU ℕ) :=
  iprop((bigSep Finset.univ fun k : CI => roundState ER (Rd m) (kcell (c, k)) 0) ∗ (bigSep Finset.univ fun k : CI => atPos ER (kcell (c, k)) 0 ∅ 0)
    ∗ (bigSep Finset.univ fun k : CI => reached ER (kcell (c, k)) 0) ∗ toks (F := F) c)

theorem fund_ring : BI.own (ER (initOf ringCells ringToks)) ⊢ (|==> bigSep Finset.univ (G m) : sProp (MT nD τ sig Unit (Elt F) ℕ UU ℕ)) := by
  have hX (Φ : GSem nD τ sig → sProp (MT nD τ sig Unit (Elt F) ℕ UU ℕ)) : bigSep ringCells Φ = bigSep Finset.univ fun c : Dev nD => bigSep Finset.univ fun k : CI => Φ (kcell (c, k)) := by
    unfold ringCells; rw [bigSep_map, bigSep_univ_prod]; rfl
  have hT : bigSep ringToks (fun x => (dutyTok ER x.1 x.2.1 x.2.2 : sProp (MT nD τ sig Unit (Elt F) ℕ UU ℕ))) = bigSep Finset.univ fun c : Dev nD => toks c := by
    unfold ringToks; rw [bigSep_map, bigSep_univ_prod]; rfl
  iintro HX
  imod (Rounds.fund ER (Rd m) ringCells ringToks) $$ HX with ⟨Hst, Hr, Hat, Htok⟩
  imodintro
  ihave Hst := (Entails.of_eq (hX fun g => roundState ER (Rd m) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G; simp only [bigSep_sep']
  isplitl [Hst]; · iexact Hst
  isplitl [Hat]; · iexact Hat
  isplitl [Hr]; · iexact Hr
  iexact Htok

/-- One device: its cells' invariants from their counters at zero. -/
theorem core_alloc (c : Dev nD) :
    iprop(ownS c ∗ unscopedSems0 c ∗ G m c)
      ⊢ (|={Set.univ}=> iprop((bigSep Finset.univ fun k : CI => iprop(∃ κ : ℕ, cellInv ER (Rd m) κ (kcell (c, k))))
          ∗ (bigSep Finset.univ fun k : CI => atPos ER (kcell (c, k)) 0 ∅ 0) ∗ (bigSep Finset.univ fun k : CI => reached ER (kcell (c, k)) 0)
          ∗ toks c ∗ spare c) : sProp (MT nD τ sig Unit (Elt F) ℕ UU ℕ)) := by
  unfold G
  iintro ⟨Hos, Hus, Hst, Hat, Hr, Htok⟩
  icases (own_split c) $$ Hos with ⟨HS, HR, Hsp⟩
  imod (show iprop((bigSep Finset.univ fun k : CI => semVal (kcell (c, k)) 0) ∗ bigSep Finset.univ fun k : CI => roundState ER (Rd m) (kcell (c, k)) 0)
      ⊢ (|={Set.univ}=> bigSep Finset.univ fun k : CI => iprop(∃ κ : ℕ, cellInv ER (Rd m) κ (kcell (c, k))) : sProp (MT nD τ sig Unit (Elt F) ℕ UU ℕ)) from by
        rw [← bigSep_sep']
        exact (bigSep_mono fun k _ => (Rounds.body_intro ER (Rd m) (kcell (c, k))).trans inv_alloc).trans (bigSep_fupd _ _)) $$ [HS HR Hus Hst] with Hinv
  · isplitl [HS HR Hus]
    · rw [bigSep_CI]
      isplitl [Hus]; · iapply (show unscopedSems0 c ⊢ semVal (kcell (c, none)) 0 from Entails.of_eq (unscopedSems0_eq c)) $$ Hus
      isplitl [HS]
      · iapply (show bigSep Finset.univ (fun j => Zs j c) ⊢ (bigSep Finset.univ (fun j => semVal (kcell (c, some (false, j))) 0) : sProp (MT nD τ sig Unit (Elt F) ℕ UU ℕ)) from Entails.rfl) $$ HS
      iapply (show bigSep Finset.univ (fun j => Zr j c) ⊢ (bigSep Finset.univ (fun j => semVal (kcell (c, some (true, j))) 0) : sProp (MT nD τ sig Unit (Elt F) ℕ UU ℕ)) from Entails.rfl) $$ HR
    · iexact Hst
  imodintro
  isplitl [Hinv]; · iexact Hinv
  isplitl [Hat]; · iexact Hat
  isplitl [Hr]; · iexact Hr
  isplitl [Htok]; · iexact Htok
  iexact Hsp

/-- What stays with device `c`: its positions, and the tokens of the duties it pays. -/
def linear (c : Dev nD) : sProp (MT nD τ sig Unit (Elt F) ℕ UU ℕ) :=
  iprop(BOut c ∗ atPos ER (barCell c) 0 ∅ 0 ∗ bigSep Finset.univ (fun j => SOut j c) ∗ bigSep Finset.univ (fun j => atPos ER (rCell j c) 0 ∅ 0))
def G' (c : Dev nD) : sProp (MT nD τ sig Unit (Elt F) ℕ UU ℕ) := iprop(∃ K, records m K ∗ linear c ∗ spare c)

theorem toks_split (c : Dev nD) : (toks c : sProp (MT nD τ sig Unit (Elt F) ℕ UU ℕ))
    ⊢ iprop(dutyTok ER (barCell c) 0 false ∗ dutyTok ER (barCell c) 0 true ∗ bigSep Finset.univ (fun j => dutyTok ER (sCell j c) 0 false)
        ∗ bigSep Finset.univ (fun j => dutyTok ER (rCell j c) 0 false)) := by
  have hb : ∀ i : CI, bigSep Finset.univ (fun b : Bool => (dutyTok ER (kcell (c, i)) 0 b : sProp (MT nD τ sig Unit (Elt F) ℕ UU ℕ))) = iprop(dutyTok ER (kcell (c, i)) 0 false ∗ dutyTok ER (kcell (c, i)) 0 true) := fun i => by
    rw [bigSep_univ_eq_bigSepL ([false, true] : List Bool) (by decide) (by decide), bigSepL_cons_cons, bigSepL_singleton]; rfl
  unfold toks
  rw [bigSep_univ_prod, bigSep_congr fun i _ => hb i, bigSep_CI, bigSep_sep', bigSep_sep']
  iintro ⟨⟨H1, H2⟩, ⟨H3, -⟩, H4, -⟩
  isplitl [H1]; · iexact H1
  isplitl [H2]; · iexact H2
  isplitl [H3]; · iexact H3
  iexact H4

/-- The tokens dealt around the ring. -/
theorem toks_around : (bigSep Finset.univ fun c : Dev nD => (toks c : sProp (MT nD τ sig Unit (Elt F) ℕ UU ℕ)))
    ⊢ bigSep Finset.univ fun c : Dev nD => iprop(BOut c ∗ bigSep Finset.univ (fun j => dutyTok ER (sCell j c) 0 false)
        ∗ bigSep Finset.univ (fun j => dutyTok ER (rCell j (nxt c)) 0 false)) := by
  unfold BOut
  iintro H
  ihave H := (show (bigSep Finset.univ fun c : Dev nD => (toks c : sProp (MT nD τ sig Unit (Elt F) ℕ UU ℕ))) ⊢ (bigSep Finset.univ fun c : Dev nD => iprop(dutyTok ER (barCell c) 0 false ∗ dutyTok ER (barCell c) 0 true
        ∗ bigSep Finset.univ (fun j => dutyTok ER (sCell j c) 0 false) ∗ bigSep Finset.univ (fun j => dutyTok ER (rCell j c) 0 false)) : sProp (MT nD τ sig Unit (Elt F) ℕ UU ℕ)) from
      bigSep_mono fun c _ => toks_split c) $$ H
  iapply (show iprop(bigSep Finset.univ fun c : Dev nD => iprop(dutyTok ER (barCell c) 0 false ∗ dutyTok ER (barCell c) 0 true ∗ bigSep Finset.univ (fun j => dutyTok ER (sCell j c) 0 false)
        ∗ bigSep Finset.univ (fun j => dutyTok ER (rCell j c) 0 false))) ⊢ (bigSep Finset.univ fun c : Dev nD => iprop((dutyTok ER (barCell (prv c)) 0 true ∗ dutyTok ER (barCell (nxt c)) 0 false)
        ∗ bigSep Finset.univ (fun j => dutyTok ER (sCell j c) 0 false) ∗ bigSep Finset.univ (fun j => dutyTok ER (rCell j (nxt c)) 0 false)) : sProp (MT nD τ sig Unit (Elt F) ℕ UU ℕ)) from ?_) $$ H
  rw [bigSep_sep', bigSep_sep', bigSep_sep', bigSep_sep', bigSep_sep', bigSep_sep',
    bigSep_univ_equiv ring (fun c : Dev nD => (dutyTok ER (barCell c) 0 false : sProp (MT nD τ sig Unit (Elt F) ℕ UU ℕ))),
    bigSep_univ_equiv ring.symm (fun c : Dev nD => (dutyTok ER (barCell c) 0 true : sProp (MT nD τ sig Unit (Elt F) ℕ UU ℕ))),
    bigSep_univ_equiv ring (fun c : Dev nD => (bigSep Finset.univ (fun j => dutyTok ER (rCell j c) 0 false) : sProp (MT nD τ sig Unit (Elt F) ℕ UU ℕ)))]
  iintro ⟨H1, H2, H3, H4⟩
  isplitl [H1 H2]
  · isplitl [H2]; · iexact H2
    iexact H1
  isplitl [H3]; · iexact H3
  iexact H4

theorem bigSep_with {I : Type} [DecidableEq I] {S : Finset I} {R : sProp (MT nD τ sig Unit (Elt F) ℕ UU ℕ)} [BI.Persistent R] {Φ Ψ : I → sProp (MT nD τ sig Unit (Elt F) ℕ UU ℕ)}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem linear_intro (c : Dev nD) :
    iprop((bigSep Finset.univ fun k : CI => atPos ER (kcell (c, k)) 0 ∅ 0) ∗ BOut c ∗ bigSep Finset.univ (fun j => dutyTok ER (sCell j c) 0 false)
        ∗ bigSep Finset.univ (fun j => dutyTok ER (rCell j (nxt c)) 0 false)) ⊢ (linear c : sProp (MT nD τ sig Unit (Elt F) ℕ UU ℕ)) := by
  unfold linear SOut
  rw [bigSep_CI, bigSep_sep', bigSep_sep']
  iintro ⟨⟨Hb, Hs, Hr⟩, HB, H3, H4⟩
  isplitl [HB]; · iexact HB
  isplitl [Hb]; · iexact Hb
  isplitl [Hs H3 H4]
  · isplitl [H3]; · iexact H3
    isplitl [H4]; · iexact H4
    iexact Hs
  iexact Hr

theorem regroup :
    (bigSep Finset.univ fun c : Dev nD => iprop((bigSep Finset.univ fun k : CI => iprop(∃ κ : ℕ, cellInv ER (Rd m) κ (kcell (c, k))))
          ∗ (bigSep Finset.univ fun k : CI => atPos ER (kcell (c, k)) 0 ∅ 0) ∗ (bigSep Finset.univ fun k : CI => reached ER (kcell (c, k)) 0)
          ∗ toks c ∗ spare c) : sProp (MT nD τ sig Unit (Elt F) ℕ UU ℕ))
      ⊢ bigSep Finset.univ (G' m) := by
  rw [bigSep_sep', bigSep_sep', bigSep_sep', bigSep_sep', ← bigSep_univ_prod (fun ck : Dev nD × CI => iprop(∃ κ : ℕ, cellInv ER (Rd m) κ (kcell ck))),
    ← bigSep_univ_prod (fun ck : Dev nD × CI => (reached ER (kcell ck) 0 : sProp (MT nD τ sig Unit (Elt F) ℕ UU ℕ)))]
  iintro ⟨HI, Hat, HR, Htok, Hsp⟩
  icases (BI.bigSep_exists_pi Finset.univ (fun (ck : Dev nD × CI) (κ : ℕ) => (cellInv ER (Rd m) κ (kcell ck) : sProp (MT nD τ sig Unit (Elt F) ℕ UU ℕ)))) $$ HI with ⟨%K, HI⟩
  icases (show iprop((bigSep Finset.univ fun ck : Dev nD × CI => (cellInv ER (Rd m) (K ck) (kcell ck) : sProp (MT nD τ sig Unit (Elt F) ℕ UU ℕ))) ∗ bigSep Finset.univ fun ck : Dev nD × CI => reached ER (kcell ck) 0)
      ⊢ records m K from by unfold records; rw [bigSep_sep']) $$ [HI HR] with #Hrec
  · isplitl [HI]; · iexact HI
    iexact HR
  ihave Htk := (toks_around (F := F)) $$ Htok
  iapply (bigSep_with (R := records m K) (Φ := fun c => iprop(linear c ∗ spare c)) fun c _ => show iprop(records m K ∗ linear c ∗ spare c) ⊢ G' m c from by
    unfold G'; iintro H; iexists K; iexact H)
  isplitr; · iexact Hrec
  iapply (Entails.of_eq (bigSep_sep' Finset.univ (fun c : Dev nD => (linear c : sProp (MT nD τ sig Unit (Elt F) ℕ UU ℕ))) (fun c => spare c)).symm)
  isplitl [Hat Htk]
  · iapply ((Entails.of_eq (bigSep_sep' Finset.univ (fun c : Dev nD => bigSep Finset.univ fun k : CI => (atPos ER (kcell (c, k)) 0 ∅ 0 : sProp (MT nD τ sig Unit (Elt F) ℕ UU ℕ))) _).symm).trans
      (bigSep_mono fun c _ => linear_intro c))
    isplitl [Hat]; · iexact Hat
    iexact Htk
  iexact Hsp

/-- All devices' semaphores become the ring's invariants. -/
theorem glob : (bigSep Finset.univ fun c => iprop(ownS c ∗ unscopedSems0 c ∗ G m c) : sProp (MT nD τ sig Unit (Elt F) ℕ UU ℕ)) ⊢ |={Set.univ}=> bigSep Finset.univ (G' m) :=
  ((bigSep_mono fun c _ => core_alloc m c).trans (bigSep_fupd _ _)).trans (BI.fupd_mono (regroup m))

/-! ## The credit of the launch -/

theorem cell_eq {i j : CI} {a b : Dev nD} : kcell (a, i) = kcell (b, j) ↔ a = b ∧ i = j :=
  ⟨fun h => Prod.ext_iff.mp (kcell_injective h), fun ⟨h, h'⟩ => by rw [h, h']⟩

theorem bar_at (a b : Dev nD) (n : ℕ) : tallyAt (barCell a) () n (barCell b) () = if b = a then n else 0 := by
  rw [tallyAt_apply]
  exact if_congr ⟨fun h => (cell_eq (i := none) (j := none).mp h.1).1, fun h => ⟨by rw [h], rfl⟩⟩ rfl rfl
theorem bar_at_r (a b : Dev nD) (j : Fin 12) (n : ℕ) : tallyAt (barCell a) () n (rCell j b) () = 0 := by
  rw [tallyAt_apply]
  exact if_neg fun h => absurd (cell_eq (i := some (true, j)) (j := none).mp h.1).2 (by simp)
theorem r_at_bar (a b : Dev nD) (j : Fin 12) (n : ℕ) : tallyAt (rCell j a) () n (barCell b) () = 0 := by
  rw [tallyAt_apply]
  exact if_neg fun h => absurd (cell_eq (i := none) (j := some (true, j)).mp h.1).2 (by simp)
theorem r_at (a b : Dev nD) (i j : Fin 12) (n : ℕ) : tallyAt (rCell i a) () n (rCell j b) () = if b = a ∧ j = i then n else 0 := by
  rw [tallyAt_apply]
  exact if_congr ⟨fun h => by
    have := cell_eq (i := some (true, j)) (j := some (true, i)).mp h.1
    exact ⟨this.1, by simpa using this.2⟩, fun h => ⟨by rw [h.1, h.2], rfl⟩⟩ rfl rfl

theorem oweL_bar (d c : Dev nD) (l : List (Fin 12)) : oweL d l (barCell c) () = 0 := by
  induction l with
  | nil => rfl
  | cons j l ih =>
    dsimp only [oweL]
    rw [Pi.add_apply, Finsupp.add_apply, ih, r_at_bar]
theorem oweL_r (d c : Dev nD) (j : Fin 12) (l : List (Fin 12)) : oweL d l (rCell j c) () = if c = nxt d then l.count j * N j else 0 := by
  induction l with
  | nil => dsimp only [oweL]; rw [List.count_nil, Nat.zero_mul, ite_self]; rfl
  | cons i l ih =>
    dsimp only [oweL]
    rw [Pi.add_apply, Finsupp.add_apply, ih, r_at, List.count_cons]
    by_cases h : c = nxt d
    · by_cases h' : i = j
      · subst h'
        rw [if_pos h, if_pos h, if_pos ⟨h, rfl⟩]
        simp only [beq_self_eq_true, if_true]; ring
      · rw [if_pos h, if_pos h, if_neg fun hh => h' hh.2.symm]
        simp [h']
    · rw [if_neg h, if_neg h, if_neg fun hh => h hh.1]

theorem owed_bar (d c : Dev nD) : O₀ d (barCell c) () = (if d = prv c then 1 else 0) + (if d = nxt c then 1 else 0) := by
  unfold O₀ O₁
  rw [Pi.add_apply, Finsupp.add_apply, Pi.add_apply, Finsupp.add_apply, oweL_bar, bar_at, bar_at, Nat.zero_add]
  congr 1
  · exact if_congr ⟨fun h => by rw [h, prv_nxt], fun h => by rw [h, nxt_prv]⟩ rfl rfl
  · exact if_congr ⟨fun h => by rw [h, nxt_prv], fun h => by rw [h, prv_nxt]⟩ rfl rfl

theorem owed_r (d c : Dev nD) (j : Fin 12) : O₀ d (rCell j c) () = if d = prv c then N j else 0 := by
  unfold O₀ O₁
  rw [Pi.add_apply, Finsupp.add_apply, Pi.add_apply, Finsupp.add_apply, oweL_r, bar_at_r, bar_at_r]
  simp only [Nat.add_zero]
  rw [show chans.count j = 1 from by revert j; decide, Nat.one_mul]
  exact if_congr ⟨fun h => by rw [h, prv_nxt], fun h => by rw [h, nxt_prv]⟩ rfl rfl

theorem launch_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (prv c) fun _ => 1, Finset.sum_ite_eq' Finset.univ (nxt c) fun _ => 1, if_pos (Finset.mem_univ _), if_pos (Finset.mem_univ _)]

theorem launch_r (c : Dev nD) (j : Fin 12) :
    tallyOn (rCell j c) (launchCredit (Pipeline.owing O₀) 0 (rCell j c)) = (tallyAt (rCell j c) () (N j) : CellTallies nD τ sig Unit) := by
  unfold tallyAt; refine congrArg _ (Finsupp.ext fun u => ?_); cases u
  rw [Pipeline.launchCredit_owing, Finsupp.single_eq_same, Finset.sum_congr rfl fun d _ => owed_r d c j, Finset.sum_ite_eq' Finset.univ (prv c) fun _ => N j,
    if_pos (Finset.mem_univ _)]

def rLoc : Fin 12 ↪ SemLoc sig := ⟨fun j => .dma (rS j), fun i j h => by
  have := csem_injective (a₁ := some (true, i)) (a₂ := some (true, j)) h
  simpa using this⟩

theorem creds (c : Dev nD) :
    (Pipeline.launchCred O₀ c : sProp (MT nD τ sig Unit (Elt F) ℕ UU ℕ)) ⊢ iprop(cred (tallyAt (barCell c) () 2) ∗ bigSep Finset.univ (fun j => cred (tallyAt (rCell j c) () (N j)))) := by
  unfold Pipeline.launchCred
  rw [bigSep_univ_at _ (SemLoc.reg barS), launch_bar]
  refine sep_mono_right ?_
  refine (bigSep_subset (t := Finset.univ.map rLoc) (fun s hs => ?_)).trans ?_
  · obtain ⟨j, -, rfl⟩ := Finset.mem_map.mp hs
    refine Finset.mem_erase.mpr ⟨fun h => ?_, Finset.mem_univ _⟩
    exact absurd (csem_injective (a₁ := some (true, j)) (a₂ := none) h) (by simp)
  · rw [bigSep_map]
    exact bigSep_mono fun j _ => Entails.of_eq (congrArg cred (launch_r c j))

end Cert.KernelIdeal.Moe

end
-- ==== Proof.KernelIdeal.Run.lean ====
/-
# The run

The body's obligation from the launch's resources, and the run of the four devices.
-/
module

public import proofs.«01_k».proof.Proof.KernelIdeal.Ghosts
public import Idealize.ShloMosaic.Lib.Pipeline.CollectiveSegs

@[expose] public section

noncomputable section

namespace Cert.KernelIdeal.Moe

open Cert.KernelIdeal Cert.KernelIdeal.Gen Cert.Moe
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (m : (ℓ : Loc nD τ sig) → Buf (Elt F) ℓ) (K : Dev nD × CI → ℕ)
variable {α : Type}
variable (c : Dev nD)

open Idealize.ShloMosaic.Pipeline (Dat Cfg Window BodyObligation cellOf)

variable (ρ : Dev nD → PrngReg)

/-! ## Whole buffers -/

/-- Owning a memref is having its part at every coordinate. -/
theorem owns_out {sp : Space} {s : Shape} {e : EltTy} (b : Memref sig .tc sp s e) (X : s.Idx → Elt F e) :
    (owns (Ix := Unit) (Name := ℕ) (U := UU) (Lvl := ℕ) (c : Thread nD τ) b fullShare X : sProp (MT nD τ sig Unit (Elt F) ℕ UU ℕ)) ⊢ pt c b Finset.univ fullShare X := by
  unfold owns
  iintro ⟨%f, %hf, H⟩
  subst hf
  iapply (Entails.of_eq (part_univ (c : Thread nD τ) b fullShare f)) $$ H
theorem owns_in {sp : Space} {s : Shape} {e : EltTy} (b : Memref sig .tc sp s e) (X : s.Idx → Elt F e) :
    (pt c b Finset.univ fullShare X : sProp (MT nD τ sig Unit (Elt F) ℕ UU ℕ)) ⊢ owns (Ix := Unit) (Name := ℕ) (U := UU) (Lvl := ℕ) (c : Thread nD τ) b fullShare X := by
  unfold owns
  iintro H
  iexists b.view.rep X
  isplitr; · ipureintro; exact View.read_rep b.view X
  iapply (show (pt c b Finset.univ fullShare X : sProp (MT nD τ sig Unit (Elt F) ℕ UU ℕ)) ⊢ (b.view.loc (c : Thread nD τ) ↦[b.view.set]{fullShare} b.view.rep X) from Entails.rfl) $$ H

theorem whole_part (b : Ref sig .tc) (f : Buf (Elt F) ((c : Thread nD τ).loc b)) :
    (((c : Thread nD τ).loc b) ↦{fullShare} f : sProp (MT nD τ sig Unit (Elt F) ℕ UU ℕ)) = pt c (Memref.whole b) Finset.univ fullShare f := by
  have h := part_univ (Ix := Unit) (Name := ℕ) (U := UU) (Lvl := ℕ) (c : Thread nD τ) (Memref.whole b) fullShare f
  simpa only [Memref.view_whole, View.read_whole, View.set_whole] using h
theorem whole_some (b : Ref sig .tc) :
    iprop(∃ f : Buf (Elt F) ((c : Thread nD τ).loc b), (((c : Thread nD τ).loc b) ↦{fullShare} f : sProp (MT nD τ sig Unit (Elt F) ℕ UU ℕ))) = iprop(∃ X, pt c (Memref.whole b) Finset.univ fullShare X) :=
  congrArg _ (funext fun f => whole_part c b f)

theorem cut {sp : Space} {s : Shape} {e : EltTy} (M : Memref sig .tc sp s e) {R R' S : Finset s.Idx} (X : s.Idx → Elt F e) (h : Disjoint R R') (hS : S = R ∪ R') :
    (pt c M S fullShare X : sProp (MT nD τ sig Unit (Elt F) ℕ UU ℕ)) ⊢ iprop(pt c M R fullShare X ∗ pt c M R' fullShare X) := by
  subst hS
  exact (part_union (c : Thread nD τ) M fullShare X h).1

theorem slots_cut {C : ℕ} {e : EltTy} (M : Memref sig .tc .vmem (Sh3 3 2048 C) e) (X : (Sh3 3 2048 C).Idx → Elt F e) :
    (pt c M Finset.univ fullShare X : sProp (MT nD τ sig Unit (Elt F) ℕ UU ℕ))
      ⊢ iprop(pt c M (slot 3 2048 C 0) fullShare X ∗ pt c M (slot 3 2048 C 1) fullShare X ∗ pt c M (slot 3 2048 C 2) fullShare X) :=
  (cut c M X (Finset.disjoint_union_right.mpr ⟨slot_disjoint (k := 0) (k' := 1) (by decide), slot_disjoint (k := 0) (k' := 2) (by decide)⟩) univ_slots3).trans
    (sep_mono_right (cut c M X (slot_disjoint (k := 1) (k' := 2) (by decide)) rfl))

theorem tiles_cut (M : Memref sig .tc .vmem (Sh3 3 2048 1024) .bf16) (X : (Sh3 3 2048 1024).Idx → Elt F .bf16) :
    (pt c M (slot 3 2048 1024 2) fullShare X : sProp (MT nD τ sig Unit (Elt F) ℕ UU ℕ))
      ⊢ iprop(pt c M (xts 2 0) fullShare X ∗ pt c M (xts 2 1) fullShare X ∗ pt c M (xts 2 2) fullShare X ∗ pt c M (xts 2 3) fullShare X) := by
  have d : ∀ a b : ℕ, a ≠ b → Disjoint (xts 2 a) (xts 2 b) := fun a b h => tile_disjoint h
  exact (cut c M X (Finset.disjoint_union_right.mpr ⟨d 0 1 (by decide), Finset.disjoint_union_right.mpr ⟨d 0 2 (by decide), d 0 3 (by decide)⟩⟩) (slot_tiles 2)).trans
    (sep_mono_right ((cut c M X (Finset.disjoint_union_right.mpr ⟨d 1 2 (by decide), d 1 3 (by decide)⟩) rfl).trans
      (sep_mono_right (cut c M X (d 2 3 (by decide)) rfl))))

/-- A slot of the sum at any contents is a slot holding some matrix. -/
theorem slot_some (k : Fin 2) (X : (Sh3 2 2048 1024).Idx → Elt F .bf16) :
    (pt c mA (acs k.val) fullShare X : sProp (MT nD τ sig Unit (Elt F) ℕ UU ℕ)) ⊢ iprop(∃ A : XM F, pt c mA (acs k.val) fullShare (slotM 2 A)) := by
  iintro H
  iexists (fun j => X (ix3 k (j 0) (j 1)))
  iapply (Entails.of_eq (part_congr (c : Thread nD τ) mA (acs k.val) fullShare (X := X) (Y := slotM 2 fun j => X (ix3 k (j 0) (j 1))) fun i hi => by
    show X i = X (ix3 k (i 1) (i 2))
    have h := mem_slot.mp hi
    congr 1
    funext a
    fin_cases a
    · exact Fin.ext h
    · rfl
    · rfl)) $$ H

theorem sum_cut (X : (Sh3 2 2048 1024).Idx → Elt F .bf16) :
    (pt c mA Finset.univ fullShare X : sProp (MT nD τ sig Unit (Elt F) ℕ UU ℕ))
      ⊢ iprop((∃ A : XM F, pt c mA (acs 0) fullShare (slotM 2 A)) ∗ (∃ A : XM F, pt c mA (acs 1) fullShare (slotM 2 A))) :=
  (cut c mA X (slot_disjoint (k := 0) (k' := 1) (by decide)) univ_slots2).trans (BIClass.sep_mono (slot_some c 0 X) (slot_some c 1 X))

/-! ## The body's obligation -/

/-- What device `c`'s body starts from beside its scratch buffers. -/
def start (c : Dev nD) : sProp (MT nD τ sig Unit (Elt F) ℕ UU ℕ) :=
  iprop((∃ K, Amb m K) ∗ BOut c ∗ BIn c ∗ bigSep Finset.univ (fun j => SOut j c) ∗ bigSep Finset.univ (fun j => RIn j c) ∗ spare c ∗ wHbm m c)
/-- The two semaphores the kernel never uses. -/
def idle (c : Dev nD) : sProp (MT nD τ sig Unit (Elt F) ℕ UU ℕ) :=
  iprop(semVal ((c : Thread nD τ), SemLoc.dma (s3 cc0_scratch10 2 inb_S3_S1_2)) 0 ∗ semVal ((c : Thread nD τ), SemLoc.dma (s3 cc0_scratch11 2 inb_S3_S1_2)) 0)
def Φ₀ (c : Dev nD) : sProp (MT nD τ sig Unit (Elt F) ℕ UU ℕ) := iprop(start m c ∗ scratch c)
def Φ₁ (c : Dev nD) : sProp (MT nD τ sig Unit (Elt F) ℕ UU ℕ) := iprop(cellsDone c ∗ idle c ∗ wHbm m c ∗ scratch c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xin m c
    | ⟨1, _⟩ => rin m c
    | ⟨2, _⟩ => iin m c
    | ⟨3, _⟩ => outM m c
  Φ t := match t with
    | ⟨0, _⟩ => Φ₀ m c
    | ⟨_ + 1, _⟩ => Φ₁ m c
  q _ := fullShare
  owed t := match t with
    | ⟨0, _⟩ => O₀ c
    | ⟨_ + 1, _⟩ => 0

theorem bigSep_W (Φ : Fin cfg0.W → sProp (MT nD τ sig Unit (Elt F) ℕ UU ℕ)) : bigSep Finset.univ Φ = iprop(Φ (0 : Fin 4) ∗ Φ (1 : Fin 4) ∗ Φ (2 : Fin 4) ∗ Φ (3 : Fin 4)) := bigSep_W0 Φ

theorem before_0 (d) : (dats m ρ 0 c).before (0 : Fin 4) t0_0 d = xin m c := by
  unfold Dat.before; rw [if_pos (fetch0_0 t0_0)]; rfl
theorem before_1 (d) : (dats m ρ 0 c).before (1 : Fin 4) t0_0 d = rin m c := by
  unfold Dat.before; rw [if_pos (fetch0_1 t0_0)]; rfl
theorem before_2 (d) : (dats m ρ 0 c).before (2 : Fin 4) t0_0 d = iin m c := by
  unfold Dat.before; rw [if_pos (fetch0_2 t0_0)]; rfl

abbrev ownB (c : Dev nD) {sp : Space} {s : Shape} {e : EltTy} (b : Memref sig .tc sp s e) (X : s.Idx → Elt F e) : sProp (MT nD τ sig Unit (Elt F) ℕ UU ℕ) :=
  owns (Ix := Unit) (Name := ℕ) (U := UU) (Lvl := ℕ) (c : Thread nD τ) b fullShare X

def bodyPre (c : Dev nD) : sProp (MT nD τ sig Unit (Elt F) ℕ UU ℕ) :=
  iprop(Φ₀ m c ∗ (dats m ρ 0 c).owesAt () (t0_0 : Fin cfg0.N).castSucc
    ∗ (∃ d, ownB c mX ((dats m ρ 0 c).before (0 : Fin 4) t0_0 d))
    ∗ (∃ d, ownB c mR ((dats m ρ 0 c).before (1 : Fin 4) t0_0 d))
    ∗ (∃ d, ownB c mI ((dats m ρ 0 c).before (2 : Fin 4) t0_0 d))
    ∗ (∃ d, ownB c mO ((dats m ρ 0 c).before (3 : Fin 4) t0_0 d)))
def bodyPost (c : Dev nD) : sProp (MT nD τ sig Unit (Elt F) ℕ UU ℕ) :=
  iprop(Φ₁ m c ∗ (dats m ρ 0 c).owesAt () (t0_0 : Fin cfg0.N).succ ∗ ownB c mX (xin m c) ∗ ownB c mR (rin m c) ∗ ownB c mI (iin m c) ∗ ownB c mO (outM m c))

set_option maxHeartbeats 1600000 in
theorem sound_body (c : Dev nD) :
    bodyPre m ρ c ⊢ wpc c (cc0_body mX (hstage0_0 0) mR (hstage0_1 0) mI (hstage0_2 0) mV (Memref.isWhole_whole _) mO (hstage0_3 0) mXr (Memref.isWhole_whole _) mG (Memref.isWhole_whole _) mGr (Memref.isWhole_whole _) mA (Memref.isWhole_whole _) mB (Memref.isWhole_whole _) mW (Memref.isWhole_whole _) cc0_scratch6 cc0_scratch7 cc0_scratch8 cc0_scratch9 cc0_scratch10 cc0_scratch11 cc0_scratch12 cc0_scratch13 cc0_scratch14) (fun _ => bodyPost m ρ c) := by
  unfold bodyPre Φ₀ start scratch
  iintro ⟨⟨⟨⟨%K, #HK⟩, HBO, HBI, HSs, HRs, Hsp, HV⟩, ⟨%X0, HX⟩, ⟨%G0, Hg⟩, ⟨%X2, HGr⟩, ⟨%X3, HA⟩, ⟨%X4, HB⟩, ⟨%X5, HW⟩⟩, Ho, ⟨%d0, Hx⟩, ⟨%d1, Hr⟩, ⟨%d2, Hi⟩, ⟨%d3, Hout⟩⟩
  rw [before_0, before_1, before_2]
  ihave Hx := (owns_out c mX _) $$ Hx
  ihave Hr := (owns_out c mR _) $$ Hr
  ihave Hi := (owns_out c mI _) $$ Hi
  ihave Hout := (owns_out c mO _) $$ Hout
  unfold Dat.owesAt Pipeline.owesWithin
  icases Ho with ⟨%W, %hW, HO⟩
  rw [show (dats m ρ 0 c).owed (t0_0 : Fin cfg0.N).castSucc = O₀ c from rfl]
  icases (slots_cut c mXr X0) $$ HX with ⟨HX0, HX1, HX2⟩
  icases (slots_cut c mGr X2) $$ HGr with ⟨HG0, HG1, HG2⟩
  icases (slots_cut c mB X4) $$ HB with ⟨HB0, HB1, HB2⟩
  icases (tiles_cut c mB X4) $$ HB2 with ⟨HU0, HU1, HU2, HU3⟩
  icases (sum_cut c X3) $$ HA with ⟨⟨%A0, HA0⟩, ⟨%A1, HA1⟩⟩
  icases (cut c mW X5 (slot_disjoint (k := 0) (k' := 1) (by decide)) univ_slots2) $$ HW with ⟨HW0, HW1⟩
  unfold spare
  icases Hsp with ⟨Hs0, Hs1, Hsa, Hsb⟩
  ihave HSs := (Entails.of_eq (bigSep_12 (I := fun j => SOut j c))) $$ HSs
  ihave HRs := (Entails.of_eq (bigSep_12 (I := fun j => RIn j c))) $$ HRs
  icases HSs with ⟨HSj0, HSj1, HSj2, HSj3, HSj4, HSj5, HSj6, HSj7, HSj8, HSj9, HSj10, HSj11⟩
  icases HRs with ⟨HRj0, HRj1, HRj2, HRj3, HRj4, HRj5, HRj6, HRj7, HRj8, HRj9, HRj10, HRj11⟩
  iapply (body_wp m K c _ A0 A1 G0 W) $$ [HBO HBI HX0 HX1 HX2 HG0 HG1 HG2 HB0 HB1 HU0 HU1 HU2 HU3 HA0 HA1 HW0 HW1 Hs0 Hs1 HV Hx Hr Hi Hout Hg HO HSj0 HRj0 HSj1 HRj1 HSj2 HRj2 HSj3 HRj3 HSj4 HRj4 HSj5 HRj5 HSj6 HRj6 HSj7 HRj7 HSj8 HRj8 HSj9 HRj9 HSj10 HRj10 HSj11 HRj11]
  · isplitr; · iexact HK
    isplitl [HO]; · iexact HO
    isplitl [HBO]; · iexact HBO
    isplitl [HBI]; · iexact HBI
    isplitl [HX0 HX1 HX2 HG0 HG1 HG2 HB0 HB1 HU0 HU1 HU2 HU3]
    · unfold barPay; rw [bigSep_12]
      isplitl [HX0]; · iapply (show iprop(∃ X, pt c mXr (xs 0) fullShare X) ⊢ (dstPay c 0 : sProp (MT nD τ sig Unit (Elt F) ℕ UU ℕ)) from Entails.rfl); iexists X0; iexact HX0
      isplitl [HG0]; · iapply (show iprop(∃ X, pt c mGr (gs 0) fullShare X) ⊢ (dstPay c 1 : sProp (MT nD τ sig Unit (Elt F) ℕ UU ℕ)) from Entails.rfl); iexists X2; iexact HG0
      isplitl [HX1]; · iapply (show iprop(∃ X, pt c mXr (xs 1) fullShare X) ⊢ (dstPay c 2 : sProp (MT nD τ sig Unit (Elt F) ℕ UU ℕ)) from Entails.rfl); iexists X0; iexact HX1
      isplitl [HG1]; · iapply (show iprop(∃ X, pt c mGr (gs 1) fullShare X) ⊢ (dstPay c 3 : sProp (MT nD τ sig Unit (Elt F) ℕ UU ℕ)) from Entails.rfl); iexists X2; iexact HG1
      isplitl [HB0]; · iapply (show iprop(∃ X, pt c mB (xs 0) fullShare X) ⊢ (dstPay c 4 : sProp (MT nD τ sig Unit (Elt F) ℕ UU ℕ)) from Entails.rfl); iexists X4; iexact HB0
      isplitl [HX2]; · iapply (show iprop(∃ X, pt c mXr (xs 2) fullShare X) ⊢ (dstPay c 5 : sProp (MT nD τ sig Unit (Elt F) ℕ UU ℕ)) from Entails.rfl); iexists X0; iexact HX2
      isplitl [HG2]; · iapply (show iprop(∃ X, pt c mGr (gs 2) fullShare X) ⊢ (dstPay c 6 : sProp (MT nD τ sig Unit (Elt F) ℕ UU ℕ)) from Entails.rfl); iexists X2; iexact HG2
      isplitl [HB1]; · iapply (show iprop(∃ X, pt c mB (xs 1) fullShare X) ⊢ (dstPay c 7 : sProp (MT nD τ sig Unit (Elt F) ℕ UU ℕ)) from Entails.rfl); iexists X4; iexact HB1
      isplitl [HU0]; · iapply (show iprop(∃ X, pt c mB (xts 2 0) fullShare X) ⊢ (dstPay c 8 : sProp (MT nD τ sig Unit (Elt F) ℕ UU ℕ)) from Entails.rfl); iexists X4; iexact HU0
      isplitl [HU1]; · iapply (show iprop(∃ X, pt c mB (xts 2 1) fullShare X) ⊢ (dstPay c 9 : sProp (MT nD τ sig Unit (Elt F) ℕ UU ℕ)) from Entails.rfl); iexists X4; iexact HU1
      isplitl [HU2]; · iapply (show iprop(∃ X, pt c mB (xts 2 2) fullShare X) ⊢ (dstPay c 10 : sProp (MT nD τ sig Unit (Elt F) ℕ UU ℕ)) from Entails.rfl); iexists X4; iexact HU2
      iapply (show iprop(∃ X, pt c mB (xts 2 3) fullShare X) ⊢ (dstPay c 11 : sProp (MT nD τ sig Unit (Elt F) ℕ UU ℕ)) from Entails.rfl); iexists X4; iexact HU3
    isplitl [Hx]; · iexact Hx
    isplitl [Hr]; · iexact Hr
    isplitl [Hi]; · iexact Hi
    isplitl [Hout]; · iexact Hout
    isplitl [Hg]; · iexact Hg
    isplitl [HA0]; · iexact HA0
    isplitl [HA1]; · iexact HA1
    isplitl [HW0 Hs0]
    · iapply (show iprop(semVal ((c : Thread nD τ), SemLoc.dma (wS 0)) 0 ∗ ∃ X, pt c mW (ws 0) fullShare X) ⊢ wFree c (par 0) from Entails.rfl)
      isplitl [Hs0]; · iexact Hs0
      iexists X5; iexact HW0
    isplitl [HW1 Hs1]
    · iapply (show iprop(semVal ((c : Thread nD τ), SemLoc.dma (wS 1)) 0 ∗ ∃ X, pt c mW (ws 1) fullShare X) ⊢ wFree c (par 1) from Entails.rfl)
      isplitl [Hs1]; · iexact Hs1
      iexists X5; iexact HW1
    isplitl [HV]; · iexact HV
    isplitl [HSj0]; · iexact HSj0
    isplitl [HRj0]; · iexact HRj0
    isplitl [HSj1]; · iexact HSj1
    isplitl [HRj1]; · iexact HRj1
    isplitl [HSj2]; · iexact HSj2
    isplitl [HRj2]; · iexact HRj2
    isplitl [HSj3]; · iexact HSj3
    isplitl [HRj3]; · iexact HRj3
    isplitl [HSj4]; · iexact HSj4
    isplitl [HRj4]; · iexact HRj4
    isplitl [HSj5]; · iexact HSj5
    isplitl [HRj5]; · iexact HRj5
    isplitl [HSj6]; · iexact HSj6
    isplitl [HRj6]; · iexact HRj6
    isplitl [HSj7]; · iexact HSj7
    isplitl [HRj7]; · iexact HRj7
    isplitl [HSj8]; · iexact HSj8
    isplitl [HRj8]; · iexact HRj8
    isplitl [HSj9]; · iexact HSj9
    isplitl [HRj9]; · iexact HRj9
    isplitl [HSj10]; · iexact HSj10
    isplitl [HRj10]; · iexact HRj10
    isplitl [HSj11]; · iexact HSj11
    iexact HRj11
  iintro Hfin
  unfold bodyFin bodyPost Φ₁
  icases Hfin with ⟨⟨Hx, Hr, Hi, Hout⟩, HO, Hcells, HV, Hscr⟩
  isplitl [Hcells HV Hscr Hsa Hsb]
  · isplitl [Hcells]; · iexact Hcells
    isplitl [Hsa Hsb]
    · unfold idle
      isplitl [Hsa]; · iexact Hsa
      iexact Hsb
    isplitl [HV]; · iexact HV
    iexact Hscr
  isplitl [HO]
  · unfold Ow Dat.owesAt Pipeline.owesWithin
    icases HO with ⟨%W', HO⟩
    iexists W'
    isplitr; · ipureintro; exact fun _ _ => Or.inl trivial
    rw [show (dats m ρ 0 c).owed (t0_0 : Fin cfg0.N).succ = 0 from rfl]
    iapply (show owes (c : Thread nD τ) (oweL c []) W' ⊢ (owes (c : Thread nD τ) 0 W' : sProp (MT nD τ sig Unit (Elt F) ℕ UU ℕ)) from Entails.rfl) $$ HO
  isplitl [Hx]; · ihave Hx := (show (pt c mX Finset.univ fullShare (xh m 0 c) : sProp (MT nD τ sig Unit (Elt F) ℕ UU ℕ)) ⊢ pt c mX Finset.univ fullShare (xin m c) from Entails.rfl) $$ Hx; iapply (owns_in c mX (xin m c)) $$ Hx
  isplitl [Hr]; · iapply (owns_in c mR (rin m c)) $$ Hr
  isplitl [Hi]; · iapply (owns_in c mI (iin m c)) $$ Hi
  iapply (owns_in c mO (outM m c)) $$ Hout

set_option maxRecDepth 4000 in
/-- The library's body obligation on core `c`. -/
theorem body_obligation (c : Dev nD) : BodyObligation (dats (F := F) m ρ 0 c) (defs₀ (F := F)) 𝒱₀ () Set.univ := fun t => by
  rw [show t = t0_0 from fin_N0 t]
  rw [bigSep_W, bigSep_W]
  exact sound_body m ρ c

/-! ## The launch -/

theorem share_eq (c : Dev nD) (w : Fin cfg0.W) : (dats m ρ 0 c).share w = fullShare := by unfold Dat.share; split <;> rfl

theorem hbm_intro (c : Dev nD) :
    (Pipeline.unscopedRest (Ix := Unit) (Name := ℕ) (U := UU) (Lvl := ℕ) cfg0.spec c (fun b => m ((c : Thread nD τ).loc b)) : sProp (MT nD τ sig Unit (Elt F) ℕ UU ℕ)) ⊢ wHbm m c :=
  Entails.of_eq ((unscopedRest0_eq c _).trans (whole_part c main_arg3 _))

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none]
  unfold G' linear
  iintro ⟨Hm, #Hlev, Hcr, -, ⟨%K, #Hrec, ⟨HBO, Hb, HS, HR⟩, Hsp⟩⟩
  icases (creds (F := F) c) $$ Hcr with ⟨H1, HN⟩
  imodintro
  isplitl
  · unfold start BIn
    isplitr
    · iexists K; unfold Amb
      isplitr; · iexact Hrec
      iexact Hlev
    isplitl [HBO]; · iexact HBO
    isplitl [Hb H1]
    · isplitl [Hb]; · iexact Hb
      iexact H1
    isplitl [HS]; · iexact HS
    isplitl [HR HN]
    · iapply (show iprop(bigSep Finset.univ (fun j => atPos ER (rCell j c) 0 ∅ 0) ∗ bigSep Finset.univ (fun j => cred (tallyAt (rCell j c) () (N j))))
        ⊢ (bigSep Finset.univ (fun j => RIn j c) : sProp (MT nD τ sig Unit (Elt F) ℕ UU ℕ)) from by unfold RIn; rw [bigSep_sep'])
      isplitl [HR]; · iexact HR
      iexact HN
    isplitl [Hsp]; · iexact Hsp
    iapply (hbm_intro m c) $$ Hm
  · iempintro

theorem rest_eq (c : Dev nD) :
    (Pipeline.scopedRest (Ix := Unit) (Name := ℕ) (U := UU) (Lvl := ℕ) (Val := Elt F) cfg0.spec c : sProp (MT nD τ sig Unit (Elt F) ℕ UU ℕ)) = scratch c := by
  rw [show (Pipeline.scopedRest (Ix := Unit) (Name := ℕ) (U := UU) (Lvl := ℕ) (Val := Elt F) cfg0.spec c : sProp (MT nD τ sig Unit (Elt F) ℕ UU ℕ)) = _ from scopedRest0_eq c]
  unfold scratch
  rw [whole_some, whole_some, whole_some, whole_some, whole_some, whole_some]
  rfl

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, rest_eq]
  unfold Φ₀
  iintro ⟨Hs, -, Hr⟩
  isplitl [Hs]; · iexact Hs
  iexact Hr

theorem phi1_exit (c : Dev nD) :
    (dats m ρ 0 c).Φ (Fin.last cfg0.N) ⊢ iprop((unscopedSems0 c ∗ ((c : Thread nD τ).loc main_arg3) ↦{fullShare} m ((c : Thread nD τ).loc main_arg3)) ∗ ownS c ∗ Pipeline.scopedRest cfg0.spec c) := by
  rw [show (dats m ρ 0 c).Φ (Fin.last cfg0.N) = Φ₁ m c from rfl, rest_eq, unscopedSems0_eq, whole_part]
  unfold Φ₁ cellsDone idle
  iintro ⟨⟨Hb, HZs, HZr, H0, H1⟩, ⟨Ha, Hi⟩, HV, Hscr⟩
  isplitl [Hb HV]
  · isplitl [Hb]; · iexact Hb
    iapply (show wHbm m c ⊢ (pt c (Memref.whole main_arg3) Finset.univ fullShare (m ((c : Thread nD τ).loc main_arg3)) : sProp (MT nD τ sig Unit (Elt F) ℕ UU ℕ)) from Entails.rfl) $$ HV
  isplitl [HZs HZr H0 H1 Ha Hi]
  · iapply (own_join c)
    unfold spare
    isplitl [HZs]; · iexact HZs
    isplitl [HZr]; · iexact HZr
    isplitl [H0]; · iexact H0
    isplitl [H1]; · iexact H1
    isplitl [Ha]; · iexact Ha
    iexact Hi
  iexact Hscr

theorem waits (c : Dev nD) : (levAts L lv : sProp (MT nD τ sig Unit (Elt F) ℕ UU ℕ)) ⊢ Pipeline.cellsWaits cfgs (dats m ρ) () 0 c :=
  Pipeline.cellsWaits_intro cfgs (dats m ρ) () 0 c fun w s t =>
    mayWait_stage c _ (lv_other c _ (by fin_cases w <;> fin_cases s <;> decide)) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, (∀ w : Fin cfg0.W, r.2.mem ((cfg0.win w).arr.view.loc (c : Thread nD τ)) = finalA m ρ c w)
    ∧ r.2.mem ((c : Thread nD τ).loc main_arg3) = m ((c : Thread nD τ).loc main_arg3)

set_option maxRecDepth 8000 in
/-- Every run of the four devices from counters at zero ends, the arrays at their computed contents and the counters at
    zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      icases (ownU_pair _ _) $$ Hu with ⟨HP, HX⟩
      imod ((show BI.own (embR ((Emb.inl : Emb UB (UB × Counters)) (initOf ringCells ringToks))) ⊢ (BI.own (ER (initOf ringCells ringToks)) : sProp (MT nD τ sig Unit (Elt F) ℕ UU ℕ)) from Entails.rfl).trans (fund_ring m)) $$ HX with HG
      imodintro
      isplitl [HP] <;> iassumption)
    (hglob := glob m)
    (hA := fun _ _ => rfl) (hpf := fun _ k => k.elim0)
    (X := start m) (Y := fun c => iprop(unscopedSems0 c ∗ ((c : Thread nD τ).loc main_arg3) ↦{fullShare} m ((c : Thread nD τ).loc main_arg3))) (Z := fun _ => iprop(emp))
    (hX := start_intro m ρ) (hin := phi0_intro m ρ) (hout := phi1_exit m ρ)
    (QY := fun c s => (∀ sm : SemLoc sig, sm.isScoped .tc = false → s.sem ((c.tc : Thread nD τ), sm) = 0)
      ∧ s.mem ((c : Thread nD τ).loc main_arg3) = m ((c : Thread nD τ).loc main_arg3))
    (hY := fun c s' => by
      iintro ⟨⟨Hu, Hm⟩, -, HSI⟩
      icombine HSI Hm gives %hm
      imod (Pipeline.unscopedSems0_read (X := unscopedSems0 c) (c := c) fupd_intro s') $$ [Hu HSI] with ⟨%hs, HSI⟩
      · isplitl [Hu] <;> iassumption
      imodintro
      isplitr; · ipureintro; exact ⟨hs, Buf.eq_of_forall_mem_univ hm⟩
      iexact HSI)
    (hQ := fun _ h hs => ⟨fun c => ⟨fun w => (h c).1 w, (h c).2.2.2⟩, sem_eq_zero hs fun c => (h c).2.2.1⟩)

theorem finalA_in (c : Dev nD) (w : Fin cfg0.W) (hw : (cfg0.win w).isOut = false) :
    finalA m ρ c w = (s₀ m ρ).mem ((cfg0.win w).arr.view.loc (c : Thread nD τ)) :=
  (dats (F := F) m ρ 0 c).arrAt_in w hw _

/-- What the frame claim says. -/
theorem run_frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  (θ_run defs _ _).mono (fun _ h => ⟨fun c => ⟨((h.1 c).1 0).trans (finalA_in m ρ c 0 rfl), ((h.1 c).1 1).trans (finalA_in m ρ c 1 rfl),
    ((h.1 c).1 2).trans (finalA_in m ρ c 2 rfl), (h.1 c).2⟩, h.2⟩) (run_main m ρ)

end Cert.KernelIdeal.Moe

end
-- ==== Proof.Bits.lean ====
/- The frame of the kernel as printed: its program at the word floats is the idealized one with the named constant read
   as the word it stands for, so the run of the one is the run of the other. -/
module

public import proofs.«01_k».proof.Defs
public import proofs.«01_k».proof.Proof.Gen.Kernel
public import proofs.«01_k».proof.Proof.KernelIdeal.Run

@[expose] public section

noncomputable section

namespace Cert.Moe

open Idealize.ShloMosaic Idealize.ShloMosaic.TcCoe Idealize.SL.Sem

/-- A named constant at the word floats: the word. -/
instance namedBits : Named Bits where
  named _ _ {φ} bits := Scalar.ofBits φ bits

set_option maxRecDepth 100000
theorem body_bits : @Cert.Kernel.cc0_body Bits _ _ = @Cert.KernelIdeal.cc0_body Bits _ _ _ := rfl
theorem defs0_bits : Cert.Kernel.defs₀ (F := Bits) = Cert.KernelIdeal.defs₀ (F := Bits) := by
  unfold Cert.Kernel.defs₀ Cert.KernelIdeal.defs₀
  refine congrArg (@Defs.onTc Cert.KernelIdeal.nD Cert.KernelIdeal.τ Cert.KernelIdeal.sig (Elt Bits) Cert.KernelIdeal.Λ₀) ?_
  funext l a
  match l, a with
  | 0, (t, s) => rfl
  | ⟨_ + 1, h⟩, _ => exact absurd h (Nat.not_lt.2 (Nat.le_add_left _ _))
theorem defs_bits : Cert.Kernel.defs (F := Bits) = Cert.KernelIdeal.defs (F := Bits) :=
  congrArg (Pipeline.defs (Cert.KernelIdeal.pcfgs (F := Bits))) defs0_bits

theorem frame_bits : Cert.quiescent_Kernel := fun m g _ => by
  rw [show (Cert.Kernel.defs (F := Bits)) = Cert.KernelIdeal.defs (F := Bits) from defs_bits]
  exact Cert.KernelIdeal.Moe.run_frame (F := Bits) m g

end Cert.Moe

end
-- ==== Proof.Value.Ops.lean ====
/-
# The kernel's vector operations read at an index

At the shapes of this kernel, over the extended reals: the products as sums, the row tiles cut out of a column of
gates, the reductions along a row.
-/
module

public import proofs.«01_k».proof.Proof.KernelIdeal.Values
public import Idealize.ShloMosaic.Lib.ValueIdx
public import Idealize.ShloMosaic.Lib.ValueLayout
public import Idealize.ShloMosaic.Lib.ValueLayoutCasts
public import Idealize.ShloMosaic.PureOps.Ideal.Laws

@[expose] public section

noncomputable section

namespace Cert.KernelIdeal.Moe

open Cert.KernelIdeal Cert.KernelIdeal.Gen Cert.Moe
open Idealize.ShloMosaic
open Idealize.ShloMosaic.ValueIdx
open scoped BigOperators

/-! ## Products -/

section Dots

theorem dotT_lhs (j : S512x1024.Idx) (q : dot_S512x1024_S1024x1024_S512x1024_1_0_0_1_n_n.contr.Idx) :
    (dot_S512x1024_S1024x1024_S512x1024_1_0_0_1_n_n.lhsIdx j q 0).val = (j 0).val := by
  unfold DotDims.lhsIdx
  rw [dif_neg (show ¬(0 : Fin S512x1024.rank) ∈ dot_S512x1024_S1024x1024_S512x1024_1_0_0_1_n_n.lhsBatch by decide), dif_pos (show (0 : Fin S512x1024.rank) ∈ dot_S512x1024_S1024x1024_S512x1024_1_0_0_1_n_n.lhsNonContracting by decide)]
  rfl
theorem dotT_rhs (j : S512x1024.Idx) (q : dot_S512x1024_S1024x1024_S512x1024_1_0_0_1_n_n.contr.Idx) :
    (dot_S512x1024_S1024x1024_S512x1024_1_0_0_1_n_n.rhsIdx j q 1).val = (j 1).val := by
  unfold DotDims.rhsIdx
  rw [dif_neg (show ¬(1 : Fin S1024x1024.rank) ∈ dot_S512x1024_S1024x1024_S512x1024_1_0_0_1_n_n.rhsBatch by decide), dif_pos (show (1 : Fin S1024x1024.rank) ∈ dot_S512x1024_S1024x1024_S512x1024_1_0_0_1_n_n.rhsNonContracting by decide)]
  rfl

/-- A row tile of tokens times an expert's weights. -/
theorem dotT_apply (x : FVec Ideal S512x1024 .bf16) (w : FVec Ideal S1024x1024 .bf16) (j : S512x1024.Idx) :
    matmul dot_S512x1024_S1024x1024_S512x1024_1_0_0_1_n_n none x w (constant S512x1024 .f32 0x00000000#32) j
      = ∑ k : Fin 1024, x (ix2 (j 0) k) * w (ix2 k (j 1)) := by
  simp only [matmul]
  rw [Ideal.matmul_constant_zero_apply, ← Equiv.sum_comp (contrEquiv1 dot_S512x1024_S1024x1024_S512x1024_1_0_0_1_n_n 1024 rfl rfl).symm]
  refine Finset.sum_congr rfl fun k _ => ?_
  have hk := contrEquiv1_symm_val dot_S512x1024_S1024x1024_S512x1024_1_0_0_1_n_n 1024 rfl rfl k
  refine congrArg₂ (· * ·) (congrArg x (idx2_eq (dotT_lhs _ _) ?_)) (congrArg w (idx2_eq ?_ (dotT_rhs _ _)))
  · exact (dot_S512x1024_S1024x1024_S512x1024_1_0_0_1_n_n.lhsIdx_val_of_single rfl j _).trans hk
  · exact (dot_S512x1024_S1024x1024_S512x1024_1_0_0_1_n_n.rhsIdx_val_of_single rfl j _).trans hk

theorem dotS_lhs (j : S2048x32.Idx) (q : dot_S2048x1024_S1024x32_S2048x32_1_0_0_1_n_n.contr.Idx) :
    (dot_S2048x1024_S1024x32_S2048x32_1_0_0_1_n_n.lhsIdx j q 0).val = (j 0).val := by
  unfold DotDims.lhsIdx
  rw [dif_neg (show ¬(0 : Fin S2048x1024.rank) ∈ dot_S2048x1024_S1024x32_S2048x32_1_0_0_1_n_n.lhsBatch by decide), dif_pos (show (0 : Fin S2048x1024.rank) ∈ dot_S2048x1024_S1024x32_S2048x32_1_0_0_1_n_n.lhsNonContracting by decide)]
  rfl
theorem dotS_rhs (j : S2048x32.Idx) (q : dot_S2048x1024_S1024x32_S2048x32_1_0_0_1_n_n.contr.Idx) :
    (dot_S2048x1024_S1024x32_S2048x32_1_0_0_1_n_n.rhsIdx j q 1).val = (j 1).val := by
  unfold DotDims.rhsIdx
  rw [dif_neg (show ¬(1 : Fin S1024x32.rank) ∈ dot_S2048x1024_S1024x32_S2048x32_1_0_0_1_n_n.rhsBatch by decide), dif_pos (show (1 : Fin S1024x32.rank) ∈ dot_S2048x1024_S1024x32_S2048x32_1_0_0_1_n_n.rhsNonContracting by decide)]
  rfl

/-- The tokens times the router. -/
theorem dotS_apply (x : FVec Ideal S2048x1024 .bf16) (w : FVec Ideal S1024x32 .bf16) (j : S2048x32.Idx) :
    matmul dot_S2048x1024_S1024x32_S2048x32_1_0_0_1_n_n none x w (constant S2048x32 .f32 0x00000000#32) j
      = ∑ k : Fin 1024, x (ix2 (j 0) k) * w (ix2 k (j 1)) := by
  simp only [matmul]
  rw [Ideal.matmul_constant_zero_apply, ← Equiv.sum_comp (contrEquiv1 dot_S2048x1024_S1024x32_S2048x32_1_0_0_1_n_n 1024 rfl rfl).symm]
  refine Finset.sum_congr rfl fun k _ => ?_
  have hk := contrEquiv1_symm_val dot_S2048x1024_S1024x32_S2048x32_1_0_0_1_n_n 1024 rfl rfl k
  refine congrArg₂ (· * ·) (congrArg x (idx2_eq (dotS_lhs _ _) ?_)) (congrArg w (idx2_eq ?_ (dotS_rhs _ _)))
  · exact (dot_S2048x1024_S1024x32_S2048x32_1_0_0_1_n_n.lhsIdx_val_of_single rfl j _).trans hk
  · exact (dot_S2048x1024_S1024x32_S2048x32_1_0_0_1_n_n.rhsIdx_val_of_single rfl j _).trans hk

theorem dotG_lhs (j : S2048x8.Idx) (q : dot_S2048x32_S32x8_S2048x8_1_0_0_1_n_n.contr.Idx) :
    (dot_S2048x32_S32x8_S2048x8_1_0_0_1_n_n.lhsIdx j q 0).val = (j 0).val := by
  unfold DotDims.lhsIdx
  rw [dif_neg (show ¬(0 : Fin S2048x32.rank) ∈ dot_S2048x32_S32x8_S2048x8_1_0_0_1_n_n.lhsBatch by decide), dif_pos (show (0 : Fin S2048x32.rank) ∈ dot_S2048x32_S32x8_S2048x8_1_0_0_1_n_n.lhsNonContracting by decide)]
  rfl
theorem dotG_rhs (j : S2048x8.Idx) (q : dot_S2048x32_S32x8_S2048x8_1_0_0_1_n_n.contr.Idx) :
    (dot_S2048x32_S32x8_S2048x8_1_0_0_1_n_n.rhsIdx j q 1).val = (j 1).val := by
  unfold DotDims.rhsIdx
  rw [dif_neg (show ¬(1 : Fin S32x8.rank) ∈ dot_S2048x32_S32x8_S2048x8_1_0_0_1_n_n.rhsBatch by decide), dif_pos (show (1 : Fin S32x8.rank) ∈ dot_S2048x32_S32x8_S2048x8_1_0_0_1_n_n.rhsNonContracting by decide)]
  rfl

/-- The gates times a selection of experts. -/
theorem dotG_apply (x : FVec Ideal S2048x32 .bf16) (w : FVec Ideal S32x8 .bf16) (j : S2048x8.Idx) :
    matmul dot_S2048x32_S32x8_S2048x8_1_0_0_1_n_n none x w (constant S2048x8 .f32 0x00000000#32) j
      = ∑ k : Fin 32, x (ix2 (j 0) k) * w (ix2 k (j 1)) := by
  simp only [matmul]
  rw [Ideal.matmul_constant_zero_apply, ← Equiv.sum_comp (contrEquiv1 dot_S2048x32_S32x8_S2048x8_1_0_0_1_n_n 32 rfl rfl).symm]
  refine Finset.sum_congr rfl fun k _ => ?_
  have hk := contrEquiv1_symm_val dot_S2048x32_S32x8_S2048x8_1_0_0_1_n_n 32 rfl rfl k
  refine congrArg₂ (· * ·) (congrArg x (idx2_eq (dotG_lhs _ _) ?_)) (congrArg w (idx2_eq ?_ (dotG_rhs _ _)))
  · exact (dot_S2048x32_S32x8_S2048x8_1_0_0_1_n_n.lhsIdx_val_of_single rfl j _).trans hk
  · exact (dot_S2048x32_S32x8_S2048x8_1_0_0_1_n_n.rhsIdx_val_of_single rfl j _).trans hk

end Dots

/-! ## Columns -/

variable {α : Type} {R C : ℕ}

/-- A column repeated along the rows. -/
theorem colBcast_apply (x : (Sh2 R 1).Idx → α) (h : (Sh2 R 1).Broadcasts (Sh2 R C)) (hR : R ≠ 1) (j : (Sh2 R C).Idx) :
    broadcastTo (Sh2 R C) x h j = x (ix2 (j 0) (0 : Fin 1)) :=
  broadcastTo_apply x h j _ fun a => by
    match a with
    | ⟨0, _⟩ => show (j 0).val = if R = 1 then 0 else (j 0).val; rw [if_neg hR]
    | ⟨1, _⟩ => show 0 = if (1 : ℕ) = 1 then 0 else (j 1).val; rw [if_pos rfl]

/-- One column of a row tile. -/
theorem colSlice_apply {C' : ℕ} (t c : ℕ) (x : (Sh2 2048 C').Idx → α) (h : (Sh2 2048 C').Slices ![t, c] (Sh2 512 1)) (j : (Sh2 512 1).Idx)
    (ht : t + 512 ≤ 2048) (hc : c < C') :
    extractStridedSlice (Sh2 512 1) ![t, c] x h j
      = x (ix2 ⟨t + (j 0).val, by have h0 : (j 0).val < 512 := (j 0).isLt; omega⟩ ⟨c, hc⟩) :=
  extractStridedSlice_apply ![t, c] x h j _ fun a => by
    have h1 : (j 1).val < 1 := (j 1).isLt
    match a with
    | ⟨0, _⟩ => rfl
    | ⟨1, _⟩ => show c = c + (j 1).val; omega

theorem dropUnit_eq (x : (Sh3 1 R C).Idx → α) (h : (Sh3 1 R C).ShapeCasts (Sh2 R C)) (j : (Sh2 R C).Idx) :
    shapeCast (Sh2 R C) x h j = x (ix3 (0 : Fin 1) (j 0) (j 1)) := by
  have e := shapeCast_1ab_ab_apply x h (j 0) (j 1)
  exact (congrArg (shapeCast (Sh2 R C) x h) (idx2_eq (x := j) (y := ix2 (j 0) (j 1)) rfl rfl)).trans e

theorem addUnit_eq (x : (Sh2 R C).Idx → α) (h : (Sh2 R C).ShapeCasts (Sh3 1 R C)) : shapeCast (Sh3 1 R C) x h = up x := by
  funext j
  have e := shapeCast_ab_1ab_apply x h (0 : Fin 1) (j 1) (j 2)
  have h0 : (j 0).val < 1 := (j 0).isLt
  rw [show j = ix3 (0 : Fin 1) (j 1) (j 2) from idx3_eq (by show (j 0).val = 0; omega) rfl rfl]
  exact e

theorem drop_up (x : (Sh2 R C).Idx → α) (h : (Sh3 1 R C).ShapeCasts (Sh2 R C)) : shapeCast (Sh2 R C) (up x) h = x := by
  funext j
  rw [dropUnit_eq]
  exact congrArg x (idx2_eq rfl rfl)

theorem drop_getT (X : (Sh2 2048 C).Idx → α) (t : Fin 4) (h : (Sh3 1 512 C).ShapeCasts (Sh2 512 C)) :
    shapeCast (Sh2 512 C) (getT X t) h = getR X t := by
  rw [getT_eq, drop_up]

theorem col_apply (x : (⟨1, ![R]⟩ : Shape).Idx → α) (h : (⟨1, ![R]⟩ : Shape).ShapeCasts (Sh2 R 1)) (j : (Sh2 R 1).Idx) :
    shapeCast (Sh2 R 1) x h j = x (ix1 (j 0)) := by
  have e := shapeCast_a_a1_apply x h (j 0) (j 1)
  exact (congrArg (shapeCast (Sh2 R 1) x h) (idx2_eq (x := j) (y := ix2 (j 0) (j 1)) rfl rfl)).trans e

/-! ## Reductions along a row -/

theorem rowSum_apply (x : FVec Ideal (Sh2 R C) .f32) (h : (Sh2 R C).Reduces [1] ⟨1, ![R]⟩) (hφ : FKind.Formats .f32)
    (hacc : 0x00000000#32 = FKind.add.neutral .f32 hφ) (j : (⟨1, ![R]⟩ : Shape).Idx) :
    multiReduction (F := Ideal) .add [1] ⟨1, ![R]⟩ x 0x00000000#32 h hφ hacc j = ∑ k : Fin C, x (ix2 (j 0) k) := by
  rw [Ideal.multiReduction_add_single]
  exact Finset.sum_congr rfl fun k _ => congrArg x (idx2_eq rfl rfl)

theorem rowMax_apply (x : FVec Ideal (Sh2 R C) .f32) (h : (Sh2 R C).Reduces [1] ⟨1, ![R]⟩) (hφ : FKind.Formats .f32)
    (hacc : 0xFF800000#32 = FKind.maximumf.neutral .f32 hφ) (j : (⟨1, ![R]⟩ : Shape).Idx) :
    multiReduction (F := Ideal) .maximumf [1] ⟨1, ![R]⟩ x 0xFF800000#32 h hφ hacc j
      = (Finset.univ : Finset (Fin C)).fold max (Ideal.ofBits .f32 0xFF800000#32) fun k => x (ix2 (j 0) k) := by
  rw [Ideal.multiReduction_maximumf_single]
  exact Finset.fold_congr fun k _ => congrArg x (idx2_eq rfl rfl)

end Cert.KernelIdeal.Moe

end
-- ==== Proof.Value.Tiles.lean ====
/-
# The running sums read at an index

Each trip of an expert loop adds one expert's product weighted by the trip's column of gates, so each loop leaves the
weighted sum of its eight experts, and the result is the sum over the four devices' experts.
-/
module

public import proofs.«01_k».proof.Proof.Value.Ops

@[expose] public section

noncomputable section

namespace Cert.KernelIdeal.Moe

open Cert.KernelIdeal Cert.KernelIdeal.Gen Cert.Moe
open Idealize.ShloMosaic
open Idealize.ShloMosaic.ValueIdx
open scoped BigOperators

/-- The constants of the kernel. -/
theorem zero_bf16 : (Scalar.ofBits .bf16 0x0000#16 : Ideal .bf16) = 0 := by
  show Ideal.ofBits .bf16 0x0000#16 = 0
  simp [Ideal.ofBits, Ideal.ieee, -EReal.coe_mul]

theorem ninf_f32 : Ideal.ofBits .f32 0xFF800000#32 = ⊥ := by
  simp [Ideal.ofBits, Ideal.ieee, -EReal.coe_mul]

/-- A sum with one expert's weighted product added. -/
def acc (X : XM Ideal) (W : WM Ideal) (A : XM Ideal) (v : Fin 2048 → EReal) : XM Ideal :=
  fun j => A j + (∑ k : Fin 1024, X (ix2 (j 0) k) * W (ix2 k (j 1))) * v (j 0)

/-- A row tile of it, as the kernel computes it. -/
theorem tile_eq {C' : ℕ} (t : Fin 4) (o q : ℕ) (ho : o = 512 * t.val) (hq : q < C') (X : XM Ideal) (W : WM Ideal) (A : XM Ideal)
    (v : FVec Ideal (Sh2 2048 C') .f32) (hs : (Sh2 2048 C').Slices ![o, q] S512x1) :
    addf (extf .f32 (getR A t : FVec Ideal S512x1024 .bf16) bitsLt_bf16_f32)
        (mulf (matmul (φ₁ := .bf16) (φ₂ := .bf16) dot_S512x1024_S1024x1024_S512x1024_1_0_0_1_n_n none (getR X t : FVec Ideal S512x1024 .bf16) (W : FVec Ideal S1024x1024 .bf16) (constant S512x1024 .f32 0x00000000#32))
          (broadcastTo S512x1024 (extractStridedSlice S512x1 ![o, q] v hs) broadcasts_S512x1_S512x1024))
      = getR (acc X W A fun r => v (ix2 r ⟨q, hq⟩)) t := by
  subst ho
  funext j
  rw [addf_apply, mulf_apply, extf_apply, dotT_apply]
  have e1 := colBcast_apply (extractStridedSlice S512x1 ![512 * t.val, q] v hs) broadcasts_S512x1_S512x1024 (by decide) j
  have ht : 512 * t.val + 512 ≤ 2048 := by have := t.isLt; omega
  have e2 := colSlice_apply (512 * t.val) q v hs (ix2 (j 0) (0 : Fin 1)) ht hq
  exact congrArg (fun z => getR A t j + (∑ k : Fin 1024, getR X t (ix2 (j 0) k) * W (ix2 k (j 1))) * z) (e1.trans e2)

theorem ofTiles_getT {α : Type} {C : ℕ} (B : (Sh2 2048 C).Idx → α) (p : Fin 4 → (Sh3 1 512 C).Idx → α) (h : ∀ t, p t = up (getR B t)) :
    ofTiles p = B := by
  funext j
  unfold ofTiles
  rw [h]
  refine congrArg B (idx2_eq ?_ rfl)
  show 512 * ((j 0).val / 512) + (j 0).val % 512 = (j 0).val
  omega

theorem four {α : Type} {C : ℕ} {B : (Sh2 2048 C).Idx → α} {p0 p1 p2 p3 : (Sh3 1 512 C).Idx → α} (h0 : p0 = up (getR B 0))
    (h1 : p1 = up (getR B 1)) (h2 : p2 = up (getR B 2)) (h3 : p3 = up (getR B 3)) : ofTiles ![p0, p1, p2, p3] = B := by
  refine ofTiles_getT B _ fun t => ?_
  match t with
  | ⟨0, _⟩ => exact h0
  | ⟨1, _⟩ => exact h1
  | ⟨2, _⟩ => exact h2
  | ⟨3, _⟩ => exact h3

theorem fourR {α : Type} {B : XM Ideal} {p0 p1 p2 p3 : (Sh2 512 1024).Idx → Elt Ideal .bf16} (h0 : p0 = getR B 0)
    (h1 : p1 = getR B 1) (h2 : p2 = getR B 2) (h3 : p3 = getR B 3) : ofRows ![p0, p1, p2, p3] = B := by
  refine ofTiles_getT B _ fun t => ?_
  match t with
  | ⟨0, _⟩ => exact congrArg up h0
  | ⟨1, _⟩ => exact congrArg up h1
  | ⟨2, _⟩ => exact congrArg up h2
  | ⟨3, _⟩ => exact congrArg up h3

/-! ## The column of a trip -/

theorem word_eq {a b : ℕ} (ha : a < 2 ^ 32) (hb : b < 2 ^ 32) : BitVec.ofNat 32 a = BitVec.ofNat 32 b ↔ a = b :=
  ⟨fun h => by have e := congrArg BitVec.toNat h; rwa [BitVec.toNat_ofNat, BitVec.toNat_ofNat, Nat.mod_eq_of_lt ha, Nat.mod_eq_of_lt hb] at e, fun h => by rw [h]⟩

/-- The indicator of an equality of words, as a number. -/
theorem ind_eq (x y : BitVec 32) : (FloatOps.sitofp (F := Ideal) .f32 ((IntOp.cmpi .eq x y).setWidth 32) : EReal) = if x = y then 1 else 0 := by
  by_cases h : x = y
  · subst h
    rw [if_pos rfl]
    show ((((IntOp.cmpi .eq x x).setWidth 32).toInt : ℝ) : EReal) = 1
    simp [IntOp.cmpi]
  · rw [if_neg h]
    have : (x == y) = false := by simpa using h
    show ((((IntOp.cmpi .eq x y).setWidth 32).toInt : ℝ) : EReal) = 0
    simp [IntOp.cmpi, this]

theorem iv_eq (k : ℕ) : Scf.iv (0#32) (1#32) k = BitVec.ofNat 32 k := by
  unfold Scf.iv
  rw [BitVec.zero_add, BitVec.mul_one]

theorem col_core (g : FVec Ideal S2048x8 .f32) (k : ℕ) (hk : k < 8) (r : Fin 2048) :
    shapeCast S2048x1 (multiReduction .add [1] S2048
        (mulf g (sitofp .f32 (extui 32 (cmpi .eq exps (broadcast S2048x8 (Scf.iv 0#32 1#32 k))) natLt_1_32))) 0x00000000#32 reduces_S2048x8_S2048 (.inl rfl) rfl)
      shapeCasts_S2048_S2048x1 (ix2 r (0 : Fin 1)) = g (ix2 r ⟨k, hk⟩) := by
  have e1 := col_apply (multiReduction .add [1] S2048
        (mulf g (sitofp .f32 (extui 32 (cmpi .eq exps (broadcast S2048x8 (Scf.iv 0#32 1#32 k))) natLt_1_32))) 0x00000000#32 reduces_S2048x8_S2048 (.inl rfl) rfl)
      shapeCasts_S2048_S2048x1 (ix2 r (0 : Fin 1))
  refine e1.trans ((rowSum_apply _ reduces_S2048x8_S2048 (.inl rfl) rfl _).trans ?_)
  have e : ∀ n : Fin 8, (mulf g (sitofp .f32 (extui 32 (cmpi .eq exps (broadcast S2048x8 (Scf.iv 0#32 1#32 k))) natLt_1_32))) (ix2 r n)
      = if n.val = k then g (ix2 r n) else 0 := by
    intro n
    have h1 : (cmpi .eq exps (broadcast S2048x8 (Scf.iv 0#32 1#32 k))) (ix2 r n) = IntOp.cmpi .eq (BitVec.ofNat 32 n.val) (BitVec.ofNat 32 k) := by
      show IntOp.cmpi .eq (exps (ix2 r n)) (Scf.iv 0#32 1#32 k) = _
      rw [iv_eq, show exps (ix2 r n) = BitVec.ofNat 32 n.val from iota_single_apply .tc S2048x8 32 1 iota_S2048x8_d1_w32 (ix2 r n)]
    rw [mulf_apply, sitofp_apply, extui_apply, h1, ind_eq]
    by_cases hn : n.val = k
    · rw [if_pos hn, if_pos (by rw [hn]), mul_one]
    · rw [if_neg hn, if_neg (fun h => hn ((word_eq (by have := n.isLt; omega) (by omega)).mp h)), mul_zero]
  refine (Finset.sum_congr rfl fun n _ => e n).trans ?_
  rw [Finset.sum_eq_single (⟨k, hk⟩ : Fin 8) (fun n _ h => if_neg fun e => h (Fin.ext e)) (fun h => absurd (Finset.mem_univ _) h)]
  exact if_pos rfl

theorem trips1 : k0_t1_loop.trips = 8 := by decide
theorem trips2 : k0_t2_loop.trips = 8 := by decide
theorem trips3 : k0_t3_loop.trips = 8 := by decide
theorem trips4 : k0_t4_loop.trips = 7 := by decide

theorem col1 (g : FVec Ideal S2048x8 .f32) (k : Fin k0_t1_loop.trips) (r : Fin 2048) :
    k0_pay1 exps g 0#32 1#32 k (ix2 r (0 : Fin 1)) = g (ix2 r (⟨k.val, lt_of_lt_of_eq k.isLt trips1⟩ : Fin 8)) := col_core g k.val _ r
theorem col2 (g : FVec Ideal S2048x8 .f32) (k : Fin k0_t2_loop.trips) (r : Fin 2048) :
    k0_pay5 exps g 0#32 1#32 k (ix2 r (0 : Fin 1)) = g (ix2 r (⟨k.val, lt_of_lt_of_eq k.isLt trips2⟩ : Fin 8)) := col_core g k.val _ r
theorem col3 (g : FVec Ideal S2048x8 .f32) (k : Fin k0_t3_loop.trips) (r : Fin 2048) :
    k0_pay9 exps g 0#32 1#32 k (ix2 r (0 : Fin 1)) = g (ix2 r (⟨k.val, lt_of_lt_of_eq k.isLt trips3⟩ : Fin 8)) := col_core g k.val _ r
theorem col4 (g : FVec Ideal S2048x8 .f32) (k : Fin k0_t4_loop.trips) (r : Fin 2048) :
    k0_pay13 exps g 0#32 1#32 k (ix2 r (0 : Fin 1)) = g (ix2 r (⟨k.val, by have := lt_of_lt_of_eq k.isLt trips4; omega⟩ : Fin 8)) := col_core g k.val _ r

/-! ## The trips -/

theorem tup {C' : ℕ} (t : Fin 4) (o q : ℕ) (ho : o = 512 * t.val) (hq : q < C') (X : XM Ideal) (W : WM Ideal) (A : XM Ideal)
    (v : FVec Ideal (Sh2 2048 C') .f32) (hs : (Sh2 2048 C').Slices ![o, q] S512x1) (x : FVec Ideal S512x1024 .bf16) (w : FVec Ideal S1024x1024 .bf16)
    (a : FVec Ideal S512x1024 .bf16) (hx : x = getR X t) (hw : w = W) (ha : a = getR A t) :
    shapeCast S1x512x1024 (truncf .bf16 (addf (extf .f32 a bitsLt_bf16_f32)
        (mulf (matmul dot_S512x1024_S1024x1024_S512x1024_1_0_0_1_n_n none x w (constant S512x1024 .f32 0x00000000#32))
          (broadcastTo S512x1024 (extractStridedSlice S512x1 ![o, q] v hs) broadcasts_S512x1_S512x1024))) bitsLt_bf16_f32) shapeCasts_S512x1024_S1x512x1024
      = up (getR (acc X W A fun r => v (ix2 r ⟨q, hq⟩)) t) := by
  subst hx hw ha
  refine (addUnit_eq _ _).trans (congrArg up ?_)
  exact tile_eq t o q ho hq X w A v hs

theorem trip1_eq (g : FVec Ideal S2048x8 .f32) (k : Fin k0_t1_loop.trips) (X : XM Ideal) (W : WM Ideal) (A : XM Ideal) :
    trip1 g k X W A = acc X W A fun r => g (ix2 r (⟨k.val, lt_of_lt_of_eq k.isLt trips1⟩ : Fin 8)) := by
  simp only [← col1 g k]
  exact four
    (tup 0 0 0 rfl (by decide) X W A (k0_pay1 exps g 0#32 1#32 k) slices_S2048x1_o0_0_S512x1 _ _ _ (shapeCast_self _ _) (drop_up _ _) (drop_getT _ _ _))
    (tup 1 512 0 rfl (by decide) X W A (k0_pay1 exps g 0#32 1#32 k) slices_S2048x1_o512_0_S512x1 _ _ _ (shapeCast_self _ _) (drop_up _ _) (drop_getT _ _ _))
    (tup 2 1024 0 rfl (by decide) X W A (k0_pay1 exps g 0#32 1#32 k) slices_S2048x1_o1024_0_S512x1 _ _ _ (shapeCast_self _ _) (drop_up _ _) (drop_getT _ _ _))
    (tup 3 1536 0 rfl (by decide) X W A (k0_pay1 exps g 0#32 1#32 k) slices_S2048x1_o1536_0_S512x1 _ _ _ (shapeCast_self _ _) (drop_up _ _) (drop_getT _ _ _))

theorem trip2_eq (g : FVec Ideal S2048x8 .f32) (k : Fin k0_t2_loop.trips) (X : XM Ideal) (W : WM Ideal) (A : XM Ideal) :
    trip2 g k X W A = acc X W A fun r => g (ix2 r (⟨k.val, lt_of_lt_of_eq k.isLt trips2⟩ : Fin 8)) := by
  simp only [← col2 g k]
  exact four
    (tup 0 0 0 rfl (by decide) X W A (k0_pay5 exps g 0#32 1#32 k) slices_S2048x1_o0_0_S512x1 _ _ _ (drop_getT _ _ _) (drop_up _ _) (drop_getT _ _ _))
    (tup 1 512 0 rfl (by decide) X W A (k0_pay5 exps g 0#32 1#32 k) slices_S2048x1_o512_0_S512x1 _ _ _ (drop_getT _ _ _) (drop_up _ _) (drop_getT _ _ _))
    (tup 2 1024 0 rfl (by decide) X W A (k0_pay5 exps g 0#32 1#32 k) slices_S2048x1_o1024_0_S512x1 _ _ _ (drop_getT _ _ _) (drop_up _ _) (drop_getT _ _ _))
    (tup 3 1536 0 rfl (by decide) X W A (k0_pay5 exps g 0#32 1#32 k) slices_S2048x1_o1536_0_S512x1 _ _ _ (drop_getT _ _ _) (drop_up _ _) (drop_getT _ _ _))

theorem trip3_eq (g : FVec Ideal S2048x8 .f32) (k : Fin k0_t3_loop.trips) (X : XM Ideal) (W : WM Ideal) (A : XM Ideal) :
    trip3 g k X W A = acc X W A fun r => g (ix2 r (⟨k.val, lt_of_lt_of_eq k.isLt trips3⟩ : Fin 8)) := by
  simp only [← col3 g k]
  exact four
    (tup 0 0 0 rfl (by decide) X W A (k0_pay9 exps g 0#32 1#32 k) slices_S2048x1_o0_0_S512x1 _ _ _ (drop_getT _ _ _) (drop_up _ _) (drop_getT _ _ _))
    (tup 1 512 0 rfl (by decide) X W A (k0_pay9 exps g 0#32 1#32 k) slices_S2048x1_o512_0_S512x1 _ _ _ (drop_getT _ _ _) (drop_up _ _) (drop_getT _ _ _))
    (tup 2 1024 0 rfl (by decide) X W A (k0_pay9 exps g 0#32 1#32 k) slices_S2048x1_o1024_0_S512x1 _ _ _ (drop_getT _ _ _) (drop_up _ _) (drop_getT _ _ _))
    (tup 3 1536 0 rfl (by decide) X W A (k0_pay9 exps g 0#32 1#32 k) slices_S2048x1_o1536_0_S512x1 _ _ _ (drop_getT _ _ _) (drop_up _ _) (drop_getT _ _ _))

theorem trip4_eq (g : FVec Ideal S2048x8 .f32) (k : Fin k0_t4_loop.trips) (X : XM Ideal) (W : WM Ideal) (A : XM Ideal) :
    trip4 g k X W A = acc X W A fun r => g (ix2 r (⟨k.val, by have := lt_of_lt_of_eq k.isLt trips4; omega⟩ : Fin 8)) := by
  simp only [← col4 g k]
  exact four
    (tup 0 0 0 rfl (by decide) X W A (k0_pay13 exps g 0#32 1#32 k) slices_S2048x1_o0_0_S512x1 _ _ _ (drop_getT _ _ _) (drop_up _ _) (drop_getT _ _ _))
    (tup 1 512 0 rfl (by decide) X W A (k0_pay13 exps g 0#32 1#32 k) slices_S2048x1_o512_0_S512x1 _ _ _ (drop_getT _ _ _) (drop_up _ _) (drop_getT _ _ _))
    (tup 2 1024 0 rfl (by decide) X W A (k0_pay13 exps g 0#32 1#32 k) slices_S2048x1_o1024_0_S512x1 _ _ _ (drop_getT _ _ _) (drop_up _ _) (drop_getT _ _ _))
    (tup 3 1536 0 rfl (by decide) X W A (k0_pay13 exps g 0#32 1#32 k) slices_S2048x1_o1536_0_S512x1 _ _ _ (drop_getT _ _ _) (drop_up _ _) (drop_getT _ _ _))

/-! ## The sums -/

variable (m : (ℓ : Loc nD τ sig) → Buf (Elt Ideal) ℓ)

/-- The product of a row of tokens with one expert's column. -/
def dotW (X : XM Ideal) (W : WM Ideal) (j : (Sh2 2048 1024).Idx) : EReal := ∑ k : Fin 1024, X (ix2 (j 0) k) * W (ix2 k (j 1))

/-- The weighted sum of the first `n` experts of device `c`. -/
def part (c : Dev nD) (g : FVec Ideal S2048x8 .f32) (X : XM Ideal) (n : ℕ) (j : (Sh2 2048 1024).Idx) : EReal :=
  ∑ e ∈ Finset.range n, dotW X (wOne m c e) j * g (ix2 (j 0) (⟨e % 8, Nat.mod_lt _ (by decide)⟩ : Fin 8))

theorem part_succ (c : Dev nD) (g : FVec Ideal S2048x8 .f32) (X : XM Ideal) (n : ℕ) (hn : n < 8) :
    acc X (wOne m c n) (part m c g X n) (fun r => g (ix2 r (⟨n, hn⟩ : Fin 8))) = part m c g X (n + 1) := by
  funext j
  unfold part acc
  rw [Finset.sum_range_succ]
  refine congrArg (fun z => _ + _ * z) (congrArg g (congrArg (ix2 (j 0)) (Fin.ext ?_)))
  show n = n % 8
  omega

theorem zeros {p0 p1 p2 p3 : (Sh3 1 512 1024).Idx → Elt Ideal .bf16}
    (h0 : p0 = shapeCast S1x512x1024 (broadcast S512x1024 (Scalar.ofBits .bf16 0x0000#16 : Ideal .bf16)) shapeCasts_S512x1024_S1x512x1024)
    (h1 : p1 = shapeCast S1x512x1024 (broadcast S512x1024 (Scalar.ofBits .bf16 0x0000#16 : Ideal .bf16)) shapeCasts_S512x1024_S1x512x1024)
    (h2 : p2 = shapeCast S1x512x1024 (broadcast S512x1024 (Scalar.ofBits .bf16 0x0000#16 : Ideal .bf16)) shapeCasts_S512x1024_S1x512x1024)
    (h3 : p3 = shapeCast S1x512x1024 (broadcast S512x1024 (Scalar.ofBits .bf16 0x0000#16 : Ideal .bf16)) shapeCasts_S512x1024_S1x512x1024)
    (c : Dev nD) (g : FVec Ideal S2048x8 .f32) (X : XM Ideal) :
    (ofTiles ![p0, p1, p2, p3] : XM Ideal) = part m c g X 0 := by
  have e : ∀ t, shapeCast S1x512x1024 (broadcast S512x1024 (Scalar.ofBits .bf16 0x0000#16 : Ideal .bf16)) shapeCasts_S512x1024_S1x512x1024 = up (getR (part m c g X 0) t) := by
    intro t
    refine (addUnit_eq _ _).trans (congrArg up ?_)
    funext j
    exact zero_bf16
  exact four (h0.trans (e 0)) (h1.trans (e 1)) (h2.trans (e 2)) (h3.trans (e 3))

theorem sum1_eq (c : Dev nD) (n : ℕ) (hn : n ≤ 8) : sum1 m c n = part m c (gate0 m c) (xh m 0 c) n := by
  induction n with
  | zero => exact zeros m rfl rfl rfl rfl c _ _
  | succ n ih =>
    have h : n < k0_t1_loop.trips := trips1 ▸ hn
    rw [sum1, dif_pos h, ih (by omega), trip1_eq]
    exact part_succ m c _ _ n hn

theorem sum2_eq (c : Dev nD) (n : ℕ) (hn : n ≤ 8) : sum2 m c n = part m c (gate1 m c) (xh m 1 c) n := by
  induction n with
  | zero => exact zeros m rfl rfl rfl rfl c _ _
  | succ n ih =>
    have h : n < k0_t2_loop.trips := trips2 ▸ hn
    rw [sum2, dif_pos h, ih (by omega), trip2_eq]
    exact part_succ m c _ _ n hn

theorem sum3_eq (c : Dev nD) (n : ℕ) (hn : n ≤ 8) : sum3 m c n = part m c (gate2 m c) (xh m 2 c) n := by
  induction n with
  | zero => exact zeros m rfl rfl rfl rfl c _ _
  | succ n ih =>
    have h : n < k0_t3_loop.trips := trips3 ▸ hn
    rw [sum3, dif_pos h, ih (by omega), trip3_eq]
    exact part_succ m c _ _ n hn

theorem sum4_eq (c : Dev nD) (n : ℕ) (hn : n ≤ 7) : sum4 m c n = part m c (gate3 m c) (xh m 3 c) n := by
  induction n with
  | zero => exact zeros m rfl rfl rfl rfl c _ _
  | succ n ih =>
    have h : n < k0_t4_loop.trips := trips4 ▸ hn
    rw [sum4, dif_pos h, ih (by omega), trip4_eq]
    exact part_succ m c _ _ n (by omega)

/-! ## The sums passed around the ring -/

/-- The sum of two tiles, as the kernel computes it. -/
theorem addT (t : Fin 4) (A B : XM Ideal) (a b : FVec Ideal S512x1024 .bf16) (ha : a = getR A t) (hb : b = getR B t) :
    shapeCast S1x512x1024 (truncf .bf16 (addf (extf .f32 a bitsLt_bf16_f32) (extf .f32 b bitsLt_bf16_f32)) bitsLt_bf16_f32) shapeCasts_S512x1024_S1x512x1024
      = up (getR (fun j => A j + B j) t) := by
  subst ha hb
  exact (addUnit_eq _ _).trans rfl

theorem pass2_eq (c : Dev nD) : pass2 m c = fun j => sum3 m c 8 j + pass1 m (prv c) j :=
  four (addT 0 _ _ _ _ (drop_getT _ _ _) (drop_getT _ _ _)) (addT 1 _ _ _ _ (drop_getT _ _ _) (drop_getT _ _ _))
    (addT 2 _ _ _ _ (drop_getT _ _ _) (drop_getT _ _ _)) (addT 3 _ _ _ _ (drop_getT _ _ _) (drop_getT _ _ _))

/-- The last expert's tile and the received sum's tile added, as the kernel computes it. -/
theorem lastT (t : Fin 4) (o : ℕ) (ho : o = 512 * t.val) (X : XM Ideal) (W : WM Ideal) (A B : XM Ideal)
    (v : FVec Ideal S2048x8 .f32) (hs : S2048x8.Slices ![o, 7] S512x1) (x : FVec Ideal S512x1024 .bf16) (w : FVec Ideal S1024x1024 .bf16)
    (a b : FVec Ideal S512x1024 .bf16) (hx : x = getR X t) (hw : w = W) (ha : a = getR A t) (hb : b = getR B t) :
    shapeCast S1x512x1024 (truncf .bf16 (addf (addf (extf .f32 a bitsLt_bf16_f32)
        (mulf (matmul dot_S512x1024_S1024x1024_S512x1024_1_0_0_1_n_n none x w (constant S512x1024 .f32 0x00000000#32))
          (broadcastTo S512x1024 (extractStridedSlice S512x1 ![o, 7] v hs) broadcasts_S512x1_S512x1024))) (extf .f32 b bitsLt_bf16_f32)) bitsLt_bf16_f32) shapeCasts_S512x1024_S1x512x1024
      = up (getR (fun j => acc X W A (fun r => v (ix2 r (7 : Fin 8))) j + B j) t) := by
  subst hx hw ha hb
  refine (addUnit_eq _ _).trans (congrArg up ?_)
  rw [tile_eq t o 7 ho (by decide) X w A v hs]
  rfl

theorem pass3_eq (c : Dev nD) : pass3 m c = fun j => part m c (gate3 m c) (xh m 3 c) 8 j + pass2 m (prv c) j := by
  rw [← part_succ m c (gate3 m c) (xh m 3 c) 7 (by decide), ← sum4_eq m c 7 le_rfl]
  exact four
    (lastT 0 0 rfl (xh m 3 c) (wOne m c 7) (sum4 m c 7) (pass2 m (prv c)) (gate3 m c) slices_S2048x8_o0_7_S512x1 _ _ _ _ (drop_getT _ _ _) (drop_up _ _) (drop_getT _ _ _) (drop_getT _ _ _))
    (lastT 1 512 rfl (xh m 3 c) (wOne m c 7) (sum4 m c 7) (pass2 m (prv c)) (gate3 m c) slices_S2048x8_o512_7_S512x1 _ _ _ _ (drop_getT _ _ _) (drop_up _ _) (drop_getT _ _ _) (drop_getT _ _ _))
    (lastT 2 1024 rfl (xh m 3 c) (wOne m c 7) (sum4 m c 7) (pass2 m (prv c)) (gate3 m c) slices_S2048x8_o1024_7_S512x1 _ _ _ _ (drop_getT _ _ _) (drop_up _ _) (drop_getT _ _ _) (drop_getT _ _ _))
    (lastT 3 1536 rfl (xh m 3 c) (wOne m c 7) (sum4 m c 7) (pass2 m (prv c)) (gate3 m c) slices_S2048x8_o1536_7_S512x1 _ _ _ _ (drop_getT _ _ _) (drop_up _ _) (drop_getT _ _ _) (drop_getT _ _ _))

theorem own_eq (c : Dev nD) : own m c = sum1 m c 8 :=
  fourR (α := EReal) (drop_getT _ _ _) (drop_getT _ _ _) (drop_getT _ _ _) (drop_getT _ _ _)

theorem addR (t : Fin 4) (A B : XM Ideal) (a b : FVec Ideal S512x1024 .bf16) (ha : a = getR A t) (hb : b = getR B t) :
    truncf .bf16 (addf (extf .f32 a bitsLt_bf16_f32) (extf .f32 b bitsLt_bf16_f32)) bitsLt_bf16_f32 = getR (fun j => A j + B j : XM Ideal) t := by
  subst ha hb
  rfl

theorem outM_eq (c : Dev nD) : outM m c = fun j => own m c j + pass3 m (prv c) j :=
  fourR (α := EReal) (addR 0 _ _ _ _ (shapeCast_self _ _) (drop_getT _ _ _)) (addR 1 _ _ _ _ (shapeCast_self _ _) (drop_getT _ _ _))
    (addR 2 _ _ _ _ (shapeCast_self _ _) (drop_getT _ _ _)) (addR 3 _ _ _ _ (shapeCast_self _ _) (drop_getT _ _ _))

/-- The result at an index: the weighted experts of the four devices. -/
theorem outM_apply (c : Dev nD) (j : (Sh2 2048 1024).Idx) :
    outM m c j = part m c (gate0 m c) (xh m 0 c) 8 j
      + (part m (prv c) (gate3 m (prv c)) (xh m 3 (prv c)) 8 j
        + (part m (prv (prv c)) (gate2 m (prv (prv c))) (xh m 2 (prv (prv c))) 8 j
          + part m (prv (prv (prv c))) (gate1 m (prv (prv (prv c)))) (xh m 1 (prv (prv (prv c)))) 8 j)) := by
  rw [outM_eq, own_eq, sum1_eq m c 8 le_rfl, pass3_eq, pass2_eq, sum3_eq m _ 8 le_rfl, pass1, sum2_eq m _ 8 le_rfl]

end Cert.KernelIdeal.Moe

end
-- ==== Proof.Value.Math.lean ====
/-
# The two-expert gates over the extended reals

The weights a row gives its experts, once as the softmax over the two chosen scores alone and once as the softmax over
all scores renormalised to the two chosen ones; both give the same combination of the experts' outputs, whatever
extended reals these are.
-/
module

public import Idealize.ShloMosaic.PureOps.Ideal.Laws

@[expose] public section

noncomputable section

namespace Cert.Moe

open Idealize.ShloMosaic
open scoped BigOperators

theorem exp_coe (r : ℝ) : Ideal.exp (r : EReal) = (Real.exp r : EReal) := rfl
theorem exp_bot : Ideal.exp ⊥ = 0 := rfl

theorem div_coe {x y : ℝ} (hy : y ≠ 0) : Ideal.div (x : EReal) (y : EReal) = ((x / y : ℝ) : EReal) := by
  unfold Ideal.div
  rw [if_neg (by exact_mod_cast hy), ← EReal.coe_inv, ← EReal.coe_mul, div_eq_mul_inv]

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The greatest of a row's values, from ⊥. -/
abbrev top {n : ℕ} (v : Fin n → EReal) : EReal := (Finset.univ : Finset (Fin n)).fold max ⊥ v

theorem top_real {n : ℕ} {v : Fin n → EReal} (h : ∀ i, v i ≠ ⊤) {a : Fin n} (ha : v a ≠ ⊥) : ∃ r : ℝ, top v = r := by
  have h1 : top v < ⊤ := (Finset.fold_max_lt _).mpr ⟨bot_lt_top, fun i _ => lt_top_iff_ne_top.mpr (h i)⟩
  have h2 : v a ≤ top v := (Finset.le_fold_max _).mpr (Or.inr ⟨a, Finset.mem_univ a, le_rfl⟩)
  have h3 : top v ≠ ⊥ := fun e => ha (le_bot_iff.mp (e ▸ h2))
  exact ⟨(top v).toReal, (EReal.coe_toReal h1.ne h3).symm⟩

/-- The softmax of a row. -/
def soft {n : ℕ} (v : Fin n → EReal) (i : Fin n) : EReal :=
  Ideal.div (Ideal.exp (v i - top v)) (∑ j, Ideal.exp (v j - top v))

/-- The softmax of a row of real scores some of which are left out. -/
theorem soft_mask {n : ℕ} (s : Fin n → ℝ) (p : Fin n → Prop) [DecidablePred p] {a : Fin n} (ha : p a) (i : Fin n) :
    soft (fun j => if p j then (s j : EReal) else ⊥) i
      = (((if p i then Real.exp (s i) else 0) / ∑ j, (if p j then Real.exp (s j) else 0) : ℝ) : EReal) := by
  obtain ⟨μ, hμ⟩ := top_real (v := fun j => if p j then (s j : EReal) else ⊥) (a := a)
    (fun j => by by_cases h : p j <;> simp [h]) (by simp [ha])
  have he : ∀ j, Ideal.exp ((if p j then (s j : EReal) else ⊥) - μ) = ((if p j then Real.exp (s j - μ) else 0 : ℝ) : EReal) := by
    intro j
    by_cases h : p j
    · rw [if_pos h, if_pos h, ← EReal.coe_sub, exp_coe]
    · rw [if_neg h, if_neg h, EReal.bot_sub, exp_bot, EReal.coe_zero]
  have hpos : 0 < ∑ j, (if p j then Real.exp (s j - μ) else 0) :=
    Finset.sum_pos' (fun j _ => by by_cases h : p j <;> simp [h, (Real.exp_pos _).le]) ⟨a, Finset.mem_univ a, by simp [ha, Real.exp_pos]⟩
  unfold soft
  rw [hμ, he i, Finset.sum_congr rfl fun j _ => he j, ← coe_sum, div_coe hpos.ne']
  congr 1
  have hm : ∀ j, (if p j then Real.exp (s j - μ) else 0) = (if p j then Real.exp (s j) else 0) / Real.exp μ := by
    intro j
    by_cases h : p j
    · rw [if_pos h, if_pos h, Real.exp_sub]
    · rw [if_neg h, if_neg h, zero_div]
  rw [hm i, Finset.sum_congr rfl fun j _ => hm j, ← Finset.sum_div]
  exact div_div_div_cancel_right₀ (Real.exp_pos μ).ne' _ _

theorem soft_real {n : ℕ} (s : Fin n → ℝ) (i : Fin n) :
    soft (fun j => (s j : EReal)) i = ((Real.exp (s i) / ∑ j, Real.exp (s j) : ℝ) : EReal) := by
  have h := soft_mask s (fun _ => True) (a := i) trivial i
  simpa using h

/-- A half twice is the whole, at the infinities too. -/
theorem half_add_half (D : EReal) : ((1 / 2 : ℝ) : EReal) * D + ((1 / 2 : ℝ) : EReal) * D = D := by
  induction D using EReal.rec with
  | bot => rw [EReal.coe_mul_bot_of_pos (by norm_num)]; rfl
  | top => rw [EReal.coe_mul_top_of_pos (by norm_num)]; rfl
  | coe r => rw [← EReal.coe_mul, ← EReal.coe_add]; congr 1; ring

/-- The combination of the experts' outputs by the masked softmax is the combination of the two chosen ones by the
    renormalised softmax. -/
theorem combine (s : Fin 32 → ℝ) (a b : Fin 32) (D : Fin 32 → EReal) :
    ∑ n, D n * soft (fun j => if j = a ∨ j = b then (s j : EReal) else ⊥) n
      = Ideal.div (soft (fun j => (s j : EReal)) a) (soft (fun j => (s j : EReal)) a + soft (fun j => (s j : EReal)) b) * D a
        + Ideal.div (soft (fun j => (s j : EReal)) b) (soft (fun j => (s j : EReal)) a + soft (fun j => (s j : EReal)) b) * D b := by
  set w : Fin 32 → ℝ := fun j => Real.exp (s j) with hw
  have wpos : ∀ j, 0 < w j := fun j => Real.exp_pos _
  have S : 0 < ∑ j, w j := Finset.sum_pos (fun j _ => wpos j) ⟨a, Finset.mem_univ a⟩
  have hmask : ∀ n, soft (fun j => if j = a ∨ j = b then (s j : EReal) else ⊥) n
      = (((if n = a ∨ n = b then w n else 0) / ∑ j, (if j = a ∨ j = b then w j else 0) : ℝ) : EReal) :=
    fun n => soft_mask s (fun j => j = a ∨ j = b) (a := a) (Or.inl rfl) n
  have hratio : ∀ x : ℝ, (x / ∑ j, w j) / (w a / ∑ j, w j + w b / ∑ j, w j) = x / (w a + w b) := by
    intro x
    rw [← add_div]
    exact div_div_div_cancel_right₀ S.ne' _ _
  have hne : w a / ∑ j, w j + w b / ∑ j, w j ≠ 0 := (add_pos (div_pos (wpos a) S) (div_pos (wpos b) S)).ne'
  rw [soft_real, soft_real, ← EReal.coe_add, div_coe hne, div_coe hne, hratio, hratio]
  have hT : ∀ n, n ≠ a → n ≠ b → D n * soft (fun j => if j = a ∨ j = b then (s j : EReal) else ⊥) n = 0 := by
    intro n h1 h2
    rw [hmask, if_neg (by tauto), zero_div, EReal.coe_zero, mul_zero]
  by_cases hab : a = b
  · subst hab
    rw [Finset.sum_eq_single a (fun n _ h => hT n h h) (fun h => absurd (Finset.mem_univ a) h), hmask]
    have e1 : ∑ j, (if j = a ∨ j = a then w j else 0) = w a := by simp
    rw [e1, if_pos (Or.inl rfl), div_self (wpos a).ne', show w a / (w a + w a) = 1 / 2 by have := (wpos a).ne'; field_simp; norm_num, half_add_half, EReal.coe_one, mul_one]
  · have e1 : ∑ j, (if j = a ∨ j = b then w j else 0) = w a + w b := by
      rw [← Finset.sum_filter, show (Finset.univ.filter fun j => j = a ∨ j = b) = {a, b} by ext j; simp, Finset.sum_pair hab]
    have e2 : ∑ n, D n * soft (fun j => if j = a ∨ j = b then (s j : EReal) else ⊥) n
        = ∑ n ∈ ({a, b} : Finset (Fin 32)), D n * soft (fun j => if j = a ∨ j = b then (s j : EReal) else ⊥) n :=
      (Finset.sum_subset (Finset.subset_univ _) fun n _ h => hT n (fun e => h (by simp [e])) (fun e => h (by simp [e]))).symm
    rw [e2, Finset.sum_pair hab, hmask, hmask, e1, if_pos (Or.inl rfl), if_pos (Or.inr rfl), mul_comm (D a), mul_comm (D b)]

end Cert.Moe

end
-- ==== Proof.Value.Gates.lean ====
/-
# The gates read at an index

A device's gates are the softmax over the two chosen scores of each row; its selection picks the gates of its own
eight experts.
-/
module

public import proofs.«01_k».proof.Proof.Value.Tiles
public import proofs.«01_k».proof.Proof.Value.Math

@[expose] public section

noncomputable section

namespace Cert.KernelIdeal.Moe

open Cert.KernelIdeal Cert.KernelIdeal.Gen Cert.Moe
open Idealize.ShloMosaic
open Idealize.ShloMosaic.ValueIdx
open scoped BigOperators

/-- The number of the mask is the least extended real. -/
theorem mask_bot : (Named.named (F := Ideal) κ "mask" 0xCE6E6B28#32 : Ideal .f32) = ⊥ :=
  IdealRules.named_const.ideal_named_scalar _ _ _ _ rfl

theorem cmpi_eq_bit (x y : BitVec 32) : IntOp.cmpi .eq x y = if x = y then 1#1 else 0#1 := by
  by_cases h : x = y
  · subst h; simp [IntOp.cmpi]
  · have : (x == y) = false := by simpa using h
    rw [if_neg h]; simp [IntOp.cmpi, this]

/-- The masked scores of a row. -/
theorem masked_apply (S : FVec Ideal S2048x32 .f32) (i0 i1 : Vec Ideal S2048x1 .i32) (j : S2048x32.Idx) :
    select (ori (k0_pay21 (F := Ideal) i0) (cmpi .eq (iota .tc S2048x32 32 [1] iota_S2048x32_d1_w32)
        (broadcastTo S2048x32 (shapeCast S2048x1 i1 shapeCasts_S2048x1_S2048x1) broadcasts_S2048x1_S2048x32)))
      S (broadcast S2048x32 (Named.named (F := Ideal) κ "mask" 0xCE6E6B28#32)) j
      = if BitVec.ofNat 32 (j 1).val = i0 (ix2 (j 0) (0 : Fin 1)) ∨ BitVec.ofNat 32 (j 1).val = i1 (ix2 (j 0) (0 : Fin 1)) then S j else ⊥ := by
  have hi : iota .tc S2048x32 32 [1] iota_S2048x32_d1_w32 j = BitVec.ofNat 32 (j 1).val := iota_single_apply .tc S2048x32 32 1 iota_S2048x32_d1_w32 j
  have hb : ∀ i : Vec Ideal S2048x1 .i32, broadcastTo S2048x32 (shapeCast S2048x1 i shapeCasts_S2048x1_S2048x1) broadcasts_S2048x1_S2048x32 j = i (ix2 (j 0) (0 : Fin 1)) := by
    intro i
    rw [shapeCast_self]
    exact colBcast_apply i broadcasts_S2048x1_S2048x32 (by decide) j
  have h0 : k0_pay21 (F := Ideal) i0 j = IntOp.cmpi .eq (BitVec.ofNat 32 (j 1).val) (i0 (ix2 (j 0) (0 : Fin 1))) := by
    show IntOp.cmpi .eq (iota .tc S2048x32 32 [1] iota_S2048x32_d1_w32 j) (broadcastTo S2048x32 (shapeCast S2048x1 i0 shapeCasts_S2048x1_S2048x1) broadcasts_S2048x1_S2048x32 j) = _
    rw [hi, hb]
  have h1 : cmpi .eq (iota .tc S2048x32 32 [1] iota_S2048x32_d1_w32)
        (broadcastTo S2048x32 (shapeCast S2048x1 i1 shapeCasts_S2048x1_S2048x1) broadcasts_S2048x1_S2048x32) j = IntOp.cmpi .eq (BitVec.ofNat 32 (j 1).val) (i1 (ix2 (j 0) (0 : Fin 1))) := by
    show IntOp.cmpi .eq (iota .tc S2048x32 32 [1] iota_S2048x32_d1_w32 j) (broadcastTo S2048x32 (shapeCast S2048x1 i1 shapeCasts_S2048x1_S2048x1) broadcasts_S2048x1_S2048x32 j) = _
    rw [hi, hb]
  rw [select_apply, show ori (k0_pay21 (F := Ideal) i0) (cmpi .eq (iota .tc S2048x32 32 [1] iota_S2048x32_d1_w32)
        (broadcastTo S2048x32 (shapeCast S2048x1 i1 shapeCasts_S2048x1_S2048x1) broadcasts_S2048x1_S2048x32)) j
      = IntOp.ori (k0_pay21 (F := Ideal) i0 j) (cmpi .eq (iota .tc S2048x32 32 [1] iota_S2048x32_d1_w32)
        (broadcastTo S2048x32 (shapeCast S2048x1 i1 shapeCasts_S2048x1_S2048x1) broadcasts_S2048x1_S2048x32) j) from rfl, h0, h1, cmpi_eq_bit, cmpi_eq_bit, broadcast_apply, mask_bot]
  by_cases e0 : BitVec.ofNat 32 (j 1).val = i0 (ix2 (j 0) (0 : Fin 1)) <;> by_cases e1 : BitVec.ofNat 32 (j 1).val = i1 (ix2 (j 0) (0 : Fin 1))
  · rw [if_pos e0, if_pos e1, if_pos (Or.inl e0)]; rfl
  · rw [if_pos e0, if_neg e1, if_pos (Or.inl e0)]; rfl
  · rw [if_neg e0, if_pos e1, if_pos (Or.inr e1)]; rfl
  · rw [if_neg e0, if_neg e1, if_neg (not_or.mpr ⟨e0, e1⟩)]; rfl

/-- A row statistic repeated along its row. -/
theorem stat_apply (u : FVec Ideal S2048 .f32) (j : S2048x32.Idx) :
    broadcastTo S2048x32 (shapeCast S2048x1 u shapeCasts_S2048_S2048x1) broadcasts_S2048x1_S2048x32 j = u (ix1 (j 0)) :=
  (colBcast_apply (shapeCast S2048x1 u shapeCasts_S2048_S2048x1) broadcasts_S2048x1_S2048x32 (by decide) j).trans
    (col_apply u shapeCasts_S2048_S2048x1 (ix2 (j 0) (0 : Fin 1)))

/-- The exponentials of a matrix's rows, each less its greatest value. -/
abbrev expRows (v : FVec Ideal S2048x32 .f32) : FVec Ideal S2048x32 .f32 :=
  exp (subf v (broadcastTo S2048x32 (shapeCast S2048x1 (multiReduction .maximumf [1] S2048 v 0xFF800000#32 reduces_S2048x32_S2048 (.inl rfl) rfl) shapeCasts_S2048_S2048x1) broadcasts_S2048x1_S2048x32))

theorem expRows_apply (v : FVec Ideal S2048x32 .f32) (j : S2048x32.Idx) :
    expRows v j = Ideal.exp (v j - top fun n : Fin 32 => v (ix2 (j 0) n)) := by
  have e := (stat_apply (multiReduction .maximumf [1] S2048 v 0xFF800000#32 reduces_S2048x32_S2048 (.inl rfl) rfl) j).trans
    (rowMax_apply v reduces_S2048x32_S2048 (.inl rfl) rfl (ix1 (j 0)))
  rw [ninf_f32] at e
  exact congrArg (fun z => Ideal.exp (v j - z)) e

/-- The softmax of each row of a matrix, as the kernel computes it. -/
theorem softmax_apply (v : FVec Ideal S2048x32 .f32) (j : S2048x32.Idx) :
    divf (expRows v) (broadcastTo S2048x32 (shapeCast S2048x1 (multiReduction .add [1] S2048 (expRows v) 0x00000000#32 reduces_S2048x32_S2048 (.inl rfl) rfl) shapeCasts_S2048_S2048x1) broadcasts_S2048x1_S2048x32) j
      = soft (fun n : Fin 32 => v (ix2 (j 0) n)) (j 1) := by
  have e := (stat_apply (multiReduction .add [1] S2048 (expRows v) 0x00000000#32 reduces_S2048x32_S2048 (.inl rfl) rfl) j).trans
    ((rowSum_apply (expRows v) reduces_S2048x32_S2048 (.inl rfl) rfl (ix1 (j 0))).trans
      (Finset.sum_congr rfl fun k _ => expRows_apply v (ix2 (j 0) k)))
  have hj : v j = v (ix2 (j 0) (j 1)) := congrArg v (idx2_eq (x := j) (y := ix2 (j 0) (j 1)) rfl rfl)
  rw [divf_apply, e, expRows_apply, hj]
  rfl

variable (m : (ℓ : Loc nD τ sig) → Buf (Elt Ideal) ℓ)

/-- The score of expert `n` for a row of device `d`. -/
def score (d : Dev nD) (r : Fin 2048) (n : Fin 32) : EReal := ∑ k : Fin 1024, xin m d (ix2 r k) * rin m d (ix2 k n)

/-- A word names one of the row's two chosen experts. -/
abbrev chosen (d : Dev nD) (r : Fin 2048) (n : Fin 32) : Prop :=
  BitVec.ofNat 32 n.val = iin m d (ix2 r (0 : Fin 2)) ∨ BitVec.ofNat 32 n.val = iin m d (ix2 r (1 : Fin 2))

theorem icol0_apply (d : Dev nD) (r : Fin 2048) : icol0 m d (ix2 r (0 : Fin 1)) = iin m d (ix2 r (0 : Fin 2)) :=
  congrArg (iin m d) (idx2_eq (by show 0 + 1 * r.val = r.val; omega) rfl)
theorem icol1_apply (d : Dev nD) (r : Fin 2048) : icol1 m d (ix2 r (0 : Fin 1)) = iin m d (ix2 r (1 : Fin 2)) :=
  congrArg (iin m d) (idx2_eq (by show 0 + 1 * r.val = r.val; omega) rfl)

theorem scores_apply (d : Dev nD) (j : S2048x32.Idx) : k0_pay20 (xin m d) (rin m d) j = score m d (j 0) (j 1) := by
  unfold k0_pay20
  rw [shapeCast_self, shapeCast_self]
  exact dotS_apply (xin m d) (rin m d) j

/-- The gates of a device. -/
theorem gown_apply (d : Dev nD) (r : Fin 2048) (n : Fin 32) :
    gown m d (ix2 r n) = soft (fun n => if chosen m d r n then score m d r n else ⊥) n := by
  refine (congrFun (shapeCast_self _ shapeCasts_S2048x32_S2048x32) (ix2 r n)).trans ((softmax_apply _ (ix2 r n)).trans ?_)
  refine congrArg (fun v => soft v n) (funext fun k => ?_)
  refine (masked_apply (k0_pay20 (xin m d) (rin m d)) (icol0 m d) (icol1 m d) (ix2 r k)).trans ?_
  rw [scores_apply]
  show (if BitVec.ofNat 32 k.val = icol0 m d (ix2 r (0 : Fin 1)) ∨ BitVec.ofNat 32 k.val = icol1 m d (ix2 r (0 : Fin 1)) then score m d r k else ⊥) = _
  rw [icol0_apply, icol1_apply]

/-- The selection of a device's own experts. -/
theorem sel_apply (d : Dev nD) (n : Fin 32) (k : Fin 8) : sel (F := Ideal) d (ix2 n k) = if n.val = k.val + 8 * d.val then (1 : EReal) else 0 := by
  have hd : Scalar.muli 8#32 (Scalar.remsi (Scalar.divsi (Dev.word d) 1#32) 4#32) = BitVec.ofNat 32 (8 * d.val) := by
    revert d; decide
  have h0 : iota .tc S32x8 32 [0] iota_S32x8_d0_w32 (ix2 n k) = BitVec.ofNat 32 n.val := iota_single_apply .tc S32x8 32 0 iota_S32x8_d0_w32 (ix2 n k)
  have h1 : iota .tc S32x8 32 [1] iota_S32x8_d1_w32 (ix2 n k) = BitVec.ofNat 32 k.val := iota_single_apply .tc S32x8 32 1 iota_S32x8_d1_w32 (ix2 n k)
  have e : sel (F := Ideal) d (ix2 n k) = (FloatOps.sitofp (F := Ideal) .f32 ((IntOp.cmpi .eq (iota .tc S32x8 32 [0] iota_S32x8_d0_w32 (ix2 n k))
      (iota .tc S32x8 32 [1] iota_S32x8_d1_w32 (ix2 n k) + Scalar.muli 8#32 (Scalar.remsi (Scalar.divsi (Dev.word d) 1#32) 4#32))).setWidth 32) : EReal) := rfl
  rw [e, hd, h0, h1, ind_eq, ← BitVec.ofNat_add]
  have hdl : d.val < 4 := d.isLt
  have hn := n.isLt
  have hk := k.isLt
  exact if_congr (word_eq (by omega) (by omega)) rfl rfl

/-- Expert `k` of device `d`. -/
def eid (d : Dev nD) (k : Fin 8) : Fin 32 := ⟨k.val + 8 * d.val, by have hd : d.val < 4 := d.isLt; have := k.isLt; omega⟩

theorem pick (d : Dev nD) (g : GM Ideal) (r : Fin 2048) (k : Fin 8) :
    matmul (φ₁ := .bf16) (φ₂ := .bf16) dot_S2048x32_S32x8_S2048x8_1_0_0_1_n_n none (g : FVec Ideal S2048x32 .bf16) (sel (F := Ideal) d) (constant S2048x8 .f32 0x00000000#32) (ix2 r k)
      = g (ix2 r (eid d k)) := by
  have e : ∀ n : Fin 32, g (ix2 r n) * sel (F := Ideal) d (ix2 n k) = if n = eid d k then g (ix2 r n) else 0 := by
    intro n
    rw [sel_apply]
    by_cases h : n = eid d k
    · rw [if_pos h, if_pos (show n.val = k.val + 8 * d.val from congrArg Fin.val h), mul_one]
    · rw [if_neg h, if_neg (show ¬n.val = k.val + 8 * d.val from fun e => h (Fin.ext e)), mul_zero]
  refine (dotG_apply _ _ _).trans ((Finset.sum_congr rfl fun n _ => e n).trans ?_)
  rw [Finset.sum_eq_single (eid d k) (fun n _ h => if_neg h) (fun h => absurd (Finset.mem_univ _) h), if_pos rfl]

theorem gate0_apply (d : Dev nD) (r : Fin 2048) (k : Fin 8) : gate0 m d (ix2 r k) = gh m 0 d (ix2 r (eid d k)) :=
  pick d (gh m 0 d) r k
theorem gate1_apply (d : Dev nD) (r : Fin 2048) (k : Fin 8) : gate1 m d (ix2 r k) = gh m 1 d (ix2 r (eid d k)) := by
  unfold gate1 k0_pay35
  rw [drop_up]
  exact pick d (gh m 1 d) r k
theorem gate2_apply (d : Dev nD) (r : Fin 2048) (k : Fin 8) : gate2 m d (ix2 r k) = gh m 2 d (ix2 r (eid d k)) := by
  unfold gate2 k0_pay41
  rw [drop_up]
  exact pick d (gh m 2 d) r k
theorem gate3_apply (d : Dev nD) (r : Fin 2048) (k : Fin 8) : gate3 m d (ix2 r k) = gh m 3 d (ix2 r (eid d k)) := by
  unfold gate3 k0_pay51
  rw [drop_up]
  exact pick d (gh m 3 d) r k

/-! ## The result over all the experts -/

theorem prv3 (c : Dev nD) : prv (prv (prv (prv c))) = c := by revert c; decide

/-- The weights of expert `n`, on the device that holds it. -/
def wgt (n : Fin 32) : WM Ideal := wOne m ⟨n.val / 8, by have := n.isLt; show n.val / 8 < 4; omega⟩ (n.val % 8)

/-- What expert `n` gives a row of device `c`, weighted by the row's gate. -/
def term (c : Dev nD) (j : (Sh2 2048 1024).Idx) (n : Fin 32) : EReal := dotW (xin m c) (wgt m n) j * gown m c (ix2 (j 0) n)

theorem part_term (c d : Dev nD) (g : FVec Ideal S2048x8 .f32) (j : (Sh2 2048 1024).Idx) (hg : ∀ k, g (ix2 (j 0) k) = gown m c (ix2 (j 0) (eid d k))) :
    part m d g (xin m c) 8 j = ∑ k : Fin 8, term m c j (eid d k) := by
  unfold part
  rw [Finset.sum_range]
  refine Finset.sum_congr rfl fun k _ => ?_
  have hk := k.isLt
  have hd : d.val < 4 := d.isLt
  have e1 : (⟨k.val % 8, Nat.mod_lt _ (by decide)⟩ : Fin 8) = k := Fin.ext (Nat.mod_eq_of_lt hk)
  rw [e1, hg]
  unfold term wgt
  have e2 : (⟨(eid d k).val / 8, by have := (eid d k).isLt; show (eid d k).val / 8 < 4; omega⟩ : Dev nD) = d :=
    Fin.ext (by show (k.val + 8 * d.val) / 8 = d.val; omega)
  have e3 : (eid d k).val % 8 = k.val := by show (k.val + 8 * d.val) % 8 = k.val; omega
  rw [e2, e3]

/-- The 32 experts are the eight of each of the four devices. -/
theorem sum_experts (f : Fin 32 → EReal) : ∑ n, f n = ∑ d : Dev nD, ∑ k : Fin 8, f (eid d k) := by
  rw [← Finset.sum_product', ← Equiv.sum_comp (finProdFinEquiv (m := 4) (n := 8))]
  refine Finset.sum_congr rfl fun p _ => congrArg f (Fin.ext ?_)
  rfl

theorem sum_ring (f : Dev nD → EReal) (c : Dev nD) : ∑ d, f d = f c + (f (prv c) + (f (prv (prv c)) + f (prv (prv (prv c))))) := by
  rw [show (Finset.univ : Finset (Dev nD)) = {c, prv c, prv (prv c), prv (prv (prv c))} by revert c; decide,
    Finset.sum_insert (by revert c; decide), Finset.sum_insert (by revert c; decide), Finset.sum_insert (by revert c; decide), Finset.sum_singleton]

/-- The result at an index: all 32 experts, weighted by the row's gates. -/
theorem outM_sum (c : Dev nD) (j : (Sh2 2048 1024).Idx) : outM m c j = ∑ n, term m c j n := by
  have x3 : xh m 3 (prv c) = xin m c := congrArg (xin m) (prv3 c)
  have x2 : xh m 2 (prv (prv c)) = xin m c := congrArg (xin m) (prv3 c)
  have x1 : xh m 1 (prv (prv (prv c))) = xin m c := congrArg (xin m) (prv3 c)
  have g3 : gh m 3 (prv c) = gown m c := congrArg (gown m) (prv3 c)
  have g2 : gh m 2 (prv (prv c)) = gown m c := congrArg (gown m) (prv3 c)
  have g1 : gh m 1 (prv (prv (prv c))) = gown m c := congrArg (gown m) (prv3 c)
  rw [outM_apply, x3, x2, x1, sum_experts, sum_ring _ c]
  rw [show xh m 0 c = xin m c from rfl]
  rw [part_term m c c _ j (fun k => gate0_apply m c (j 0) k), part_term m c (prv c) _ j (fun k => (gate3_apply m _ (j 0) k).trans (by rw [g3])),
    part_term m c (prv (prv c)) _ j (fun k => (gate2_apply m _ (j 0) k).trans (by rw [g2])),
    part_term m c (prv (prv (prv c))) _ j (fun k => (gate1_apply m _ (j 0) k).trans (by rw [g1]))]

end Cert.KernelIdeal.Moe

end
-- ==== Proof.Value.Launch.lean ====
/-
# The blocks and the arrays

Every window's block is its whole array: a device's blocks are its arguments, its result array ends holding the
result block.
-/
module

public import proofs.«01_k».proof.Proof.KernelIdeal.Run
public import Idealize.ShloMosaic.Lib.Pipeline.ValueKit.Geometry

@[expose] public section

noncomputable section

namespace Cert.KernelIdeal.Moe

open Cert.KernelIdeal Cert.KernelIdeal.Gen Cert.Moe
open Idealize.ShloMosaic
open Idealize.ShloMosaic.TcCoe
open Idealize.SL Idealize.SL.Sem

variable {F : FTy → Type} [FloatOps F] [Named F]
variable (m : (ℓ : Loc nD τ sig) → Buf (Elt F) ℓ) (ρ : Dev nD → PrngReg)

theorem xin_eq (d : Dev nD) : xin m d = m ((d : Thread nD τ).loc main_arg0) := by
  funext j
  unfold xin
  rw [View.read_apply]
  refine congrArg (m ((d : Thread nD τ).loc main_arg0)) (?_ : (win0_0.blk (0 : Fin 1)).view.emb j = j)
  funext a
  exact Fin.ext (Pipeline.Window.rect_emb_val_of_index_zero win0_0 (0 : Fin 1) a rfl j)

theorem rin_eq (d : Dev nD) : rin m d = m ((d : Thread nD τ).loc main_arg1) := by
  funext j
  unfold rin
  rw [View.read_apply]
  refine congrArg (m ((d : Thread nD τ).loc main_arg1)) (?_ : (win0_1.blk (0 : Fin 1)).view.emb j = j)
  funext a
  exact Fin.ext (Pipeline.Window.rect_emb_val_of_index_zero win0_1 (0 : Fin 1) a rfl j)

theorem iin_eq (d : Dev nD) : iin m d = m ((d : Thread nD τ).loc main_arg2) := by
  funext j
  unfold iin
  rw [View.read_apply]
  refine congrArg (m ((d : Thread nD τ).loc main_arg2)) (?_ : (win0_2.blk (0 : Fin 1)).view.emb j = j)
  funext a
  exact Fin.ext (Pipeline.Window.rect_emb_val_of_index_zero win0_2 (0 : Fin 1) a rfl j)

theorem finalA_out (c : Dev nD) : finalA m ρ c (3 : Fin 4) = outM m c := by
  refine (dats m ρ 0 c).arrAt_eq_of_after_last (3 : Fin 4) t0_0 (by decide +kernel) (outM m c) fun j => ?_
  rfl

/-- What a run leaves in the result's array, and that the arguments are kept. -/
theorem run_value : θ_run defs (onTc (τ := τ) (main (F := F))) ⟨m, fun _ => 0, ρ⟩ (fun r => ∀ c : Dev nD,
      r.2.mem ((c.tc : Thread nD τ).loc main_v1) = outM m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h.1 c).1 3).trans (finalA_out m ρ c), ((h.1 c).1 0).trans (finalA_in m ρ c 0 rfl),
    ((h.1 c).1 1).trans (finalA_in m ρ c 1 rfl), ((h.1 c).1 2).trans (finalA_in m ρ c 2 rfl), (h.1 c).2⟩) (run_main m ρ)

end Cert.KernelIdeal.Moe

end
-- ==== Proof.Value.Ref.lean ====
/-
# The reference read at an index

At rows whose two chosen experts are among the 32, the reference's result is the combination of the two experts'
outputs by the softmax of the scores renormalised to the two.
-/
module

public import proofs.«01_k».proof.Proof.Gen.ReferenceIdeal.Read
public import proofs.«01_k».proof.Proof.Slots
public import proofs.«01_k».proof.Proof.Value.Math

@[expose] public section

noncomputable section

namespace Cert.ReferenceIdeal.Moe

open Cert.ReferenceIdeal Cert.ReferenceIdeal.Gen Cert.ReferenceIdeal.Read Cert.Moe
open Idealize.ShloMosaic
open Idealize.ShloMosaic.ValueIdx
open scoped BigOperators

theorem ninf : Ideal.ofBits .f32 0xFF800000#32 = ⊥ := by
  simp [Ideal.ofBits, Ideal.ieee, -EReal.coe_mul]

variable (x0 : (Sh2 8192 1024).Idx → EReal) (x1 : (Sh2 1024 32).Idx → EReal) (x2 : (Sh2 8192 2).Idx → BitVec 32)
  (x3 : (Sh3 32 1024 1024).Idx → EReal)

/-- A row's score for expert `n`, and what the expert gives it. -/
def score (R : Fin 8192) (n : Fin 32) : EReal := ∑ k : Fin 1024, x0 (ix2 R k) * x1 (ix2 k n)
def outp (R : Fin 8192) (h : Fin 1024) (n : Fin 32) : EReal := ∑ k : Fin 1024, x0 (ix2 R k) * x3 (ix3 n k h)

/-! ## The softmax -/

theorem v2_apply (R : Fin 8192) (n : Fin 32) : val_main_v2 (F := Ideal) x0 x1 (ix2 R n) = score x0 x1 R n := by
  rw [val_main_v2_apply]
  exact Finset.sum_congr rfl fun k _ => congrArg₂ (· * ·) (congrArg x0 (idx2_eq rfl rfl)) (congrArg x1 (idx2_eq rfl rfl))

theorem v3_apply (R : Fin 8192) : val_main_v3 (F := Ideal) x0 x1 (ix1 R) = top (score x0 x1 R) := by
  unfold val_main_v3
  haveI : Std.Commutative (FloatOps.maximumf (F := Ideal) (φ := .f32)) := ⟨fun a b => max_comm (α := EReal) a b⟩
  haveI : Std.Associative (FloatOps.maximumf (F := Ideal) (φ := .f32)) := ⟨fun a b c => max_assoc (α := EReal) a b c⟩
  refine (Host.reduce_eq_fold_single (FloatOps.maximumf (F := Ideal) (φ := .f32)) (val_main_v2 (F := Ideal) x0 x1) (val_main_cst (F := Ideal))
    reducesTo_S8192x32_S8192_d1 (by decide) h_S_ (ix1 R)).trans ?_
  have e : val_main_cst (F := Ideal) (Shape.Idx.first h_S_) = (⊥ : EReal) := ninf
  rw [e]
  refine Finset.fold_congr fun n _ => ?_
  refine Eq.trans ?_ (v2_apply x0 x1 R n)
  exact congrArg (val_main_v2 (F := Ideal) x0 x1) (idx2_eq rfl rfl)

theorem v7_apply (R : Fin 8192) (n : Fin 32) : val_main_v7 (F := Ideal) x0 x1 (ix2 R n) = Ideal.exp (score x0 x1 R n - top (score x0 x1 R)) := by
  have e5 : val_main_v5 (F := Ideal) x0 x1 (ix2 R n) = top (score x0 x1 R) := by
    rw [val_main_v5_apply, val_main_v4_apply]
    refine Eq.trans (congrArg (val_main_v3 (F := Ideal) x0 x1) ?_) (v3_apply x0 x1 R)
    funext a
    match a with
    | ⟨0, _⟩ => rfl
  rw [val_main_v7_apply, val_main_v6_apply, v2_apply, e5]
  rfl

theorem v11_apply (R : Fin 8192) (n : Fin 32) : val_main_v11 (F := Ideal) x0 x1 (ix2 R n) = soft (score x0 x1 R) n := by
  have e10 : val_main_v10 (F := Ideal) x0 x1 (ix2 R n) = ∑ j, Ideal.exp (score x0 x1 R j - top (score x0 x1 R)) := by
    rw [val_main_v10_apply, val_main_v9_apply, val_main_v8_apply]
    have z : val_main_cst_0 (F := Ideal) (Shape.Idx.first h_S_) = (0 : EReal) := Ideal.ofBits_zero_f32
    rw [z, zero_add]
    refine Finset.sum_congr rfl fun k _ => ?_
    have hi : idx_main_v8 (idx_main_v9 (idx_main_v10 (ix2 R n))) k = ix2 R k := idx2_eq rfl rfl
    rw [hi]
    exact v7_apply x0 x1 R k
  rw [val_main_v11_apply, v7_apply, e10]
  rfl

/-! ## The chosen experts -/

theorem word_slt (e : Fin 32) : IntOp.cmpi .slt (BitVec.ofNat 32 e.val) 0#32 = 0#1 := by revert e; decide
theorem word_sge (e : Fin 32) : IntOp.cmpi .sge (BitVec.ofNat 32 e.val) 0#32 = 1#1 := by revert e; decide
theorem word_sle (e : Fin 32) : IntOp.cmpi .sle (BitVec.ofNat 32 e.val) 31#32 = 1#1 := by revert e; decide
theorem word_nat (e : Fin 32) : (BitVec.ofNat 32 e.val).toInt.toNat = e.val := by revert e; decide

variable {x2} {R : Fin 8192} {e : Fin 32}

theorem c5_apply {q : Fin 2} (h : x2 (ix2 R q) = BitVec.ofNat 32 e.val) : val_main_call0_v5 (F := Ideal) x2 (ix3 R q (0 : Fin 1)) = BitVec.ofNat 32 e.val := by
  have hq := q.isLt
  have hi : idx_main_call0_v5 (ix3 R q (0 : Fin 1)) = ix2 R q :=
    idx2_eq (by show ((R.val * 2 + q.val) * 1 + 0) / 2 = R.val; omega) (by show ((R.val * 2 + q.val) * 1 + 0) % 2 = q.val; omega)
  rw [val_main_call0_v5_apply, hi, val_main_call0_v4_apply, val_main_call0_v1_apply, val_main_call0_v0_apply, val_main_call0_c_apply, h, word_slt, select_zero]

theorem c11_apply {q : Fin 2} (h : x2 (ix2 R q) = BitVec.ofNat 32 e.val) : val_main_call0_v11 (F := Ideal) x2 (ix3 R q (0 : Fin 1)) = 1#1 := by
  rw [val_main_call0_v11_apply, val_main_call0_v7_apply, val_main_call0_v10_apply, c5_apply h, val_main_call0_v6_apply, val_main_call0_v9_apply,
    val_main_call0_v8_apply, val_main_call0_c_2_apply, val_main_call0_c_1_apply, word_sge, word_sle]
  rfl

/-- A conjunction over one bit that is one, from one, is one. -/
theorem fold_one [Std.Commutative (IntOp.andi (w := 1))] [Std.Associative (IntOp.andi (w := 1))] (b : BitVec 1) (f : Fin 1 → BitVec 1)
    (hf : f 0 = 1#1) (hb : b = 1#1) : (Finset.univ : Finset (Fin 1)).fold (IntOp.andi (w := 1)) b f = 1#1 := by
  have hu : (Finset.univ : Finset (Fin 1)) = {0} := rfl
  rw [hu, Finset.fold_singleton, hf, hb]
  rfl

theorem c12_apply {q : Fin 2} (h : x2 (ix2 R q) = BitVec.ofNat 32 e.val) : val_main_call0_v12 (F := Ideal) x2 (ix2 R q) = 1#1 := by
  unfold val_main_call0_v12
  haveI : Std.Commutative (IntOp.andi (w := 1)) := ⟨fun a b => BitVec.and_comm a b⟩
  haveI : Std.Associative (IntOp.andi (w := 1)) := ⟨fun a b c => BitVec.and_assoc a b c⟩
  refine (Host.reduce_eq_fold_single (IntOp.andi (w := 1)) (val_main_call0_v11 (F := Ideal) x2) (val_main_call0_c_3 (F := Ideal))
    reducesTo_S8192x2x1_S8192x2_d2 (by decide) h_S_ (ix2 R q)).trans ?_
  refine fold_one _ _ (Eq.trans ?_ (c11_apply h)) rfl
  exact congrArg (val_main_call0_v11 (F := Ideal) x2) (idx3_eq rfl rfl rfl)

abbrev gatherP := gather_S8192x32_S8192x2x1_S8192x2_n_1_0_0_1_2_11
abbrev gatherW := gather_S32x1024x1024_S8192x1_S8192x1024x1024_12_0_n_n_0_1_110241024

/-- The gather along a row picks the row's entry at the index's word. -/
theorem gatherP_apply {α : Type} (x : (Sh2 8192 32).Idx → α) (idx : IVec S8192x2x1 32) {q : Fin 2} (h : idx (ix3 R q (0 : Fin 1)) = BitVec.ofNat 32 e.val) :
    Host.gather gatherP x idx (ix2 R q) = x (ix2 R e) := by
  unfold Host.gather
  refine congrArg x (idx2_eq ?_ ?_)
  · show gatherP.start (ix2 R q) idx 0 + gatherP.batchCoord (ix2 R q) 0 + gatherP.offCoord (ix2 R q) 0 = R.val
    rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin 2) ∈ gatherP.operandBatchingDims from List.mem_singleton.mpr rfl)]
    rfl
  · show gatherP.start (ix2 R q) idx 1 + gatherP.batchCoord (ix2 R q) 1 + gatherP.offCoord (ix2 R q) 1 = e.val
    rw [GatherDims.batchCoord_eq_zero _ _ _ (fun h => by exact absurd h (by decide)),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ gatherP.startIndexMap from List.mem_singleton.mpr rfl)]
    have hsi : gatherP.siIdx (ix2 R q) ⟨List.idxOf (1 : Fin 2) gatherP.startIndexMap,
        List.idxOf_lt_length_iff.2 (List.mem_singleton.mpr rfl)⟩ = ix3 R q (0 : Fin 1) := by
      funext b; refine Fin.ext ?_
      match b with
      | ⟨0, _⟩ => rfl
      | ⟨1, _⟩ => rfl
      | ⟨2, _⟩ => rfl
    have he := e.isLt
    refine (congrArg (fun w : BitVec 32 => min w.toInt.toNat 31) ((congrArg idx hsi).trans h)).trans ?_
    show min (BitVec.ofNat 32 e.val).toInt.toNat 31 = e.val
    rw [word_nat]
    omega

/-- The gather of the experts' weights picks the expert of the index's word. -/
theorem gatherW_apply {α : Type} (x : (Sh3 32 1024 1024).Idx → α) (idx : IVec S8192x1 32) (k h' : Fin 1024) (h : idx (ix2 R (0 : Fin 1)) = BitVec.ofNat 32 e.val) :
    Host.gather gatherW x idx (ix3 R k h') = x (ix3 e k h') := by
  unfold Host.gather
  have hn : ∀ a : Fin 3, a ∉ gatherW.operandBatchingDims := fun a h => by cases h
  refine congrArg x (idx3_eq ?_ ?_ ?_)
  · show gatherW.start (ix3 R k h') idx 0 + gatherW.batchCoord (ix3 R k h') 0 + gatherW.offCoord (ix3 R k h') 0 = e.val
    rw [GatherDims.batchCoord_eq_zero _ _ _ (hn 0),
      GatherDims.offCoord_eq_zero _ _ _ (fun h => ((GatherDims.mem_sKept _ _).mp h).1 (List.mem_singleton.mpr rfl))]
    simp only [Nat.add_zero]
    unfold GatherDims.start
    rw [dif_pos (show (0 : Fin 3) ∈ gatherW.startIndexMap from List.mem_singleton.mpr rfl)]
    have hsi : gatherW.siIdx (ix3 R k h') ⟨List.idxOf (0 : Fin 3) gatherW.startIndexMap,
        List.idxOf_lt_length_iff.2 (List.mem_singleton.mpr rfl)⟩ = ix2 R (0 : Fin 1) := by
      funext b; refine Fin.ext ?_
      match b with
      | ⟨0, _⟩ => rfl
      | ⟨1, _⟩ => rfl
    have he := e.isLt
    refine (congrArg (fun w : BitVec 32 => min w.toInt.toNat 31) ((congrArg idx hsi).trans h)).trans ?_
    show min (BitVec.ofNat 32 e.val).toInt.toNat 31 = e.val
    rw [word_nat]
    omega
  · show gatherW.start (ix3 R k h') idx 1 + gatherW.batchCoord (ix3 R k h') 1 + gatherW.offCoord (ix3 R k h') 1 = k.val
    rw [GatherDims.batchCoord_eq_zero _ _ _ (hn 1)]
    unfold GatherDims.start GatherDims.offCoord
    rw [dif_neg (show ¬(1 : Fin 3) ∈ gatherW.startIndexMap by decide), dif_pos (show (1 : Fin 3) ∈ gatherW.sKept by decide)]
    simp only [Nat.zero_add, Nat.add_zero]
    rfl
  · show gatherW.start (ix3 R k h') idx 2 + gatherW.batchCoord (ix3 R k h') 2 + gatherW.offCoord (ix3 R k h') 2 = h'.val
    rw [GatherDims.batchCoord_eq_zero _ _ _ (hn 2)]
    unfold GatherDims.start GatherDims.offCoord
    rw [dif_neg (show ¬(2 : Fin 3) ∈ gatherW.startIndexMap by decide), dif_pos (show (2 : Fin 3) ∈ gatherW.sKept by decide)]
    simp only [Nat.zero_add, Nat.add_zero]
    rfl

theorem v12_apply {q : Fin 2} (h : x2 (ix2 R q) = BitVec.ofNat 32 e.val) : val_main_v12 (F := Ideal) x0 x1 x2 (ix2 R q) = soft (score x0 x1 R) e := by
  rw [val_main_v12_apply, c12_apply h, select_one]
  exact (gatherP_apply (val_main_v11 (F := Ideal) x0 x1) (val_main_call0_v5 (F := Ideal) x2) (c5_apply h)).trans (v11_apply x0 x1 R e)

theorem v24_apply (h : x2 (ix2 R (0 : Fin 2)) = BitVec.ofNat 32 e.val) : val_main_v24 (F := Ideal) x2 (ix2 R (0 : Fin 1)) = BitVec.ofNat 32 e.val := by
  have h18 : val_main_v18 (F := Ideal) x2 (idx_main_v24 (ix2 R (0 : Fin 1))) = BitVec.ofNat 32 e.val := by
    have hi : idx_main_v17 (idx_main_v18 (idx_main_v24 (ix2 R (0 : Fin 1)))) = ix2 R (0 : Fin 2) := idx2_eq (Nat.div_one R.val) rfl
    rw [val_main_v18_apply, val_main_v17_apply, hi]
    exact h
  rw [val_main_v24_apply, val_main_v23_apply, val_main_v20_apply, h18, val_main_v19_apply, val_main_c_apply, word_slt, select_zero]

theorem v34_apply (h : x2 (ix2 R (1 : Fin 2)) = BitVec.ofNat 32 e.val) : val_main_v34 (F := Ideal) x2 (ix2 R (0 : Fin 1)) = BitVec.ofNat 32 e.val := by
  have h28 : val_main_v28 (F := Ideal) x2 (idx_main_v34 (ix2 R (0 : Fin 1))) = BitVec.ofNat 32 e.val := by
    have hi : idx_main_v27 (idx_main_v28 (idx_main_v34 (ix2 R (0 : Fin 1)))) = ix2 R (1 : Fin 2) := idx2_eq (Nat.div_one R.val) rfl
    rw [val_main_v28_apply, val_main_v27_apply, hi]
    exact h
  rw [val_main_v34_apply, val_main_v33_apply, val_main_v30_apply, h28, val_main_v29_apply, val_main_c_2_apply, word_slt, select_zero]

theorem v26_apply (h' : Fin 1024) (h : x2 (ix2 R (0 : Fin 2)) = BitVec.ofNat 32 e.val) :
    val_main_v26 (F := Ideal) x0 x2 x3 (ix2 R h') = outp x0 x3 R h' e := by
  rw [val_main_v26_apply]
  refine Finset.sum_congr rfl fun k _ => congrArg₂ (· * ·) (congrArg x0 (idx2_eq rfl rfl)) ?_
  have hi : ridx_main_v26 (ix2 R h') k = ix3 R k h' := idx3_eq rfl rfl rfl
  rw [hi]
  exact gatherW_apply (val_main_v16 (F := Ideal) x3) (val_main_v24 (F := Ideal) x2) k h' (v24_apply h)

theorem v36_apply (h' : Fin 1024) (h : x2 (ix2 R (1 : Fin 2)) = BitVec.ofNat 32 e.val) :
    val_main_v36 (F := Ideal) x0 x2 x3 (ix2 R h') = outp x0 x3 R h' e := by
  rw [val_main_v36_apply]
  refine Finset.sum_congr rfl fun k _ => congrArg₂ (· * ·) (congrArg x0 (idx2_eq rfl rfl)) ?_
  have hi : ridx_main_v36 (ix2 R h') k = ix3 R k h' := idx3_eq rfl rfl rfl
  rw [hi]
  exact gatherW_apply (val_main_v16 (F := Ideal) x3) (val_main_v34 (F := Ideal) x2) k h' (v34_apply h)

/-- The reference's result at a row whose chosen experts are `a` and `b`. -/
theorem v44_apply (h' : Fin 1024) {a b : Fin 32} (ha : x2 (ix2 R (0 : Fin 2)) = BitVec.ofNat 32 a.val) (hb : x2 (ix2 R (1 : Fin 2)) = BitVec.ofNat 32 b.val) :
    val_main_v44 (F := Ideal) x0 x1 x2 x3 (ix2 R h')
      = Ideal.div (soft (score x0 x1 R) a) (soft (score x0 x1 R) a + soft (score x0 x1 R) b) * outp x0 x3 R h' a
        + Ideal.div (soft (score x0 x1 R) b) (soft (score x0 x1 R) a + soft (score x0 x1 R) b) * outp x0 x3 R h' b := by
  have e13 : val_main_v13 (F := Ideal) x0 x1 x2 (ix2 R (0 : Fin 1)) = soft (score x0 x1 R) a := by
    have hi : idx_main_v13 (ix2 R (0 : Fin 1)) = ix2 R (0 : Fin 2) := idx2_eq rfl rfl
    rw [val_main_v13_apply, hi]
    exact v12_apply x0 x1 ha
  have e14 : val_main_v14 (F := Ideal) x0 x1 x2 (ix2 R (0 : Fin 1)) = soft (score x0 x1 R) b := by
    have hi : idx_main_v14 (ix2 R (0 : Fin 1)) = ix2 R (1 : Fin 2) := idx2_eq rfl rfl
    rw [val_main_v14_apply, hi]
    exact v12_apply x0 x1 hb
  have e15 : val_main_v15 (F := Ideal) x0 x1 x2 (ix2 R (0 : Fin 1)) = soft (score x0 x1 R) a + soft (score x0 x1 R) b := by
    rw [val_main_v15_apply, e13, e14]
    rfl
  have e37 : val_main_v38 (F := Ideal) x0 x1 x2 (ix2 R h') = Ideal.div (soft (score x0 x1 R) a) (soft (score x0 x1 R) a + soft (score x0 x1 R) b) := by
    rw [val_main_v38_apply, show idx_main_v38 (ix2 R h') = ix2 R (0 : Fin 1) from idx2_eq rfl rfl, val_main_v37_apply, e13, e15]
    rfl
  have e40 : val_main_v41 (F := Ideal) x0 x1 x2 (ix2 R h') = Ideal.div (soft (score x0 x1 R) b) (soft (score x0 x1 R) a + soft (score x0 x1 R) b) := by
    rw [val_main_v41_apply, show idx_main_v41 (ix2 R h') = ix2 R (0 : Fin 1) from idx2_eq rfl rfl, val_main_v40_apply, e14, e15]
    rfl
  rw [val_main_v44_apply, val_main_v43_apply, val_main_v39_apply, val_main_v42_apply, e37, e40, v26_apply x0 x3 h' ha, v36_apply x0 x3 h' hb]
  rfl

end Cert.ReferenceIdeal.Moe

end
-- ==== Proof.Value.Final.lean ====
/-
# The kernel's results are the reference's

On finite tokens and router weights and expert numbers among the 32, each device's result is its block of the
reference's.
-/
module

public import proofs.«01_k».proof.Defs
public import proofs.«01_k».proof.Proof.Value.Gates
public import proofs.«01_k».proof.Proof.Value.Launch
public import proofs.«01_k».proof.Proof.Value.Ref
public import proofs.«01_k».proof.Proof.Gen.ReferenceIdeal.Run

@[expose] public section

noncomputable section

namespace Cert.KernelIdeal.Moe

open Cert.KernelIdeal Cert.KernelIdeal.Gen Cert.Moe
open Idealize.ShloMosaic
open Idealize.ShloMosaic.TcCoe
open Idealize.ShloMosaic.ValueIdx
open Idealize.SL.Sem
open scoped BigOperators

/-! ## What the precondition says -/

theorem pre_facts : Cert.Pre_routable_KernelIdeal.Facts := ⟨by decide, by decide, by decide⟩
theorem pre_facts' : Cert.Pre_routable_ReferenceIdeal.Facts := ⟨by decide, by decide, by decide⟩

theorem pinf_bf16 : Ideal.ofBits .bf16 0x7F80#16 = ⊤ := by
  simp [Ideal.ofBits, Ideal.ieee, -EReal.coe_mul]

theorem of_bit {p : Prop} [Decidable p] (h : BitVec.ofBool (decide p) = 1#1) : p := by
  by_contra hn
  rw [decide_eq_false hn] at h
  exact absurd h (by decide)

theorem real_of_bit (x : EReal) (h : Ideal.cmp .olt (max x (-x)) (Ideal.ofBits .bf16 0x7F80#16) = 1#1) : ∃ r : ℝ, x = (r : EReal) := by
  rw [pinf_bf16] at h
  have hl : max x (-x) < ⊤ := of_bit h
  induction x with
  | bot => exact absurd hl (by simp)
  | coe r => exact ⟨r, rfl⟩
  | top => exact absurd hl (by simp)

theorem expert_of_bit (x : BitVec 32) (h : IntOp.andi (IntOp.cmpi .sge x 0#32) (IntOp.cmpi .slt x 32#32) = 1#1) :
    ∃ e : Fin 32, x = BitVec.ofNat 32 e.val := by
  have h2 : IntOp.cmpi .sge x 0#32 = 1#1 ∧ IntOp.cmpi .slt x 32#32 = 1#1 := by
    revert h
    generalize IntOp.cmpi .sge x 0#32 = p
    generalize IntOp.cmpi .slt x 32#32 = q
    revert p q
    decide
  have h0 : (0#32).toInt ≤ x.toInt := of_bit h2.1
  have h1 : x.toInt < (32#32).toInt := of_bit h2.2
  have z0 : (0#32).toInt = 0 := by decide
  have z1 : (32#32).toInt = 32 := by decide
  rw [z0] at h0
  rw [z1] at h1
  rw [BitVec.toInt_eq_toNat_cond] at h0 h1
  have hx := x.isLt
  have hn : x.toNat < 32 := by
    split at h0 <;> split at h1 <;> omega
  exact ⟨⟨x.toNat, hn⟩, by simp⟩

variable (m : (ℓ : Loc nD τ sig) → Buf (Elt Ideal) ℓ)

section Pre
variable (hp : Cert.Pre_KernelIdeal_routable_KernelIdeal (hPre_routable_KernelIdeal := pre_facts) m)
include hp

theorem xin_real (c : Dev nD) (j : (Sh2 2048 1024).Idx) : ∃ r : ℝ, xin m c j = (r : EReal) := by
  rw [xin_eq]
  exact real_of_bit _ (congrFun (hp c).1 j)
theorem rin_real (c : Dev nD) (j : (Sh2 1024 32).Idx) : ∃ r : ℝ, rin m c j = (r : EReal) := by
  rw [rin_eq]
  exact real_of_bit _ (congrFun (hp c).2.1 j)
theorem iin_expert (c : Dev nD) (j : (Sh2 2048 2).Idx) : ∃ e : Fin 32, iin m c j = BitVec.ofNat 32 e.val := by
  rw [iin_eq]
  exact expert_of_bit _ (congrFun (hp c).2.2 j)

theorem score_real (c : Dev nD) (r : Fin 2048) : ∃ s : Fin 32 → ℝ, ∀ n, score m c r n = (s n : EReal) := by
  choose f hf using fun k : Fin 1024 => xin_real m hp c (ix2 r k)
  choose g hg using fun (n : Fin 32) (k : Fin 1024) => rin_real m hp c (ix2 k n)
  refine ⟨fun n => ∑ k, f k * g n k, fun n => ?_⟩
  rw [coe_sum]
  unfold score
  refine Finset.sum_congr rfl fun k _ => ?_
  rw [hf, hg, EReal.coe_mul]

end Pre

/-! ## The device's blocks of the whole arrays -/

/-- Row `r` of device `c`, in the whole arrays. -/
def row (c : Dev nD) (r : Fin 2048) : Fin 8192 := ⟨c.val * 2048 + r.val, by have hc : c.val < 4 := c.isLt; have := r.isLt; omega⟩

variable (x0 : (Sh2 8192 1024).Idx → EReal) (x1 : (Sh2 1024 32).Idx → EReal) (x2 : (Sh2 8192 2).Idx → BitVec 32)
  (x3 : (Sh3 32 1024 1024).Idx → EReal)

section Blocks
variable (h : ∀ c : Dev nD,
      m ((c.tc : Thread nD τ).loc main_arg0) = Layout.block ⟨2, ![2048, 1024]⟩ ⟨2, ![8192, 1024]⟩ 0 4 c x0
      ∧ m ((c.tc : Thread nD τ).loc main_arg1) = x1
      ∧ m ((c.tc : Thread nD τ).loc main_arg2) = Layout.block ⟨2, ![2048, 2]⟩ ⟨2, ![8192, 2]⟩ 0 4 c x2
      ∧ m ((c.tc : Thread nD τ).loc main_arg3) = Layout.block ⟨3, ![8, 1024, 1024]⟩ ⟨3, ![32, 1024, 1024]⟩ 0 4 c x3)
include h

theorem xin_row (c : Dev nD) (r : Fin 2048) (k : Fin 1024) : xin m c (ix2 r k) = x0 (ix2 (row c r) k) := by
  rw [xin_eq]
  refine (congrFun (h c).1 (ix2 r k)).trans ?_
  rw [Layout.block_apply]
  exact congrArg x0 (idx2_eq rfl rfl)
theorem rin_whole (c : Dev nD) (k : Fin 1024) (n : Fin 32) : rin m c (ix2 k n) = x1 (ix2 k n) := by
  rw [rin_eq]
  exact congrFun (h c).2.1 (ix2 k n)
theorem iin_row (c : Dev nD) (r : Fin 2048) (q : Fin 2) : iin m c (ix2 r q) = x2 (ix2 (row c r) q) := by
  rw [iin_eq]
  refine (congrFun (h c).2.2.1 (ix2 r q)).trans ?_
  rw [Layout.block_apply]
  exact congrArg x2 (idx2_eq rfl rfl)
theorem wgt_expert (n : Fin 32) (k l : Fin 1024) : wgt m n (ix2 k l) = x3 (ix3 n k l) := by
  unfold wgt wOne wAll
  refine (congrFun (h _).2.2.2 _).trans ?_
  rw [Layout.block_apply]
  refine congrArg x3 (idx3_eq ?_ rfl rfl)
  show n.val / 8 * 8 + n.val % 8 % 8 = n.val
  omega

theorem score_row (c : Dev nD) (r : Fin 2048) (n : Fin 32) : score m c r n = Cert.ReferenceIdeal.Moe.score x0 x1 (row c r) n := by
  unfold score Cert.ReferenceIdeal.Moe.score
  refine Finset.sum_congr rfl fun k _ => ?_
  rw [xin_row m x0 x1 x2 x3 h, rin_whole m x0 x1 x2 x3 h]
theorem dot_row (c : Dev nD) (r : Fin 2048) (l : Fin 1024) (n : Fin 32) :
    dotW (xin m c) (wgt m n) (ix2 r l) = Cert.ReferenceIdeal.Moe.outp x0 x3 (row c r) l n := by
  unfold dotW Cert.ReferenceIdeal.Moe.outp
  refine Finset.sum_congr rfl fun k _ => ?_
  exact congrArg₂ (· * ·) (xin_row m x0 x1 x2 x3 h c r k) (wgt_expert m x0 x1 x2 x3 h n k l)

/-- Each device's result at an index is the reference's at the device's row. -/
theorem out_row (hp : Cert.Pre_KernelIdeal_routable_KernelIdeal (hPre_routable_KernelIdeal := pre_facts) m) (c : Dev nD) (r : Fin 2048) (l : Fin 1024) :
    outM m c (ix2 r l) = Cert.ReferenceIdeal.Read.val_main_v44 (F := Ideal) x0 x1 x2 x3 (ix2 (row c r) l) := by
  obtain ⟨s, hs⟩ := score_real m hp c r
  obtain ⟨a, ha⟩ := iin_expert m hp c (ix2 r (0 : Fin 2))
  obtain ⟨b, hb⟩ := iin_expert m hp c (ix2 r (1 : Fin 2))
  have ha' : x2 (ix2 (row c r) (0 : Fin 2)) = BitVec.ofNat 32 a.val := (iin_row m x0 x1 x2 x3 h c r 0).symm.trans ha
  have hb' : x2 (ix2 (row c r) (1 : Fin 2)) = BitVec.ofNat 32 b.val := (iin_row m x0 x1 x2 x3 h c r 1).symm.trans hb
  have hS : Cert.ReferenceIdeal.Moe.score x0 x1 (row c r) = fun n => (s n : EReal) :=
    funext fun n => (score_row m x0 x1 x2 x3 h c r n).symm.trans (hs n)
  have hc : ∀ n : Fin 32, chosen m c r n ↔ n = a ∨ n = b := fun n => by
    unfold chosen
    rw [ha, hb, word_eq (by have := n.isLt; omega) (by have := a.isLt; omega), word_eq (by have := n.isLt; omega) (by have := b.isLt; omega),
      Fin.ext_iff, Fin.ext_iff]
  have hg : (fun n : Fin 32 => if chosen m c r n then score m c r n else (⊥ : EReal)) = fun n => if n = a ∨ n = b then (s n : EReal) else ⊥ :=
    funext fun n => if_congr (hc n) (hs n) rfl
  rw [outM_sum, Cert.ReferenceIdeal.Moe.v44_apply x0 x1 x3 l ha' hb', hS]
  refine Eq.trans (Finset.sum_congr rfl fun n _ => ?_) (combine s a b (Cert.ReferenceIdeal.Moe.outp x0 x3 (row c r) l))
  unfold term
  refine congrArg₂ (· * ·) (dot_row m x0 x1 x2 x3 h c r l n) ?_
  refine (gown_apply m c r n).trans ?_
  rw [hg]

theorem out_block (hp : Cert.Pre_KernelIdeal_routable_KernelIdeal (hPre_routable_KernelIdeal := pre_facts) m) (c : Dev nD) :
    outM m c = Layout.block ⟨2, ![2048, 1024]⟩ ⟨2, ![8192, 1024]⟩ 0 4 c (Cert.ReferenceIdeal.Read.val_main_v44 (F := Ideal) x0 x1 x2 x3) := by
  funext j
  have hj : j = ix2 (j 0) (j 1) := idx2_eq rfl rfl
  rw [Layout.block_apply]
  refine (congrArg (outM m c) hj).trans ((out_row m x0 x1 x2 x3 h hp c (j 0) (j 1)).trans ?_)
  exact congrArg (Cert.ReferenceIdeal.Read.val_main_v44 (F := Ideal) x0 x1 x2 x3) (idx2_eq rfl rfl)

end Blocks

/-- The value claim. -/
theorem algebraic : Cert.algebraic_KernelIdeal_ReferenceIdeal_pre_routable_KernelIdeal (hKernelIdeal := Cert.KernelIdeal.Gen.facts)
    (hReferenceIdeal := Cert.ReferenceIdeal.Gen.facts) (hPre_routable_KernelIdeal := pre_facts) := fun m g m' g' hp hm => by
  refine ⟨Cert.ReferenceIdeal.Value.res_main_v44 (F := Ideal) m' 0, ?_, ?_⟩
  · refine (θ_run _ _ _).mono (fun r h c => ⟨(h c).1.trans ?_, (h c).2⟩) (run_value (F := Ideal) m g)
    rw [Cert.ReferenceIdeal.Read.val_main_v44_eq]
    exact out_block m _ _ _ _ hm hp c
  · exact (θ_run _ _ _).mono (fun r h => h 0) (Cert.ReferenceIdeal.Value.run (F := Ideal) m' g')

end Cert.KernelIdeal.Moe

end
-- ==== Proof.lean ====
module

public import proofs.«01_k».proof.Defs
public import proofs.«01_k».proof.Proof.Gen.ReferenceIdeal.Run
public import proofs.«01_k».proof.Proof.Gen.ReferenceIdeal.Read
public import proofs.«01_k».proof.Proof.Bits
public import proofs.«01_k».proof.Proof.Value.Final
public import Idealize.ShloMosaic.Lib.Quiescent

@[expose] public section

noncomputable section

namespace Cert.Proof

open Idealize.ShloMosaic Idealize.SL.Sem

/-- The reference has no counter, so its run is its frame. -/
theorem frame_reference : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

theorem claim : Cert.Claim := ⟨Cert.Kernel.Gen.facts, Cert.KernelIdeal.Gen.facts, Cert.ReferenceIdeal.Gen.facts,
  Cert.KernelIdeal.Moe.pre_facts, Cert.KernelIdeal.Moe.pre_facts',
  Cert.Moe.frame_bits, fun m g _ => Cert.KernelIdeal.Moe.run_frame (F := Ideal) m g, fun m g _ => Cert.KernelIdeal.Moe.run_frame (F := Ideal) m g,
  frame_reference, fun m g _ => frame_reference m g trivial,
  IdealRules.named_const.statement Cert.KernelIdeal.κ "mask" .f32 0xCE6E6B28#32 ⊥ rfl, Cert.KernelIdeal.Moe.algebraic⟩

end Cert.Proof

end
